-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys_and_queries [hPre_finite_keys_and_queries : Cert.Pre_finite_keys_and_queries.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys_and_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_keys_and_queries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys_and_queries [hPre_finite_keys_and_queries : Cert.Pre_finite_keys_and_queries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys_and_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_keys_and_queries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_queries_and_memory_keys [hPre_finite_queries_and_memory_keys : Cert.Pre_finite_queries_and_memory_keys.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_queries_and_memory_keys.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).1 = (fun _ => 1#1)
    ∧ (Cert.Pre_finite_queries_and_memory_keys.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))).2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_queries_and_memory_keys [hPre_finite_queries_and_memory_keys : Cert.Pre_finite_queries_and_memory_keys.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_queries_and_memory_keys.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).1 = (fun _ => 1#1)
    ∧ (Cert.Pre_finite_queries_and_memory_keys.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))).2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_keys_and_queries [hKernelIdeal : Cert.KernelIdeal.Facts] [hPre_finite_keys_and_queries : Cert.Pre_finite_keys_and_queries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys_and_queries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_keys_and_queries [hReferenceIdeal : Cert.ReferenceIdeal.Facts] [hPre_finite_keys_and_queries : Cert.Pre_finite_keys_and_queries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys_and_queries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite_queries_and_memory_keys [hKernel7Ideal : Cert.Kernel7Ideal.Facts] [hPre_finite_queries_and_memory_keys : Cert.Pre_finite_queries_and_memory_keys.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_queries_and_memory_keys m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite_queries_and_memory_keys [hReference7Ideal : Cert.Reference7Ideal.Facts] [hPre_finite_queries_and_memory_keys : Cert.Pre_finite_queries_and_memory_keys.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_queries_and_memory_keys m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite_keys_and_queries [hKernelIdeal : Cert.KernelIdeal.Facts] [hReferenceIdeal : Cert.ReferenceIdeal.Facts] [hPre_finite_keys_and_queries : Cert.Pre_finite_keys_and_queries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys_and_queries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "neg_log2e" .f32 0xBFB8AA3B#32 ((-((Real.log 2)⁻¹) : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)) (v2 : (c : Dev Cert.Kernel3Ideal.nD) → Buf (Elt Ideal) ((c.tc : Thread Cert.Kernel3Ideal.nD Cert.Kernel3Ideal.τ).loc Cert.Kernel3Ideal.main_v23_2)) (v3 : (c : Dev Cert.Kernel3Ideal.nD) → Buf (Elt Ideal) ((c.tc : Thread Cert.Kernel3Ideal.nD Cert.Kernel3Ideal.τ).loc Cert.Kernel3Ideal.main_v23_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_v23_2) = v2 c
          ∧ r.2.mem ((c.tc : Thread Cert.Kernel3Ideal.nD Cert.Kernel3Ideal.τ).loc Cert.Kernel3Ideal.main_v23_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v86) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v89) = v2 c
          ∧ r.2.mem ((c.tc : Thread Cert.Reference3Ideal.nD Cert.Reference3Ideal.τ).loc Cert.Reference3Ideal.main_v90) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v27) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v28)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v28) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_queries_and_memory_keys [hKernel7Ideal : Cert.Kernel7Ideal.Facts] [hReference7Ideal : Cert.Reference7Ideal.Facts] [hPre_finite_queries_and_memory_keys : Cert.Pre_finite_queries_and_memory_keys.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_queries_and_memory_keys m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  IdealRules.named_const.Statement Cert.Kernel8Ideal.κ "neg_log2e" .f32 0xBFB8AA3B#32 ((-((Real.log 2)⁻¹) : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v67) = v0 c
          ∧ r.2.mem ((c.tc : Thread Cert.Reference8Ideal.nD Cert.Reference8Ideal.τ).loc Cert.Reference8Ideal.main_v69) = v1 c
          ∧ r.2.mem ((c.tc : Thread Cert.Reference8Ideal.nD Cert.Reference8Ideal.τ).loc Cert.Reference8Ideal.main_v71) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_keys_and_queries : Cert.Pre_finite_keys_and_queries.Facts) (hPre_finite_queries_and_memory_keys : Cert.Pre_finite_queries_and_memory_keys.Facts),
    quiescent_Kernel (hKernel := hKernel)
    ∧ quiescent_KernelIdeal (hKernelIdeal := hKernelIdeal)
    ∧ quiescent_KernelIdeal_pre_finite_keys_and_queries (hKernelIdeal := hKernelIdeal) (hPre_finite_keys_and_queries := hPre_finite_keys_and_queries)
    ∧ quiescent_ReferenceIdeal (hReferenceIdeal := hReferenceIdeal)
    ∧ quiescent_ReferenceIdeal_pre_finite_keys_and_queries (hReferenceIdeal := hReferenceIdeal) (hPre_finite_keys_and_queries := hPre_finite_keys_and_queries)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_queries_and_memory_keys (hKernel7Ideal := hKernel7Ideal) (hPre_finite_queries_and_memory_keys := hPre_finite_queries_and_memory_keys)
    ∧ quiescent_Reference7Ideal (hReference7Ideal := hReference7Ideal)
    ∧ quiescent_Reference7Ideal_pre_finite_queries_and_memory_keys (hReference7Ideal := hReference7Ideal) (hPre_finite_queries_and_memory_keys := hPre_finite_queries_and_memory_keys)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_keys_and_queries (hKernelIdeal := hKernelIdeal) (hReferenceIdeal := hReferenceIdeal) (hPre_finite_keys_and_queries := hPre_finite_keys_and_queries)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_queries_and_memory_keys (hKernel7Ideal := hKernel7Ideal) (hReference7Ideal := hReference7Ideal) (hPre_finite_queries_and_memory_keys := hPre_finite_queries_and_memory_keys)
    ∧ preserves_Kernel8_Kernel8Ideal
    ∧ algebraic_Kernel8Ideal_Reference8Ideal (hKernel8Ideal := hKernel8Ideal) (hReference8Ideal := hReference8Ideal)
-- ==== Pre_finite_keys_and_queries.lean ====
abbrev S16384x2816 : Shape := ⟨2, ![16384, 2816]⟩
abbrev S512x16384 : Shape := ⟨2, ![512, 16384]⟩
abbrev S8x256x2048 : Shape := ⟨3, ![8, 256, 2048]⟩
abbrev S16384x256 : Shape := ⟨2, ![16384, 256]⟩
abbrev S_ : Shape := ⟨0, ![]⟩

class Facts : Prop where
  slices_S16384x2816_S16384x256_0_512 : S16384x2816.Slices ![0, 512] S16384x256
  bcast_S_S16384x256 : S_.BroadcastsInDim S16384x256 (![] : Fin 0 → Fin S16384x256.rank)
  bcast_S_S512x16384 : S_.BroadcastsInDim S512x16384 (![] : Fin 0 → Fin S512x16384.rank)

variable [Facts]

def fn {F : FTy → Type} [FloatOps F] (main_arg0 : FVec F S16384x2816 .f32) (main_arg1 : FVec F S512x16384 .f32) (main_arg2 : FVec F S8x256x2048 .f32) : IVec S16384x256 1 × IVec S512x16384 1 :=
  let main_v0 : FVec F S16384x256 .f32 := (extractStridedSlice S16384x256 ![0, 512] · slices_S16384x2816_S16384x256_0_512) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  (main_v3, main_v6)
-- ==== Pre_finite_queries_and_memory_keys.lean ====
abbrev S16384x256 : Shape := ⟨2, ![16384, 256]⟩
abbrev S2048x512 : Shape := ⟨2, ![2048, 512]⟩
abbrev S_ : Shape := ⟨0, ![]⟩
abbrev S2048x256 : Shape := ⟨2, ![2048, 256]⟩

class Facts : Prop where
  bitsLt_bf16_f32 : FTy.bits .bf16 < FTy.bits .f32
  bcast_S_S16384x256 : S_.BroadcastsInDim S16384x256 (![] : Fin 0 → Fin S16384x256.rank)
  slices_S2048x512_S2048x256_0_0 : S2048x512.Slices ![0, 0] S2048x256
  bcast_S_S2048x256 : S_.BroadcastsInDim S2048x256 (![] : Fin 0 → Fin S2048x256.rank)

variable [Facts]

def fn {F : FTy → Type} [FloatOps F] (main_arg0 : FVec F S16384x256 .bf16) (main_arg1 : FVec F S2048x512 .f32) : IVec S16384x256 1 × IVec S2048x256 1 :=
  let main_v0 : FVec F S16384x256 .f32 := (extf .f32 · bitsLt_bf16_f32) main_arg0
  let main_v1 : FVec F S16384x256 .f32 := Host.absf main_v0
  let main_cst : FVec F S_ .f32 := constant S_ .f32 0x7F800000#32
  let main_v2 : FVec F S16384x256 .f32 := broadcastInDim S16384x256 ![] bcast_S_S16384x256 main_cst
  let main_v3 : IVec S16384x256 1 := cmpf .olt main_v1 main_v2
  let main_v4 : FVec F S2048x256 .f32 := (extractStridedSlice S2048x256 ![0, 0] · slices_S2048x512_S2048x256_0_0) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  (main_v3, main_v7)
-- ==== Kernel.lean ====
abbrev S16384x2816 : Shape := ⟨2, ![16384, 2816]⟩
abbrev S512x16384 : Shape := ⟨2, ![512, 16384]⟩
abbrev S8x256x2048 : Shape := ⟨3, ![8, 256, 2048]⟩
abbrev S256x256 : Shape := ⟨2, ![256, 256]⟩
abbrev S2048x128 : Shape := ⟨2, ![2048, 128]⟩
abbrev S1x128x2048 : Shape := ⟨3, ![1, 128, 2048]⟩
abbrev S128x2048 : Shape := ⟨2, ![128, 2048]⟩
abbrev S2048x1024 : Shape := ⟨2, ![2048, 1024]⟩
abbrev S128x1024 : Shape := ⟨2, ![128, 1024]⟩
abbrev S64x256 : Shape := ⟨2, ![64, 256]⟩
abbrev S128x256 : Shape := ⟨2, ![128, 256]⟩
abbrev S256x1024 : Shape := ⟨2, ![256, 1024]⟩
abbrev S8x1024 : Shape := ⟨2, ![8, 1024]⟩
abbrev S256x128 : Shape := ⟨2, ![256, 128]⟩
abbrev S1024 : Shape := ⟨1, ![1024]⟩
abbrev S1x1024 : Shape := ⟨2, ![1, 1024]⟩

abbrev nBuf : Space → Nat
  | .hbm => 4
  | .vmem => 13
  | .smem => 0
  | _ => 0

abbrev bufTy : (tb : Table) → Fin (tcTables nBuf tb) → BufTy
  | .hbm, ⟨0, _⟩ => ⟨S16384x2816, .f32⟩
  | .hbm, ⟨1, _⟩ => ⟨S512x16384, .f32⟩
  | .hbm, ⟨2, _⟩ => ⟨S8x256x2048, .f32⟩
  | .hbm, ⟨3, _⟩ => ⟨S512x16384, .bf16⟩
  | .local _ .vmem, ⟨0, _⟩ => ⟨S256x256, .f32⟩
  | .local _ .vmem, ⟨1, _⟩ => ⟨S256x256, .f32⟩
  | .local _ .vmem, ⟨2, _⟩ => ⟨S2048x128, .f32⟩
  | .local _ .vmem, ⟨3, _⟩ => ⟨S2048x128, .f32⟩
  | .local _ .vmem, ⟨4, _⟩ => ⟨S1x128x2048, .f32⟩
  | .local _ .vmem, ⟨5, _⟩ => ⟨S1x128x2048, .f32⟩
  | .local _ .vmem, ⟨6, _⟩ => ⟨S256x256, .bf16⟩
  | .local _ .vmem, ⟨7, _⟩ => ⟨S256x256, .bf16⟩
  | .local _ .vmem, ⟨8, _⟩ => ⟨S2048x128, .bf16⟩
  | .local _ .vmem, ⟨9, _⟩ => ⟨S128x2048, .bf16⟩
  | .local _ .vmem, ⟨10, _⟩ => ⟨S2048x1024, .f32⟩
  | .local _ .vmem, ⟨11, _⟩ => ⟨S2048x1024, .bf16⟩
  | .local _ .vmem, ⟨12, _⟩ => ⟨S128x1024, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S16384x2816 : Shape := ⟨2, ![16384, 2816]⟩
abbrev S512x16384 : Shape := ⟨2, ![512, 16384]⟩
abbrev S8x256x2048 : Shape := ⟨3, ![8, 256, 2048]⟩
abbrev S16384x512 : Shape := ⟨2, ![16384, 512]⟩
abbrev S8x8x256x4x2x64 : Shape := ⟨6, ![8, 8, 256, 4, 2, 64]⟩
abbrev S8x4x2x8x256x64 : Shape := ⟨6, ![8, 4, 2, 8, 256, 64]⟩
abbrev S16384x256 : Shape := ⟨2, ![16384, 256]⟩
abbrev S8x8x256x4x64 : Shape := ⟨5, ![8, 8, 256, 4, 64]⟩
abbrev S8x4x8x256x64 : Shape := ⟨5, ![8, 4, 8, 256, 64]⟩
abbrev S8x4x64x8x256 : Shape := ⟨5, ![8, 4, 64, 8, 256]⟩
abbrev S_ : Shape := ⟨0, ![]⟩
abbrev S8x4x8x64 : Shape := ⟨4, ![8, 4, 8, 64]⟩
abbrev S8 : Shape := ⟨1, ![8]⟩
abbrev S8x1 : Shape := ⟨2, ![8, 1]⟩
abbrev S8x4x2x8x256x8 : Shape := ⟨6, ![8, 4, 2, 8, 256, 8]⟩
abbrev S1x8 : Shape := ⟨2, ![1, 8]⟩
abbrev S8x8 : Shape := ⟨2, ![8, 8]⟩
abbrev S8x1x8 : Shape := ⟨3, ![8, 1, 8]⟩
abbrev S8x4x2x8x256x3 : Shape := ⟨6, ![8, 4, 2, 8, 256, 3]⟩
abbrev S3 : Shape := ⟨1, ![3]⟩
abbrev S1x3 : Shape := ⟨2, ![1, 3]⟩
abbrev S8x3 : Shape := ⟨2, ![8, 3]⟩
abbrev S8x1x1x1x1x1 : Shape := ⟨6, ![8, 1, 1, 1, 1, 1]⟩
abbrev S4 : Shape := ⟨1, ![4]⟩
abbrev S1x4x1x1x1x1 : Shape := ⟨6, ![1, 4, 1, 1, 1, 1]⟩
abbrev S8x4x2x8x256x3x1 : Shape := ⟨7, ![8, 4, 2, 8, 256, 3, 1]⟩
abbrev S8x4x2x8x256x3x3 : Shape := ⟨7, ![8, 4, 2, 8, 256, 3, 3]⟩
abbrev S8x4x2x8x256x3x256x64 : Shape := ⟨8, ![8, 4, 2, 8, 256, 3, 256, 64]⟩
abbrev S8x4x2x8x256x3x256 : Shape := ⟨7, ![8, 4, 2, 8, 256, 3, 256]⟩
abbrev S8x1x3x1 : Shape := ⟨4, ![8, 1, 3, 1]⟩
abbrev S8x4x8x256x2x256 : Shape := ⟨6, ![8, 4, 8, 256, 2, 256]⟩
abbrev S8x4x2x8x256x256 : Shape := ⟨6, ![8, 4, 2, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S8x4x2x8x256x1x256 : Shape := ⟨7, ![8, 4, 2, 8, 256, 1, 256]⟩
abbrev S8x4x2x8x256x4x256 : Shape := ⟨7, ![8, 4, 2, 8, 256, 4, 256]⟩
abbrev S8x4x2x8x256 : Shape := ⟨5, ![8, 4, 2, 8, 256]⟩
abbrev S8x4x2x8x256x1x1 : Shape := ⟨7, ![8, 4, 2, 8, 256, 1, 1]⟩
abbrev S8x4x8x64x2x256 : Shape := ⟨6, ![8, 4, 8, 64, 2, 256]⟩
abbrev S4x2x64x8x8x256 : Shape := ⟨6, ![4, 2, 64, 8, 8, 256]⟩

abbrev nBuf : Space → Nat
  | .hbm => 156
  | .vmem => 0
  | .smem => 0
  | _ => 0

abbrev hbmTy0_0 (i : Nat) : BufTy := match i % 128 with
  | 0 => ⟨S16384x2816, .f32⟩
  | 1 => ⟨S512x16384, .f32⟩
  | 2 => ⟨S8x256x2048, .f32⟩
  | 3 => ⟨S512x16384, .bf16⟩
  | 4 => ⟨S16384x512, .bf16⟩
  | 5 => ⟨S8x8x256x4x2x64, .bf16⟩
  | 6 => ⟨S8x4x2x8x256x64, .bf16⟩
  | 7 => ⟨S16384x256, .f32⟩
  | 8 => ⟨S16384x256, .bf16⟩
  | 9 => ⟨S8x8x256x4x64, .bf16⟩
  | 10 => ⟨S8x4x8x256x64, .bf16⟩
  | 11 => ⟨S8x256x2048, .bf16⟩
  | 12 => ⟨S8x4x64x8x256, .bf16⟩
  | 13 => ⟨S8x4x8x256x64, .bf16⟩
  | 14 => ⟨S8x4x8x256x64, .f32⟩
  | 15 => ⟨S_, .f32⟩
  | 16 => ⟨S8x4x8x64, .f32⟩
  | 17 => ⟨S_, .f32⟩
  | 18 => ⟨S8x4x8x64, .f32⟩
  | 19 => ⟨S8x4x8x64, .f32⟩
  | 20 => ⟨S8x4x8x64, .bf16⟩
  | 21 => ⟨S8, .i32⟩
  | 22 => ⟨S8x1, .i32⟩
  | 23 => ⟨S8x4x2x8x256x8, .f32⟩
  | 24 => ⟨S8, .i32⟩
  | 25 => ⟨S1x8, .i32⟩
  | 26 => ⟨S8x8, .i32⟩
  | 27 => ⟨S8x8, .i32⟩
  | 28 => ⟨S8x8, .i1⟩
  | 29 => ⟨S8x1x8, .i1⟩
  | 30 => ⟨S_, .f32⟩
  | 31 => ⟨S_, .f32⟩
  | 32 => ⟨S8x4x2x8x256x8, .i1⟩
  | 33 => ⟨S8x4x2x8x256x8, .f32⟩
  | 34 => ⟨S8x4x2x8x256x8, .f32⟩
  | 35 => ⟨S8x4x2x8x256x3, .f32⟩
  | 36 => ⟨S8x4x2x8x256x3, .i32⟩
  | 37 => ⟨S3, .i32⟩
  | 38 => ⟨S1x3, .i32⟩
  | 39 => ⟨S8x3, .i32⟩
  | 40 => ⟨S8x3, .i32⟩
  | 41 => ⟨S8x3, .i1⟩
  | 42 => ⟨S8, .i32⟩
  | 43 => ⟨S8x1x1x1x1x1, .i32⟩
  | 44 => ⟨S4, .i32⟩
  | 45 => ⟨S1x4x1x1x1x1, .i32⟩
  | 46 => ⟨S_, .i32⟩
  | 47 => ⟨S8x1x1x1x1x1, .i32⟩
  | 48 => ⟨S8x1x1x1x1x1, .i1⟩
  | 49 => ⟨S_, .i32⟩
  | 50 => ⟨S8x1x1x1x1x1, .i32⟩
  | 51 => ⟨S8x1x1x1x1x1, .i32⟩
  | 52 => ⟨S8x1x1x1x1x1, .i32⟩
  | 53 => ⟨S_, .i32⟩
  | 54 => ⟨S1x4x1x1x1x1, .i32⟩
  | 55 => ⟨S1x4x1x1x1x1, .i1⟩
  | 56 => ⟨S_, .i32⟩
  | 57 => ⟨S1x4x1x1x1x1, .i32⟩
  | 58 => ⟨S1x4x1x1x1x1, .i32⟩
  | 59 => ⟨S1x4x1x1x1x1, .i32⟩
  | 60 => ⟨S_, .i32⟩
  | 61 => ⟨S8x4x2x8x256x3, .i32⟩
  | 62 => ⟨S8x4x2x8x256x3, .i1⟩
  | 63 => ⟨S_, .i32⟩
  | 64 => ⟨S8x4x2x8x256x3, .i32⟩
  | 65 => ⟨S8x4x2x8x256x3, .i32⟩
  | 66 => ⟨S8x4x2x8x256x3, .i32⟩
  | 67 => ⟨S8x4x2x8x256x3, .i32⟩
  | 68 => ⟨S8x4x2x8x256x3, .i32⟩
  | 69 => ⟨S8x4x2x8x256x3x1, .i32⟩
  | 70 => ⟨S8x4x2x8x256x3x1, .i32⟩
  | 71 => ⟨S8x4x2x8x256x3x1, .i32⟩
  | 72 => ⟨S8x4x2x8x256x3x3, .i32⟩
  | 73 => ⟨S8x4x2x8x256x3x256x64, .bf16⟩
  | 74 => ⟨S_, .i32⟩
  | 75 => ⟨S8x1x1x1x1x1, .i32⟩
  | 76 => ⟨S8x1x1x1x1x1, .i1⟩
  | 77 => ⟨S_, .i32⟩
  | 78 => ⟨S8x1x1x1x1x1, .i32⟩
  | 79 => ⟨S8x1x1x1x1x1, .i32⟩
  | 80 => ⟨S8x1x1x1x1x1, .i32⟩
  | 81 => ⟨S_, .i32⟩
  | 82 => ⟨S1x4x1x1x1x1, .i32⟩
  | 83 => ⟨S1x4x1x1x1x1, .i1⟩
  | 84 => ⟨S_, .i32⟩
  | 85 => ⟨S1x4x1x1x1x1, .i32⟩
  | 86 => ⟨S1x4x1x1x1x1, .i32⟩
  | 87 => ⟨S1x4x1x1x1x1, .i32⟩
  | 88 => ⟨S_, .i32⟩
  | 89 => ⟨S8x4x2x8x256x3, .i32⟩
  | 90 => ⟨S8x4x2x8x256x3, .i1⟩
  | 91 => ⟨S_, .i32⟩
  | 92 => ⟨S8x4x2x8x256x3, .i32⟩
  | 93 => ⟨S8x4x2x8x256x3, .i32⟩
  | 94 => ⟨S8x4x2x8x256x3, .i32⟩
  | 95 => ⟨S8x4x2x8x256x3, .i32⟩
  | 96 => ⟨S8x4x2x8x256x3, .i32⟩
  | 97 => ⟨S8x4x2x8x256x3x1, .i32⟩
  | 98 => ⟨S8x4x2x8x256x3x1, .i32⟩
  | 99 => ⟨S8x4x2x8x256x3x1, .i32⟩
  | 100 => ⟨S8x4x2x8x256x3x3, .i32⟩
  | 101 => ⟨S8x4x2x8x256x3x256x64, .bf16⟩
  | 102 => ⟨S8x4x2x8x256x3x256, .f32⟩
  | 103 => ⟨S_, .f32⟩
  | 104 => ⟨S8x4x2x8x256x3x256, .f32⟩
  | 105 => ⟨S8x4x2x8x256x3x256, .f32⟩
  | 106 => ⟨S8x1x3x1, .i1⟩
  | 107 => ⟨S_, .f32⟩
  | 108 => ⟨S_, .f32⟩
  | 109 => ⟨S8x4x2x8x256x3x256, .i1⟩
  | 110 => ⟨S8x4x2x8x256x3x256, .f32⟩
  | 111 => ⟨S8x4x2x8x256x3x256, .f32⟩
  | 112 => ⟨S8x4x8x256x2x256, .f32⟩
  | 113 => ⟨S8x4x2x8x256x256, .f32⟩
  | 114 => ⟨S_, .f32⟩
  | 115 => ⟨S8x4x2x8x256x256, .f32⟩
  | 116 => ⟨S8x4x2x8x256x256, .f32⟩
  | 117 => ⟨S256, .i32⟩
  | 118 => ⟨S1x256, .i32⟩
  | 119 => ⟨S256, .i32⟩
  | 120 => ⟨S256x1, .i32⟩
  | 121 => ⟨S256x256, .i32⟩
  | 122 => ⟨S256x256, .i32⟩
  | 123 => ⟨S256x256, .i1⟩
  | 124 => ⟨S_, .f32⟩
  | 125 => ⟨S_, .f32⟩
  | 126 => ⟨S8x4x2x8x256x256, .i1⟩
  | 127 => ⟨S8x4x2x8x256x256, .f32⟩
  | _ => ⟨S16384x2816, .f32⟩

abbrev hbmTy0_1 (i : Nat) : BufTy := match i % 128 with
  | 0 => ⟨S8x4x2x8x256x256, .f32⟩
  | 1 => ⟨S8x4x2x8x256x1x256, .f32⟩
  | 2 => ⟨S8x4x2x8x256x4x256, .f32⟩
  | 3 => ⟨S_, .f32⟩
  | 4 => ⟨S8x4x2x8x256, .f32⟩
  | 5 => ⟨S_, .f32⟩
  | 6 => ⟨S8x4x2x8x256, .f32⟩
  | 7 => ⟨S8x4x2x8x256, .f32⟩
  | 8 => ⟨S8x4x2x8x256x1x1, .f32⟩
  | 9 => ⟨S8x4x2x8x256x4x256, .f32⟩
  | 10 => ⟨S8x4x2x8x256x4x256, .f32⟩
  | 11 => ⟨S8x4x2x8x256x4x256, .f32⟩
  | 12 => ⟨S_, .f32⟩
  | 13 => ⟨S8x4x2x8x256, .f32⟩
  | 14 => ⟨S8x4x2x8x256x1x1, .f32⟩
  | 15 => ⟨S8x4x2x8x256x4x256, .f32⟩
  | 16 => ⟨S8x4x2x8x256x4x256, .f32⟩
  | 17 => ⟨S8x4x2x8x256x4x256, .bf16⟩
  | 18 => ⟨S8x4x2x8x256x1x256, .bf16⟩
  | 19 => ⟨S8x4x2x8x256x256, .bf16⟩
  | 20 => ⟨S8x4x8x64x2x256, .f32⟩
  | 21 => ⟨S8x4x2x8x256x64, .f32⟩
  | 22 => ⟨S8x4x2x8x256x3x256, .bf16⟩
  | 23 => ⟨S8x4x2x8x256x64, .f32⟩
  | 24 => ⟨S8x4x2x8x256x64, .f32⟩
  | 25 => ⟨S4x2x64x8x8x256, .f32⟩
  | 26 => ⟨S512x16384, .f32⟩
  | 27 => ⟨S512x16384, .bf16⟩
  | _ => ⟨S16384x2816, .f32⟩

abbrev hbmTy (i : Nat) : BufTy := match i / 128 with
  | 0 => hbmTy0_0 i
  | 1 => hbmTy0_1 i
  | _ => ⟨S16384x2816, .f32⟩

abbrev bufTy : (tb : Table) → Fin (tcTables nBuf tb) → BufTy
  | .hbm, ⟨i, _⟩ => hbmTy i
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v25 : Ref sig .tc := ⟨.hbm, 34, rfl⟩
abbrev main_values : Ref sig .tc := ⟨.hbm, 35, rfl⟩
abbrev main_indices : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_v35 : Ref sig .tc := ⟨.hbm, 47, rfl⟩
abbrev main_v36 : Ref sig .tc := ⟨.hbm, 48, rfl⟩
abbrev main_c_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_3 : Ref sig .tc := ⟨.hbm, 53, rfl⟩
abbrev main_v40 : Ref sig .tc := ⟨.hbm, 54, rfl⟩
abbrev main_v41 : Ref sig .tc := ⟨.hbm, 55, rfl⟩
abbrev main_c_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_7 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_9 : Ref sig .tc := ⟨.hbm, 81, rfl⟩
abbrev main_v62 : Ref sig .tc := ⟨.hbm, 82, rfl⟩
abbrev main_v63 : Ref sig .tc := ⟨.hbm, 83, rfl⟩
abbrev main_c_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_c_11 : Ref sig .tc := ⟨.hbm, 88, rfl⟩
abbrev main_v67 : Ref sig .tc := ⟨.hbm, 89, rfl⟩
abbrev main_v68 : Ref sig .tc := ⟨.hbm, 90, rfl⟩
abbrev main_c_12 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_call1_v0 : Ref sig .tc := ⟨.hbm, 108, rfl⟩
abbrev main_call1_v1 : Ref sig .tc := ⟨.hbm, 109, rfl⟩
abbrev main_call1_v2 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_16 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_17 : Ref sig .tc := ⟨.hbm, 131, rfl⟩
abbrev main_v98 : Ref sig .tc := ⟨.hbm, 132, rfl⟩
abbrev main_cst_18 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_19 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩

abbrev nD : Nat := 1
abbrev τ : Topo := Topo.v7x

variable {F : FTy → Type} [FloatOps F]
-- ==== Kernel2.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S4x1024x5632 : Shape := ⟨3, ![4, 1024, 5632]⟩
abbrev S3x5632 : Shape := ⟨2, ![3, 5632]⟩
abbrev S4x2816x1024 : Shape := ⟨3, ![4, 2816, 1024]⟩
abbrev S1x1024 : Shape := ⟨2, ![1, 1024]⟩
abbrev S8x8x5632 : Shape := ⟨3, ![8, 8, 5632]⟩
abbrev S512x1024 : Shape := ⟨2, ![512, 1024]⟩
abbrev S16x1024 : Shape := ⟨2, ![16, 1024]⟩
abbrev S512x256 : Shape := ⟨2, ![512, 256]⟩
abbrev S16x256 : Shape := ⟨2, ![16, 256]⟩
abbrev S1x1024x5632 : Shape := ⟨3, ![1, 1024, 5632]⟩
abbrev S1x2816x1024 : Shape := ⟨3, ![1, 2816, 1024]⟩
abbrev S1x8x5632 : Shape := ⟨3, ![1, 8, 5632]⟩
abbrev S528x1024 : Shape := ⟨2, ![528, 1024]⟩
abbrev S2x528x256 : Shape := ⟨3, ![2, 528, 256]⟩
abbrev S2x512x256 : Shape := ⟨3, ![2, 512, 256]⟩
abbrev S16 : Shape := ⟨1, ![16]⟩
abbrev S16x1 : Shape := ⟨2, ![16, 1]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S528x256 : Shape := ⟨2, ![528, 256]⟩
abbrev S8x256 : Shape := ⟨2, ![8, 256]⟩
abbrev S1x8x256 : Shape := ⟨3, ![1, 8, 256]⟩
abbrev S1x528x256 : Shape := ⟨3, ![1, 528, 256]⟩
abbrev S3x256 : Shape := ⟨2, ![3, 256]⟩
abbrev S1x512x256 : Shape := ⟨3, ![1, 512, 256]⟩
abbrev S1x256 : Shape := ⟨2, ![1, 256]⟩
abbrev S1x256x1024 : Shape := ⟨3, ![1, 256, 1024]⟩

abbrev nBuf : Space → Nat
  | .hbm => 12
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S256x1024, .bf16⟩
  | .hbm, ⟨3, _⟩ => ⟨S1024, .f32⟩
  | .hbm, ⟨4, _⟩ => ⟨S4x1024x5632, .bf16⟩
  | .hbm, ⟨5, _⟩ => ⟨S3x5632, .f32⟩
  | .hbm, ⟨6, _⟩ => ⟨S4x2816x1024, .bf16⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S8x8x5632, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x256, .bf16⟩
  | .local _ .vmem, ⟨5, _⟩ => ⟨S512x256, .bf16⟩
  | .local _ .vmem, ⟨6, _⟩ => ⟨S16x256, .bf16⟩
  | .local _ .vmem, ⟨7, _⟩ => ⟨S16x256, .bf16⟩
  | .local _ .vmem, ⟨8, _⟩ => ⟨S256x1024, .bf16⟩
  | .local _ .vmem, ⟨9, _⟩ => ⟨S1x1024, .f32⟩
  | .local _ .vmem, ⟨10, _⟩ => ⟨S1x1024x5632, .bf16⟩
  | .local _ .vmem, ⟨11, _⟩ => ⟨S3x5632, .f32⟩
  | .local _ .vmem, ⟨12, _⟩ => ⟨S1x2816x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S1x8x5632, .f32⟩
  | .local _ .vmem, ⟨17, _⟩ => ⟨S1x8x5632, .f32⟩
  | .local _ .vmem, ⟨18, _⟩ => ⟨S528x1024, .bf16⟩
  | .local _ .vmem, ⟨19, _⟩ => ⟨S2x528x256, .f32⟩
  | .local _ .vmem, ⟨20, _⟩ => ⟨S2x528x256, .f32⟩
  | .local _ .vmem, ⟨21, _⟩ => ⟨S2x512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
variable {F : FTy → Type} [FloatOps F] [Named F]
def κ : String → Option EReal := fun
  | "neg_log2e" => some ((-((Real.log 2)⁻¹) : ℝ) : EReal)
  | _ => none
-- ==== Reference2Ideal.lean ====
abbrev S16384x1024 : Shape := ⟨2, ![16384, 1024]⟩
abbrev S16384x256 : Shape := ⟨2, ![16384, 256]⟩
abbrev S256x1024 : Shape := ⟨2, ![256, 1024]⟩
abbrev S1024 : Shape := ⟨1, ![1024]⟩
abbrev S4x1024x5632 : Shape := ⟨3, ![4, 1024, 5632]⟩
abbrev S3x5632 : Shape := ⟨2, ![3, 5632]⟩
abbrev S4x2816x1024 : Shape := ⟨3, ![4, 2816, 1024]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S8x2x5632 : Shape := ⟨3, ![8, 2, 5632]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S8x8x5632 : Shape := ⟨3, ![8, 8, 5632]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .bf16⟩
  | .hbm, ⟨2, _⟩ => ⟨S256x1024, .bf16⟩
  | .hbm, ⟨3, _⟩ => ⟨S1024, .f32⟩
  | .hbm, ⟨4, _⟩ => ⟨S4x1024x5632, .bf16⟩
  | .hbm, ⟨5, _⟩ => ⟨S3x5632, .f32⟩
  | .hbm, ⟨6, _⟩ => ⟨S4x2816x1024, .bf16⟩
  | .hbm, ⟨7, _⟩ => ⟨S1024, .f32⟩
  | .hbm, ⟨8, _⟩ => ⟨S16384x256, .f32⟩
  | .hbm, ⟨9, _⟩ => ⟨S256x1024, .f32⟩
  | .hbm, ⟨10, _⟩ => ⟨S16384x1024, .f32⟩
  | .hbm, ⟨11, _⟩ => ⟨S16384x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S8x2048x1, .f32⟩
  | .hbm, ⟨24, _⟩ => ⟨S8x2048x1024, .f32⟩
  | .hbm, ⟨25, _⟩ => ⟨S8x2048x1024, .f32⟩
  | .hbm, ⟨26, _⟩ => ⟨S1x1x1024, .f32⟩
  | .hbm, ⟨27, _⟩ => ⟨S8x2048x1024, .f32⟩
  | .hbm, ⟨28, _⟩ => ⟨S8x2048x1024, .f32⟩
  | .hbm, ⟨29, _⟩ => ⟨S1x1024x5632, .bf16⟩
  | .hbm, ⟨30, _⟩ => ⟨S1024x5632, .bf16⟩
  | .hbm, ⟨31, _⟩ => ⟨S1024x5632, .f32⟩
  | .hbm, ⟨32, _⟩ => ⟨S8x2048x5632, .f32⟩
  | .hbm, ⟨33, _⟩ => ⟨S_, .f32⟩
  | .hbm, ⟨34, _⟩ => ⟨S8x2x5632, .f32⟩
  | .hbm, ⟨35, _⟩ => ⟨S8x2050x5632, .f32⟩
  | .hbm, ⟨36, _⟩ => ⟨S8x2048x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S1x5632, .f32⟩
  | .hbm, ⟨44, _⟩ => ⟨S5632, .f32⟩
  | .hbm, ⟨45, _⟩ => ⟨S1x1x5632, .f32⟩
  | .hbm, ⟨46, _⟩ => ⟨S8x2048x5632, .f32⟩
  | .hbm, ⟨47, _⟩ => ⟨S8x2048x5632, .f32⟩
  | .hbm, ⟨48, _⟩ => ⟨S8x2048x5632, .f32⟩
  | .hbm, ⟨49, _⟩ => ⟨S8x2048x5632, .f32⟩
  | .hbm, ⟨50, _⟩ => ⟨S1x5632, .f32⟩
  | .hbm, ⟨51, _⟩ => ⟨S5632, .f32⟩
  | .hbm, ⟨52, _⟩ => ⟨S1x1x5632, .f32⟩
  | .hbm, ⟨53, _⟩ => ⟨S8x2048x5632, .f32⟩
  | .hbm, ⟨54, _⟩ => ⟨S8x2048x5632, .f32⟩
  | .hbm, ⟨55, _⟩ => ⟨S8x2048x5632, .f32⟩
  | .hbm, ⟨56, _⟩ => ⟨S8x2048x2816, .f32⟩
  | .hbm, ⟨57, _⟩ => ⟨S8x2048x2816, .f32⟩
  | .hbm, ⟨58, _⟩ => ⟨S8x2048x2816, .f32⟩
  | .hbm, ⟨59, _⟩ => ⟨S8x2048x2816, .f32⟩
  | .hbm, ⟨60, _⟩ => ⟨S_, .f32⟩
  | .hbm, ⟨61, _⟩ => ⟨S8x2048x2816, .f32⟩
  | .hbm, ⟨62, _⟩ => ⟨S8x2048x2816, .f32⟩
  | .hbm, ⟨63, _⟩ => ⟨S_, .f32⟩
  | .hbm, ⟨64, _⟩ => ⟨S8x2048x2816, .f32⟩
  | .hbm, ⟨65, _⟩ => ⟨S8x2048x2816, .f32⟩
  | .hbm, ⟨66, _⟩ => ⟨S8x2048x2816, .f32⟩
  | .hbm, ⟨67, _⟩ => ⟨S8x2048x2816, .f32⟩
  | .hbm, ⟨68, _⟩ => ⟨S1x2816x1024, .bf16⟩
  | .hbm, ⟨69, _⟩ => ⟨S2816x1024, .bf16⟩
  | .hbm, ⟨70, _⟩ => ⟨S2816x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S_, .f32⟩
  | .hbm, ⟨78, _⟩ => ⟨S8x2048x1, .f32⟩
  | .hbm, ⟨79, _⟩ => ⟨S8x2048x1, .f32⟩
  | .hbm, ⟨80, _⟩ => ⟨S_, .f32⟩
  | .hbm, ⟨81, _⟩ => ⟨S8x2048x1, .f32⟩
  | .hbm, ⟨82, _⟩ => ⟨S8x2048x1, .f32⟩
  | .hbm, ⟨83, _⟩ => ⟨S8x2048x1, .f32⟩
  | .hbm, ⟨84, _⟩ => ⟨S8x2048x1024, .f32⟩
  | .hbm, ⟨85, _⟩ => ⟨S8x2048x1024, .f32⟩
  | .hbm, ⟨86, _⟩ => ⟨S1x1x1024, .f32⟩
  | .hbm, ⟨87, _⟩ => ⟨S8x2048x1024, .f32⟩
  | .hbm, ⟨88, _⟩ => ⟨S8x2048x1024, .f32⟩
  | .hbm, ⟨89, _⟩ => ⟨S16384x1024, .f32⟩
  | .hbm, ⟨90, _⟩ => ⟨S8x8x5632, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_cst_5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]
-- ==== Kernel3.lean ====
abbrev S8x2048x1024 : Shape := ⟨3, ![8, 2048, 1024]⟩
abbrev S4x1024 : Shape := ⟨2, ![4, 1024]⟩
abbrev S4x1024x2816 : Shape := ⟨3, ![4, 1024, 2816]⟩
abbrev S16384x1024 : Shape := ⟨2, ![16384, 1024]⟩
abbrev S1x1024 : Shape := ⟨2, ![1, 1024]⟩
abbrev S1024 : Shape := ⟨1, ![1024]⟩
abbrev S2048 : Shape := ⟨1, ![2048]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S16384x2816 : Shape := ⟨2, ![16384, 2816]⟩
abbrev S512x16384 : Shape := ⟨2, ![512, 16384]⟩
abbrev S8x256x2048 : Shape := ⟨3, ![8, 256, 2048]⟩
abbrev S512x1024 : Shape := ⟨2, ![512, 1024]⟩
abbrev S1x1024x2816 : Shape := ⟨3, ![1, 1024, 2816]⟩
abbrev S512x128 : Shape := ⟨2, ![512, 128]⟩
abbrev S512x2816 : Shape := ⟨2, ![512, 2816]⟩
abbrev S512x512 : Shape := ⟨2, ![512, 512]⟩
abbrev S1x256x512 : Shape := ⟨3, ![1, 256, 512]⟩
abbrev S512 : Shape := ⟨1, ![512]⟩
abbrev S512x1 : Shape := ⟨2, ![512, 1]⟩
abbrev S512x256 : Shape := ⟨2, ![512, 256]⟩
abbrev S1x1024x256 : Shape := ⟨3, ![1, 1024, 256]⟩
abbrev S1024x256 : Shape := ⟨2, ![1024, 256]⟩
abbrev S256x512 : Shape := ⟨2, ![256, 512]⟩

abbrev nBuf : Space → Nat
  | .hbm => 32
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2816, .f32⟩
  | .hbm, ⟨3, _⟩ => ⟨S16384x1024, .f32⟩
  | .hbm, ⟨4, _⟩ => ⟨S1x1024, .f32⟩
  | .hbm, ⟨5, _⟩ => ⟨S1024, .f32⟩
  | .hbm, ⟨6, _⟩ => ⟨S4x1024x2816, .bf16⟩
  | .hbm, ⟨7, _⟩ => ⟨S2048, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .f32⟩
  | .hbm, ⟨17, _⟩ => ⟨S2048x1, .f32⟩
  | .hbm, ⟨18, _⟩ => ⟨S1x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x32, .f32⟩
  | .hbm, ⟨24, _⟩ => ⟨S2048x128, .f32⟩
  | .hbm, ⟨25, _⟩ => ⟨S2048x32, .f32⟩
  | .hbm, ⟨26, _⟩ => ⟨S2048x128, .f32⟩
  | .hbm, ⟨27, _⟩ => ⟨S1x1024, .f32⟩
  | .hbm, ⟨28, _⟩ => ⟨S16384x2816, .f32⟩
  | .hbm, ⟨29, _⟩ => ⟨S512x16384, .f32⟩
  | .hbm, ⟨30, _⟩ => ⟨S8x256x2048, .f32⟩
  | .hbm, ⟨31, _⟩ => ⟨S8x256x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x2816, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2816, .f32⟩
  | .local _ .vmem, ⟨9, _⟩ => ⟨S512x2816, .f32⟩
  | .local _ .vmem, ⟨10, _⟩ => ⟨S512x512, .f32⟩
  | .local _ .vmem, ⟨11, _⟩ => ⟨S512x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v23_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8x2048x1024 : Shape := ⟨3, ![8, 2048, 1024]⟩
abbrev S4x1024 : Shape := ⟨2, ![4, 1024]⟩
abbrev S4x1024x2816 : Shape := ⟨3, ![4, 1024, 2816]⟩
abbrev S2048 : Shape := ⟨1, ![2048]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S8x2048x2816 : Shape := ⟨3, ![8, 2048, 2816]⟩
abbrev S8x2048x512 : Shape := ⟨3, ![8, 2048, 512]⟩
abbrev S8x2048x256 : Shape := ⟨3, ![8, 2048, 256]⟩
abbrev S8x2048x1792 : Shape := ⟨3, ![8, 2048, 1792]⟩
abbrev S8x2048x8x64 : Shape := ⟨4, ![8, 2048, 8, 64]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S8x2048x8x32 : Shape := ⟨4, ![8, 2048, 8, 32]⟩
abbrev S8x2048x4x64 : Shape := ⟨4, ![8, 2048, 4, 64]⟩
abbrev S8x2048x4x32 : Shape := ⟨4, ![8, 2048, 4, 32]⟩
abbrev S16384x2816 : Shape := ⟨2, ![16384, 2816]⟩
abbrev S16384x512 : Shape := ⟨2, ![16384, 512]⟩
abbrev S512x16384 : Shape := ⟨2, ![512, 16384]⟩
abbrev S8x256x2048 : Shape := ⟨3, ![8, 256, 2048]⟩

abbrev nBuf : Space → Nat
  | .hbm => 101
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x1024, .f32⟩
  | .hbm, ⟨2, _⟩ => ⟨S4x1024x2816, .f32⟩
  | .hbm, ⟨3, _⟩ => ⟨S2048, .i32⟩
  | .hbm, ⟨4, _⟩ => ⟨S1x1024, .f32⟩
  | .hbm, ⟨5, _⟩ => ⟨S1024, .f32⟩
  | .hbm, ⟨6, _⟩ => ⟨S8x2048x1024, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x1024, .f32⟩
  | .hbm, ⟨18, _⟩ => ⟨S8x2048x1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S1x1024x2816, .f32⟩
  | .hbm, ⟨23, _⟩ => ⟨S1024x2816, .f32⟩
  | .hbm, ⟨24, _⟩ => ⟨S8x2048x2816, .f32⟩
  | .hbm, ⟨25, _⟩ => ⟨S8x2048x512, .f32⟩
  | .hbm, ⟨26, _⟩ => ⟨S8x2048x256, .f32⟩
  | .hbm, ⟨27, _⟩ => ⟨S8x2048x256, .f32⟩
  | .hbm, ⟨28, _⟩ => ⟨S8x2048x1792, .f32⟩
  | .hbm, ⟨29, _⟩ => ⟨S8x2048x8x64, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S1x2048x1x32, .f32⟩
  | .hbm, ⟨46, _⟩ => ⟨S2048x32, .f32⟩
  | .hbm, ⟨47, _⟩ => ⟨S1x2048x1x32, .f32⟩
  | .hbm, ⟨48, _⟩ => ⟨S8x2048x8x32, .f32⟩
  | .hbm, ⟨49, _⟩ => ⟨S8x2048x8x32, .f32⟩
  | .hbm, ⟨50, _⟩ => ⟨S8x2048x8x32, .f32⟩
  | .hbm, ⟨51, _⟩ => ⟨S8x2048x8x32, .f32⟩
  | .hbm, ⟨52, _⟩ => ⟨S8x2048x8x32, .f32⟩
  | .hbm, ⟨53, _⟩ => ⟨S8x2048x8x32, .f32⟩
  | .hbm, ⟨54, _⟩ => ⟨S8x2048x8x32, .f32⟩
  | .hbm, ⟨55, _⟩ => ⟨S8x2048x8x32, .f32⟩
  | .hbm, ⟨56, _⟩ => ⟨S8x2048x8x32, .f32⟩
  | .hbm, ⟨57, _⟩ => ⟨S8x2048x8x32, .f32⟩
  | .hbm, ⟨58, _⟩ => ⟨S8x2048x8x32, .f32⟩
  | .hbm, ⟨59, _⟩ => ⟨S8x2048x8x32, .f32⟩
  | .hbm, ⟨60, _⟩ => ⟨S8x2048x8x64, .f32⟩
  | .hbm, ⟨61, _⟩ => ⟨S8x2048x512, .f32⟩
  | .hbm, ⟨62, _⟩ => ⟨S8x2048x4x64, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S2048, .f32⟩
  | .hbm, ⟨72, _⟩ => ⟨S2048x1, .f32⟩
  | .hbm, ⟨73, _⟩ => ⟨S1x32, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S1x2048x1x32, .f32⟩
  | .hbm, ⟨79, _⟩ => ⟨S2048x32, .f32⟩
  | .hbm, ⟨80, _⟩ => ⟨S1x2048x1x32, .f32⟩
  | .hbm, ⟨81, _⟩ => ⟨S8x2048x4x32, .f32⟩
  | .hbm, ⟨82, _⟩ => ⟨S8x2048x4x32, .f32⟩
  | .hbm, ⟨83, _⟩ => ⟨S8x2048x4x32, .f32⟩
  | .hbm, ⟨84, _⟩ => ⟨S8x2048x4x32, .f32⟩
  | .hbm, ⟨85, _⟩ => ⟨S8x2048x4x32, .f32⟩
  | .hbm, ⟨86, _⟩ => ⟨S8x2048x4x32, .f32⟩
  | .hbm, ⟨87, _⟩ => ⟨S8x2048x4x32, .f32⟩
  | .hbm, ⟨88, _⟩ => ⟨S8x2048x4x32, .f32⟩
  | .hbm, ⟨89, _⟩ => ⟨S8x2048x4x32, .f32⟩
  | .hbm, ⟨90, _⟩ => ⟨S8x2048x4x32, .f32⟩
  | .hbm, ⟨91, _⟩ => ⟨S8x2048x4x32, .f32⟩
  | .hbm, ⟨92, _⟩ => ⟨S8x2048x4x32, .f32⟩
  | .hbm, ⟨93, _⟩ => ⟨S8x2048x4x64, .f32⟩
  | .hbm, ⟨94, _⟩ => ⟨S8x2048x256, .f32⟩
  | .hbm, ⟨95, _⟩ => ⟨S8x2048x2816, .f32⟩
  | .hbm, ⟨96, _⟩ => ⟨S16384x2816, .f32⟩
  | .hbm, ⟨97, _⟩ => ⟨S16384x512, .f32⟩
  | .hbm, ⟨98, _⟩ => ⟨S512x16384, .f32⟩
  | .hbm, ⟨99, _⟩ => ⟨S8x256x2048, .f32⟩
  | .hbm, ⟨100, _⟩ => ⟨S8x256x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst_4 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩

abbrev nD : Nat := 1
abbrev τ : Topo := Topo.v7x

variable {F : FTy → Type} [FloatOps F]
-- ==== Kernel4.lean ====
abbrev S16384x1024 : Shape := ⟨2, ![16384, 1024]⟩
abbrev S512x16384 : Shape := ⟨2, ![512, 16384]⟩
abbrev S16384x256 : Shape := ⟨2, ![16384, 256]⟩
abbrev S4x1024x1024 : Shape := ⟨3, ![4, 1024, 1024]⟩
abbrev S4x1024 : Shape := ⟨2, ![4, 1024]⟩
abbrev S4x1024x256 : Shape := ⟨3, ![4, 1024, 256]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S512x16384, .bf16⟩
  | .hbm, ⟨2, _⟩ => ⟨S16384x256, .bf16⟩
  | .hbm, ⟨3, _⟩ => ⟨S16384x256, .bf16⟩
  | .hbm, ⟨4, _⟩ => ⟨S4x1024x1024, .f32⟩
  | .hbm, ⟨5, _⟩ => ⟨S4x1024, .f32⟩
  | .hbm, ⟨6, _⟩ => ⟨S4x1024x256, .f32⟩
  | .hbm, ⟨7, _⟩ => ⟨S4x1024x1024, .bf16⟩
  | .hbm, ⟨8, _⟩ => ⟨S4x1024x256, .bf16⟩
  | .hbm, ⟨9, _⟩ => ⟨S1x512x1024, .bf16⟩
  | .hbm, ⟨10, _⟩ => ⟨S512x1024, .bf16⟩
  | .hbm, ⟨11, _⟩ => ⟨S1x256x1024, .bf16⟩
  | .hbm, ⟨12, _⟩ => ⟨S256x1024, .bf16⟩
  | .hbm, ⟨13, _⟩ => ⟨S1x256x1024, .bf16⟩
  | .hbm, ⟨14, _⟩ => ⟨S256x1024, .bf16⟩
  | .hbm, ⟨15, _⟩ => ⟨S1x1024, .f32⟩
  | .hbm, ⟨16, _⟩ => ⟨S1024, .f32⟩
  | .hbm, ⟨17, _⟩ => ⟨S1x1024x256, .bf16⟩
  | .hbm, ⟨18, _⟩ => ⟨S1024x256, .bf16⟩
  | .hbm, ⟨19, _⟩ => ⟨S1x1024, .f32⟩
  | .hbm, ⟨20, _⟩ => ⟨S16384x1024, .f32⟩
  | .hbm, ⟨21, _⟩ => ⟨S16384x256, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x1024, .bf16⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | .local _ .vmem, ⟨12, _⟩ => ⟨S1024x256, .bf16⟩
  | .local _ .vmem, ⟨13, _⟩ => ⟨S512x1024, .f32⟩
  | .local _ .vmem, ⟨14, _⟩ => ⟨S512x1024, .f32⟩
  | .local _ .vmem, ⟨15, _⟩ => ⟨S512x256, .bf16⟩
  | .local _ .vmem, ⟨16, _⟩ => ⟨S512x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S512x16384 : Shape := ⟨2, ![512, 16384]⟩
abbrev S16384x256 : Shape := ⟨2, ![16384, 256]⟩
abbrev S4x1024x1024 : Shape := ⟨3, ![4, 1024, 1024]⟩
abbrev S4x1024 : Shape := ⟨2, ![4, 1024]⟩
abbrev S4x1024x256 : Shape := ⟨3, ![4, 1024, 256]⟩
abbrev S16384x512 : Shape := ⟨2, ![16384, 512]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x256 : Shape := ⟨3, ![1, 1024, 256]⟩
abbrev S1024x256 : Shape := ⟨2, ![1024, 256]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S512x16384, .bf16⟩
  | .hbm, ⟨2, _⟩ => ⟨S16384x256, .bf16⟩
  | .hbm, ⟨3, _⟩ => ⟨S16384x256, .bf16⟩
  | .hbm, ⟨4, _⟩ => ⟨S4x1024x1024, .f32⟩
  | .hbm, ⟨5, _⟩ => ⟨S4x1024, .f32⟩
  | .hbm, ⟨6, _⟩ => ⟨S4x1024x256, .f32⟩
  | .hbm, ⟨7, _⟩ => ⟨S16384x512, .bf16⟩
  | .hbm, ⟨8, _⟩ => ⟨S16384x512, .f32⟩
  | .hbm, ⟨9, _⟩ => ⟨S16384x256, .f32⟩
  | .hbm, ⟨10, _⟩ => ⟨S16384x256, .f32⟩
  | .hbm, ⟨11, _⟩ => ⟨S16384x1024, .f32⟩
  | .hbm, ⟨12, _⟩ => ⟨S1x1024x1024, .f32⟩
  | .hbm, ⟨13, _⟩ => ⟨S1024x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S1x1024x256, .f32⟩
  | .hbm, ⟨35, _⟩ => ⟨S1024x256, .f32⟩
  | .hbm, ⟨36, _⟩ => ⟨S16384x256, .f32⟩
  | .hbm, ⟨37, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel5.lean ====
abbrev S8x256x1024 : Shape := ⟨3, ![8, 256, 1024]⟩
abbrev S4x1024 : Shape := ⟨2, ![4, 1024]⟩
abbrev S4x1024x256 : Shape := ⟨3, ![4, 1024, 256]⟩
abbrev S4x1024x512 : Shape := ⟨3, ![4, 1024, 512]⟩
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S512x128 : Shape := ⟨2, ![512, 128]⟩
abbrev S2048x512 : Shape := ⟨2, ![2048, 512]⟩
abbrev S512x1024 : Shape := ⟨2, ![512, 1024]⟩
abbrev S1x1024x512 : Shape := ⟨3, ![1, 1024, 512]⟩
abbrev S512x512 : Shape := ⟨2, ![512, 512]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 13
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x256, .f32⟩
  | .hbm, ⟨3, _⟩ => ⟨S4x1024x256, .f32⟩
  | .hbm, ⟨4, _⟩ => ⟨S4x1024x512, .f32⟩
  | .hbm, ⟨5, _⟩ => ⟨S4x1024x512, .bf16⟩
  | .hbm, ⟨6, _⟩ => ⟨S2048x1024, .f32⟩
  | .hbm, ⟨7, _⟩ => ⟨S1x1024, .f32⟩
  | .hbm, ⟨8, _⟩ => ⟨S1024, .f32⟩
  | .hbm, ⟨9, _⟩ => ⟨S_, .f32⟩
  | .hbm, ⟨10, _⟩ => ⟨S512x128, .f32⟩
  | .hbm, ⟨11, _⟩ => ⟨S1x1024, .f32⟩
  | .hbm, ⟨12, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x512, .bf16⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S8x256x1024 : Shape := ⟨3, ![8, 256, 1024]⟩
abbrev S4x1024 : Shape := ⟨2, ![4, 1024]⟩
abbrev S4x1024x256 : Shape := ⟨3, ![4, 1024, 256]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x256 : Shape := ⟨3, ![1, 1024, 256]⟩
abbrev S1024x256 : Shape := ⟨2, ![1024, 256]⟩
abbrev S8x256x256 : Shape := ⟨3, ![8, 256, 256]⟩
abbrev S8x256x512 : Shape := ⟨3, ![8, 256, 512]⟩
abbrev S2048x512 : Shape := ⟨2, ![2048, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S4x1024, .f32⟩
  | .hbm, ⟨2, _⟩ => ⟨S4x1024x256, .f32⟩
  | .hbm, ⟨3, _⟩ => ⟨S4x1024x256, .f32⟩
  | .hbm, ⟨4, _⟩ => ⟨S1x1024, .f32⟩
  | .hbm, ⟨5, _⟩ => ⟨S1024, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x1x1024, .f32⟩
  | .hbm, ⟨20, _⟩ => ⟨S8x256x1024, .f32⟩
  | .hbm, ⟨21, _⟩ => ⟨S8x256x1024, .f32⟩
  | .hbm, ⟨22, _⟩ => ⟨S1x1024x256, .f32⟩
  | .hbm, ⟨23, _⟩ => ⟨S1024x256, .f32⟩
  | .hbm, ⟨24, _⟩ => ⟨S8x256x256, .f32⟩
  | .hbm, ⟨25, _⟩ => ⟨S1x1024x256, .f32⟩
  | .hbm, ⟨26, _⟩ => ⟨S1024x256, .f32⟩
  | .hbm, ⟨27, _⟩ => ⟨S8x256x256, .f32⟩
  | .hbm, ⟨28, _⟩ => ⟨S8x256x512, .f32⟩
  | .hbm, ⟨29, _⟩ => ⟨S2048x512, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Kernel6.lean ====
abbrev S128x4x1024 : Shape := ⟨3, ![128, 4, 1024]⟩
abbrev S4x1024 : Shape := ⟨2, ![4, 1024]⟩
abbrev S4x1024x2816 : Shape := ⟨3, ![4, 1024, 2816]⟩
abbrev S4 : Shape := ⟨1, ![4]⟩
abbrev S_ : Shape := ⟨0, ![]⟩
abbrev S1x4 : Shape := ⟨2, ![1, 4]⟩
abbrev S128x4 : Shape := ⟨2, ![128, 4]⟩
abbrev S512 : Shape := ⟨1, ![512]⟩
abbrev S512x1024 : Shape := ⟨2, ![512, 1024]⟩
abbrev S1x1024 : Shape := ⟨2, ![1, 1024]⟩
abbrev S1024 : Shape := ⟨1, ![1024]⟩
abbrev S32 : Shape := ⟨1, ![32]⟩
abbrev S512x1 : Shape := ⟨2, ![512, 1]⟩
abbrev S1x32 : Shape := ⟨2, ![1, 32]⟩
abbrev S512x32 : Shape := ⟨2, ![512, 32]⟩
abbrev S512x128 : Shape := ⟨2, ![512, 128]⟩
abbrev S512x2816 : Shape := ⟨2, ![512, 2816]⟩
abbrev S1x1024x2816 : Shape := ⟨3, ![1, 1024, 2816]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 35
  | .vmem => 6
  | .smem => 0
  | _ => 0

abbrev bufTy : (tb : Table) → Fin (tcTables nBuf tb) → BufTy
  | .hbm, ⟨0, _⟩ => ⟨S128x4x1024, .f32⟩
  | .hbm, ⟨1, _⟩ => ⟨S4x1024, .f32⟩
  | .hbm, ⟨2, _⟩ => ⟨S4x1024x2816, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x4, .i32⟩
  | .hbm, ⟨8, _⟩ => ⟨S128x4, .i32⟩
  | .hbm, ⟨9, _⟩ => ⟨S512, .i32⟩
  | .hbm, ⟨10, _⟩ => ⟨S512x1024, .f32⟩
  | .hbm, ⟨11, _⟩ => ⟨S1x1024, .f32⟩
  | .hbm, ⟨12, _⟩ => ⟨S1024, .f32⟩
  | .hbm, ⟨13, _⟩ => ⟨S4x1024x2816, .bf16⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S512, .f32⟩
  | .hbm, ⟨23, _⟩ => ⟨S512x1, .f32⟩
  | .hbm, ⟨24, _⟩ => ⟨S1x32, .f32⟩
  | .hbm, ⟨25, _⟩ => ⟨S512x32, .f32⟩
  | .hbm, ⟨26, _⟩ => ⟨S512x32, .f32⟩
  | .hbm, ⟨27, _⟩ => ⟨S512x32, .f32⟩
  | .hbm, ⟨28, _⟩ => ⟨S512x32, .f32⟩
  | .hbm, ⟨29, _⟩ => ⟨S512x32, .f32⟩
  | .hbm, ⟨30, _⟩ => ⟨S512x128, .f32⟩
  | .hbm, ⟨31, _⟩ => ⟨S512x32, .f32⟩
  | .hbm, ⟨32, _⟩ => ⟨S512x128, .f32⟩
  | .hbm, ⟨33, _⟩ => ⟨S1x1024, .f32⟩
  | .hbm, ⟨34, _⟩ => ⟨S512x2816, .f32⟩
  | .local _ .vmem, ⟨0, _⟩ => ⟨S512x1024, .f32⟩
  | .local _ .vmem, ⟨1, _⟩ => ⟨S1x1024, .f32⟩
  | .local _ .vmem, ⟨2, _⟩ => ⟨S1x1024x2816, .bf16⟩
  | .local _ .vmem, ⟨3, _⟩ => ⟨S512x128, .f32⟩
  | .local _ .vmem, ⟨4, _⟩ => ⟨S512x128, .f32⟩
  | .local _ .vmem, ⟨5, _⟩ => ⟨S512x2816, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference6Ideal.lean ====
abbrev S128x4x1024 : Shape := ⟨3, ![128, 4, 1024]⟩
abbrev S4x1024 : Shape := ⟨2, ![4, 1024]⟩
abbrev S4x1024x2816 : Shape := ⟨3, ![4, 1024, 2816]⟩
abbrev S4 : Shape := ⟨1, ![4]⟩
abbrev S_ : Shape := ⟨0, ![]⟩
abbrev S1x1024 : Shape := ⟨2, ![1, 1024]⟩
abbrev S1024 : Shape := ⟨1, ![1024]⟩
abbrev S128x4 : Shape := ⟨2, ![128, 4]⟩
abbrev S128x4x1 : Shape := ⟨3, ![128, 4, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S128x4x2816 : Shape := ⟨3, ![128, 4, 2816]⟩
abbrev S128x4x512 : Shape := ⟨3, ![128, 4, 512]⟩
abbrev S128x4x256 : Shape := ⟨3, ![128, 4, 256]⟩
abbrev S128x4x2048 : Shape := ⟨3, ![128, 4, 2048]⟩
abbrev S128x4x8x64 : Shape := ⟨4, ![128, 4, 8, 64]⟩
abbrev S32 : Shape := ⟨1, ![32]⟩
abbrev S4x1 : Shape := ⟨2, ![4, 1]⟩
abbrev S1x32 : Shape := ⟨2, ![1, 32]⟩
abbrev S4x32 : Shape := ⟨2, ![4, 32]⟩
abbrev S1x4x1x32 : Shape := ⟨4, ![1, 4, 1, 32]⟩
abbrev S128x4x8x32 : Shape := ⟨4, ![128, 4, 8, 32]⟩
abbrev S128x4x4x64 : Shape := ⟨4, ![128, 4, 4, 64]⟩
abbrev S128x4x4x32 : Shape := ⟨4, ![128, 4, 4, 32]⟩
abbrev S512x2816 : Shape := ⟨2, ![512, 2816]⟩

abbrev nBuf : Space → Nat
  | .hbm => 99
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S4x1024, .f32⟩
  | .hbm, ⟨2, _⟩ => ⟨S4x1024x2816, .f32⟩
  | .hbm, ⟨3, _⟩ => ⟨S4, .i32⟩
  | .hbm, ⟨4, _⟩ => ⟨S_, .i32⟩
  | .hbm, ⟨5, _⟩ => ⟨S4, .i32⟩
  | .hbm, ⟨6, _⟩ => ⟨S4, .i32⟩
  | .hbm, ⟨7, _⟩ => ⟨S1x1024, .f32⟩
  | .hbm, ⟨8, _⟩ => ⟨S1024, .f32⟩
  | .hbm, ⟨9, _⟩ => ⟨S128x4x1024, .f32⟩
  | .hbm, ⟨10, _⟩ => ⟨S_, .f32⟩
  | .hbm, ⟨11, _⟩ => ⟨S128x4, .f32⟩
  | .hbm, ⟨12, _⟩ => ⟨S128x4x1, .f32⟩
  | .hbm, ⟨13, _⟩ => ⟨S_, .f32⟩
  | .hbm, ⟨14, _⟩ => ⟨S128x4x1, .f32⟩
  | .hbm, ⟨15, _⟩ => ⟨S128x4x1, .f32⟩
  | .hbm, ⟨16, _⟩ => ⟨S_, .f32⟩
  | .hbm, ⟨17, _⟩ => ⟨S128x4x1, .f32⟩
  | .hbm, ⟨18, _⟩ => ⟨S128x4x1, .f32⟩
  | .hbm, ⟨19, _⟩ => ⟨S128x4x1, .f32⟩
  | .hbm, ⟨20, _⟩ => ⟨S128x4x1024, .f32⟩
  | .hbm, ⟨21, _⟩ => ⟨S128x4x1024, .f32⟩
  | .hbm, ⟨22, _⟩ => ⟨S1x1x1024, .f32⟩
  | .hbm, ⟨23, _⟩ => ⟨S128x4x1024, .f32⟩
  | .hbm, ⟨24, _⟩ => ⟨S128x4x1024, .f32⟩
  | .hbm, ⟨25, _⟩ => ⟨S1x1024x2816, .f32⟩
  | .hbm, ⟨26, _⟩ => ⟨S1024x2816, .f32⟩
  | .hbm, ⟨27, _⟩ => ⟨S128x4x2816, .f32⟩
  | .hbm, ⟨28, _⟩ => ⟨S128x4x512, .f32⟩
  | .hbm, ⟨29, _⟩ => ⟨S128x4x256, .f32⟩
  | .hbm, ⟨30, _⟩ => ⟨S128x4x2048, .f32⟩
  | .hbm, ⟨31, _⟩ => ⟨S128x4x8x64, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S4, .f32⟩
  | .hbm, ⟨41, _⟩ => ⟨S4x1, .f32⟩
  | .hbm, ⟨42, _⟩ => ⟨S1x32, .f32⟩
  | .hbm, ⟨43, _⟩ => ⟨S4x32, .f32⟩
  | .hbm, ⟨44, _⟩ => ⟨S4x32, .f32⟩
  | .hbm, ⟨45, _⟩ => ⟨S4x32, .f32⟩
  | .hbm, ⟨46, _⟩ => ⟨S4x32, .f32⟩
  | .hbm, ⟨47, _⟩ => ⟨S1x4x1x32, .f32⟩
  | .hbm, ⟨48, _⟩ => ⟨S4x32, .f32⟩
  | .hbm, ⟨49, _⟩ => ⟨S1x4x1x32, .f32⟩
  | .hbm, ⟨50, _⟩ => ⟨S128x4x8x32, .f32⟩
  | .hbm, ⟨51, _⟩ => ⟨S128x4x8x32, .f32⟩
  | .hbm, ⟨52, _⟩ => ⟨S128x4x8x32, .f32⟩
  | .hbm, ⟨53, _⟩ => ⟨S128x4x8x32, .f32⟩
  | .hbm, ⟨54, _⟩ => ⟨S128x4x8x32, .f32⟩
  | .hbm, ⟨55, _⟩ => ⟨S128x4x8x32, .f32⟩
  | .hbm, ⟨56, _⟩ => ⟨S128x4x8x32, .f32⟩
  | .hbm, ⟨57, _⟩ => ⟨S128x4x8x32, .f32⟩
  | .hbm, ⟨58, _⟩ => ⟨S128x4x8x32, .f32⟩
  | .hbm, ⟨59, _⟩ => ⟨S128x4x8x32, .f32⟩
  | .hbm, ⟨60, _⟩ => ⟨S128x4x8x32, .f32⟩
  | .hbm, ⟨61, _⟩ => ⟨S128x4x8x32, .f32⟩
  | .hbm, ⟨62, _⟩ => ⟨S128x4x8x64, .f32⟩
  | .hbm, ⟨63, _⟩ => ⟨S128x4x512, .f32⟩
  | .hbm, ⟨64, _⟩ => ⟨S128x4x4x64, .f32⟩
  | .hbm, ⟨65, _⟩ => ⟨S32, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S_, .f32⟩
  | .hbm, ⟨71, _⟩ => ⟨S32, .f32⟩
  | .hbm, ⟨72, _⟩ => ⟨S32, .f32⟩
  | .hbm, ⟨73, _⟩ => ⟨S4, .f32⟩
  | .hbm, ⟨74, _⟩ => ⟨S4x1, .f32⟩
  | .hbm, ⟨75, _⟩ => ⟨S1x32, .f32⟩
  | .hbm, ⟨76, _⟩ => ⟨S4x32, .f32⟩
  | .hbm, ⟨77, _⟩ => ⟨S4x32, .f32⟩
  | .hbm, ⟨78, _⟩ => ⟨S4x32, .f32⟩
  | .hbm, ⟨79, _⟩ => ⟨S4x32, .f32⟩
  | .hbm, ⟨80, _⟩ => ⟨S1x4x1x32, .f32⟩
  | .hbm, ⟨81, _⟩ => ⟨S4x32, .f32⟩
  | .hbm, ⟨82, _⟩ => ⟨S1x4x1x32, .f32⟩
  | .hbm, ⟨83, _⟩ => ⟨S128x4x4x32, .f32⟩
  | .hbm, ⟨84, _⟩ => ⟨S128x4x4x32, .f32⟩
  | .hbm, ⟨85, _⟩ => ⟨S128x4x4x32, .f32⟩
  | .hbm, ⟨86, _⟩ => ⟨S128x4x4x32, .f32⟩
  | .hbm, ⟨87, _⟩ => ⟨S128x4x4x32, .f32⟩
  | .hbm, ⟨88, _⟩ => ⟨S128x4x4x32, .f32⟩
  | .hbm, ⟨89, _⟩ => ⟨S128x4x4x32, .f32⟩
  | .hbm, ⟨90, _⟩ => ⟨S128x4x4x32, .f32⟩
  | .hbm, ⟨91, _⟩ => ⟨S128x4x4x32, .f32⟩
  | .hbm, ⟨92, _⟩ => ⟨S128x4x4x32, .f32⟩
  | .hbm, ⟨93, _⟩ => ⟨S128x4x4x32, .f32⟩
  | .hbm, ⟨94, _⟩ => ⟨S128x4x4x32, .f32⟩
  | .hbm, ⟨95, _⟩ => ⟨S128x4x4x64, .f32⟩
  | .hbm, ⟨96, _⟩ => ⟨S128x4x256, .f32⟩
  | .hbm, ⟨97, _⟩ => ⟨S128x4x2816, .f32⟩
  | .hbm, ⟨98, _⟩ => ⟨S512x2816, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_4 : Ref sig .tc := ⟨.hbm, 67, rfl⟩
abbrev main_v58 : Ref sig .tc := ⟨.hbm, 68, rfl⟩
abbrev main_v59 : Ref sig .tc := ⟨.hbm, 69, rfl⟩
abbrev main_cst_5 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩

abbrev nD : Nat := 1
abbrev τ : Topo := Topo.v7x

variable {F : FTy → Type} [FloatOps F]
-- ==== Kernel7.lean ====
abbrev S16384x256 : Shape := ⟨2, ![16384, 256]⟩
abbrev S2048x512 : Shape := ⟨2, ![2048, 512]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S16384x256, .bf16⟩
  | .hbm, ⟨1, _⟩ => ⟨S2048x512, .f32⟩
  | .hbm, ⟨2, _⟩ => ⟨S16384x256, .bf16⟩
  | .local _ .vmem, ⟨0, _⟩ => ⟨S512x256, .bf16⟩
  | .local _ .vmem, ⟨1, _⟩ => ⟨S512x256, .bf16⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S512x256, .bf16⟩
  | .local _ .vmem, ⟨7, _⟩ => ⟨S512x256, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S16384x256 : Shape := ⟨2, ![16384, 256]⟩
abbrev S2048x512 : Shape := ⟨2, ![2048, 512]⟩
abbrev S8x2048x4x64 : Shape := ⟨4, ![8, 2048, 4, 64]⟩
abbrev S2048x256 : Shape := ⟨2, ![2048, 256]⟩
abbrev S8x256x4x64 : Shape := ⟨4, ![8, 256, 4, 64]⟩
abbrev S8x4x2048x256 : Shape := ⟨4, ![8, 4, 2048, 256]⟩
abbrev S_ : Shape := ⟨0, ![]⟩
abbrev S8x4x2048 : Shape := ⟨3, ![8, 4, 2048]⟩
abbrev S8x4x2048x1 : Shape := ⟨4, ![8, 4, 2048, 1]⟩
abbrev S8x4x64x2048 : Shape := ⟨4, ![8, 4, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S2048x512, .f32⟩
  | .hbm, ⟨2, _⟩ => ⟨S16384x256, .f32⟩
  | .hbm, ⟨3, _⟩ => ⟨S8x2048x4x64, .f32⟩
  | .hbm, ⟨4, _⟩ => ⟨S2048x256, .f32⟩
  | .hbm, ⟨5, _⟩ => ⟨S8x256x4x64, .f32⟩
  | .hbm, ⟨6, _⟩ => ⟨S2048x256, .f32⟩
  | .hbm, ⟨7, _⟩ => ⟨S8x256x4x64, .f32⟩
  | .hbm, ⟨8, _⟩ => ⟨S8x4x2048x256, .f32⟩
  | .hbm, ⟨9, _⟩ => ⟨S_, .f32⟩
  | .hbm, ⟨10, _⟩ => ⟨S8x4x2048x256, .f32⟩
  | .hbm, ⟨11, _⟩ => ⟨S8x4x2048x256, .f32⟩
  | .hbm, ⟨12, _⟩ => ⟨S_, .f32⟩
  | .hbm, ⟨13, _⟩ => ⟨S8x4x2048, .f32⟩
  | .hbm, ⟨14, _⟩ => ⟨S_, .f32⟩
  | .hbm, ⟨15, _⟩ => ⟨S8x4x2048, .f32⟩
  | .hbm, ⟨16, _⟩ => ⟨S8x4x2048, .f32⟩
  | .hbm, ⟨17, _⟩ => ⟨S8x4x2048x1, .f32⟩
  | .hbm, ⟨18, _⟩ => ⟨S8x4x2048x256, .f32⟩
  | .hbm, ⟨19, _⟩ => ⟨S8x4x2048x256, .f32⟩
  | .hbm, ⟨20, _⟩ => ⟨S8x4x2048x256, .f32⟩
  | .hbm, ⟨21, _⟩ => ⟨S_, .f32⟩
  | .hbm, ⟨22, _⟩ => ⟨S8x4x2048, .f32⟩
  | .hbm, ⟨23, _⟩ => ⟨S8x4x2048x1, .f32⟩
  | .hbm, ⟨24, _⟩ => ⟨S8x4x2048x256, .f32⟩
  | .hbm, ⟨25, _⟩ => ⟨S8x4x2048x256, .f32⟩
  | .hbm, ⟨26, _⟩ => ⟨S8x4x64x2048, .f32⟩
  | .hbm, ⟨27, _⟩ => ⟨S8x2048x4x64, .f32⟩
  | .hbm, ⟨28, _⟩ => ⟨S16384x256, .f32⟩
  | .hbm, ⟨29, _⟩ => ⟨S16384x256, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel8.lean ====
abbrev S4x128x1024 : Shape := ⟨3, ![4, 128, 1024]⟩
abbrev S4x128x256 : Shape := ⟨3, ![4, 128, 256]⟩
abbrev S256x1024 : Shape := ⟨2, ![256, 1024]⟩
abbrev S4x128x2x5632 : Shape := ⟨4, ![4, 128, 2, 5632]⟩
abbrev S1024 : Shape := ⟨1, ![1024]⟩
abbrev S4x1024x5632 : Shape := ⟨3, ![4, 1024, 5632]⟩
abbrev S3x5632 : Shape := ⟨2, ![3, 5632]⟩
abbrev S4x2816x1024 : Shape := ⟨3, ![4, 2816, 1024]⟩
abbrev S1x128x2x5632 : Shape := ⟨4, ![1, 128, 2, 5632]⟩
abbrev S128x2x5632 : Shape := ⟨3, ![128, 2, 5632]⟩
abbrev S128x1x5632 : Shape := ⟨3, ![128, 1, 5632]⟩
abbrev S128x5632 : Shape := ⟨2, ![128, 5632]⟩
abbrev S1x1024 : Shape := ⟨2, ![1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S3x256 : Shape := ⟨2, ![3, 256]⟩
abbrev S128x256 : Shape := ⟨2, ![128, 256]⟩
abbrev S1x256 : Shape := ⟨2, ![1, 256]⟩
abbrev S1x256x1024 : Shape := ⟨3, ![1, 256, 1024]⟩

abbrev nBuf : Space → Nat
  | .hbm => 20
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x256, .f32⟩
  | .hbm, ⟨2, _⟩ => ⟨S256x1024, .bf16⟩
  | .hbm, ⟨3, _⟩ => ⟨S4x128x2x5632, .f32⟩
  | .hbm, ⟨4, _⟩ => ⟨S1024, .f32⟩
  | .hbm, ⟨5, _⟩ => ⟨S4x1024x5632, .bf16⟩
  | .hbm, ⟨6, _⟩ => ⟨S3x5632, .f32⟩
  | .hbm, ⟨7, _⟩ => ⟨S4x2816x1024, .bf16⟩
  | .hbm, ⟨8, _⟩ => ⟨S1024, .f32⟩
  | .hbm, ⟨9, _⟩ => ⟨S1x128x2x5632, .f32⟩
  | .hbm, ⟨10, _⟩ => ⟨S128x2x5632, .f32⟩
  | .hbm, ⟨11, _⟩ => ⟨S128x1x5632, .f32⟩
  | .hbm, ⟨12, _⟩ => ⟨S128x5632, .f32⟩
  | .hbm, ⟨13, _⟩ => ⟨S128x1x5632, .f32⟩
  | .hbm, ⟨14, _⟩ => ⟨S128x5632, .f32⟩
  | .hbm, ⟨15, _⟩ => ⟨S1x1024, .f32⟩
  | .hbm, ⟨16, _⟩ => ⟨S1x1024, .f32⟩
  | .hbm, ⟨17, _⟩ => ⟨S4x128x1024, .f32⟩
  | .hbm, ⟨18, _⟩ => ⟨S128x5632, .f32⟩
  | .hbm, ⟨19, _⟩ => ⟨S128x5632, .f32⟩
  | .local _ .vmem, ⟨0, _⟩ => ⟨S4x128x1024, .f32⟩
  | .local _ .vmem, ⟨1, _⟩ => ⟨S4x128x256, .f32⟩
  | .local _ .vmem, ⟨2, _⟩ => ⟨S256x1024, .bf16⟩
  | .local _ .vmem, ⟨3, _⟩ => ⟨S128x5632, .f32⟩
  | .local _ .vmem, ⟨4, _⟩ => ⟨S128x5632, .f32⟩
  | .local _ .vmem, ⟨5, _⟩ => ⟨S1x1024, .f32⟩
  | .local _ .vmem, ⟨6, _⟩ => ⟨S1x1024x5632, .bf16⟩
  | .local _ .vmem, ⟨7, _⟩ => ⟨S3x5632, .f32⟩
  | .local _ .vmem, ⟨8, _⟩ => ⟨S1x2816x1024, .bf16⟩
  | .local _ .vmem, ⟨9, _⟩ => ⟨S1x1024, .f32⟩
  | .local _ .vmem, ⟨10, _⟩ => ⟨S4x128x1024, .f32⟩
  | .local _ .vmem, ⟨11, _⟩ => ⟨S128x5632, .f32⟩
  | .local _ .vmem, ⟨12, _⟩ => ⟨S128x5632, .f32⟩
  | .local _ .vmem, ⟨13, _⟩ => ⟨S512x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c11_i32 : BitVec 32 := 11#32
  let v31 : BitVec 32 := Scalar.addi c0_i32 c11_i32
  let c1_i32 : BitVec 32 := 1#32
  ⟨c0_i32, v31, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c256_i32 : BitVec 32 := 256#32
  let v50 : BitVec 32 := Scalar.muli arg15 c256_i32
  v50
def k0_mult2 (k0_t1 : Fin k0_t1_loop.trips) : BitVec 32 :=
  let c2816_i32 : BitVec 32 := 2816#32
  let c0_i32 : BitVec 32 := 0#32
  let c1_i32 : BitVec 32 := 1#32
  let arg15 : BitVec 32 := Scf.iv c0_i32 c1_i32 k0_t1
  let c256_i32_32 : BitVec 32 := 256#32
  let v52 : BitVec 32 := Scalar.muli arg15 c256_i32_32
  let v53 : BitVec 32 := Scalar.addi c2816_i32 v52
  v53
def k0_off1 (k0_t1 : Fin k0_t1_loop.trips) : Fin 3 → Nat :=
  let c0_33 : Index := 0#32
  let c0_34 : Index := 0#32
  let c0_i32 : BitVec 32 := 0#32
  let c1_i32 : BitVec 32 := 1#32
  let arg15 : BitVec 32 := Scf.iv c0_i32 c1_i32 k0_t1
  let c256_i32 : BitVec 32 := 256#32
  let v50 : BitVec 32 := Scalar.muli arg15 c256_i32
  let v51 : BitVec 32 := v50
  let v55 : Index := Scalar.indexCast v51
  ![0, 0, v55.toNat]
def k0_off2 (k0_t1 : Fin k0_t1_loop.trips) : Fin 2 → Nat :=
  let c0_36 : Index := 0#32
  let c0_i32 : BitVec 32 := 0#32
  let c1_i32 : BitVec 32 := 1#32
  let arg15 : BitVec 32 := Scf.iv c0_i32 c1_i32 k0_t1
  let c256_i32 : BitVec 32 := 256#32
  let v50 : BitVec 32 := Scalar.muli arg15 c256_i32
  let v51 : BitVec 32 := v50
  let v59 : Index := Scalar.indexCast v51
  ![0, v59.toNat]
def k0_off3 (k0_t1 : Fin k0_t1_loop.trips) : Fin 2 → Nat :=
  let c0_37 : Index := 0#32
  let c0_i32 : BitVec 32 := 0#32
  let c1_i32 : BitVec 32 := 1#32
  let arg15 : BitVec 32 := Scf.iv c0_i32 c1_i32 k0_t1
  let c256_i32 : BitVec 32 := 256#32
  let v50 : BitVec 32 := Scalar.muli arg15 c256_i32
  let v51 : BitVec 32 := v50
  let v61 : Index := Scalar.indexCast v51
  ![0, v61.toNat]
def k0_off4 (k0_t1 : Fin k0_t1_loop.trips) : Fin 3 → Nat :=
  let c0_41 : Index := 0#32
  let c0_42 : Index := 0#32
  let c2816_i32 : BitVec 32 := 2816#32
  let c0_i32 : BitVec 32 := 0#32
  let c1_i32 : BitVec 32 := 1#32
  let arg15 : BitVec 32 := Scf.iv c0_i32 c1_i32 k0_t1
  let c256_i32_32 : BitVec 32 := 256#32
  let v52 : BitVec 32 := Scalar.muli arg15 c256_i32_32
  let v53 : BitVec 32 := Scalar.addi c2816_i32 v52
  let v54 : BitVec 32 := v53
  let v120 : Index := Scalar.indexCast v54
  ![0, 0, v120.toNat]
def k0_off5 (k0_t1 : Fin k0_t1_loop.trips) : Fin 2 → Nat :=
  let c0_44 : Index := 0#32
  let c2816_i32 : BitVec 32 := 2816#32
  let c0_i32 : BitVec 32 := 0#32
  let c1_i32 : BitVec 32 := 1#32
  let arg15 : BitVec 32 := Scf.iv c0_i32 c1_i32 k0_t1
  let c256_i32_32 : BitVec 32 := 256#32
  let v52 : BitVec 32 := Scalar.muli arg15 c256_i32_32
  let v53 : BitVec 32 := Scalar.addi c2816_i32 v52
  let v54 : BitVec 32 := v53
  let v124 : Index := Scalar.indexCast v54
  ![0, v124.toNat]
def k0_off6 (k0_t1 : Fin k0_t1_loop.trips) : Fin 2 → Nat :=
  let c0_45 : Index := 0#32
  let c2816_i32 : BitVec 32 := 2816#32
  let c0_i32 : BitVec 32 := 0#32
  let c1_i32 : BitVec 32 := 1#32
  let arg15 : BitVec 32 := Scf.iv c0_i32 c1_i32 k0_t1
  let c256_i32_32 : BitVec 32 := 256#32
  let v52 : BitVec 32 := Scalar.muli arg15 c256_i32_32
  let v53 : BitVec 32 := Scalar.addi c2816_i32 v52
  let v54 : BitVec 32 := v53
  let v126 : Index := Scalar.indexCast v54
  ![0, v126.toNat]
def k0_off7 (k0_t1 : Fin k0_t1_loop.trips) : Fin 3 → Nat :=
  let c0_54 : Index := 0#32
  let c0_i32 : BitVec 32 := 0#32
  let c1_i32 : BitVec 32 := 1#32
  let arg15 : BitVec 32 := Scf.iv c0_i32 c1_i32 k0_t1
  let c256_i32 : BitVec 32 := 256#32
  let v50 : BitVec 32 := Scalar.muli arg15 c256_i32
  let v51 : BitVec 32 := v50
  let v196 : Index := Scalar.indexCast v51
  let c0_55 : Index := 0#32
  ![0, v196.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x5632 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Kernel8Ideal.lean ====
variable {F : FTy → Type} [FloatOps F] [Named F]
def κ : String → Option EReal := fun
  | "neg_log2e" => some ((-((Real.log 2)⁻¹) : ℝ) : EReal)
  | _ => none
-- ==== Reference8Ideal.lean ====
abbrev S4x128x1024 : Shape := ⟨3, ![4, 128, 1024]⟩
abbrev S4x128x256 : Shape := ⟨3, ![4, 128, 256]⟩
abbrev S256x1024 : Shape := ⟨2, ![256, 1024]⟩
abbrev S4x128x2x5632 : Shape := ⟨4, ![4, 128, 2, 5632]⟩
abbrev S1024 : Shape := ⟨1, ![1024]⟩
abbrev S4x1024x5632 : Shape := ⟨3, ![4, 1024, 5632]⟩
abbrev S3x5632 : Shape := ⟨2, ![3, 5632]⟩
abbrev S4x2816x1024 : Shape := ⟨3, ![4, 2816, 1024]⟩
abbrev S128x4x1024 : Shape := ⟨3, ![128, 4, 1024]⟩
abbrev S128x4x256 : Shape := ⟨3, ![128, 4, 256]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S128x4x5632 : Shape := ⟨3, ![128, 4, 5632]⟩
abbrev S1x128x2x5632 : Shape := ⟨4, ![1, 128, 2, 5632]⟩
abbrev S128x2x5632 : Shape := ⟨3, ![128, 2, 5632]⟩
abbrev S128x6x5632 : Shape := ⟨3, ![128, 6, 5632]⟩
abbrev S1x5632 : Shape := ⟨2, ![1, 5632]⟩
abbrev S5632 : Shape := ⟨1, ![5632]⟩
abbrev S1x1x5632 : Shape := ⟨3, ![1, 1, 5632]⟩
abbrev S128x4x2816 : Shape := ⟨3, ![128, 4, 2816]⟩
abbrev S1x2816x1024 : Shape := ⟨3, ![1, 2816, 1024]⟩
abbrev S2816x1024 : Shape := ⟨2, ![2816, 1024]⟩
abbrev S128x1x5632 : Shape := ⟨3, ![128, 1, 5632]⟩
abbrev S128x5632 : Shape := ⟨2, ![128, 5632]⟩

abbrev nBuf : Space → Nat
  | .hbm => 95
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x256, .f32⟩
  | .hbm, ⟨2, _⟩ => ⟨S256x1024, .bf16⟩
  | .hbm, ⟨3, _⟩ => ⟨S4x128x2x5632, .f32⟩
  | .hbm, ⟨4, _⟩ => ⟨S1024, .f32⟩
  | .hbm, ⟨5, _⟩ => ⟨S4x1024x5632, .bf16⟩
  | .hbm, ⟨6, _⟩ => ⟨S3x5632, .f32⟩
  | .hbm, ⟨7, _⟩ => ⟨S4x2816x1024, .bf16⟩
  | .hbm, ⟨8, _⟩ => ⟨S1024, .f32⟩
  | .hbm, ⟨9, _⟩ => ⟨S128x4x1024, .f32⟩
  | .hbm, ⟨10, _⟩ => ⟨S128x4x256, .f32⟩
  | .hbm, ⟨11, _⟩ => ⟨S256x1024, .f32⟩
  | .hbm, ⟨12, _⟩ => ⟨S128x4x1024, .f32⟩
  | .hbm, ⟨13, _⟩ => ⟨S128x4x1024, .f32⟩
  | .hbm, ⟨14, _⟩ => ⟨S128x4x1024, .f32⟩
  | .hbm, ⟨15, _⟩ => ⟨S_, .f32⟩
  | .hbm, ⟨16, _⟩ => ⟨S128x4, .f32⟩
  | .hbm, ⟨17, _⟩ => ⟨S128x4x1, .f32⟩
  | .hbm, ⟨18, _⟩ => ⟨S_, .f32⟩
  | .hbm, ⟨19, _⟩ => ⟨S128x4x1, .f32⟩
  | .hbm, ⟨20, _⟩ => ⟨S128x4x1, .f32⟩
  | .hbm, ⟨21, _⟩ => ⟨S_, .f32⟩
  | .hbm, ⟨22, _⟩ => ⟨S128x4x1, .f32⟩
  | .hbm, ⟨23, _⟩ => ⟨S128x4x1, .f32⟩
  | .hbm, ⟨24, _⟩ => ⟨S128x4x1, .f32⟩
  | .hbm, ⟨25, _⟩ => ⟨S128x4x1024, .f32⟩
  | .hbm, ⟨26, _⟩ => ⟨S128x4x1024, .f32⟩
  | .hbm, ⟨27, _⟩ => ⟨S1x1x1024, .f32⟩
  | .hbm, ⟨28, _⟩ => ⟨S128x4x1024, .f32⟩
  | .hbm, ⟨29, _⟩ => ⟨S128x4x1024, .f32⟩
  | .hbm, ⟨30, _⟩ => ⟨S1x1024x5632, .bf16⟩
  | .hbm, ⟨31, _⟩ => ⟨S1024x5632, .bf16⟩
  | .hbm, ⟨32, _⟩ => ⟨S1024x5632, .f32⟩
  | .hbm, ⟨33, _⟩ => ⟨S128x4x5632, .f32⟩
  | .hbm, ⟨34, _⟩ => ⟨S1x128x2x5632, .f32⟩
  | .hbm, ⟨35, _⟩ => ⟨S128x2x5632, .f32⟩
  | .hbm, ⟨36, _⟩ => ⟨S128x6x5632, .f32⟩
  | .hbm, ⟨37, _⟩ => ⟨S128x4x5632, .f32⟩
  | .hbm, ⟨38, _⟩ => ⟨S1x5632, .f32⟩
  | .hbm, ⟨39, _⟩ => ⟨S5632, .f32⟩
  | .hbm, ⟨40, _⟩ => ⟨S1x1x5632, .f32⟩
  | .hbm, ⟨41, _⟩ => ⟨S128x4x5632, .f32⟩
  | .hbm, ⟨42, _⟩ => ⟨S128x4x5632, .f32⟩
  | .hbm, ⟨43, _⟩ => ⟨S128x4x5632, .f32⟩
  | .hbm, ⟨44, _⟩ => ⟨S1x5632, .f32⟩
  | .hbm, ⟨45, _⟩ => ⟨S5632, .f32⟩
  | .hbm, ⟨46, _⟩ => ⟨S1x1x5632, .f32⟩
  | .hbm, ⟨47, _⟩ => ⟨S128x4x5632, .f32⟩
  | .hbm, ⟨48, _⟩ => ⟨S128x4x5632, .f32⟩
  | .hbm, ⟨49, _⟩ => ⟨S128x4x5632, .f32⟩
  | .hbm, ⟨50, _⟩ => ⟨S128x4x5632, .f32⟩
  | .hbm, ⟨51, _⟩ => ⟨S1x5632, .f32⟩
  | .hbm, ⟨52, _⟩ => ⟨S5632, .f32⟩
  | .hbm, ⟨53, _⟩ => ⟨S1x1x5632, .f32⟩
  | .hbm, ⟨54, _⟩ => ⟨S128x4x5632, .f32⟩
  | .hbm, ⟨55, _⟩ => ⟨S128x4x5632, .f32⟩
  | .hbm, ⟨56, _⟩ => ⟨S128x4x5632, .f32⟩
  | .hbm, ⟨57, _⟩ => ⟨S128x4x2816, .f32⟩
  | .hbm, ⟨58, _⟩ => ⟨S128x4x2816, .f32⟩
  | .hbm, ⟨59, _⟩ => ⟨S128x4x2816, .f32⟩
  | .hbm, ⟨60, _⟩ => ⟨S128x4x2816, .f32⟩
  | .hbm, ⟨61, _⟩ => ⟨S_, .f32⟩
  | .hbm, ⟨62, _⟩ => ⟨S128x4x2816, .f32⟩
  | .hbm, ⟨63, _⟩ => ⟨S128x4x2816, .f32⟩
  | .hbm, ⟨64, _⟩ => ⟨S_, .f32⟩
  | .hbm, ⟨65, _⟩ => ⟨S128x4x2816, .f32⟩
  | .hbm, ⟨66, _⟩ => ⟨S128x4x2816, .f32⟩
  | .hbm, ⟨67, _⟩ => ⟨S128x4x2816, .f32⟩
  | .hbm, ⟨68, _⟩ => ⟨S128x4x2816, .f32⟩
  | .hbm, ⟨69, _⟩ => ⟨S1x2816x1024, .bf16⟩
  | .hbm, ⟨70, _⟩ => ⟨S2816x1024, .bf16⟩
  | .hbm, ⟨71, _⟩ => ⟨S2816x1024, .f32⟩
  | .hbm, ⟨72, _⟩ => ⟨S128x4x1024, .f32⟩
  | .hbm, ⟨73, _⟩ => ⟨S128x4x1024, .f32⟩
  | .hbm, ⟨74, _⟩ => ⟨S128x4x1024, .f32⟩
  | .hbm, ⟨75, _⟩ => ⟨S_, .f32⟩
  | .hbm, ⟨76, _⟩ => ⟨S128x4, .f32⟩
  | .hbm, ⟨77, _⟩ => ⟨S128x4x1, .f32⟩
  | .hbm, ⟨78, _⟩ => ⟨S_, .f32⟩
  | .hbm, ⟨79, _⟩ => ⟨S128x4x1, .f32⟩
  | .hbm, ⟨80, _⟩ => ⟨S128x4x1, .f32⟩
  | .hbm, ⟨81, _⟩ => ⟨S_, .f32⟩
  | .hbm, ⟨82, _⟩ => ⟨S128x4x1, .f32⟩
  | .hbm, ⟨83, _⟩ => ⟨S128x4x1, .f32⟩
  | .hbm, ⟨84, _⟩ => ⟨S128x4x1, .f32⟩
  | .hbm, ⟨85, _⟩ => ⟨S128x4x1024, .f32⟩
  | .hbm, ⟨86, _⟩ => ⟨S128x4x1024, .f32⟩
  | .hbm, ⟨87, _⟩ => ⟨S1x1x1024, .f32⟩
  | .hbm, ⟨88, _⟩ => ⟨S128x4x1024, .f32⟩
  | .hbm, ⟨89, _⟩ => ⟨S128x4x1024, .f32⟩
  | .hbm, ⟨90, _⟩ => ⟨S4x128x1024, .f32⟩
  | .hbm, ⟨91, _⟩ => ⟨S128x1x5632, .f32⟩
  | .hbm, ⟨92, _⟩ => ⟨S128x5632, .f32⟩
  | .hbm, ⟨93, _⟩ => ⟨S128x1x5632, .f32⟩
  | .hbm, ⟨94, _⟩ => ⟨S128x5632, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_2 : Ref sig .tc := ⟨.hbm, 75, rfl⟩
abbrev main_v55 : Ref sig .tc := ⟨.hbm, 76, rfl⟩
abbrev main_v56 : Ref sig .tc := ⟨.hbm, 77, rfl⟩
abbrev main_cst_3 : Ref sig .tc := ⟨.hbm, 78, rfl⟩
abbrev main_v57 : Ref sig .tc := ⟨.hbm, 79, rfl⟩
abbrev main_v58 : Ref sig .tc := ⟨.hbm, 80, rfl⟩
abbrev main_cst_4 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Proof.Attend.lean ====
module
public import proofs.«01_k».proof.Proof.Gen.KernelIdeal.Value
public import Idealize.ShloMosaic.Lib.Pipeline.ValueKit
public import Idealize.ShloMosaic.Lib.Pointwise
public import Idealize.ShloMosaic.Lib.Pipeline.ReadBack

/-!
The kernel's attention of one grid point, written once for every own block.

The kernel has one branch for each of the eight positions a query block can have in its sequence.  The definitions
below are those branches' values as functions of the position `own`: the scores of one block of keys, each block's
gate, the number of blocks that beat a gate, the bias that drops a block, the running maximum, and the two running
sums.  `block_eq` says that the point's output block is this value, whichever branch runs.
-/

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)

/-- The keys of block `n` (of eight): 256 rows of the scratch that holds the sequence's keys. -/
def keyBlock (k : Vec Ideal S2048x128 .bf16) (n : ℕ) : Vec Ideal S256x128 .bf16 :=
  View.ld k (Rect.unit ![256 * (n % 8), 0] ![256, 128] (by intro a; fin_cases a <;> simp <;> omega))

/-- The values of block `n`: 256 columns of the scratch that holds the sequence's values. -/
def valBlock (v : Vec Ideal S128x2048 .bf16) (n : ℕ) : Vec Ideal S128x256 .bf16 :=
  View.ld v (Rect.unit ![0, 256 * (n % 8)] ![128, 256] (by intro a; fin_cases a <;> simp <;> omega))

/-- Row `n` of an array with a row for each block. -/
def rowOf (b : FVec Ideal S8x1024 .f32) (n : ℕ) : FVec Ideal S1x1024 .f32 :=
  extractStridedSlice S1x1024 ![n % 8, 0] b
    ⟨rfl, fun a => by fin_cases a <;> simp <;> omega⟩

/-- The scaled scores of the keys of block `n`. -/
def scoreV (q : FVec Ideal S128x1024 .bf16) (k : Vec Ideal S2048x128 .bf16) (n : ℕ) : FVec Ideal S256x1024 .f32 :=
  matmul dot_S256x128_S128x1024_S256x1024_1_0_0_1_n_n none (φ₁ := .bf16) (keyBlock k n) q (constant S256x1024 .f32 0x00000000#32)

/-- The scores of the queries' own block: the later keys are masked. -/
def ownV (q : FVec Ideal S128x1024 .bf16) (k : Vec Ideal S2048x128 .bf16) (own : ℕ) : FVec Ideal S256x1024 .f32 :=
  select k0_pay278 (scoreV q k own) (broadcast S256x1024 (FloatOps.ofBits .f32 0xFF800000#32))

/-- The maximum of each column. -/
def colMax (s : FVec Ideal S256x1024 .f32) : FVec Ideal S1x1024 .f32 :=
  shapeCast S1x1024 (multiReduction .maximumf [0] S1024 s 0xFF800000#32 reduces_S256x1024_S1024 (.inl rfl) rfl)
    shapeCasts_S1024_S1x1024

/-- The sum of each column. -/
def colSum (s : FVec Ideal S256x1024 .f32) : FVec Ideal S1x1024 .f32 :=
  shapeCast S1x1024 (multiReduction .add [0] S1024 s 0x00000000#32 reduces_S256x1024_S1024 (.inl rfl) rfl)
    shapeCasts_S1024_S1x1024

/-- The block numbers. -/
def blockNo : IVec S8x1024 32 := iota .tc S8x1024 32 [0] iota_S8x1024_d0_w32

/-- The gates of the first `own` blocks: row `n` is the sum of block `n`'s scores, the other rows are 0. -/
def gateV (q : FVec Ideal S128x1024 .bf16) (k : Vec Ideal S2048x128 .bf16) : ℕ → FVec Ideal S8x1024 .f32
  | 0 => broadcast S8x1024 (FloatOps.ofBits .f32 0x00000000#32)
  | n + 1 => select (cmpi .eq blockNo (broadcast S8x1024 (BitVec.ofNat 32 n)))
      (broadcastTo S8x1024 (shapeCast S1x1024 (colSum (scoreV q k n)) shapeCasts_S1x1024_S1x1024)
        broadcasts_S1x1024_S8x1024) (gateV q k n)

/-- Of the blocks before `j`, how many beat each block: by a greater gate, or an equal gate and a smaller number. -/
def countV (g : FVec Ideal S8x1024 .f32) : ℕ → FVec Ideal S8x1024 .f32
  | 0 => broadcast S8x1024 (FloatOps.ofBits .f32 0x00000000#32)
  | j + 1 => addf (countV g j) (mulf
      (select (cmpf .ogt (broadcastTo S8x1024 (rowOf g j) broadcasts_S1x1024_S8x1024) g)
        (broadcast S8x1024 (FloatOps.ofBits .f32 0x3F800000#32))
        (select (cmpf .oeq (broadcastTo S8x1024 (rowOf g j) broadcasts_S1x1024_S8x1024) g)
          (select (cmpi .sgt blockNo (broadcast S8x1024 (BitVec.ofNat 32 j)))
            (broadcast S8x1024 (FloatOps.ofBits .f32 0x3F800000#32))
            (broadcast S8x1024 (FloatOps.ofBits .f32 0x00000000#32)))
          (broadcast S8x1024 (FloatOps.ofBits .f32 0x00000000#32))))
      (broadcast S8x1024 (Scalar.select 1#1 (FloatOps.ofBits .f32 0x3F800000#32) (FloatOps.ofBits .f32 0x00000000#32))))

/-- What is added to a block's scores: 0 if the block is chosen, −∞ if it is not. -/
def biasV (q : FVec Ideal S128x1024 .bf16) (k : Vec Ideal S2048x128 .bf16) (own : ℕ) : FVec Ideal S8x1024 .f32 :=
  if 3 < own then
    select (andi (cmpi .slt blockNo (broadcast S8x1024 (BitVec.ofNat 32 own)))
      (cmpf .olt (countV (gateV q k own) own) (broadcast S8x1024 (FloatOps.ofBits .f32 0x40400000#32))))
      (broadcast S8x1024 (FloatOps.ofBits .f32 0x00000000#32)) (broadcast S8x1024 (FloatOps.ofBits .f32 0xFF800000#32))
  else broadcast S8x1024 (FloatOps.ofBits .f32 0x00000000#32)

/-- The running maximum over the own block and the first `n` blocks. -/
def maxV (q : FVec Ideal S128x1024 .bf16) (k : Vec Ideal S2048x128 .bf16) (own : ℕ) : ℕ → FVec Ideal S1x1024 .f32
  | 0 => colMax (ownV q k own)
  | n + 1 => maximumf (maxV q k own n) (addf (colMax (scoreV q k n)) (rowOf (biasV q k own) n))

/-- The weights of a block with scores `s` from which `shift` is taken. -/
def weightV (s : FVec Ideal S256x1024 .f32) (shift : FVec Ideal S1x1024 .f32) : FVec Ideal S256x1024 .f32 :=
  exp2 (subf (shapeCast S256x1024 s shapeCasts_S256x1024_S256x1024) (broadcastTo S256x1024 shift broadcasts_S1x1024_S256x1024))

/-- The weights of an earlier block. -/
def farV (q : FVec Ideal S128x1024 .bf16) (k : Vec Ideal S2048x128 .bf16) (own n : ℕ) : FVec Ideal S256x1024 .f32 :=
  weightV (scoreV q k n) (subf (maxV q k own own) (rowOf (biasV q k own) n))

/-- The weights of the own block. -/
def nearV (q : FVec Ideal S128x1024 .bf16) (k : Vec Ideal S2048x128 .bf16) (own : ℕ) : FVec Ideal S256x1024 .f32 :=
  weightV (ownV q k own) (maxV q k own own)

/-- The values of a block, weighted. -/
def mixV (v : Vec Ideal S128x2048 .bf16) (p : FVec Ideal S256x1024 .f32) (n : ℕ) : FVec Ideal S128x1024 .f32 :=
  matmul dot_S128x256_S256x1024_S128x1024_1_0_0_1_n_n none (φ₁ := .bf16) (valBlock v n)
    (shapeCast S256x1024 (truncf .bf16 p bitsLt_bf16_f32) shapeCasts_S256x1024_S256x1024) (constant S128x1024 .f32 0x00000000#32)

/-- The sum of the first `n` blocks' weights. -/
def denV (q : FVec Ideal S128x1024 .bf16) (k : Vec Ideal S2048x128 .bf16) (own : ℕ) : ℕ → FVec Ideal S1x1024 .f32
  | 0 => broadcast S1x1024 (FloatOps.ofBits .f32 0x00000000#32)
  | n + 1 => addf (denV q k own n) (colSum (farV q k own n))

/-- The sum of the first `n` blocks' weighted values. -/
def numV (q : FVec Ideal S128x1024 .bf16) (k : Vec Ideal S2048x128 .bf16) (v : Vec Ideal S128x2048 .bf16) (own : ℕ) :
    ℕ → FVec Ideal S128x1024 .f32
  | 0 => broadcast S128x1024 (FloatOps.ofBits .f32 0x00000000#32)
  | n + 1 => addf (numV q k v own n) (mixV v (farV q k own n) n)

/-- The attention of the own block `own`: the weighted values over the weights. -/
def attendV (q : FVec Ideal S128x1024 .bf16) (k : Vec Ideal S2048x128 .bf16) (v : Vec Ideal S128x2048 .bf16) (own : ℕ) :
    FVec Ideal S128x1024 .f32 :=
  shapeCast S128x1024
    (divf (addf (numV q k v own own) (mixV v (nearV q k own) own))
      (broadcastTo S128x1024 (addf (denV q k own own) (colSum (nearV q k own))) broadcasts_S1x1024_S128x1024))
    shapeCasts_S128x1024_S128x1024

/-- A head's 64 rows of the attention, from row `r` and column `l`. -/
def headPart (a : Vec Ideal S128x1024 .f32) (r l : ℕ) (h : ∀ x, ![r, l] x + ![64, 256] x ≤ S128x1024.size x) : Vec Ideal S64x256 .f32 :=
  View.ld a (Rect.unit ![r, l] ![64, 256] h)

/-- The output block: for each of the four heads, its 64 rows of the attention. -/
def tileV (a : FVec Ideal S128x1024 .f32) : Vec Ideal S256x256 .bf16 :=
  View.canon [
    ⟨Rect.unit ![192, 0] ![64, 256] inb_S256x256_S64x256_192_0,
      k0_pay301 (F := Ideal) (headPart a 64 768 inb_S128x1024_S64x256_64_768)⟩,
    ⟨Rect.unit ![128, 0] ![64, 256] inb_S256x256_S64x256_128_0,
      k0_pay301 (F := Ideal) (headPart a 64 512 inb_S128x1024_S64x256_64_512)⟩,
    ⟨Rect.unit ![64, 0] ![64, 256] inb_S256x256_S64x256_64_0,
      k0_pay301 (F := Ideal) (headPart a 0 256 inb_S128x1024_S64x256_0_256)⟩,
    ⟨Rect.unit ![0, 0] ![64, 256] inb_S256x256_S64x256_0_0,
      k0_pay301 (F := Ideal) (headPart a 0 0 inb_S128x1024_S64x256_0_0)⟩]

variable (m : (ℓ : Loc nD τ sig) → Buf (Elt Ideal) ℓ)

/-- The windows' block indices at point `t`: batch `t / 16`, pair of key-value heads `t / 8 % 2`, own block `t % 8`. -/
theorem idx : ∀ t : Fin cfg0.N, win0_0.index t = ![t.val / 8 % 2, t.val / 16 * 8 + t.val % 8] ∧
    win0_1.index t = ![t.val / 16, 4 + t.val / 8 % 2] ∧ win0_2.index t = ![t.val / 16, t.val / 8 % 2, 0] ∧
    win0_3.index t = ![t.val / 8 % 2, t.val / 16 * 8 + t.val % 8] ∧ t.val < 128 :=
  (by decide +kernel : ∀ t : Fin grid0.N, win0_0.index t = ![t.val / 8 % 2, t.val / 16 * 8 + t.val % 8] ∧
    win0_1.index t = ![t.val / 16, 4 + t.val / 8 % 2] ∧ win0_2.index t = ![t.val / 16, t.val / 8 % 2, 0] ∧
    win0_3.index t = ![t.val / 8 % 2, t.val / 16 * 8 + t.val % 8] ∧ t.val < 128)

/-- The point's block of queries. -/
def blkQ (c : Dev nD) (t : Fin cfg0.N) : Vec Ideal S256x256 .f32 := iblk m c 0 t
/-- The point's keys. -/
def blkK (c : Dev nD) (t : Fin cfg0.N) : Vec Ideal S2048x128 .f32 := iblk m c 1 t
/-- The point's values. -/
def blkV (c : Dev nD) (t : Fin cfg0.N) : Vec Ideal S1x128x2048 .f32 := iblk m c 2 t

/-- The block of queries holds the rows of the point's four heads, at the columns of the own block. -/
theorem blkQ_apply (c : Dev nD) (t : Fin cfg0.N) (r : Fin 256) (l : Fin 256) :
    blkQ m c t (ix2 r l) = m ((c : Thread nD τ).loc main_arg1)
      (ix2 ⟨t.val / 8 % 2 * 256 + r.val, by omega⟩ ⟨(t.val / 16 * 8 + t.val % 8) * 256 + l.val, by have := (idx t).2.2.2.2; omega⟩) := by
  show iblk m c 0 t (ix2 r l) = _
  blk_ext [iblk, V, idx t]

/-- The keys are the sequence's rows of `h` at the columns of the pair of key-value heads. -/
theorem blkK_apply (c : Dev nD) (t : Fin cfg0.N) (r : Fin 2048) (l : Fin 128) :
    blkK m c t (ix2 r l) = m ((c : Thread nD τ).loc main_arg0)
      (ix2 ⟨t.val / 16 * 2048 + r.val, by have := (idx t).2.2.2.2; omega⟩ ⟨(4 + t.val / 8 % 2) * 128 + l.val, by omega⟩) := by
  show iblk m c 1 t (ix2 r l) = _
  blk_ext [iblk, V, idx t]

/-- The values are the sequence's, at the rows of the pair of key-value heads. -/
theorem blkV_apply (c : Dev nD) (t : Fin cfg0.N) (z : Fin 1) (r : Fin 128) (l : Fin 2048) :
    blkV m c t (ix3 z r l) = m ((c : Thread nD τ).loc main_arg2)
      (ix3 ⟨t.val / 16, by have := (idx t).2.2.2.2; omega⟩ ⟨t.val / 8 % 2 * 128 + r.val, by omega⟩ l) := by
  show iblk m c 2 t (ix3 z r l) = _
  blk_ext [iblk, V, idx t]

/-- The keys change only with the batch and the pair of heads. -/
theorem blkK_pred (c : Dev nD) (t : Fin cfg0.N) (h : t.val % 8 ≠ 0) (h' : t.val - 1 < cfg0.N) :
    blkK m c ⟨t.val - 1, h'⟩ = blkK m c t := by
  funext j
  idx_vars j
  rw [blkK_apply, blkK_apply]
  congr 2 <;> apply Fin.ext <;> simp only <;> omega

/-- The values change only with the batch and the pair of heads. -/
theorem blkV_pred (c : Dev nD) (t : Fin cfg0.N) (h : t.val % 8 ≠ 0) (h' : t.val - 1 < cfg0.N) :
    blkV m c ⟨t.val - 1, h'⟩ = blkV m c t := by
  funext j
  idx_vars j
  rw [blkV_apply, blkV_apply]
  congr 2 <;> apply Fin.ext <;> simp only <;> omega

/-- What point `t` leaves: its output block is the attention of own block `t % 8`, and the two scratches hold the
sequence's keys and values. -/
theorem left_eq (c : Dev nD) (n : ℕ) : ∀ hn : n < cfg0.N, outsAt0 m c n hn =
    (tileV (attendV (k0_pay277 (blkQ m c ⟨n, hn⟩)) (k0_pay275 (blkK m c ⟨n, hn⟩)) (k0_pay276 (blkV m c ⟨n, hn⟩)) (n % 8)),
      k0_pay275 (blkK m c ⟨n, hn⟩), k0_pay276 (blkV m c ⟨n, hn⟩)) := by
  induction n using Nat.strong_induction_on with
  | _ n ih =>
    intro hn
    obtain ⟨own, hown⟩ : ∃ own, n % 8 = own := ⟨_, rfl⟩
    rw [hown]
    by_cases h : n % 8 = 0
    · obtain rfl : own = 0 := by omega
      rw [outsAt0_A m c ⟨n, hn⟩ h h (by simp only; omega) (by simp only; omega) (by simp only; omega) (by simp only; omega)
        (by simp only; omega) (by simp only; omega) (by simp only; omega)]
      unfold blkQ blkK blkV
      generalize iblk m c 0 ⟨n, hn⟩ = X
      generalize iblk m c 1 ⟨n, hn⟩ = K
      generalize iblk m c 2 ⟨n, hn⟩ = V
      refine Prod.ext ?_ (Prod.ext ?_ ?_)
      all_goals
        dsimp only
        frame_open
        simp (disch := decide) only [↓ View.readCov_skip, ↓ View.readCov_cons_toLoadRect, ↓ View.readCov_fill]
        frame_out
        try rfl
    · have ih1 := ih (n - 1) (by omega) (by omega)
      have hK := blkK_pred m c ⟨n, hn⟩ h (by simp only; omega)
      have hV := blkV_pred m c ⟨n, hn⟩ h (by simp only; omega)
      simp only at hK hV
      rw [hK, hV] at ih1
      have hX : blkQ m c ⟨n, hn⟩ = iblk m c 0 ⟨n, hn⟩ := rfl
      rw [hX]
      have hs : ∀ (a : ℕ) (h₁ : a < cfg0.N), a = n - 1 → (outsAt0 m c a h₁).2 =
          (k0_pay275 (blkK m c ⟨n, hn⟩), k0_pay276 (blkV m c ⟨n, hn⟩)) := by
        intro a h₁ ha; subst ha; rw [ih1]
      have hc : outsAt0 m c n hn = (tileV (attendV (k0_pay277 (iblk m c 0 ⟨n, hn⟩)) (outsAt0 m c (n - 1) (by omega)).2.1
          (outsAt0 m c (n - 1) (by omega)).2.2 own), (outsAt0 m c (n - 1) (by omega)).2) := by
        obtain h | h | h | h | h | h | h : own = 1 ∨ own = 2 ∨ own = 3 ∨ own = 4 ∨ own = 5 ∨ own = 6 ∨ own = 7 := by omega
        all_goals
          subst h
          first
          | rw [outsAt0_B m c ⟨n, hn⟩ (by simp only; omega) (by simp only; omega) (by simp only; omega) (by simp only; omega)
              (by simp only; omega) (by simp only; omega) (by simp only; omega) (by simp only; omega) (by simp only; omega)]
          | rw [outsAt0_C m c ⟨n, hn⟩ (by simp only; omega) (by simp only; omega) (by simp only; omega) (by simp only; omega)
              (by simp only; omega) (by simp only; omega) (by simp only; omega) (by simp only; omega) (by simp only; omega)]
          | rw [outsAt0_D m c ⟨n, hn⟩ (by simp only; omega) (by simp only; omega) (by simp only; omega) (by simp only; omega)
              (by simp only; omega) (by simp only; omega) (by simp only; omega) (by simp only; omega) (by simp only; omega)]
          | rw [outsAt0_E m c ⟨n, hn⟩ (by simp only; omega) (by simp only; omega) (by simp only; omega) (by simp only; omega)
              (by simp only; omega) (by simp only; omega) (by simp only; omega) (by simp only; omega) (by simp only; omega)]
          | rw [outsAt0_F m c ⟨n, hn⟩ (by simp only; omega) (by simp only; omega) (by simp only; omega) (by simp only; omega)
              (by simp only; omega) (by simp only; omega) (by simp only; omega) (by simp only; omega) (by simp only; omega)]
          | rw [outsAt0_G m c ⟨n, hn⟩ (by simp only; omega) (by simp only; omega) (by simp only; omega) (by simp only; omega)
              (by simp only; omega) (by simp only; omega) (by simp only; omega) (by simp only; omega) (by simp only; omega)]
          | rw [outsAt0_H m c ⟨n, hn⟩ (by simp only; omega) (by simp only; omega) (by simp only; omega) (by simp only; omega)
              (by simp only; omega) (by simp only; omega) (by simp only; omega) (by simp only; omega) (by simp only; omega)]
          refine Prod.ext ?_ rfl
          dsimp only
          generalize (outsAt0 m c (n - 1) _).2.1 = K
          generalize (outsAt0 m c (n - 1) _).2.2 = V
          generalize iblk m c 0 ⟨n, hn⟩ = X
          frame_open
          simp (disch := decide) only [↓ View.readCov_skip, ↓ View.readCov_cons_toLoadRect, ↓ View.readCov_fill]
          frame_out
          simp only [Idealize.ShloMosaic.read_unread_whole]
          rfl
      rw [hc, hs _ _ rfl]
end Cert.KernelIdeal.Value
-- ==== Proof.Core.lean ====
module
public import Idealize.ShloMosaic.Lib.Pointwise

/-!
Block attention over the reals: a query attends the keys of its own block that do not come after it, and all the keys
of the blocks chosen for it (of the earlier blocks the three with the greatest gates).  The softmax is stated with a
free shift `μ`, on which it does not depend (`attention_shift`): a program may take any maximum off the scores.
-/

@[expose] public section
noncomputable section
namespace Cert.Moba
open Idealize.ShloMosaic

/-- A nonnegative finite factor comes out of a sum of extended reals. -/
theorem sum_mul_left {ι : Type*} (s : Finset ι) (c : EReal) (h0 : 0 ≤ c) (ht : c ≠ ⊤) (f : ι → EReal) :
    ∑ i ∈ s, c * f i = c * ∑ i ∈ s, f i := by
  classical
  induction s using Finset.induction_on with
  | empty => simp
  | insert a s ha ih => rw [Finset.sum_insert ha, Finset.sum_insert ha, EReal.left_distrib_of_nonneg_of_ne_top h0 ht, ih]

/-- A sum of reals, each seen as an extended real. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

section
variable (q : Fin 64 → ℝ) (k : Fin 8 → Fin 256 → Fin 64 → ℝ) (v : Fin 8 → Fin 256 → EReal) (own : Fin 8) (x : Fin 256)

/-- The score of key `r` of block `n`. -/
def score (n : Fin 8) (r : Fin 256) : ℝ := (∑ d, q d * k n r d) / 8

/-- The gate of block `n`: the query against the block's mean key. -/
def gate (n : Fin 8) : ℝ := ∑ d, q d * ((∑ r, k n r d) / 256)

/-- Block `a` comes before block `n`: its gate is greater, or it is equal and `a` is the smaller number. -/
def beats (a n : Fin 8) : Prop := gate q k n < gate q k a ∨ gate q k a = gate q k n ∧ a < n

open Classical in
/-- How many of the earlier blocks come before block `n`. -/
def rank (n : Fin 8) : ℕ := (Finset.univ.filter fun a : Fin 8 => a < own ∧ beats q k a n).card

/-- Block `n` is chosen: it is an earlier block, and fewer than three earlier blocks come before it. -/
def chosen (n : Fin 8) : Prop := n < own ∧ rank q k own n < 3

open Classical in
/-- The weight of key `r` of block `n`, with `μ` taken off its score: 0 for a key the query does not attend. -/
def weight (μ : ℝ) (n : Fin 8) (r : Fin 256) : ℝ :=
  if n = own ∧ r ≤ x ∨ chosen q k own n then Real.exp (score q k n r - μ) else 0

/-- The attention of the query at its position `x` of its block `own`: the weighted values over the weights. -/
def attention (μ : ℝ) : EReal :=
  Ideal.div (∑ n, ∑ r, v n r * ((weight q k own x μ n r : ℝ) : EReal)) ((∑ n, ∑ r, weight q k own x μ n r : ℝ) : EReal)

theorem weight_nonneg (μ : ℝ) (n : Fin 8) (r : Fin 256) : 0 ≤ weight q k own x μ n r := by
  unfold weight; split
  · exact (Real.exp_pos _).le
  · exact le_rfl

/-- The query attends itself, so the weights' sum is positive. -/
theorem weight_sum_pos (μ : ℝ) : 0 < ∑ n, ∑ r, weight q k own x μ n r := by
  have h1 : 0 < weight q k own x μ own x := by
    unfold weight; rw [if_pos (Or.inl ⟨rfl, le_rfl⟩)]; exact Real.exp_pos _
  calc 0 < weight q k own x μ own x := h1
    _ ≤ ∑ r, weight q k own x μ own r :=
        Finset.single_le_sum (f := fun r => weight q k own x μ own r) (fun r _ => weight_nonneg q k own x μ own r) (Finset.mem_univ x)
    _ ≤ _ := Finset.single_le_sum (f := fun n => ∑ r, weight q k own x μ n r)
        (fun n _ => Finset.sum_nonneg fun r _ => weight_nonneg q k own x μ n r) (Finset.mem_univ own)

theorem weight_shift (μ μ' : ℝ) (n : Fin 8) (r : Fin 256) :
    weight q k own x μ' n r = Real.exp (μ - μ') * weight q k own x μ n r := by
  unfold weight; split
  · rw [← Real.exp_add]; congr 1; ring
  · rw [mul_zero]

/-- The attention does not depend on the shift. -/
theorem attention_shift (μ μ' : ℝ) : attention q k v own x μ' = attention q k v own x μ := by
  have hp := weight_sum_pos q k own x μ
  have hp' := weight_sum_pos q k own x μ'
  have hd : ∑ n, ∑ r, weight q k own x μ' n r = Real.exp (μ - μ') * ∑ n, ∑ r, weight q k own x μ n r := by
    rw [Finset.mul_sum]
    refine Finset.sum_congr rfl fun n _ => ?_
    rw [Finset.mul_sum]
    exact Finset.sum_congr rfl fun r _ => weight_shift q k own x μ μ' n r
  have hn : ∑ n, ∑ r, v n r * ((weight q k own x μ' n r : ℝ) : EReal)
      = ((Real.exp (μ - μ') : ℝ) : EReal) * ∑ n, ∑ r, v n r * ((weight q k own x μ n r : ℝ) : EReal) := by
    have h0 : (0 : EReal) ≤ ((Real.exp (μ - μ') : ℝ) : EReal) := EReal.coe_nonneg.mpr (Real.exp_pos _).le
    rw [← sum_mul_left _ _ h0 (EReal.coe_ne_top _)]
    refine Finset.sum_congr rfl fun n _ => ?_
    rw [← sum_mul_left _ _ h0 (EReal.coe_ne_top _)]
    refine Finset.sum_congr rfl fun r _ => ?_
    rw [weight_shift q k own x μ μ' n r, EReal.coe_mul, mul_left_comm]
  unfold attention
  rw [Ideal.div_coe hp'.ne', Ideal.div_coe hp.ne', hn, mul_comm (((Real.exp (μ - μ') : ℝ) : EReal)), mul_assoc, ← EReal.coe_mul, hd]
  congr 2
  have h1 := (Real.exp_pos (μ - μ')).ne'
  have h2 := hp.ne'
  field_simp

/-- A sum of values each weighted by a quotient is the quotient of the weighted sum. -/
theorem sum_div_weight (μ : ℝ) (s : ℝ) (hs : 0 < s) :
    ∑ n, ∑ r, v n r * (((weight q k own x μ n r) / s : ℝ) : EReal)
      = Ideal.div (∑ n, ∑ r, v n r * ((weight q k own x μ n r : ℝ) : EReal)) ((s : ℝ) : EReal) := by
  have h0 : (0 : EReal) ≤ ((1 / s : ℝ) : EReal) := EReal.coe_nonneg.mpr (by positivity)
  rw [Ideal.div_coe hs.ne', mul_comm _ ((1 / s : ℝ) : EReal), ← sum_mul_left _ _ h0 (EReal.coe_ne_top _)]
  refine Finset.sum_congr rfl fun n _ => ?_
  rw [← sum_mul_left _ _ h0 (EReal.coe_ne_top _)]
  refine Finset.sum_congr rfl fun r _ => ?_
  rw [mul_left_comm, ← EReal.coe_mul]
  congr 2
  ring
end
end Cert.Moba
-- ==== Proof.Consts.lean ====
module
public import proofs.«01_k».proof.Proof.Gen.KernelIdeal.Value
public import Idealize.ShloMosaic.Lib.Pointwise

/-! The constants of the two programs as extended reals. -/

@[expose] public section
noncomputable section
namespace Cert.Moba
open Idealize.ShloMosaic

/-- The word of −∞. -/
theorem word_bot : Ideal.ofBits .f32 0xFF800000#32 = ⊥ := by
  simp [Ideal.ofBits, Ideal.ieee]

/-- The word of +∞. -/
theorem word_top : Ideal.ofBits .f32 0x7F800000#32 = ⊤ := by
  simp [Ideal.ofBits, Ideal.ieee]

/-- The word of 3. -/
theorem word_three : Ideal.ofBits .f32 0x40400000#32 = ((3 : ℝ) : EReal) := by
  simp [Ideal.ofBits, Ideal.ieee, -EReal.coe_mul]; norm_num

/-- The word of one eighth. -/
theorem word_eighth : Ideal.ofBits .f32 0x3E000000#32 = ((1 / 8 : ℝ) : EReal) := by
  simp [Ideal.ofBits, Ideal.ieee, -EReal.coe_mul]; norm_num

/-- The word of 256. -/
theorem word_256 : Ideal.ofBits .f32 0x43800000#32 = ((256 : ℝ) : EReal) := by
  simp [Ideal.ofBits, Ideal.ieee, -EReal.coe_mul]; norm_num

/-- The factor of the scores before a power of two is taken: one eighth over `log 2`. -/
theorem word_scale : Named.named (F := Ideal) Cert.KernelIdeal.κ "scale_log2e" (φ := .f32) 0x3E38AA3B#32
    = (((1 / 8) * (Real.log 2)⁻¹ : ℝ) : EReal) :=
  IdealRules.named_const.ideal_named_scalar _ _ _ _ rfl

end Cert.Moba
-- ==== Proof.Column.lean ====
module
public import proofs.«01_k».proof.Proof.Attend
public import proofs.«01_k».proof.Proof.Core
public import proofs.«01_k».proof.Proof.Consts

/-!
The kernel's attention of one grid point, read at one column: one query of one head.
-/

@[expose] public section
set_option maxRecDepth 16384
noncomputable section
namespace Cert.KernelIdeal.Value
open Cert.KernelIdeal Cert.KernelIdeal.Gen Idealize.ShloMosaic Idealize.ShloMosaic.TcCoe Idealize.SL.Sem

variable (q : FVec Ideal S128x1024 .bf16) (k : Vec Ideal S2048x128 .bf16) (v : Vec Ideal S128x2048 .bf16)

/-- The score of key `r` of block `n` for the query of column `l`. -/
def sc (n : ℕ) (r : Fin 256) (l : Fin 1024) : EReal :=
  ∑ d : Fin 128, k (ix2 ⟨256 * (n % 8) + r.val, by omega⟩ d) * q (ix2 d l)

theorem scoreV_apply (n : ℕ) (r : Fin 256) (l : Fin 1024) : scoreV q k n (ix2 r l) = sc q k n r l := by
  pointwise [scoreV, keyBlock, sc]

/-- The place of a column's query in its block, as the kernel's words compute it. -/
theorem place_word : ∀ l : Fin 1024, Scalar.select
        (IntOp.andi
          (IntOp.xori
            (IntOp.cmpi CmpIPredicate.slt
              (IntOp.remsi ArithUnit.vector (BitVec.ofNat 32 l.val)
                (Scalar.select (Scalar.cmpi CmpIPredicate.eq 256#32 0#32) 1#32 256#32))
              0#32)
            (Scalar.cmpi CmpIPredicate.slt (Scalar.select (Scalar.cmpi CmpIPredicate.eq 256#32 0#32) 1#32 256#32) 0#32))
          (IntOp.cmpi CmpIPredicate.ne
            (IntOp.remsi ArithUnit.vector (BitVec.ofNat 32 l.val)
              (Scalar.select (Scalar.cmpi CmpIPredicate.eq 256#32 0#32) 1#32 256#32))
            0#32))
        (IntOp.addi
          (IntOp.remsi ArithUnit.vector (BitVec.ofNat 32 l.val)
            (Scalar.select (Scalar.cmpi CmpIPredicate.eq 256#32 0#32) 1#32 256#32))
          (Scalar.select (Scalar.cmpi CmpIPredicate.eq 256#32 0#32) 1#32 256#32))
        (IntOp.remsi ArithUnit.vector (BitVec.ofNat 32 l.val)
          (Scalar.select (Scalar.cmpi CmpIPredicate.eq 256#32 0#32) 1#32 256#32)) = BitVec.ofNat 32 (l.val % 256) := by
  decide +kernel

/-- The causal mask: key `r` is at or before the query's place. -/
theorem causal_apply (r : Fin 256) (l : Fin 1024) : k0_pay278 (ix2 r l) = BitVec.ofBool (decide (r.val ≤ l.val % 256)) := by
  pointwise [k0_pay278]
  rw [place_word, WordCmp.cmpi_sle_ofNat (by omega) (by omega)]

theorem colMax_apply (s : FVec Ideal S256x1024 .f32) (z : Fin 1) (l : Fin 1024) :
    colMax s (ix2 z l) = Finset.univ.sup fun r : Fin 256 => s (ix2 r l) := by
  pointwise [colMax]
  rw [Moba.word_bot]; rfl

theorem colSum_apply (s : FVec Ideal S256x1024 .f32) (z : Fin 1) (l : Fin 1024) :
    colSum s (ix2 z l) = ∑ r : Fin 256, s (ix2 r l) := by
  pointwise [colSum]

theorem ownV_apply (own : ℕ) (r : Fin 256) (l : Fin 1024) :
    ownV q k own (ix2 r l) = if r.val ≤ l.val % 256 then sc q k own r l else ⊥ := by
  rw [← scoreV_apply]
  pointwise [ownV]
  rw [causal_apply, WordCmp.select_ofBool, Moba.word_bot]
  simp only [decide_eq_true_eq]

theorem rowOf_apply (b : FVec Ideal S8x1024 .f32) (n : ℕ) (z : Fin 1) (l : Fin 1024) :
    rowOf b n (ix2 z l) = b (ix2 ⟨n % 8, by omega⟩ l) := by
  pointwise [rowOf]

theorem gateV_succ (n : ℕ) (hn : n < 8) (a : Fin 8) (l : Fin 1024) :
    gateV q k (n + 1) (ix2 a l) = if a.val = n then ∑ r : Fin 256, sc q k n r l else gateV q k n (ix2 a l) := by
  pointwise [gateV, blockNo]
  rw [WordCmp.cmpi_eq_ofNat (by omega) (by omega), WordCmp.select_ofBool, colSum_apply]
  simp only [decide_eq_true_eq, scoreV_apply]

/-- Row `a` of the gates is the sum of block `a`'s scores if the block is before `n`, and 0 if it is not. -/
theorem gateV_apply (n : ℕ) (hn : n ≤ 8) (a : Fin 8) (l : Fin 1024) :
    gateV q k n (ix2 a l) = if a.val < n then ∑ r : Fin 256, sc q k a.val r l else 0 := by
  induction n with
  | zero => pointwise [gateV]; simp
  | succ n ih =>
    rw [gateV_succ q k n (by omega), ih (by omega)]
    by_cases h : a.val = n
    · rw [if_pos h, if_pos (by omega), h]
    · rw [if_neg h]
      congr 1
      exact propext ⟨fun h' => by omega, fun h' => by omega⟩

open Classical in
/-- The count of the first `n` blocks that beat block `a`. -/
theorem countV_apply (g : FVec Ideal S8x1024 .f32) (n : ℕ) (hn : n ≤ 8) (a : Fin 8) (l : Fin 1024) :
    countV g n (ix2 a l) = (((Finset.univ.filter fun b : Fin 8 => b.val < n ∧
      (g (ix2 a l) < g (ix2 b l) ∨ g (ix2 b l) = g (ix2 a l) ∧ b < a)).card : ℝ) : EReal) := by
  induction n with
  | zero => pointwise [countV]; simp
  | succ n ih =>
    have hs : (Finset.univ.filter fun b : Fin 8 => b.val < n + 1 ∧
        (g (ix2 a l) < g (ix2 b l) ∨ g (ix2 b l) = g (ix2 a l) ∧ b < a)) =
        if g (ix2 a l) < g (ix2 ⟨n, by omega⟩ l) ∨ g (ix2 ⟨n, by omega⟩ l) = g (ix2 a l) ∧ n < a.val then
          insert ⟨n, by omega⟩ (Finset.univ.filter fun b : Fin 8 => b.val < n ∧
            (g (ix2 a l) < g (ix2 b l) ∨ g (ix2 b l) = g (ix2 a l) ∧ b < a))
        else Finset.univ.filter fun b : Fin 8 => b.val < n ∧
            (g (ix2 a l) < g (ix2 b l) ∨ g (ix2 b l) = g (ix2 a l) ∧ b < a) := by
      split
      · rename_i h
        ext b
        simp only [Finset.mem_filter, Finset.mem_univ, true_and, Finset.mem_insert]
        constructor
        · rintro ⟨h1, h2⟩
          by_cases hb : b.val = n
          · exact Or.inl (Fin.ext hb)
          · exact Or.inr ⟨by omega, h2⟩
        · rintro (rfl | ⟨h1, h2⟩)
          · exact ⟨by simp, h⟩
          · exact ⟨by omega, h2⟩
      · rename_i h
        ext b
        simp only [Finset.mem_filter, Finset.mem_univ, true_and]
        constructor
        · rintro ⟨h1, h2⟩
          refine ⟨?_, h2⟩
          by_contra hb
          have hb' : b = ⟨n, by omega⟩ := Fin.ext (by simp only; omega)
          rw [hb'] at h2
          exact h h2
        · rintro ⟨h1, h2⟩
          exact ⟨by omega, h2⟩
    have hm : (n % 8) = n := Nat.mod_eq_of_lt (by omega)
    rw [hs]
    pointwise [countV, blockNo]
    simp only [rowOf_apply, hm]
    rw [ih (by omega), WordCmp.cmpi_sgt_ofNat (by omega) (by omega), WordCmp.select_ofBool]
    simp only [decide_eq_true_eq]
    by_cases h1 : g (ix2 a l) < g (ix2 ⟨n, by omega⟩ l)
    · rw [if_pos h1, if_pos (Or.inl h1), Finset.card_insert_of_notMem (by simp)]
      push_cast; rfl
    · rw [if_neg h1]
      by_cases h2 : g (ix2 ⟨n, by omega⟩ l) = g (ix2 a l)
      · rw [if_pos h2]
        by_cases h3 : n < a.val
        · rw [if_pos h3, if_pos (Or.inr ⟨h2, h3⟩), Finset.card_insert_of_notMem (by simp)]
          push_cast; rfl
        · rw [if_neg h3, if_neg (by rintro (h | h); exacts [h1 h, h3 h.2]), add_zero]
      · rw [if_neg h2, if_neg (by rintro (h | h); exacts [h1 h, h2 h.1]), add_zero]

theorem farV_apply (own n : ℕ) (r : Fin 256) (l : Fin 1024) : farV q k own n (ix2 r l) =
    Ideal.exp2 (sc q k n r l - (maxV q k own own (ix2 0 l) - biasV q k own (ix2 ⟨n % 8, by omega⟩ l))) := by
  rw [← rowOf_apply (biasV q k own) n 0 l, ← scoreV_apply]
  pointwise [farV, weightV]
  rfl

theorem nearV_apply (own : ℕ) (r : Fin 256) (l : Fin 1024) : nearV q k own (ix2 r l) =
    Ideal.exp2 ((if r.val ≤ l.val % 256 then sc q k own r l else ⊥) - maxV q k own own (ix2 0 l)) := by
  rw [← ownV_apply]
  pointwise [nearV, weightV]
  rfl

theorem mixV_apply (p : FVec Ideal S256x1024 .f32) (n : ℕ) (d : Fin 128) (l : Fin 1024) :
    mixV v p n (ix2 d l) = ∑ r : Fin 256, v (ix2 d ⟨256 * (n % 8) + r.val, by omega⟩) * p (ix2 r l) := by
  pointwise [mixV, valBlock]

theorem denV_apply (own n : ℕ) (z : Fin 1) (l : Fin 1024) :
    denV q k own n (ix2 z l) = ∑ a ∈ Finset.range n, ∑ r : Fin 256, farV q k own a (ix2 r l) := by
  induction n with
  | zero => pointwise [denV]; simp
  | succ n ih => rw [Finset.sum_range_succ, ← ih, ← colSum_apply _ z]; rfl

theorem numV_apply (own n : ℕ) (d : Fin 128) (l : Fin 1024) :
    numV q k v own n (ix2 d l) = ∑ a ∈ Finset.range n, ∑ r : Fin 256,
      v (ix2 d ⟨256 * (a % 8) + r.val, by omega⟩) * farV q k own a (ix2 r l) := by
  induction n with
  | zero => pointwise [numV]; simp
  | succ n ih => rw [Finset.sum_range_succ, ← ih, ← mixV_apply]; rfl

theorem attendV_apply (own : ℕ) (d : Fin 128) (l : Fin 1024) : attendV q k v own (ix2 d l) =
    Ideal.div ((∑ a ∈ Finset.range own, ∑ r : Fin 256, v (ix2 d ⟨256 * (a % 8) + r.val, by omega⟩) * farV q k own a (ix2 r l))
        + ∑ r : Fin 256, v (ix2 d ⟨256 * (own % 8) + r.val, by omega⟩) * nearV q k own (ix2 r l))
      ((∑ a ∈ Finset.range own, ∑ r : Fin 256, farV q k own a (ix2 r l)) + ∑ r : Fin 256, nearV q k own (ix2 r l)) := by
  rw [← numV_apply, ← denV_apply q k own own 0 l, ← mixV_apply, ← colSum_apply _ 0]
  pointwise [attendV]

theorem maxV_succ (own n : ℕ) (z : Fin 1) (l : Fin 1024) : maxV q k own (n + 1) (ix2 z l) =
    max (maxV q k own n (ix2 z l))
      ((Finset.univ.sup fun r : Fin 256 => sc q k n r l) + biasV q k own (ix2 ⟨n % 8, by omega⟩ l)) := by
  rw [← rowOf_apply (biasV q k own) n z l]
  simp only [← scoreV_apply]
  rw [← colMax_apply _ z]
  rfl

theorem maxV_zero (own : ℕ) (z : Fin 1) (l : Fin 1024) : maxV q k own 0 (ix2 z l) =
    Finset.univ.sup fun r : Fin 256 => if r.val ≤ l.val % 256 then sc q k own r l else ⊥ := by
  simp only [← ownV_apply]
  rw [← colMax_apply _ z]
  rfl

open Classical in
theorem biasV_apply (own : ℕ) (ho : own < 8) (a : Fin 8) (l : Fin 1024) : biasV q k own (ix2 a l) =
    if 3 < own → (a.val < own ∧ ((Finset.univ.filter fun b : Fin 8 => b.val < own ∧
      (gateV q k own (ix2 a l) < gateV q k own (ix2 b l) ∨
        gateV q k own (ix2 b l) = gateV q k own (ix2 a l) ∧ b < a)).card < 3)) then 0 else ⊥ := by
  by_cases h : 3 < own
  · unfold biasV
    rw [if_pos h]
    pointwise [blockNo]
    rw [WordCmp.cmpi_slt_ofNat (by omega) (by omega), WordCmp.andi_ofBool, WordCmp.select_ofBool, Moba.word_bot, Moba.word_three,
      countV_apply _ _ ho.le]
    simp only [Bool.and_eq_true, decide_eq_true_eq, h, forall_true_left, EReal.coe_lt_coe_iff]
    congr 1
    exact propext (and_congr_right fun _ => by norm_cast)
  · unfold biasV
    rw [if_neg h, if_pos (fun h' => absurd h' h)]
    pointwise

end Cert.KernelIdeal.Value
-- ==== Proof.KernelCore.lean ====
module
public import proofs.«01_k».proof.Proof.Column

/-!
One column of the kernel's attention is the block attention over the reals.

The kernel takes a power of two of scores that carry a factor `1 / log 2`, sums a block's scores where the reference
takes the query against the block's mean key, drops a block by a bias of −∞, and visits only the blocks up to its own.
-/

@[expose] public section
set_option maxRecDepth 16384
noncomputable section
namespace Cert.KernelIdeal.Value
open Cert.KernelIdeal Cert.KernelIdeal.Gen Idealize.ShloMosaic Idealize.ShloMosaic.TcCoe Idealize.SL.Sem
open Cert.Moba

/-- A sum over the blocks up to the own one, the others being zero. -/
theorem sum_upto (F : Fin 8 → EReal) (g : ℕ → EReal) (own : Fin 8) (h : ∀ n : Fin 8, n < own → g n.val = F n)
    (h0 : ∀ n : Fin 8, own < n → F n = 0) : (∑ a ∈ Finset.range own.val, g a) + F own = ∑ n, F n := by
  have h1 : ∑ n, F n = ∑ a ∈ Finset.range 8, if h : a < 8 then F ⟨a, h⟩ else 0 := by
    rw [Finset.sum_range]
    exact Finset.sum_congr rfl fun n _ => by simp
  have h2 : ∑ a ∈ Finset.range (own.val + 1), (if h : a < 8 then F ⟨a, h⟩ else 0)
      = ∑ a ∈ Finset.range 8, if h : a < 8 then F ⟨a, h⟩ else 0 := by
    refine Finset.sum_subset (Finset.range_subset_range.mpr (by omega)) fun a ha ha' => ?_
    have ha1 := Finset.mem_range.mp ha
    have ha2 : ¬ a < own.val + 1 := fun h => ha' (Finset.mem_range.mpr h)
    rw [dif_pos ha1]
    exact h0 _ (Fin.lt_def.mpr (by simp only; omega))
  rw [h1, ← h2, Finset.sum_range_succ, dif_pos own.isLt]
  congr 1
  refine Finset.sum_congr rfl fun a ha => ?_
  have ha1 := Finset.mem_range.mp ha
  rw [dif_pos (by omega)]
  exact h ⟨a, by omega⟩ (Fin.lt_def.mpr ha1)

/-- The supremum of a finite family of scores below +∞, one of them real, is real. -/
theorem sup_real {ι : Type*} [Fintype ι] (f : ι → EReal) (i : ι) (hi : f i ≠ ⊥) (ht : ∀ j, f j < ⊤) :
    ∃ M : ℝ, Finset.univ.sup f = (M : EReal) := by
  have h1 : Finset.univ.sup f < ⊤ := (Finset.sup_lt_iff bot_lt_top).mpr fun j _ => ht j
  have h2 : ⊥ < Finset.univ.sup f := lt_of_lt_of_le (bot_lt_iff_ne_bot.mpr hi) (Finset.le_sup (Finset.mem_univ i))
  exact ⟨_, (EReal.coe_toReal h1.ne h2.ne').symm⟩

section
variable (q : FVec Ideal S128x1024 .bf16) (k : Vec Ideal S2048x128 .bf16) (v : Vec Ideal S128x2048 .bf16)
variable (qr : Fin 64 → ℝ) (kr : Fin 8 → Fin 256 → Fin 64 → ℝ) (own : Fin 8) (l : Fin 1024)
variable (hsc : ∀ (n : Fin 8) (r : Fin 256), sc q k n.val r l = ((score qr kr n r / Real.log 2 : ℝ) : EReal))
include hsc

/-- The sum of an earlier block's scores is a positive multiple of its gate. -/
theorem gate_eq (a : Fin 8) (ha : a < own) :
    gateV q k own.val (ix2 a l) = ((32 / Real.log 2 * gate qr kr a : ℝ) : EReal) := by
  rw [gateV_apply q k own.val own.isLt.le, if_pos (Fin.lt_def.mp ha)]
  simp only [hsc]
  rw [sum_coe]
  congr 1
  unfold score gate
  rw [← Finset.sum_div, ← Finset.sum_div, Finset.sum_comm]
  have : ∀ d, qr d * ((∑ r, kr a r d) / 256) = (∑ r, qr d * kr a r d) / 256 := fun d => by
    rw [← Finset.mul_sum]; ring
  simp only [this]
  rw [← Finset.sum_div]
  ring

open Classical in
/-- The bias keeps a block exactly when it is chosen. -/
theorem bias_eq (a : Fin 8) (ha : a < own) :
    biasV q k own.val (ix2 a l) = if chosen qr kr own a then 0 else ⊥ := by
  classical
  have hlog : (0 : ℝ) < 32 / Real.log 2 := div_pos (by norm_num) (Real.log_pos (by norm_num))
  rw [biasV_apply q k own.val own.isLt]
  have hset : (Finset.univ.filter fun b : Fin 8 => b.val < own.val ∧
      (gateV q k own.val (ix2 a l) < gateV q k own.val (ix2 b l) ∨
        gateV q k own.val (ix2 b l) = gateV q k own.val (ix2 a l) ∧ b < a))
      = Finset.univ.filter fun b : Fin 8 => b < own ∧ beats qr kr b a := by
    ext b
    simp only [Finset.mem_filter, Finset.mem_univ, true_and, ← Fin.lt_def]
    refine and_congr_right fun hb => ?_
    rw [gate_eq q k qr kr own l hsc a ha, gate_eq q k qr kr own l hsc b hb, EReal.coe_lt_coe_iff, EReal.coe_eq_coe_iff,
      mul_lt_mul_iff_right₀ hlog, mul_right_inj' hlog.ne']
    rfl
  have hiff : (3 < own.val → (a.val < own.val ∧ (Finset.univ.filter fun b : Fin 8 => b < own ∧ beats qr kr b a).card < 3)) ↔
      chosen qr kr own a := by
    have hr : rank qr kr own a = (Finset.univ.filter fun b : Fin 8 => b < own ∧ beats qr kr b a).card := by
      unfold rank; congr
    unfold chosen
    rw [hr]
    constructor
    · intro h
      refine ⟨ha, ?_⟩
      by_cases h3 : 3 < own.val
      · exact (h h3).2
      · have hsub : (Finset.univ.filter fun b : Fin 8 => b < own ∧ beats qr kr b a) ⊆ (Finset.Iio own).erase a := by
          intro b hb
          have hb' := (Finset.mem_filter.mp hb).2
          refine Finset.mem_erase.mpr ⟨?_, Finset.mem_Iio.mpr hb'.1⟩
          rintro rfl
          rcases hb'.2 with h | h
          · exact lt_irrefl _ h
          · exact lt_irrefl _ h.2
        have hc := Finset.card_le_card hsub
        rw [Finset.card_erase_of_mem (Finset.mem_Iio.mpr ha), Fin.card_Iio] at hc
        have := Fin.lt_def.mp ha
        omega
    · exact fun h _ => ⟨Fin.lt_def.mp ha, h.2⟩
  rw [hset]
  exact if_congr hiff rfl rfl

/-- The running maximum is a real number. -/
theorem max_real (n : ℕ) (hn : n ≤ own.val) : ∃ M : ℝ, maxV q k own.val n (ix2 0 l) = (M : EReal) := by
  induction n with
  | zero =>
    rw [maxV_zero]
    refine sup_real _ 0 ?_ fun r => ?_
    · rw [if_pos (show (0 : Fin 256).val ≤ l.val % 256 from Nat.zero_le _), hsc]; exact EReal.coe_ne_bot _
    · split
      · rw [hsc]; exact EReal.coe_lt_top _
      · exact bot_lt_top
  | succ n ih =>
    obtain ⟨M, hM⟩ := ih (by omega)
    have hn8 : n < 8 := by omega
    have hs := sup_real (fun r : Fin 256 => sc q k n r l) 0
      (by rw [hsc ⟨n, hn8⟩]; exact EReal.coe_ne_bot _) (fun r => by rw [hsc ⟨n, hn8⟩]; exact EReal.coe_lt_top _)
    obtain ⟨S, hS⟩ := hs
    have hb : (⟨n % 8, by omega⟩ : Fin 8) = ⟨n, hn8⟩ := Fin.ext (Nat.mod_eq_of_lt hn8)
    rw [maxV_succ, hM, hS, hb, bias_eq q k qr kr own l hsc ⟨n, hn8⟩ (Fin.lt_def.mpr (by simp only; omega))]
    split
    · exact ⟨max M S, by rw [add_zero]; exact (EReal.coe_strictMono.monotone.map_max).symm⟩
    · exact ⟨M, by rw [EReal.add_bot, max_eq_left bot_le]⟩

omit hsc in
/-- A power of two of a score that carries `1 / log 2` is the exponential. -/
theorem exp2_score (s M : ℝ) : Ideal.exp2 (((s / Real.log 2 : ℝ) : EReal) - (M : EReal))
    = ((Real.exp (s - M * Real.log 2) : ℝ) : EReal) := by
  have hlog : Real.log 2 ≠ 0 := (Real.log_pos (by norm_num)).ne'
  rw [← EReal.coe_sub, Ideal.exp2_coe]
  congr 1
  show (2 : ℝ) ^ (s / Real.log 2 - M) = _
  rw [Real.rpow_def_of_pos (by norm_num)]
  congr 1
  field_simp

/-- One column of the kernel's attention is the block attention of its query. -/
theorem attendV_eq (d : Fin 128) (x : Fin 256) (hx : l.val % 256 = x.val) (vr : Fin 8 → Fin 256 → EReal)
    (hv : ∀ (n : Fin 8) (r : Fin 256), v (ix2 d ⟨256 * (n.val % 8) + r.val, by omega⟩) = vr n r) (μ : ℝ) :
    attendV q k v own.val (ix2 d l) = attention qr kr vr own x μ := by
  obtain ⟨M, hM⟩ := max_real q k qr kr own l hsc own.val le_rfl
  have hfar : ∀ (n : Fin 8), n < own → ∀ r : Fin 256,
      farV q k own.val n.val (ix2 r l) = ((weight qr kr own x (M * Real.log 2) n r : ℝ) : EReal) := by
    intro n hn r
    have hb : (⟨n.val % 8, by omega⟩ : Fin 8) = n := Fin.ext (Nat.mod_eq_of_lt n.isLt)
    rw [farV_apply, hb, bias_eq q k qr kr own l hsc n hn, hM, hsc]
    unfold weight
    by_cases hc : chosen qr kr own n
    · rw [if_pos hc, if_pos (Or.inr hc), sub_zero, exp2_score]
    · rw [if_neg hc, if_neg (by rintro (h | h); exacts [hn.ne h.1, hc h])]
      rw [EReal.coe_sub_bot, EReal.sub_top, Ideal.exp2_bot, EReal.coe_zero]
  have hnear : ∀ r : Fin 256,
      nearV q k own.val (ix2 r l) = ((weight qr kr own x (M * Real.log 2) own r : ℝ) : EReal) := by
    intro r
    rw [nearV_apply, hM, hsc, hx]
    unfold weight
    by_cases hc : r ≤ x
    · rw [if_pos (Fin.le_def.mp hc), if_pos (Or.inl ⟨rfl, hc⟩), exp2_score]
    · rw [if_neg (fun h => hc (Fin.le_def.mpr h)),
        if_neg (by rintro (h | h); exacts [hc h.2, lt_irrefl _ h.1]), EReal.bot_sub, Ideal.exp2_bot, EReal.coe_zero]
  have hzero : ∀ (n : Fin 8), own < n → ∀ r : Fin 256, weight qr kr own x (M * Real.log 2) n r = 0 := by
    intro n hn r
    unfold weight
    rw [if_neg]
    rintro (h | h)
    · exact hn.ne' h.1
    · exact lt_asymm hn h.1
  rw [attention_shift qr kr vr own x (M * Real.log 2) μ, attendV_apply]
  unfold attention
  have hnum := sum_upto (fun n => ∑ r, vr n r * ((weight qr kr own x (M * Real.log 2) n r : ℝ) : EReal))
    (fun a => ∑ r : Fin 256, v (ix2 d ⟨256 * (a % 8) + r.val, by omega⟩) * farV q k own.val a (ix2 r l)) own
    (fun n hn => Finset.sum_congr rfl fun r _ => by rw [hv, hfar n hn])
    (fun n hn => Finset.sum_eq_zero fun r _ => by rw [hzero n hn, EReal.coe_zero, mul_zero])
  have hden := sum_upto (fun n => ∑ r, ((weight qr kr own x (M * Real.log 2) n r : ℝ) : EReal))
    (fun a => ∑ r : Fin 256, farV q k own.val a (ix2 r l)) own
    (fun n hn => Finset.sum_congr rfl fun r _ => by rw [hfar n hn])
    (fun n hn => Finset.sum_eq_zero fun r _ => by rw [hzero n hn, EReal.coe_zero])
  congr 1
  · rw [← hnum]
    congr 1
    exact Finset.sum_congr rfl fun r _ => by rw [hv, hnear]
  · rw [← sum_coe]
    simp only [← sum_coe]
    rw [← hden]
    congr 1
    exact Finset.sum_congr rfl fun r _ => by rw [hnear]
end

end Cert.KernelIdeal.Value
-- ==== Proof.Spec.lean ====
module
public import proofs.«01_k».proof.Proof.KernelCore

/-!
The block attention of the whole batch, and the kernel's result array.
-/

@[expose] public section
set_option maxRecDepth 16384
noncomputable section
namespace Cert.KernelIdeal.Value
open Cert.KernelIdeal Cert.KernelIdeal.Gen Idealize.ShloMosaic Idealize.ShloMosaic.TcCoe Idealize.SL.Sem
open Idealize.ShloMosaic.Pipeline (Dat)
open Cert.Moba

section
variable (H : FVec Ideal S16384x2816 .f32) (T : FVec Ideal S512x16384 .f32) (U : FVec Ideal S8x256x2048 .f32)

/-- The query of head `hd` at place `x` of block `i` of sequence `b`. -/
def queryOf (b hd i : Fin 8) (x : Fin 256) : Fin 64 → ℝ := fun d =>
  EReal.toReal (T (ix2 ⟨hd.val * 64 + d.val, by omega⟩ ⟨b.val * 2048 + i.val * 256 + x.val, by omega⟩))

/-- The keys of the key-value head that head `hd` reads. -/
def keyOf (b hd : Fin 8) : Fin 8 → Fin 256 → Fin 64 → ℝ := fun n r d =>
  EReal.toReal (H (ix2 ⟨b.val * 2048 + n.val * 256 + r.val, by omega⟩ ⟨512 + (hd.val / 2 * 64 + d.val), by omega⟩))

/-- Component `d` of the values of the key-value head that head `hd` reads. -/
def valOf (b hd : Fin 8) (d : Fin 64) : Fin 8 → Fin 256 → EReal := fun n r =>
  U (ix3 b ⟨hd.val / 2 * 64 + d.val, by omega⟩ ⟨n.val * 256 + r.val, by omega⟩)

/-- The attention at head `hd`, component `d`, place `x` of block `i` of sequence `b`. -/
def entry (b hd i : Fin 8) (x : Fin 256) (d : Fin 64) : EReal :=
  attention (queryOf T b hd i x) (keyOf H b hd) (valOf U b hd d) i x 0

/-- The attention of the batch: row `64 hd + d`, column `2048 b + 256 i + x`. -/
def result : FVec Ideal S512x16384 .bf16 := fun j =>
  entry H T U ⟨(j 1).val / 2048, by have h := (j 1).isLt; change (j 1).val < 16384 at h; omega⟩
    ⟨(j 0).val / 64, by have h := (j 0).isLt; change (j 0).val < 512 at h; omega⟩
    ⟨(j 1).val / 256 % 8, by omega⟩ ⟨(j 1).val % 256, by omega⟩ ⟨(j 0).val % 64, by omega⟩

/-- The arrays' queries and keys are real numbers. -/
def Real : Prop := (∀ (r : Fin 16384) (c : Fin 256), ∃ x : ℝ, H (ix2 r ⟨512 + c.val, by omega⟩) = (x : EReal)) ∧
  ∀ (r : Fin 512) (c : Fin 16384), ∃ x : ℝ, T (ix2 r c) = (x : EReal)

variable {H T}

/-- A real query is the array's element. -/
theorem coe_query (h : Real H T) (b hd i : Fin 8) (x : Fin 256) (d : Fin 64) : (queryOf T b hd i x d : EReal) =
    T (ix2 ⟨hd.val * 64 + d.val, by omega⟩ ⟨b.val * 2048 + i.val * 256 + x.val, by omega⟩) := by
  unfold queryOf
  obtain ⟨y, hy⟩ := h.2 ⟨hd.val * 64 + d.val, by omega⟩ ⟨b.val * 2048 + i.val * 256 + x.val, by omega⟩
  rw [hy, EReal.toReal_coe]

/-- A real key is the array's element. -/
theorem coe_key (h : Real H T) (b hd n : Fin 8) (r : Fin 256) (d : Fin 64) : (keyOf H b hd n r d : EReal) =
    H (ix2 ⟨b.val * 2048 + n.val * 256 + r.val, by omega⟩ ⟨512 + (hd.val / 2 * 64 + d.val), by omega⟩) := by
  unfold keyOf
  obtain ⟨y, hy⟩ := h.1 ⟨b.val * 2048 + n.val * 256 + r.val, by omega⟩ ⟨hd.val / 2 * 64 + d.val, by omega⟩
  rw [hy, EReal.toReal_coe]
end

/-- An element of the output block is the attention at its head's rows and its place's column. -/
theorem tileV_apply (a : FVec Ideal S128x1024 .f32) (r x : Fin 256) : tileV a (ix2 r x) =
    a (ix2 ⟨64 * (r.val / 128) + r.val % 64, by omega⟩ ⟨256 * (r.val / 64) + x.val, by omega⟩) := by
  unfold tileV
  canon_tiles z h
  all_goals
    change r.val = _ at h0
    change x.val = _ at h1
    pointwise [k0_pay301, headPart]
    congr 2 <;> apply Fin.ext <;> simp only <;> omega

/-- A scaled query: the lanes of the other key-value head are 0. -/
theorem query_apply (X : Vec Ideal S256x256 .f32) (d : Fin 128) (l : Fin 1024) :
    k0_pay277 X (ix2 d l) = (if d.val / 64 = l.val / 512 then
      X (ix2 ⟨64 * (l.val / 256) + d.val % 64, by omega⟩ ⟨l.val % 256, by omega⟩) else 0) *
      (((1 / 8) * (Real.log 2)⁻¹ : ℝ) : EReal) := by
  pointwise [k0_pay277]
  rw [word_scale]
  congr 1
  by_cases hd : d.val / 64 = l.val / 512
  all_goals
    simp only [hd, if_true, if_false]
    split_ifs <;> first | rfl | (exfalso; omega) | (congr 2 <;> apply Fin.ext <;> simp only <;> omega)

/-- The keys of a sequence, narrowed. -/
theorem keys_apply (X : Vec Ideal S2048x128 .f32) (r : Fin 2048) (d : Fin 128) : k0_pay275 X (ix2 r d) = X (ix2 r d) := by
  pointwise [k0_pay275]

/-- The values of a sequence, narrowed. -/
theorem vals_apply (X : Vec Ideal S1x128x2048 .f32) (d : Fin 128) (r : Fin 2048) : k0_pay276 X (ix2 d r) = X (ix3 0 d r) := by
  pointwise [k0_pay276]

/-- The kernel's score is the score over `log 2`, where queries and keys are real. -/
theorem sc_eq (X : Vec Ideal S256x256 .f32) (K : Vec Ideal S2048x128 .f32) (l : Fin 1024) (qr : Fin 64 → ℝ)
    (kr : Fin 8 → Fin 256 → Fin 64 → ℝ)
    (hq : ∀ d : Fin 64, X (ix2 ⟨64 * (l.val / 256) + d.val, by omega⟩ ⟨l.val % 256, by omega⟩) = (qr d : EReal))
    (hk : ∀ (n : Fin 8) (r : Fin 256) (d : Fin 64),
      K (ix2 ⟨256 * n.val + r.val, by omega⟩ ⟨64 * (l.val / 512) + d.val, by omega⟩) = (kr n r d : EReal))
    (n : Fin 8) (r : Fin 256) :
    sc (k0_pay277 X) (k0_pay275 K) n.val r l = ((score qr kr n r / Real.log 2 : ℝ) : EReal) := by
  have hn : n.val % 8 = n.val := Nat.mod_eq_of_lt n.isLt
  have hterm : ∀ d : Fin 64, (kr n r d : EReal) * ((qr d : EReal) * (((1 / 8) * (Real.log 2)⁻¹ : ℝ) : EReal))
      = ((qr d * kr n r d * ((1 / 8) * (Real.log 2)⁻¹) : ℝ) : EReal) := fun d => by
    rw [← EReal.coe_mul, ← EReal.coe_mul]; congr 1; ring
  have hsum : ∑ d : Fin 64, (kr n r d : EReal) * ((qr d : EReal) * (((1 / 8) * (Real.log 2)⁻¹ : ℝ) : EReal))
      = ((score qr kr n r / Real.log 2 : ℝ) : EReal) := by
    simp only [hterm]
    rw [sum_coe, ← Finset.sum_mul]
    congr 1
    unfold score
    ring
  unfold sc
  simp only [query_apply, keys_apply, hn]
  rw [show (∑ d : Fin 128, _ : EReal) = _ from Fin.sum_univ_add (a := 64) (b := 64) _]
  by_cases h : l.val / 512 = 0
  · have h2 : ∀ d : Fin 64, ¬ (Fin.natAdd 64 d).val / 64 = l.val / 512 := fun d => by
      simp only [Fin.val_natAdd]; omega
    have h1 : ∀ d : Fin 64, (Fin.castAdd 64 d).val / 64 = l.val / 512 := fun d => by
      simp only [Fin.val_castAdd]; omega
    rw [← hsum]
    simp only [h1, h2, if_true, if_false, zero_mul, mul_zero, Finset.sum_const_zero, add_zero]
    refine Finset.sum_congr rfl fun d _ => ?_
    rw [← hk n r d, ← hq d]
    congr 3 <;> congr 1 <;> apply Fin.ext <;> simp <;> omega
  · have h2 : ∀ d : Fin 64, (Fin.natAdd 64 d).val / 64 = l.val / 512 := fun d => by
      simp only [Fin.val_natAdd]; omega
    have h1 : ∀ d : Fin 64, ¬ (Fin.castAdd 64 d).val / 64 = l.val / 512 := fun d => by
      simp only [Fin.val_castAdd]; omega
    rw [← hsum]
    simp only [h1, h2, if_true, if_false, zero_mul, mul_zero, Finset.sum_const_zero, zero_add]
    refine Finset.sum_congr rfl fun d _ => ?_
    rw [← hk n r d, ← hq d]
    congr 3 <;> congr 1 <;> apply Fin.ext <;> simp <;> omega

variable (m : (ℓ : Loc nD τ sig) → Buf (Elt Ideal) ℓ)

/-- What point `t` stores is the attention at the array's index. -/
theorem point (c : Dev nD) (t : Fin cfg0.N) (r x : Fin 256)
    (hreal : Cert.KernelIdeal.Value.Real (m ((c : Thread nD τ).loc main_arg0)) (m ((c : Thread nD τ).loc main_arg1)))
    (j : S512x16384.Idx) (hj0 : (j 0).val = t.val / 8 % 2 * 256 + r.val)
    (hj1 : (j 1).val = (t.val / 16 * 8 + t.val % 8) * 256 + x.val) :
    tileV (attendV (k0_pay277 (blkQ m c t)) (k0_pay275 (blkK m c t)) (k0_pay276 (blkV m c t)) (t.val % 8)) (ix2 r x) =
      result (m ((c : Thread nD τ).loc main_arg0)) (m ((c : Thread nD τ).loc main_arg1)) (m ((c : Thread nD τ).loc main_arg2)) j := by
  have ht := (idx t).2.2.2.2
  unfold result entry
  rw [tileV_apply]
  rw [show t.val % 8 = (⟨(j 1).val / 256 % 8, by omega⟩ : Fin 8).val from by simp only; omega]
  refine attendV_eq _ _ _ _ _ _ _ (fun n s => sc_eq _ _ _ _ _ (fun d => ?_) (fun n s d => ?_) n s) _ _ ?_ _ (fun n s => ?_) _
  · rw [blkQ_apply, coe_query hreal]
    congr 2 <;> apply Fin.ext <;> simp only <;> omega
  · rw [blkK_apply, coe_key hreal]
    congr 2 <;> apply Fin.ext <;> simp only <;> omega
  · simp only
    omega
  · rw [vals_apply, blkV_apply]
    unfold valOf
    congr 2 <;> apply Fin.ext <;> simp only <;> omega

/-- The kernel's result array is the attention of the batch. -/
theorem final (c : Dev nD)
    (hreal : Cert.KernelIdeal.Value.Real (m ((c : Thread nD τ).loc main_arg0)) (m ((c : Thread nD τ).loc main_arg1))) :
    (dats m 0 c).arrAt 3 cfg0.N = result (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3, left_eq]
  change S256x256.Idx at y
  idx_vars y
  refine point m c t _ _ hreal _ ?_ ?_
  all_goals
    blk_simp [idx t]
end Cert.KernelIdeal.Value
-- ==== Proof.RefTerm.lean ====
module
public import proofs.«01_k».proof.Proof.Gen.ReferenceIdeal.Run
public import Idealize.ShloMosaic.Lib.Pointwise

/-!
The reference's result as a composition of named steps.
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem

/-- The queries by sequence, key-value head, head of the group, block and place. -/
def queries (T : FVec Ideal S512x16384 .f32) : FVec Ideal S8x4x2x8x256x64 .bf16 :=
  transpose S8x4x2x8x256x64 [0, 3, 4, 1, 2, 5] (shapeCast _ (transpose S16384x512 [1, 0] (truncf .bf16 T bitsLt_bf16_f32)
    transposes_S512x16384_S16384x512_1_0) shapeCasts_S16384x512_S8x8x256x4x2x64) transposes_S8x8x256x4x2x64_S8x4x2x8x256x64_0_3_4_1_2_5

/-- The keys by sequence, key-value head, block and place. -/
def keys (H : FVec Ideal S16384x2816 .f32) : FVec Ideal S8x4x8x256x64 .bf16 :=
  transpose S8x4x8x256x64 [0, 3, 1, 2, 4] (shapeCast _ (truncf .bf16 (extractStridedSlice S16384x256 ![0, 512] H
    slices_S16384x2816_S16384x256_0_512) bitsLt_bf16_f32) shapeCasts_S16384x256_S8x8x256x4x64) transposes_S8x8x256x4x64_S8x4x8x256x64_0_3_1_2_4

/-- The values by sequence, key-value head, block and place. -/
def values (U : FVec Ideal S8x256x2048 .f32) : FVec Ideal S8x4x8x256x64 .bf16 :=
  transpose S8x4x8x256x64 [0, 1, 3, 4, 2] (shapeCast _ (truncf .bf16 U bitsLt_bf16_f32) shapeCasts_S8x256x2048_S8x4x64x8x256)
    transposes_S8x4x64x8x256_S8x4x8x256x64_0_1_3_4_2

/-- The gates: a query against the mean key of each earlier block. -/
def gates (q : FVec Ideal S8x4x2x8x256x64 .bf16) (k : FVec Ideal S8x4x8x256x64 .bf16) : FVec Ideal S8x4x2x8x256x8 .f32 :=
  select (broadcastInDim S8x4x2x8x256x8 ![3, 4, 5] bcast_S8x1x8_S8x4x2x8x256x8_3_4_5 (broadcastInDim S8x1x8 ![0, 2] bcast_S8x8_S8x1x8_0_2
      (cmpi .slt (broadcastInDim S8x8 ![0, 1] bcast_S1x8_S8x8_0_1 (broadcastInDim S1x8 ![1] bcast_S8_S1x8_1 (iotaInDim S8 32 0)))
        (broadcastInDim S8x8 ![0, 1] bcast_S8x1_S8x8_0_1 (broadcastInDim S8x1 ![0] bcast_S8_S8x1_0 (iotaInDim S8 32 0))))))
    (Host.dotGeneral dot_S8x4x2x8x256x64_S8x4x8x64_S8x4x2x8x256x8_5_3_234_2_01_01 none q (truncf .bf16 (Host.divf
      (Host.reduceAdd (extf .f32 k bitsLt_bf16_f32) (constant S_ .f32 0x00000000#32) reducesTo_S8x4x8x256x64_S8x4x8x64_d3 h_S_)
      (broadcastInDim S8x4x8x64 ![] bcast_S_S8x4x8x64 (constant S_ .f32 0x43800000#32))) bitsLt_bf16_f32))
    (broadcastInDim S8x4x2x8x256x8 ![] bcast_S_S8x4x2x8x256x8 (id (constant S_ .f32 0xFF800000#32)))

/-- Each query's three blocks of greatest gate. -/
def picks (g : FVec Ideal S8x4x2x8x256x8 .f32) : IVec S8x4x2x8x256x3 32 :=
  (Host.topK S8x4x2x8x256x3 5 (FloatOps.cmpfTotal (F := Ideal) (φ := .f32) .gt) g sliceFits_S8x4x2x8x256x8_S8x4x2x8x256x3).2

/-- Where the picked blocks stand: sequence, key-value head and block. -/
def places (s : IVec S8x4x2x8x256x3 32) : IVec S8x4x2x8x256x3x3 32 :=
  concatenate S8x4x2x8x256x3x3 6 [⟨S8x4x2x8x256x3x1, (broadcastInDim S8x4x2x8x256x3x1 ![0, 1, 2, 3, 4, 5] bcast_S8x4x2x8x256x3_S8x4x2x8x256x3x1_0_1_2_3_4_5
      (broadcastInDim S8x4x2x8x256x3 ![0, 1, 2, 3, 4, 5] bcast_S8x1x1x1x1x1_S8x4x2x8x256x3_0_1_2_3_4_5
        (select (cmpi .slt (broadcastInDim S8x1x1x1x1x1 ![0] bcast_S8_S8x1x1x1x1x1_0 (iotaInDim S8 32 0)) (broadcastInDim S8x1x1x1x1x1 ![] bcast_S_S8x1x1x1x1x1 (constantI S_ 32 0#32)))
          (addi (broadcastInDim S8x1x1x1x1x1 ![0] bcast_S8_S8x1x1x1x1x1_0 (iotaInDim S8 32 0)) (broadcastInDim S8x1x1x1x1x1 ![] bcast_S_S8x1x1x1x1x1 (constantI S_ 32 8#32)))
          (broadcastInDim S8x1x1x1x1x1 ![0] bcast_S8_S8x1x1x1x1x1_0 (iotaInDim S8 32 0)))))⟩,
    ⟨S8x4x2x8x256x3x1, (broadcastInDim S8x4x2x8x256x3x1 ![0, 1, 2, 3, 4, 5] bcast_S8x4x2x8x256x3_S8x4x2x8x256x3x1_0_1_2_3_4_5
      (broadcastInDim S8x4x2x8x256x3 ![0, 1, 2, 3, 4, 5] bcast_S1x4x1x1x1x1_S8x4x2x8x256x3_0_1_2_3_4_5
        (select (cmpi .slt (broadcastInDim S1x4x1x1x1x1 ![1] bcast_S4_S1x4x1x1x1x1_1 (iotaInDim S4 32 0)) (broadcastInDim S1x4x1x1x1x1 ![] bcast_S_S1x4x1x1x1x1 (constantI S_ 32 0#32)))
          (addi (broadcastInDim S1x4x1x1x1x1 ![1] bcast_S4_S1x4x1x1x1x1_1 (iotaInDim S4 32 0)) (broadcastInDim S1x4x1x1x1x1 ![] bcast_S_S1x4x1x1x1x1 (constantI S_ 32 4#32)))
          (broadcastInDim S1x4x1x1x1x1 ![1] bcast_S4_S1x4x1x1x1x1_1 (iotaInDim S4 32 0)))))⟩,
    ⟨S8x4x2x8x256x3x1, (broadcastInDim S8x4x2x8x256x3x1 ![0, 1, 2, 3, 4, 5] bcast_S8x4x2x8x256x3_S8x4x2x8x256x3x1_0_1_2_3_4_5
      (select (cmpi .slt s (broadcastInDim S8x4x2x8x256x3 ![] bcast_S_S8x4x2x8x256x3 (constantI S_ 32 0#32)))
        (addi s (broadcastInDim S8x4x2x8x256x3 ![] bcast_S_S8x4x2x8x256x3 (constantI S_ 32 8#32))) s))⟩]
    concatenates_S8x4x2x8x256x3x1_S8x4x2x8x256x3x1_S8x4x2x8x256x3x1_S8x4x2x8x256x3x3_d6

/-- The blocks a query picked out of `x`. -/
def picked (x : FVec Ideal S8x4x8x256x64 .bf16) (s : IVec S8x4x2x8x256x3 32) : FVec Ideal S8x4x2x8x256x3x256x64 .bf16 :=
  Host.gather gather_S8x4x8x256x64_S8x4x2x8x256x3x3_S8x4x2x8x256x3x256x64_67_012_n_n_012_6_11125664 x (places s)

/-- The scores of the picked blocks' rows. -/
def farScores (q : FVec Ideal S8x4x2x8x256x64 .bf16) (ks : FVec Ideal S8x4x2x8x256x3x256x64 .bf16) : FVec Ideal S8x4x2x8x256x3x256 .f32 :=
  select (broadcastInDim S8x4x2x8x256x3x256 ![3, 4, 5, 6] bcast_S8x1x3x1_S8x4x2x8x256x3x256_3_4_5_6 (broadcastInDim S8x1x3x1 ![0, 2] bcast_S8x3_S8x1x3x1_0_2
      (cmpi .slt (broadcastInDim S8x3 ![0, 1] bcast_S1x3_S8x3_0_1 (broadcastInDim S1x3 ![1] bcast_S3_S1x3_1 (iotaInDim S3 32 0)))
        (broadcastInDim S8x3 ![0, 1] bcast_S8x1_S8x3_0_1 (broadcastInDim S8x1 ![0] bcast_S8_S8x1_0 (iotaInDim S8 32 0))))))
    (mulf (Host.dotGeneral dot_S8x4x2x8x256x64_S8x4x2x8x256x3x256x64_S8x4x2x8x256x3x256_5_7_n_56_01234_01234 none q ks)
      (broadcastInDim S8x4x2x8x256x3x256 ![] bcast_S_S8x4x2x8x256x3x256 (constant S_ .f32 0x3E000000#32)))
    (broadcastInDim S8x4x2x8x256x3x256 ![] bcast_S_S8x4x2x8x256x3x256 (id (constant S_ .f32 0xFF800000#32)))

/-- The scores of the own block's rows. -/
def ownScores (q : FVec Ideal S8x4x2x8x256x64 .bf16) (k : FVec Ideal S8x4x8x256x64 .bf16) : FVec Ideal S8x4x2x8x256x256 .f32 :=
  select (broadcastInDim S8x4x2x8x256x256 ![4, 5] bcast_S256x256_S8x4x2x8x256x256_4_5
      (cmpi .sle (broadcastInDim S256x256 ![0, 1] bcast_S1x256_S256x256_0_1 (broadcastInDim S1x256 ![1] bcast_S256_S1x256_1 (iotaInDim S256 32 0)))
        (broadcastInDim S256x256 ![0, 1] bcast_S256x1_S256x256_0_1 (broadcastInDim S256x1 ![0] bcast_S256_S256x1_0 (iotaInDim S256 32 0)))))
    (mulf (transpose S8x4x2x8x256x256 [0, 1, 4, 2, 5, 3]
        (Host.dotGeneral dot_S8x4x8x256x64_S8x4x2x8x256x64_S8x4x8x256x2x256_4_5_3_24_012_013 none k q) transposes_S8x4x8x256x2x256_S8x4x2x8x256x256_0_1_4_2_5_3)
      (broadcastInDim S8x4x2x8x256x256 ![] bcast_S_S8x4x2x8x256x256 (constant S_ .f32 0x3E000000#32)))
    (broadcastInDim S8x4x2x8x256x256 ![] bcast_S_S8x4x2x8x256x256 (id (constant S_ .f32 0xFF800000#32)))

/-- All scores of a query: the picked blocks', then the own block's. -/
def scores (f : FVec Ideal S8x4x2x8x256x3x256 .f32) (o : FVec Ideal S8x4x2x8x256x256 .f32) : FVec Ideal S8x4x2x8x256x4x256 .f32 :=
  concatenate S8x4x2x8x256x4x256 5 [⟨S8x4x2x8x256x3x256, f⟩, ⟨S8x4x2x8x256x1x256,
    (broadcastInDim S8x4x2x8x256x1x256 ![0, 1, 2, 3, 4, 6] bcast_S8x4x2x8x256x256_S8x4x2x8x256x1x256_0_1_2_3_4_6 o)⟩]
    concatenates_S8x4x2x8x256x3x256_S8x4x2x8x256x1x256_S8x4x2x8x256x4x256_d5

/-- The greatest score of a query. -/
def greatest (s : FVec Ideal S8x4x2x8x256x4x256 .f32) : FVec Ideal S8x4x2x8x256 .f32 :=
  maximumf (broadcastInDim S8x4x2x8x256 ![] bcast_S_S8x4x2x8x256 (constant S_ .f32 0xFF800000#32))
    (Host.reduce FloatOps.maximumf s (constant S_ .f32 0xFF800000#32) reducesTo_S8x4x2x8x256x4x256_S8x4x2x8x256_d5_6 h_S_)

/-- A number of each query at each of its scores. -/
def spread (g : FVec Ideal S8x4x2x8x256 .f32) : FVec Ideal S8x4x2x8x256x4x256 .f32 :=
  broadcastInDim S8x4x2x8x256x4x256 ![0, 1, 2, 3, 4, 5, 6] bcast_S8x4x2x8x256x1x1_S8x4x2x8x256x4x256_0_1_2_3_4_5_6
    (broadcastInDim S8x4x2x8x256x1x1 ![0, 1, 2, 3, 4] bcast_S8x4x2x8x256_S8x4x2x8x256x1x1_0_1_2_3_4 g)

/-- The exponentials of the scores less the greatest. -/
def exps (s : FVec Ideal S8x4x2x8x256x4x256 .f32) : FVec Ideal S8x4x2x8x256x4x256 .f32 := Host.exp (subf s (spread (greatest s)))

/-- A query's sum over its rows. -/
def total (e : FVec Ideal S8x4x2x8x256x4x256 .f32) : FVec Ideal S8x4x2x8x256 .f32 :=
  Host.reduceAdd e (constant S_ .f32 0x00000000#32) reducesTo_S8x4x2x8x256x4x256_S8x4x2x8x256_d5_6 h_S_

/-- The weights: the exponentials over their sum. -/
def weights (e : FVec Ideal S8x4x2x8x256x4x256 .f32) : FVec Ideal S8x4x2x8x256x4x256 .bf16 :=
  truncf .bf16 (Host.divf e (spread (total e))) bitsLt_bf16_f32

/-- The own block's share of the output. -/
def nearOut (v : FVec Ideal S8x4x8x256x64 .bf16) (p : FVec Ideal S8x4x2x8x256x4x256 .bf16) : FVec Ideal S8x4x2x8x256x64 .f32 :=
  transpose S8x4x2x8x256x64 [0, 1, 4, 2, 5, 3] (Host.dotGeneral dot_S8x4x8x256x64_S8x4x2x8x256x256_S8x4x8x64x2x256_3_5_4_24_012_013 none v
    (shapeCast _ (extractStridedSlice S8x4x2x8x256x1x256 ![0, 0, 0, 0, 0, 3, 0] p slices_S8x4x2x8x256x4x256_S8x4x2x8x256x1x256_0_0_0_0_0_3_0)
      shapeCasts_S8x4x2x8x256x1x256_S8x4x2x8x256x256)) transposes_S8x4x8x64x2x256_S8x4x2x8x256x64_0_1_4_2_5_3

/-- The picked blocks' share of the output. -/
def farOut (p : FVec Ideal S8x4x2x8x256x4x256 .bf16) (vs : FVec Ideal S8x4x2x8x256x3x256x64 .bf16) : FVec Ideal S8x4x2x8x256x64 .f32 :=
  Host.dotGeneral dot_S8x4x2x8x256x3x256_S8x4x2x8x256x3x256x64_S8x4x2x8x256x64_65_65_n_7_01234_01234 none
    (extractStridedSlice S8x4x2x8x256x3x256 ![0, 0, 0, 0, 0, 0, 0] p slices_S8x4x2x8x256x4x256_S8x4x2x8x256x3x256_0_0_0_0_0_0_0) vs

/-- The result array from its entries by query. -/
def laid (a : FVec Ideal S8x4x2x8x256x64 .f32) : FVec Ideal S512x16384 .bf16 :=
  truncf .bf16 (shapeCast _ (transpose S4x2x64x8x8x256 [1, 2, 5, 0, 3, 4] a transposes_S8x4x2x8x256x64_S4x2x64x8x8x256_1_2_5_0_3_4)
    shapeCasts_S4x2x64x8x8x256_S512x16384) bitsLt_bf16_f32

/-- The reference's result over the argument arrays. -/
def outcome (H : FVec Ideal S16384x2816 .f32) (T : FVec Ideal S512x16384 .f32) (U : FVec Ideal S8x256x2048 .f32) : FVec Ideal S512x16384 .bf16 :=
  laid (addf
    (nearOut (values U) (weights (exps (scores (farScores (queries T) (picked (keys H) (picks (gates (queries T) (keys H))))) (ownScores (queries T) (keys H))))))
    (farOut (weights (exps (scores (farScores (queries T) (picked (keys H) (picks (gates (queries T) (keys H))))) (ownScores (queries T) (keys H)))))
      (picked (values U) (picks (gates (queries T) (keys H))))))

/-- The run's result is the composition of the steps. -/
theorem res_eq (m : (ℓ : Loc nD τ sig) → Buf (Elt Ideal) ℓ) (c : Dev nD) : res_main_v119 m c =
    outcome (m ((c.tc : Thread nD τ).loc main_arg0)) (m ((c.tc : Thread nD τ).loc main_arg1)) (m ((c.tc : Thread nD τ).loc main_arg2)) := by
  unfold res_main_v119 outcome
  rfl
end Cert.ReferenceIdeal.Value
-- ==== Proof.TopK.lean ====
module
public import proofs.«01_k».proof.Proof.Core
public import Idealize.ShloMosaic.Lib.SortFacts

/-!
The three blocks a stable descending sort of the gates puts first are the chosen blocks: the earlier blocks that fewer
than three earlier blocks come before.
-/

@[expose] public section
noncomputable section
namespace Cert.Moba
open Idealize.ShloMosaic

section order
variable {n : ℕ} (g : Fin n → EReal)

/-- The sort's comparison: a greater gate comes first. -/
def greater (a b : Fin n) : Bool := decide (g b < g a)

/-- The order the stable sort leaves: greater gates first, equal gates in the order of their numbers. -/
def ahead (a b : Fin n) : Prop := g b < g a ∨ g a = g b ∧ a < b

theorem ahead_irrefl (a : Fin n) : ¬ ahead g a a := by
  rintro (h | ⟨_, h⟩)
  · exact lt_irrefl _ h
  · exact lt_irrefl _ h

theorem ahead_asymm {a b : Fin n} (h : ahead g a b) : ¬ ahead g b a := by
  rintro (h' | ⟨e, h'⟩)
  · rcases h with h | ⟨e, h⟩
    · exact lt_asymm h h'
    · exact absurd h' (by rw [e]; exact lt_irrefl _)
  · rcases h with h | ⟨_, h⟩
    · exact absurd h (by rw [e]; exact lt_irrefl _)
    · exact lt_asymm h h'

/-- Inserting a smaller number keeps the order. -/
theorem ahead_insert (a : Fin n) (l : List (Fin n)) (hl : l.Pairwise (ahead g)) (ha : ∀ b ∈ l, a < b) :
    (insertBefore (greater g) a l).Pairwise (ahead g) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore _ a l).mem_iff.mp hc) with rfl | hc'
      · exact Or.inl (of_decide_eq_true h)
      · exact hl.1 c hc'
    · rename_i h
      have hba : g b ≤ g a := not_lt.mp fun h' => h (decide_eq_true h')
      refine List.pairwise_cons.mpr ⟨fun c hc => ?_, List.pairwise_cons.mpr hl⟩
      have hca : g c ≤ g a := by
        rcases List.mem_cons.mp hc with rfl | hc'
        · exact hba
        · rcases hl.1 c hc' with h' | ⟨e, _⟩
          · exact h'.le.trans hba
          · exact e ▸ hba
      rcases hca.lt_or_eq with h' | h'
      · exact Or.inl h'
      · exact Or.inr ⟨h'.symm, ha c hc⟩

/-- The stable sort of an increasing list is in the order. -/
theorem ahead_sort (l : List (Fin n)) (hl : l.Pairwise (· < ·)) : (stableSort (greater g) l).Pairwise (ahead g) := by
  induction l with
  | nil => exact List.Pairwise.nil
  | cons a l ih =>
    rw [List.pairwise_cons] at hl
    unfold stableSort
    exact ahead_insert g a _ (ih hl.2) fun b hb => hl.1 b ((perm_stableSort _ l).mem_iff.mp hb)

/-- An earlier place of the sort holds the number that comes first. -/
theorem ahead_sorted {i j : Fin n} (h : i < j) : ahead g (sortedFrom (greater g) i) (sortedFrom (greater g) j) := by
  have hp := List.pairwise_iff_get.mp (ahead_sort g (List.finRange n) (List.pairwise_lt_finRange n))
  exact hp (i.cast (length_sortPositions n (greater g)).symm) (j.cast (length_sortPositions n (greater g)).symm) h

/-- The number at a place comes after exactly the numbers at the places before. -/
theorem ahead_iff (i j : Fin n) : ahead g (sortedFrom (greater g) i) (sortedFrom (greater g) j) ↔ i < j := by
  refine ⟨fun h => ?_, ahead_sorted g⟩
  by_contra hij
  rcases (not_lt.mp hij).lt_or_eq with h' | h'
  · exact ahead_asymm g h (ahead_sorted g h')
  · subst h'
    exact ahead_irrefl g _ h

open Classical in
/-- As many numbers come before the number at a place as there are places before. -/
theorem card_ahead (j : Fin n) : (Finset.univ.filter fun a => ahead g a (sortedFrom (greater g) j)).card = j.val := by
  have h : (Finset.univ.filter fun a => ahead g a (sortedFrom (greater g) j)) =
      (Finset.Iio j).map ⟨sortedFrom (greater g), sortedFrom_injective _⟩ := by
    ext a
    obtain ⟨i, rfl⟩ := sortedFrom_surjective (greater g) a
    simp only [Finset.mem_filter, Finset.mem_univ, true_and, Finset.mem_map, Finset.mem_Iio, Function.Embedding.coeFn_mk, ahead_iff]
    constructor
    · exact fun h => ⟨i, h, rfl⟩
    · rintro ⟨i', h, e⟩
      rwa [← sortedFrom_injective _ e]
  rw [h, Finset.card_map, Fin.card_Iio]
end order

variable (q : Fin 64 → ℝ) (k : Fin 8 → Fin 256 → Fin 64 → ℝ) (own : Fin 8)

/-- The gates as the reference sorts them: −∞ for the own block and the later ones. -/
def masked (n : Fin 8) : EReal := if n < own then ((gate q k n : ℝ) : EReal) else ⊥

/-- The block at a place of the sorted gates. -/
def place (j : Fin 8) : Fin 8 := sortedFrom (greater (masked q k own)) j

theorem ahead_masked {a n : Fin 8} (hn : n < own) : ahead (masked q k own) a n ↔ a < own ∧ beats q k a n := by
  unfold ahead masked beats
  by_cases ha : a < own
  · simp only [hn, ha, if_true, EReal.coe_lt_coe_iff, EReal.coe_eq_coe_iff, true_and]
  · simp only [hn, ha, if_true, if_false, false_and, iff_false, not_or]
    exact ⟨not_lt_bot, fun h => EReal.bot_ne_coe _ h.1⟩

/-- An earlier block comes before every block that is not. -/
theorem ahead_of_not {a n : Fin 8} (ha : a < own) (hn : ¬ n < own) : ahead (masked q k own) a n := by
  unfold ahead masked
  simp only [ha, hn, if_true, if_false]
  exact Or.inl (EReal.bot_lt_coe _)

/-- The rank of the earlier block at a place is the place. -/
theorem rank_place (j : Fin 8) (h : place q k own j < own) : rank q k own (place q k own j) = j.val := by
  classical
  rw [← card_ahead (masked q k own) j]
  unfold rank
  congr 1
  ext a
  simp only [Finset.mem_filter, Finset.mem_univ, true_and]
  exact (ahead_masked q k own h).symm

/-- The places before the own block's number hold the earlier blocks. -/
theorem place_lt (j : Fin 8) : place q k own j < own ↔ j < own := by
  classical
  have hc : (Finset.univ.filter fun a : Fin 8 => a < own).card = own.val := by
    rw [show (Finset.univ.filter fun a : Fin 8 => a < own) = Finset.Iio own from by ext a; simp, Fin.card_Iio]
  have hj := card_ahead (masked q k own) j
  constructor
  · intro h
    have : (Finset.univ.filter fun a => ahead (masked q k own) a (place q k own j)).card <
        (Finset.univ.filter fun a : Fin 8 => a < own).card := by
      refine Finset.card_lt_card (Finset.ssubset_iff_subset_ne.mpr ⟨fun a ha => ?_, fun e => ?_⟩)
      · simp only [Finset.mem_filter, Finset.mem_univ, true_and] at ha ⊢
        exact ((ahead_masked q k own h).mp ha).1
      · have hm : place q k own j ∈ Finset.univ.filter fun a : Fin 8 => a < own := by simpa using h
        rw [← e] at hm
        exact ahead_irrefl _ _ (by simpa using hm)
    rw [hc] at this
    exact Fin.lt_def.mpr (hj ▸ this)
  · intro h
    by_contra hn
    have : (Finset.univ.filter fun a : Fin 8 => a < own).card ≤
        (Finset.univ.filter fun a => ahead (masked q k own) a (place q k own j)).card := by
      refine Finset.card_le_card fun a ha => ?_
      simp only [Finset.mem_filter, Finset.mem_univ, true_and] at ha ⊢
      exact ahead_of_not q k own ha hn
    rw [hc] at this
    exact absurd (Fin.lt_def.mp h) (by rw [← hj]; exact not_lt.mpr this)

/-- The block at a place is chosen when the place is one of the first three and before the own block's number. -/
theorem chosen_place (j : Fin 8) : chosen q k own (place q k own j) ↔ j < own ∧ j.val < 3 := by
  unfold chosen
  rw [place_lt]
  constructor
  · rintro ⟨h, hr⟩
    exact ⟨h, by rwa [rank_place q k own j ((place_lt q k own j).mpr h)] at hr⟩
  · rintro ⟨h, hr⟩
    exact ⟨h, by rwa [rank_place q k own j ((place_lt q k own j).mpr h)]⟩

/-- The own block is not among the chosen. -/
theorem not_chosen_own : ¬ chosen q k own own := fun h => lt_irrefl _ h.1

/-- A sum over the blocks, of terms that are 0 but at the own block and the chosen ones, is the own block's term and
    those of the sort's first three places, of which only those before the own block's number count. -/
theorem sum_blocks {M : Type*} [AddCommMonoid M] (f : Fin 8 → M) (h0 : ∀ n, n ≠ own → ¬ chosen q k own n → f n = 0) :
    ∑ n, f n = f own + ∑ r : Fin 3, (if r.val < own.val then f (place q k own ⟨r.val, by omega⟩) else 0) := by
  classical
  have h1 : ∑ n, f n = f own + ∑ n, (if chosen q k own n then f n else 0) := by
    rw [← Finset.add_sum_erase _ _ (Finset.mem_univ own), ← Finset.add_sum_erase _
      (fun n => if chosen q k own n then f n else 0) (Finset.mem_univ own), if_neg (not_chosen_own q k own), zero_add]
    congr 1
    refine Finset.sum_congr rfl fun n hn => ?_
    split
    · rfl
    · rename_i hc
      exact h0 n (Finset.ne_of_mem_erase hn) hc
  rw [h1]
  congr 1
  have hb : Function.Bijective (place q k own) := ⟨sortedFrom_injective _, sortedFrom_surjective _⟩
  rw [← hb.sum_comp]
  simp only [chosen_place]
  rw [show (∑ j : Fin 8, _ : M) = _ from Fin.sum_univ_add (a := 3) (b := 5) _]
  rw [Finset.sum_eq_zero (s := (Finset.univ : Finset (Fin 5))) fun j _ => if_neg (by simp [Fin.natAdd]), add_zero]
  refine Finset.sum_congr rfl fun r _ => ?_
  refine if_congr ?_ rfl rfl
  constructor
  · exact fun h => h.1
  · exact fun h => ⟨h, r.isLt⟩
end Cert.Moba
-- ==== Proof.RefRead.lean ====
module
public import proofs.«01_k».proof.Proof.RefTerm
public import proofs.«01_k».proof.Proof.TopK
public import proofs.«01_k».proof.Proof.Consts

/-!
The reference's steps, read at an index.
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem

theorem queries_apply (T : FVec Ideal S512x16384 .f32) (b : Fin 8) (k : Fin 4) (g : Fin 2) (i : Fin 8) (x : Fin 256) (d : Fin 64) :
    queries T (ix6 b k g i x d) = T (ix2 ⟨k.val * 128 + g.val * 64 + d.val, by omega⟩ ⟨b.val * 2048 + i.val * 256 + x.val, by omega⟩) := by
  pointwise [queries]

theorem keys_apply (H : FVec Ideal S16384x2816 .f32) (b : Fin 8) (k : Fin 4) (n : Fin 8) (r : Fin 256) (d : Fin 64) :
    keys H (ix5 b k n r d) = H (ix2 ⟨b.val * 2048 + n.val * 256 + r.val, by omega⟩ ⟨512 + (k.val * 64 + d.val), by omega⟩) := by
  pointwise [keys]

theorem values_apply (U : FVec Ideal S8x256x2048 .f32) (b : Fin 8) (k : Fin 4) (n : Fin 8) (r : Fin 256) (d : Fin 64) :
    values U (ix5 b k n r d) = U (ix3 b ⟨k.val * 64 + d.val, by omega⟩ ⟨n.val * 256 + r.val, by omega⟩) := by
  pointwise [values]

theorem gates_apply (q : FVec Ideal S8x4x2x8x256x64 .bf16) (k : FVec Ideal S8x4x8x256x64 .bf16) (b : Fin 8) (h : Fin 4) (g : Fin 2)
    (i : Fin 8) (x : Fin 256) (n : Fin 8) : gates q k (ix6 b h g i x n) = if n < i then
      ∑ d : Fin 64, q (ix6 b h g i x d) * Ideal.div (∑ r : Fin 256, k (ix5 b h n r d)) ((256 : ℝ) : EReal) else (⊥ : EReal) := by
  pointwise [gates]
  rw [WordCmp.cmpi_slt_ofNat (by omega) (by omega), WordCmp.select_ofBool, Moba.word_256]
  simp only [decide_eq_true_eq]
  change (if n.val < i.val then _ else Ideal.ofBits .f32 0xFF800000#32) = _
  rw [Moba.word_bot]
  rfl

theorem farScores_apply (q : FVec Ideal S8x4x2x8x256x64 .bf16) (ks : FVec Ideal S8x4x2x8x256x3x256x64 .bf16) (b : Fin 8) (h : Fin 4)
    (g : Fin 2) (i : Fin 8) (x : Fin 256) (n : Fin 3) (r : Fin 256) : farScores q ks (ix7 b h g i x n r) = if n.val < i.val then
      (∑ d : Fin 64, q (ix6 b h g i x d) * ks (ix8 b h g i x n r d)) * ((1 / 8 : ℝ) : EReal) else (⊥ : EReal) := by
  pointwise [farScores]
  rw [WordCmp.cmpi_slt_ofNat (by omega) (by omega), WordCmp.select_ofBool, Moba.word_eighth]
  simp only [decide_eq_true_eq]
  change (if n.val < i.val then _ else Ideal.ofBits .f32 0xFF800000#32) = _
  rw [Moba.word_bot]

theorem ownScores_apply (q : FVec Ideal S8x4x2x8x256x64 .bf16) (k : FVec Ideal S8x4x8x256x64 .bf16) (b : Fin 8) (h : Fin 4)
    (g : Fin 2) (i : Fin 8) (x : Fin 256) (r : Fin 256) : ownScores q k (ix6 b h g i x r) = if r ≤ x then
      (∑ d : Fin 64, k (ix5 b h i r d) * q (ix6 b h g i x d)) * ((1 / 8 : ℝ) : EReal) else (⊥ : EReal) := by
  pointwise [ownScores]
  rw [WordCmp.cmpi_sle_ofNat (by omega) (by omega), WordCmp.select_ofBool, Moba.word_eighth]
  simp only [decide_eq_true_eq]
  change (if r.val ≤ x.val then _ else Ideal.ofBits .f32 0xFF800000#32) = _
  rw [Moba.word_bot]
  rfl

theorem scores_apply (f : FVec Ideal S8x4x2x8x256x3x256 .f32) (o : FVec Ideal S8x4x2x8x256x256 .f32) (b : Fin 8) (h : Fin 4)
    (g : Fin 2) (i : Fin 8) (x : Fin 256) (n : Fin 4) (r : Fin 256) : scores f o (ix7 b h g i x n r) =
      if hn : n.val < 3 then f (ix7 b h g i x ⟨n.val, hn⟩ r) else o (ix6 b h g i x r) := by
  pointwise [scores]

theorem exps_apply (s : FVec Ideal S8x4x2x8x256x4x256 .f32) (b : Fin 8) (h : Fin 4) (g : Fin 2) (i : Fin 8) (x : Fin 256)
    (n : Fin 4) (r : Fin 256) : exps s (ix7 b h g i x n r) = Ideal.exp (s (ix7 b h g i x n r) - greatest s (ix5 b h g i x)) := by
  pointwise [exps, spread]

theorem weights_apply (e : FVec Ideal S8x4x2x8x256x4x256 .f32) (b : Fin 8) (h : Fin 4) (g : Fin 2) (i : Fin 8) (x : Fin 256)
    (n : Fin 4) (r : Fin 256) : weights e (ix7 b h g i x n r) = Ideal.div (e (ix7 b h g i x n r)) (total e (ix5 b h g i x)) := by
  pointwise [weights, spread]

theorem nearOut_apply (v : FVec Ideal S8x4x8x256x64 .bf16) (p : FVec Ideal S8x4x2x8x256x4x256 .bf16) (b : Fin 8) (h : Fin 4)
    (g : Fin 2) (i : Fin 8) (x : Fin 256) (d : Fin 64) : nearOut v p (ix6 b h g i x d) =
      ∑ r : Fin 256, v (ix5 b h i r d) * p (ix7 b h g i x 3 r) := by
  pointwise [nearOut]

theorem farOut_apply (p : FVec Ideal S8x4x2x8x256x4x256 .bf16) (vs : FVec Ideal S8x4x2x8x256x3x256x64 .bf16) (b : Fin 8) (h : Fin 4)
    (g : Fin 2) (i : Fin 8) (x : Fin 256) (d : Fin 64) : farOut p vs (ix6 b h g i x d) =
      ∑ r : Fin 256, ∑ n : Fin 3, p (ix7 b h g i x ⟨n.val, by omega⟩ r) * vs (ix8 b h g i x n r d) := by
  pointwise [farOut]

theorem laid_apply (a : FVec Ideal S8x4x2x8x256x64 .f32) (r : Fin 512) (l : Fin 16384) : laid a (ix2 r l) =
    a (ix6 ⟨l.val / 2048, by omega⟩ ⟨r.val / 128, by omega⟩ ⟨r.val / 64 % 2, by omega⟩ ⟨l.val / 256 % 8, by omega⟩
      ⟨l.val % 256, by omega⟩ ⟨r.val % 64, by omega⟩) := by
  pointwise [laid]

/-! ### Sums and maxima over the rows of a query -/
section rows
variable {n0 n1 n2 n3 n4 n5 n6 : ℕ}

/-- The indices that a reduction of the last two of seven axes takes to an index. -/
theorem fiber_rows (h : (⟨7, ![n0, n1, n2, n3, n4, n5, n6]⟩ : Shape).ReducesTo [5, 6] ⟨5, ![n0, n1, n2, n3, n4]⟩)
    (a : Fin n0) (b : Fin n1) (c : Fin n2) (e : Fin n3) (f : Fin n4) (i : (⟨7, ![n0, n1, n2, n3, n4, n5, n6]⟩ : Shape).Idx) :
    h.drop i = ix5 a b c e f ↔ ∃ k : Fin n5 × Fin n6, ix7 a b c e f k.1 k.2 = i := by
  constructor
  · intro he
    refine ⟨(i 5, i 6), ?_⟩
    funext y; apply Fin.ext
    match y with
    | ⟨0, _⟩ => exact (congrArg Fin.val (congrFun he 0)).symm
    | ⟨1, _⟩ => exact (congrArg Fin.val (congrFun he 1)).symm
    | ⟨2, _⟩ => exact (congrArg Fin.val (congrFun he 2)).symm
    | ⟨3, _⟩ => exact (congrArg Fin.val (congrFun he 3)).symm
    | ⟨4, _⟩ => exact (congrArg Fin.val (congrFun he 4)).symm
    | ⟨5, _⟩ => rfl
    | ⟨6, _⟩ => rfl
  · rintro ⟨k, rfl⟩
    funext y
    apply Fin.ext
    match y with
    | ⟨0, _⟩ => rfl
    | ⟨1, _⟩ => rfl
    | ⟨2, _⟩ => rfl
    | ⟨3, _⟩ => rfl
    | ⟨4, _⟩ => rfl

/-- The sum over a query's rows. -/
theorem sum_rows (h : (⟨7, ![n0, n1, n2, n3, n4, n5, n6]⟩ : Shape).ReducesTo [5, 6] ⟨5, ![n0, n1, n2, n3, n4]⟩)
    (v : (⟨7, ![n0, n1, n2, n3, n4, n5, n6]⟩ : Shape).Idx → EReal) (z : EReal) (a : Fin n0) (b : Fin n1) (c : Fin n2) (e : Fin n3) (f : Fin n4) :
    Ideal.hostReduceAdd h v z (ix5 a b c e f) = z + ∑ n : Fin n5, ∑ r : Fin n6, v (ix7 a b c e f n r) := by
  refine congrArg (z + ·) ?_
  refine (Finset.sum_filter_eq_sum_of_fiber _ (fun k : Fin n5 × Fin n6 => ix7 a b c e f k.1 k.2)
    (fun _ _ he => Prod.ext (congrFun he 5) (congrFun he 6)) (fiber_rows h a b c e f) v).trans ?_
  simp only [Fintype.sum_prod_type]

/-- The greatest of a query's rows, with −∞ among them, is a real number when no row is +∞ and one row is a real number. -/
theorem max_rows {u : Shape} (h : (⟨7, ![n0, n1, n2, n3, n4, n5, n6]⟩ : Shape).ReducesTo [5, 6] ⟨5, ![n0, n1, n2, n3, n4]⟩)
    (v : (⟨7, ![n0, n1, n2, n3, n4, n5, n6]⟩ : Shape).Idx → EReal) (z : u.Idx → EReal) (hu : 0 < u.numel) (hz : z (Shape.Idx.first hu) = ⊥)
    (a : Fin n0) (b : Fin n1) (c : Fin n2) (e : Fin n3) (f : Fin n4) (ht : ∀ n r, v (ix7 a b c e f n r) < ⊤)
    (n : Fin n5) (r : Fin n6) (hr : v (ix7 a b c e f n r) ≠ ⊥) :
    ∃ M : ℝ, Host.reduce (max : EReal → EReal → EReal) v z h hu (ix5 a b c e f) = (M : EReal) := by
  rw [Host.reduce_eq_fold, hz]
  have h1 : (Finset.univ.filter fun i => h.drop i = ix5 a b c e f).fold max ⊥ v < ⊤ := by
    refine (Finset.fold_max_lt _).mpr ⟨bot_lt_top, fun i hi => ?_⟩
    obtain ⟨k, rfl⟩ := (fiber_rows h a b c e f i).mp (Finset.mem_filter.mp hi).2
    exact ht _ _
  have h2 : ⊥ < (Finset.univ.filter fun i => h.drop i = ix5 a b c e f).fold max ⊥ v :=
    (Finset.lt_fold_max _).mpr (Or.inr ⟨ix7 a b c e f n r, Finset.mem_filter.mpr ⟨Finset.mem_univ _,
      (fiber_rows h a b c e f _).mpr ⟨(n, r), rfl⟩⟩, bot_lt_iff_ne_bot.mpr hr⟩)
  exact ⟨_, (EReal.coe_toReal h1.ne h2.ne').symm⟩
end rows

theorem total_apply (s : FVec Ideal S8x4x2x8x256x4x256 .f32) (b : Fin 8) (h : Fin 4) (g : Fin 2) (i : Fin 8) (x : Fin 256) :
    total s (ix5 b h g i x) = ∑ n : Fin 4, ∑ r : Fin 256, s (ix7 b h g i x n r) := by
  pointwise [total]
  exact (sum_rows _ _ _ _ _ _ _ _).trans (zero_add _)

end Cert.ReferenceIdeal.Value
-- ==== Proof.RefSearch.lean ====
module
public import proofs.«01_k».proof.Proof.RefRead

/-!
The reference's greatest score, its search for the chosen blocks and its reading of them.
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem

/-- The greatest of a query's rows as the reference writes it: the reduction, and again −∞. -/
theorem max_rows_twice {n0 n1 n2 n3 n4 n5 n6 : ℕ} {u : Shape} (dm : Fin u.rank → Fin 5) (hb : u.BroadcastsInDim ⟨5, ![n0, n1, n2, n3, n4]⟩ dm)
    (h : (⟨7, ![n0, n1, n2, n3, n4, n5, n6]⟩ : Shape).ReducesTo [5, 6] ⟨5, ![n0, n1, n2, n3, n4]⟩) (hu : 0 < u.numel)
    (v : FVec Ideal ⟨7, ![n0, n1, n2, n3, n4, n5, n6]⟩ .f32) (w : BitVec 32) (hw : Ideal.ofBits .f32 w = ⊥) (a : Fin n0) (b : Fin n1)
    (c : Fin n2) (e : Fin n3) (f : Fin n4) (ht : ∀ n r, (v (ix7 a b c e f n r) : EReal) < ⊤)
    (n : Fin n5) (r : Fin n6) (hr : (v (ix7 a b c e f n r) : EReal) ≠ ⊥) :
    ∃ M : ℝ, maximumf (broadcastInDim ⟨5, ![n0, n1, n2, n3, n4]⟩ dm hb (constant (F := Ideal) u .f32 w))
      (Host.reduce FloatOps.maximumf v (constant (F := Ideal) u .f32 w) h hu) (ix5 a b c e f) = (M : EReal) := by
  obtain ⟨M, hM⟩ := max_rows h v (constant (F := Ideal) u .f32 w) hu hw a b c e f ht n r hr
  refine ⟨M, ?_⟩
  change max (Ideal.ofBits .f32 w) (Host.reduce (max : EReal → EReal → EReal) v (constant (F := Ideal) u .f32 w) h hu (ix5 a b c e f)) = _
  rw [hM, hw]
  exact bot_sup_eq _

theorem greatest_real (s : FVec Ideal S8x4x2x8x256x4x256 .f32) (b : Fin 8) (h : Fin 4) (g : Fin 2) (i : Fin 8) (x : Fin 256)
    (ht : ∀ n r, (s (ix7 b h g i x n r) : EReal) < ⊤) (n : Fin 4) (r : Fin 256) (hr : (s (ix7 b h g i x n r) : EReal) ≠ ⊥) :
    ∃ M : ℝ, greatest s (ix5 b h g i x) = (M : EReal) := by
  unfold greatest
  exact max_rows_twice _ _ _ _ s _ Moba.word_bot b h g i x ht n r hr

/-- The place that a search of six axes' last keeps at an index. -/
theorem topK_apply {n0 n1 n2 n3 n4 n5 n6 : ℕ} (G : FVec Ideal ⟨6, ![n0, n1, n2, n3, n4, n5]⟩ .f32)
    (hf : (⟨6, ![n0, n1, n2, n3, n4, n5]⟩ : Shape).Slices (fun _ => 0) ⟨6, ![n0, n1, n2, n3, n4, n6]⟩) (hn : n6 ≤ n5)
    (b : Fin n0) (h : Fin n1) (g : Fin n2) (i : Fin n3) (x : Fin n4) (n : Fin n6) :
    (Host.topK ⟨6, ![n0, n1, n2, n3, n4, n6]⟩ 5 (FloatOps.cmpfTotal (F := Ideal) .gt) G hf).2 (ix6 b h g i x n) =
      BitVec.ofNat 32 (sortedFrom (Moba.greater fun a : Fin n5 => G (ix6 b h g i x a)) ⟨n.val, by omega⟩).val := by
  unfold Host.topK Host.sort2
  have h6 : (5 : ℕ) < 6 := by omega
  simp only [h6, dite_true]
  have ha (k : Fin n5) (y : Fin n5) : Shape.Idx.along (s := ⟨6, ![n0, n1, n2, n3, n4, n5]⟩) (ix6 b h g i x y) ⟨5, h6⟩ k = ix6 b h g i x k := by
    funext z
    match z with
    | ⟨0, _⟩ => rfl
    | ⟨1, _⟩ => rfl
    | ⟨2, _⟩ => rfl
    | ⟨3, _⟩ => rfl
    | ⟨4, _⟩ => rfl
    | ⟨5, _⟩ => rfl
  have hn' : n.val < n5 := by omega
  have hj : ∀ hh : ∀ a : Fin 6, 0 + (ix6 b h g i x n (Fin.cast hf.1.symm a)).val < (⟨6, ![n0, n1, n2, n3, n4, n5]⟩ : Shape).size a,
      (fun a => ⟨0 + (ix6 b h g i x n (Fin.cast hf.1.symm a)).val, hh a⟩ : (⟨6, ![n0, n1, n2, n3, n4, n5]⟩ : Shape).Idx) =
        ix6 b h g i x ⟨n.val, hn'⟩ := by
    intro hh
    funext z
    apply Fin.ext
    refine (Nat.zero_add _).trans ?_
    match z with
    | ⟨0, _⟩ => rfl
    | ⟨1, _⟩ => rfl
    | ⟨2, _⟩ => rfl
    | ⟨3, _⟩ => rfl
    | ⟨4, _⟩ => rfl
    | ⟨5, _⟩ => rfl
  unfold extractStridedSlice
  beta_reduce
  rw [hj]
  have hG (k : Fin n5) : G (Shape.Idx.along (s := ⟨6, ![n0, n1, n2, n3, n4, n5]⟩) (ix6 b h g i x ⟨n.val, hn'⟩) ⟨5, h6⟩ k) =
      G (ix6 b h g i x k) := congrArg G (ha k _)
  have hC (k k' : Fin n5) : (FloatOps.cmpfTotal (F := Ideal) (φ := .f32) .gt
      (G (Shape.Idx.along (s := ⟨6, ![n0, n1, n2, n3, n4, n5]⟩) (ix6 b h g i x ⟨n.val, hn'⟩) ⟨5, h6⟩ k))
      (G (Shape.Idx.along (s := ⟨6, ![n0, n1, n2, n3, n4, n5]⟩) (ix6 b h g i x ⟨n.val, hn'⟩) ⟨5, h6⟩ k')) == 1#1) =
        Moba.greater (fun a : Fin n5 => G (ix6 b h g i x a)) k k' := by
    rw [hG, hG]
    change (BitVec.ofBool (decide (G (ix6 b h g i x k') < G (ix6 b h g i x k))) == 1#1) = decide (G (ix6 b h g i x k') < G (ix6 b h g i x k))
    cases decide (G (ix6 b h g i x k') < G (ix6 b h g i x k)) <;> rfl
  refine (congrArg (fun w : (⟨6, ![n0, n1, n2, n3, n4, n5]⟩ : Shape).Idx => BitVec.ofNat 32 (w ⟨5, h6⟩).val) (ha _ _)).trans ?_
  exact congrArg₂ (fun C p => BitVec.ofNat 32 (sortedFrom C p).val) (funext fun k => funext fun k' => hC k k') (Fin.ext (Nat.zero_add _))

theorem picks_apply (G : FVec Ideal S8x4x2x8x256x8 .f32) (b : Fin 8) (h : Fin 4) (g : Fin 2) (i : Fin 8) (x : Fin 256) (n : Fin 3) :
    picks G (ix6 b h g i x n) =
      BitVec.ofNat 32 (sortedFrom (Moba.greater fun a : Fin 8 => G (ix6 b h g i x a)) ⟨n.val, by omega⟩).val := by
  unfold picks
  exact topK_apply G _ (by omega) b h g i x n

theorem picked_apply (v : FVec Ideal S8x4x8x256x64 .bf16) (s : IVec S8x4x2x8x256x3 32) (b : Fin 8) (h : Fin 4) (g : Fin 2) (i : Fin 8)
    (x : Fin 256) (n : Fin 3) (r : Fin 256) (d : Fin 64) (a : Fin 8) (hs : s (ix6 b h g i x n) = BitVec.ofNat 32 a.val) :
    picked v s (ix8 b h g i x n r d) = v (ix5 b h a r d) := by
  have h0 : places s (ix7 b h g i x n 0) = BitVec.ofNat 32 b.val := by
    pointwise [places]
    rw [WordCmp.cmpi_slt_ofNat (by omega) (by omega), WordCmp.select_ofBool, if_neg (by simp)]
  have h1 : places s (ix7 b h g i x n 1) = BitVec.ofNat 32 h.val := by
    pointwise [places]
    rw [WordCmp.cmpi_slt_ofNat (by omega) (by omega), WordCmp.select_ofBool, if_neg (by simp)]
  have h2 : places s (ix7 b h g i x n 2) = BitVec.ofNat 32 a.val := by
    pointwise [places]
    rw [hs, WordCmp.cmpi_slt_ofNat (by omega) (by omega), WordCmp.select_ofBool, if_neg (by simp)]
  unfold picked Host.gather
  congr 1
  have hsi : ∀ c, GatherDims.siIdx gather_S8x4x8x256x64_S8x4x2x8x256x3x3_S8x4x2x8x256x3x256x64_67_012_n_n_012_6_11125664
      (ix8 b h g i x n r d) c = ix7 b h g i x n ⟨c.val, c.isLt⟩ := by
    intro c
    funext y
    apply Fin.ext
    match y with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
  have hw (w : ℕ) (hw : w < 8) : (BitVec.ofNat 32 w).toInt.toNat = w := by
    rw [BitVec.toInt_eq_toNat_of_lt (by simp; omega)]
    simp
    omega
  funext y
  apply Fin.ext
  match y with
  | ⟨0, _⟩ =>
    change min (places s (GatherDims.siIdx _ _ _)).toInt.toNat 7 + 0 + 0 = b.val
    rw [hsi]
    change min (places s (ix7 b h g i x n 0)).toInt.toNat 7 + 0 + 0 = b.val
    rw [h0, hw _ (by omega)]
    omega
  | ⟨1, _⟩ =>
    change min (places s (GatherDims.siIdx _ _ _)).toInt.toNat 3 + 0 + 0 = h.val
    rw [hsi]
    change min (places s (ix7 b h g i x n 1)).toInt.toNat 3 + 0 + 0 = h.val
    rw [h1, hw _ (by omega)]
    omega
  | ⟨2, _⟩ =>
    change min (places s (GatherDims.siIdx _ _ _)).toInt.toNat 7 + 0 + 0 = a.val
    rw [hsi]
    change min (places s (ix7 b h g i x n 2)).toInt.toNat 7 + 0 + 0 = a.val
    rw [h2, hw _ (by omega)]
    omega
  | ⟨3, _⟩ => exact (Nat.zero_add _).trans rfl
  | ⟨4, _⟩ => exact (Nat.zero_add _).trans rfl
end Cert.ReferenceIdeal.Value
-- ==== Proof.RefCore.lean ====
module
public import proofs.«01_k».proof.Proof.RefSearch
public import proofs.«01_k».proof.Proof.Spec

/-!
The reference's result at an element: the attention of one query over the keys of its own block and of the chosen blocks.
-/

@[expose] public section
set_option maxRecDepth 16384
noncomputable section
namespace Cert.ReferenceIdeal.Value
open Cert.ReferenceIdeal Cert.ReferenceIdeal.Gen Idealize.ShloMosaic Idealize.ShloMosaic.TcCoe Idealize.SL.Sem
open Cert.Moba

section query
variable {Q : FVec Ideal S8x4x2x8x256x64 .bf16} {K : FVec Ideal S8x4x8x256x64 .bf16} {V : FVec Ideal S8x4x8x256x64 .bf16}
variable {b : Fin 8} {h : Fin 4} {g : Fin 2} {i : Fin 8} {x : Fin 256} {q : Fin 64 → ℝ} {k : Fin 8 → Fin 256 → Fin 64 → ℝ}

/-- The block the reference picks at a place of its search. -/
abbrev at3 (q : Fin 64 → ℝ) (k : Fin 8 → Fin 256 → Fin 64 → ℝ) (i : Fin 8) (n : Fin 3) : Fin 8 := place q k i ⟨n.val, by omega⟩

/-- The gates of a real query are the masked gates. -/
theorem gates_eq (hq : ∀ d, Q (ix6 b h g i x d) = (q d : EReal)) (hk : ∀ n r d, K (ix5 b h n r d) = (k n r d : EReal)) (n : Fin 8) :
    gates Q K (ix6 b h g i x n) = masked q k i n := by
  rw [gates_apply]
  unfold masked gate
  congr 1
  rw [← sum_coe]
  refine Finset.sum_congr rfl fun d _ => ?_
  simp only [hq, hk]
  rw [sum_coe, Ideal.div_coe (by norm_num), ← EReal.coe_mul, ← EReal.coe_mul]
  congr 2
  ring

/-- The picks of a real query are the first places of its sorted gates. -/
theorem picks_eq (hq : ∀ d, Q (ix6 b h g i x d) = (q d : EReal)) (hk : ∀ n r d, K (ix5 b h n r d) = (k n r d : EReal)) (n : Fin 3) :
    picks (gates Q K) (ix6 b h g i x n) = BitVec.ofNat 32 (at3 q k i n).val := by
  rw [picks_apply]
  unfold at3 place
  rw [show (fun a : Fin 8 => gates Q K (ix6 b h g i x a)) = masked q k i from funext fun a => gates_eq hq hk a]

/-- The scores of a real query: the picked blocks of the first three places, then the own block. -/
theorem scores_eq (hq : ∀ d, Q (ix6 b h g i x d) = (q d : EReal)) (hk : ∀ n r d, K (ix5 b h n r d) = (k n r d : EReal)) (n : Fin 4) (r : Fin 256) :
    scores (farScores Q (picked K (picks (gates Q K)))) (ownScores Q K) (ix7 b h g i x n r) =
      if hn : n.val < 3 then (if n.val < i.val then ((score q k (at3 q k i ⟨n.val, hn⟩) r : ℝ) : EReal) else ⊥)
      else (if r ≤ x then ((score q k i r : ℝ) : EReal) else ⊥) := by
  rw [scores_apply]
  by_cases hn : n.val < 3
  · rw [dif_pos hn, dif_pos hn, farScores_apply]
    refine if_congr Iff.rfl ?_ rfl
    unfold score
    simp only [hq, picked_apply K _ b h g i x _ _ _ _ (picks_eq hq hk ⟨n.val, hn⟩), hk, ← EReal.coe_mul]
    rw [sum_coe, ← EReal.coe_mul]
    congr 1
    ring
  · rw [dif_neg hn, dif_neg hn, ownScores_apply]
    refine if_congr Iff.rfl ?_ rfl
    unfold score
    simp only [hq, hk, ← EReal.coe_mul]
    rw [sum_coe, ← EReal.coe_mul]
    congr 1
    simp only [mul_comm (k _ _ _)]
    ring

/-- The weight at a place of the scores. -/
def cell (q : Fin 64 → ℝ) (k : Fin 8 → Fin 256 → Fin 64 → ℝ) (i : Fin 8) (x : Fin 256) (μ : ℝ) (n : Fin 4) (r : Fin 256) : ℝ :=
  if hn : n.val < 3 then (if n.val < i.val then weight q k i x μ (at3 q k i ⟨n.val, hn⟩) r else 0) else weight q k i x μ i r

/-- The exponential of a score with the greatest taken off is the weight at its place. -/
theorem exps_eq (hq : ∀ d, Q (ix6 b h g i x d) = (q d : EReal)) (hk : ∀ n r d, K (ix5 b h n r d) = (k n r d : EReal)) :
    ∃ μ : ℝ, ∀ n r, exps (scores (farScores Q (picked K (picks (gates Q K)))) (ownScores Q K)) (ix7 b h g i x n r) =
      ((cell q k i x μ n r : ℝ) : EReal) := by
  have hs := scores_eq (b := b) (h := h) (g := g) (i := i) (x := x) hq hk
  obtain ⟨μ, hμ⟩ := greatest_real (scores (farScores Q (picked K (picks (gates Q K)))) (ownScores Q K)) b h g i x
    (fun n r => by
      rw [hs]
      split_ifs
      · exact EReal.coe_lt_top _
      · exact bot_lt_top
      · exact EReal.coe_lt_top _
      · exact bot_lt_top) 3 x (by
      rw [hs, dif_neg (by decide), if_pos le_rfl]
      exact EReal.coe_ne_bot _)
  refine ⟨μ, fun n r => ?_⟩
  rw [exps_apply, hμ, hs]
  unfold cell
  by_cases hn : n.val < 3
  · rw [dif_pos hn, dif_pos hn]
    by_cases hi : n.val < i.val
    · rw [if_pos hi, if_pos hi]
      have hc : chosen q k i (at3 q k i ⟨n.val, hn⟩) := (chosen_place q k i _).mpr ⟨hi, hn⟩
      unfold weight
      rw [if_pos (Or.inr hc), ← EReal.coe_sub]
      rfl
    · rw [if_neg hi, if_neg hi]
      rfl
  · rw [dif_neg hn, dif_neg hn]
    unfold weight
    by_cases hr : r ≤ x
    · rw [if_pos hr, if_pos (Or.inl ⟨rfl, hr⟩), ← EReal.coe_sub]
      rfl
    · rw [if_neg hr, if_neg (fun e => e.elim (fun e => hr e.2) (not_chosen_own q k i))]
      rfl

/-- A block that is neither the own one nor chosen has weight 0. -/
theorem weight_zero (μ : ℝ) (n : Fin 8) (r : Fin 256) (hn : n ≠ i) (hc : ¬ chosen q k i n) : weight q k i x μ n r = 0 := by
  unfold weight
  exact if_neg fun e => e.elim (fun e => hn e.1) hc

/-- The weights at the places of the scores sum to the weights of all blocks. -/
theorem sum_cell (μ : ℝ) : ∑ n : Fin 4, ∑ r, cell q k i x μ n r = ∑ n, ∑ r, weight q k i x μ n r := by
  rw [sum_blocks q k i (fun n => ∑ r, weight q k i x μ n r) (fun n hn hc => Finset.sum_eq_zero fun r _ => weight_zero μ n r hn hc),
    Fin.sum_univ_castSucc, add_comm]
  congr 1
  refine Finset.sum_congr rfl fun n _ => ?_
  have hn : n.castSucc.val < 3 := n.isLt
  unfold cell
  simp only [dif_pos hn]
  by_cases hi : n.val < i.val
  · simp only [Fin.val_castSucc, if_pos hi]
  · simp only [Fin.val_castSucc, if_neg hi, Finset.sum_const_zero]

/-- The reference's sum of the own block's and the picked blocks' weighted values is the attention of the query. -/
theorem attend_eq {v : Fin 8 → Fin 256 → EReal} {d : Fin 64} (hq : ∀ d, Q (ix6 b h g i x d) = (q d : EReal))
    (hk : ∀ n r d, K (ix5 b h n r d) = (k n r d : EReal)) (hv : ∀ n r, V (ix5 b h n r d) = v n r) :
    addf (nearOut V (weights (exps (scores (farScores Q (picked K (picks (gates Q K)))) (ownScores Q K)))))
      (farOut (weights (exps (scores (farScores Q (picked K (picks (gates Q K)))) (ownScores Q K)))) (picked V (picks (gates Q K))))
        (ix6 b h g i x d) = attention q k v i x 0 := by
  obtain ⟨μ, hμ⟩ := exps_eq (b := b) (h := h) (g := g) (i := i) (x := x) hq hk
  have hpos := weight_sum_pos q k i x μ
  have hw (n : Fin 4) (r : Fin 256) : weights (exps (scores (farScores Q (picked K (picks (gates Q K)))) (ownScores Q K))) (ix7 b h g i x n r) =
      ((cell q k i x μ n r / ∑ n, ∑ r, weight q k i x μ n r : ℝ) : EReal) := by
    rw [weights_apply, total_apply, hμ]
    simp only [hμ]
    simp only [sum_coe]
    rw [sum_cell, Ideal.div_coe hpos.ne', ← EReal.coe_mul]
    congr 1
    ring
  change nearOut V _ (ix6 b h g i x d) + farOut _ _ (ix6 b h g i x d) = _
  rw [nearOut_apply, farOut_apply, attention_shift q k v i x μ 0, attention,
    ← sum_div_weight q k v i x μ _ hpos,
    sum_blocks q k i (fun n => ∑ r, v n r * ((weight q k i x μ n r / ∑ n, ∑ r, weight q k i x μ n r : ℝ) : EReal))
      (fun n hn hc => Finset.sum_eq_zero fun r _ => by rw [weight_zero μ n r hn hc, zero_div, EReal.coe_zero, mul_zero]),
    Finset.sum_comm]
  congr 1
  · refine Finset.sum_congr rfl fun r _ => ?_
    rw [hv, hw]
    rfl
  · refine Finset.sum_congr rfl fun n _ => ?_
    have hn : n.val < 3 := n.isLt
    simp only [hw, picked_apply V _ b h g i x _ _ _ _ (picks_eq hq hk n), hv]
    unfold cell
    simp only [dif_pos hn]
    by_cases hi : n.val < i.val
    · simp only [if_pos hi, mul_comm]
    · simp only [if_neg hi, zero_div, EReal.coe_zero, zero_mul, Finset.sum_const_zero]
end query

/-- The reference's result is the attention of the batch. -/
theorem outcome_eq {H : FVec Ideal S16384x2816 .f32} {T : FVec Ideal S512x16384 .f32} (U : FVec Ideal S8x256x2048 .f32)
    (hr : Cert.KernelIdeal.Value.Real H T) : outcome H T U = Cert.KernelIdeal.Value.result H T U := by
  funext j
  obtain ⟨r, l, rfl⟩ : ∃ (r : Fin 512) (l : Fin 16384), j = ix2 r l := ⟨j 0, j 1, eq_ix2 j⟩
  unfold outcome
  rw [laid_apply]
  have hd : r.val / 64 / 2 = r.val / 128 := by omega
  refine (attend_eq (b := ⟨l.val / 2048, by omega⟩) (v := Cert.KernelIdeal.Value.valOf U ⟨l.val / 2048, by omega⟩ ⟨r.val / 64, by omega⟩ ⟨r.val % 64, by omega⟩)
    (q := Cert.KernelIdeal.Value.queryOf T ⟨l.val / 2048, by omega⟩ ⟨r.val / 64, by omega⟩ ⟨l.val / 256 % 8, by omega⟩ ⟨l.val % 256, by omega⟩)
    (k := Cert.KernelIdeal.Value.keyOf H ⟨l.val / 2048, by omega⟩ ⟨r.val / 64, by omega⟩) ?_ ?_ ?_).trans rfl
  · intro d
    rw [queries_apply, Cert.KernelIdeal.Value.coe_query hr]
    congr 2
    apply Fin.ext
    simp only
    omega
  · intro n m d
    rw [keys_apply, Cert.KernelIdeal.Value.coe_key hr]
    congr 2
    apply Fin.ext
    simp only
    omega
  · intro n m
    rw [values_apply]
    unfold Cert.KernelIdeal.Value.valOf
    congr 2
    apply Fin.ext
    simp only
    omega
end Cert.ReferenceIdeal.Value
-- ==== Proof.Attention.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Spec
public import proofs.«01_k».proof.Proof.RefCore
public import Idealize.ShloMosaic.Lib.Quiescent

/-!
The claims about the block attention: its frames, its named constant and its value.
-/

@[expose] public section
noncomputable section
namespace Cert.Proof.Attention
open Idealize.ShloMosaic Idealize.ShloMosaic.TcCoe Idealize.SL.Sem

/-- The precondition's side conditions hold. -/
instance preFacts : Cert.Pre_finite_keys_and_queries.Facts where
  slices_S16384x2816_S16384x256_0_512 := by decide +kernel
  bcast_S_S16384x256 := by decide +kernel
  bcast_S_S512x16384 := by decide +kernel

/-- An extended real whose size is below +∞ is a real number. -/
theorem real_of_abs_lt (x : EReal) (h : BitVec.ofBool (decide (max x (-x) < Ideal.ofBits .f32 0x7F800000#32)) = 1#1) : ∃ y : ℝ, x = (y : EReal) := by
  rw [Cert.Moba.word_top] at h
  have hx : max x (-x) < ⊤ := by
    by_contra hn
    rw [decide_eq_false hn] at h
    exact absurd h (by decide)
  rw [max_lt_iff] at hx
  refine ⟨x.toReal, (EReal.coe_toReal hx.1.ne fun hb => ?_).symm⟩
  rw [hb, EReal.neg_bot] at hx
  exact lt_irrefl _ hx.2

/-- Under the precondition the keys and the queries are real numbers. -/
theorem real_of_pre (H : FVec Ideal Cert.KernelIdeal.S16384x2816 .f32) (T : FVec Ideal Cert.KernelIdeal.S512x16384 .f32)
    (U : FVec Ideal Cert.KernelIdeal.S8x256x2048 .f32)
    (h1 : (Cert.Pre_finite_keys_and_queries.fn (F := Ideal) H T U).1 = fun _ => 1#1)
    (h2 : (Cert.Pre_finite_keys_and_queries.fn (F := Ideal) H T U).2 = fun _ => 1#1) :
    Cert.KernelIdeal.Value.Real H T := by
  constructor
  · intro r c
    have h := congrFun h1 (ix2 r c)
    unfold Cert.Pre_finite_keys_and_queries.fn at h
    pointwise at h
    exact real_of_abs_lt _ h
  · intro r c
    have h := congrFun h2 (ix2 r c)
    unfold Cert.Pre_finite_keys_and_queries.fn at h
    pointwise at h
    exact real_of_abs_lt _ h

/-- The kernel runs, keeps its arguments and leaves every semaphore at 0. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does its idealization under the precondition. -/
theorem frame_ideal_pre : Cert.quiescent_KernelIdeal_pre_finite_keys_and_queries := fun m ρ _ => Cert.KernelIdeal.Gen.frame m ρ

/-- The reference runs, keeps its arguments and has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the precondition. -/
theorem frame_reference_pre : Cert.quiescent_ReferenceIdeal_pre_finite_keys_and_queries := fun m ρ _ => frame_reference m ρ trivial

/-- The constant that multiplies the scores is (1/8)/log 2. -/
theorem preserves : Cert.preserves_Kernel_KernelIdeal := IdealRules.named_const.statement _ _ _ _ _ rfl

/-- With real keys and queries the kernel's result array is the reference's. -/
theorem value : Cert.algebraic_KernelIdeal_ReferenceIdeal_pre_finite_keys_and_queries := by
  intro m g m' g' hpre hargs
  have hreal := fun c => real_of_pre _ _ _ (hpre c).1 (hpre c).2
  refine ⟨fun c => Cert.KernelIdeal.Value.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    (θ_run Cert.KernelIdeal.defs _ _).mono (fun r h c => ?_) (Cert.KernelIdeal.Value.run_blocks m g),
    (θ_run Cert.ReferenceIdeal.defs _ _).mono (fun r h c => ?_) (Cert.ReferenceIdeal.Value.run m' g')⟩
  · exact ⟨(h c).1.trans (Cert.KernelIdeal.Value.final m c (hreal c)), (h c).2⟩
  · refine ⟨(h c).1.trans ?_, (h c).2⟩
    rw [Cert.ReferenceIdeal.Value.res_eq, (hargs c).1, (hargs c).2.1, (hargs c).2.2]
    exact Cert.ReferenceIdeal.Value.outcome_eq _ (hreal c)
end Cert.Proof.Attention
end
-- ==== Proof.FfnTile.lean ====
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

/-!
The feed-forward kernel's values of one grid point, written once for all eleven chunks of 256 hidden columns.

A grid point normalises its 512 rows and the 16 rows before them, and then takes the hidden columns a chunk at a time:
the chunk's two halves of the up product, their three-tap convolutions down the rows, the gated product, and the down
product added to the residual rows.  `outs_eq` says that what the point leaves in its two output blocks is this chain.
-/

@[expose] public section

set_option maxRecDepth 16384

noncomputable section

namespace Cert.Kernel2Ideal.Value

open Cert.Kernel2Ideal Cert.Kernel2Ideal.Gen
open Idealize.ShloMosaic.Tactic
open Idealize.ShloMosaic Idealize.ShloMosaic.TcCoe Idealize.SL.Sem

/-- The sixteen rows `b` with the 512 rows `a` under them. -/
def stack (a : Vec Ideal S512x1024 .bf16) (b : Vec Ideal S16x1024 .bf16) : Vec Ideal S528x1024 .bf16 :=
  fun i => if h : (i 0).val < 16 then b (ix2 ⟨(i 0).val, h⟩ (i 1))
    else a (ix2 ⟨(i 0).val - 16, by have := (i 0).isLt; simp at this; omega⟩ (i 1))

/-- 512 of the 528 rows, from row `o` on. -/
def rowsFrom (w : Vec Ideal S1x528x256 .f32) (o : ℕ) (h : o + 512 ≤ 528) : Vec Ideal S1x512x256 .f32 :=
  fun i => w (ix3 0 ⟨o + (i 1).val, by have := (i 1).isLt; simp at this; omega⟩ (i 2))

/-- The two stores of the normalised rows, read back whole. -/
theorem read_stack {sig : RefSig} {κ : Kind} {sp : Space} (v : View sig κ sp S528x1024 .bf16)
    (inb inb' inb'') (a : Vec Ideal S512x1024 .bf16) (b : Vec Ideal S16x1024 .bf16) :
    v.readCov (Val := Elt Ideal) [⟨Rect.unit ![16, 0] ![512, 1024] inb, a⟩, ⟨Rect.unit ![0, 0] ![16, 1024] inb', b⟩]
      (Rect.unit ![0, 0] ![528, 1024] inb'').toLoadRect = stack a b := by
  rw [View.readCov_eq_canon']
  funext i
  obtain ⟨r, l, rfl⟩ : ∃ (r : Fin 528) (l : Fin 1024), i = ix2 r l := ⟨i 0, i 1, eq_ix2 i⟩
  have hi : (Rect.unit (s := S528x1024) ![0, 0] ![528, 1024] inb'').toLoadRect.idx (ix2 r l) = ix2 r l := by
    apply funext; intro x; apply Fin.ext; fin_cases x <;> simp [LoadRect.idx, Rect.toLoadRect, Rect.unit]
  rw [hi]
  apply View.canon_apply_of_pieces
  · intro p hp
    simp only [List.mem_cons, List.not_mem_nil, or_false] at hp
    rcases hp with rfl | rfl
    · intro x
      obtain ⟨y, z, rfl⟩ : ∃ (y : Fin 512) (z : Fin 1024), x = ix2 y z := ⟨x 0, x 1, eq_ix2 x⟩
      unfold stack
      rw [dif_neg (by simp [Rect.emb, Rect.unit])]
      exact congrArg a (by funext x; apply Fin.ext; fin_cases x <;> simp [Rect.emb, Rect.unit])
    · intro x
      obtain ⟨y, z, rfl⟩ : ∃ (y : Fin 16) (z : Fin 1024), x = ix2 y z := ⟨x 0, x 1, eq_ix2 x⟩
      unfold stack
      rw [dif_pos (by simp [Rect.emb, Rect.unit])]
      exact congrArg b (by funext x; apply Fin.ext; fin_cases x <;> simp [Rect.emb, Rect.unit])
  · by_cases h : r.val < 16
    · refine ⟨_, List.mem_cons_of_mem _ (List.mem_singleton.mpr rfl), ?_⟩
      have e : (ix2 r l : S528x1024.Idx) = (Rect.unit (s := S528x1024) ![0, 0] ![16, 1024] inb').emb (ix2 ⟨r.val, h⟩ l) := by
        funext x; apply Fin.ext; fin_cases x <;> simp [Rect.emb, Rect.unit]
      rw [e]
      exact LoadRect.idx_mem (Rect.toLoadRect _) _
    · refine ⟨_, List.mem_cons_self, ?_⟩
      have e : (ix2 r l : S528x1024.Idx) = (Rect.unit (s := S528x1024) ![16, 0] ![512, 1024] inb).emb (ix2 ⟨r.val - 16, by omega⟩ l) := by
        funext x; apply Fin.ext; fin_cases x <;> simp [Rect.emb, Rect.unit] <;> omega
      rw [e]
      exact LoadRect.idx_mem (Rect.toLoadRect _) _

/-- A chunk's stored rows, read back from row `o` on. -/
theorem read_rows {sig : RefSig} {κ : Kind} {sp : Space} (v : View sig κ sp S2x528x256 .f32) (p o : ℕ)
    (inb inb') (w : Vec Ideal S1x528x256 .f32) (L : List (View.Piece (Elt Ideal) S2x528x256 .f32)) :
    v.readCov (⟨Rect.unit ![p, 0, 0] ![1, 528, 256] inb, w⟩ :: L) (Rect.unit ![p, o, 0] ![1, 512, 256] inb').toLoadRect
      = rowsFrom w o (inb' 1) := by
  rw [View.readCov_eq_canon']
  funext i
  obtain ⟨x, y, z, rfl⟩ : ∃ (x : Fin 1) (y : Fin 512) (z : Fin 256), i = ix3 x y z := ⟨i 0, i 1, i 2, eq_ix3 i⟩
  have h := inb' 1
  simp at h
  have e : (Rect.unit (s := S2x528x256) ![p, o, 0] ![1, 512, 256] inb').toLoadRect.idx (ix3 x y z)
      = (Rect.unit (s := S2x528x256) ![p, 0, 0] ![1, 528, 256] inb).emb (ix3 0 ⟨o + y.val, by omega⟩ z) := by
    funext a; apply Fin.ext; fin_cases a <;> simp [LoadRect.idx, Rect.toLoadRect, Rect.emb, Rect.unit]
  rw [e, View.canon_cons_emb]
  rfl

/-- The up product's columns `c` to `c + 255`, of all 528 rows. -/
def up (xn : Vec Ideal S528x1024 .bf16) (w : Vec Ideal S1x1024x5632 .bf16) (c : ℕ) : FVec Ideal S528x256 .f32 :=
  k0_pay8 xn (View.ld w (Rect.unit ![0, 0, c % 5377] ![1, 1024, 256] (by intro a; fin_cases a <;> simp; omega)))

/-- The three-tap convolution down the rows of the columns `u`, whose weights stand in `cw` from column `c` on. -/
def conv (u : FVec Ideal S528x256 .f32) (cw : Vec Ideal S3x5632 .f32) (c : ℕ) : FVec Ideal S512x256 .f32 :=
  let e : Vec Ideal S1x528x256 .f32 := shapeCast S1x528x256 u shapeCasts_S528x256_S1x528x256
  let k : Vec Ideal S3x256 .f32 := View.ld cw (Rect.unit ![0, c % 5377] ![3, 256] (by intro a; fin_cases a <;> simp; omega))
  let tap (s : Vec Ideal S1x256 .f32) (o : ℕ) (h : o + 512 ≤ 528) : FVec Ideal S512x256 .f32 :=
    mulf (broadcastTo S512x256 s broadcasts_S1x256_S512x256)
      (shapeCast S512x256 (rowsFrom e o h) shapeCasts_S1x512x256_S512x256)
  addf (addf (tap (extractStridedSlice S1x256 ![0, 0] k slices_S3x256_o0_0_S1x256) 14 (by decide))
    (tap (extractStridedSlice S1x256 ![1, 0] k slices_S3x256_o1_0_S1x256) 15 (by decide)))
    (tap (extractStridedSlice S1x256 ![2, 0] k slices_S3x256_o2_0_S1x256) 16 (by decide))

/-- The gated columns: `a / (1 + 2 ^ (-a / log 2)) * b`. -/
def gate (a b : FVec Ideal S512x256 .f32) : FVec Ideal S1x512x256 .bf16 :=
  let one : FVec Ideal S512x256 .f32 := broadcast S512x256 (Scalar.ofBits .f32 0x3F800000#32)
  let e : FVec Ideal S512x256 .f32 := exp2 (mulf a (broadcast S512x256 (Named.named κ "neg_log2e" 0xBFB8AA3B#32)))
  shapeCast S1x512x256 (truncf .bf16 (mulf (mulf a (divf one (addf one e))) b) bitsLt_bf16_f32)
    shapeCasts_S512x256_S1x512x256

/-- Chunk `j`'s gated columns. -/
def mid (xn : Vec Ideal S528x1024 .bf16) (w : Vec Ideal S1x1024x5632 .bf16) (cw : Vec Ideal S3x5632 .f32) (j : ℕ) :
    FVec Ideal S1x512x256 .bf16 :=
  gate (conv (up xn w (256 * j)) cw (256 * j)) (conv (up xn w (2816 + 256 * j)) cw (2816 + 256 * j))

/-- The residual rows with the first `n` chunks' down products added. -/
def total (r : FVec Ideal S512x1024 .f32) (xn : Vec Ideal S528x1024 .bf16) (w : Vec Ideal S1x1024x5632 .bf16)
    (cw : Vec Ideal S3x5632 .f32) (wd : Vec Ideal S1x2816x1024 .bf16) : ℕ → FVec Ideal S512x1024 .f32
  | 0 => r
  | n + 1 => k0_pay33 (total r xn w cw wd n) (mid xn w cw n)
      (View.ld wd (Rect.unit ![0, (256 * n) % 2561, 0] ![1, 256, 1024] (by intro a; fin_cases a <;> simp; omega)))

/-- The last eight rows of the up product, of all its columns. -/
def lastRows (xn : Vec Ideal S528x1024 .bf16) (w : Vec Ideal S1x1024x5632 .bf16) : Vec Ideal S1x8x5632 .f32 :=
  fun i => up xn w ((i 2).val / 256 * 256) (ix2 ⟨520 + (i 1).val, by have := (i 1).isLt; simp at this; omega⟩
    ⟨(i 2).val % 256, Nat.mod_lt _ (by decide)⟩)

/-- A chunk's stored last rows are its columns of `lastRows`. -/
theorem lastRows_piece (xn : Vec Ideal S528x1024 .bf16) (w : Vec Ideal S1x1024x5632 .bf16) (c : ℕ) (hc : c % 256 = 0) (inb)
    (x : (Rect.unit (s := S1x8x5632) ![0, 0, c] ![1, 8, 256] inb).shape.Idx) :
    shapeCast S1x8x256 (extractStridedSlice S8x256 ![520, 0] (up xn w c) slices_S528x256_o520_0_S8x256) shapeCasts_S8x256_S1x8x256 x
      = lastRows xn w ((Rect.unit (s := S1x8x5632) ![0, 0, c] ![1, 8, 256] inb).emb x) := by
  obtain ⟨y, z, u, rfl⟩ : ∃ (y : Fin 1) (z : Fin 8) (u : Fin 256), x = ix3 y z u := ⟨x 0, x 1, x 2, eq_ix3 x⟩
  unfold lastRows
  have h2 : ((Rect.unit (s := S1x8x5632) ![0, 0, c] ![1, 8, 256] inb).emb (ix3 y z u) 2).val = c + u.val := by
    simp [Rect.emb, Rect.unit]
  have h1 : ((Rect.unit (s := S1x8x5632) ![0, 0, c] ![1, 8, 256] inb).emb (ix3 y z u) 1).val = z.val := by
    simp [Rect.emb, Rect.unit]
  have h3 : (c + u.val) / 256 * 256 = c := by omega
  have h4 : (c + u.val) % 256 = u.val := by omega
  simp only [h1, h2, h3, h4]
  generalize up xn w c = q
  pointwise

/-- Whether a grid point's rows start a sequence. -/
def atStart (n : ℕ) : BitVec 1 :=
  let r := Scalar.remsi (Scalar.muli (BitVec.ofNat 32 n) 512#32) 2048#32
  Scalar.cmpi CmpIPredicate.eq (Scalar.select (Scalar.andi (Scalar.xori (Scalar.cmpi CmpIPredicate.slt r 0#32) 0#1)
    (Scalar.cmpi CmpIPredicate.ne r 0#32)) (Scalar.addi r 2048#32) r) 0#32

/-- The normalised rows of grid point `n`, the sixteen rows before its own first. -/
def normRows (n : ℕ) (x0 : Vec Ideal S512x1024 .f32) (x1 : Vec Ideal S16x1024 .f32) (x2 : Vec Ideal S512x256 .bf16)
    (x3 : Vec Ideal S16x256 .bf16) (x4 : Vec Ideal S256x1024 .bf16) (x5 : Vec Ideal S1x1024 .f32) : Vec Ideal S528x1024 .bf16 :=
  stack (k0_pay7 (k0_pay2 x4 x0 x2) (k0_pay3 x5)) (k0_pay6 (k0_pay3 x5) (k0_pay4 x4 x1 x3) (atStart n) (k0_pay5 x4 x1 x3))

set_option maxHeartbeats 2000000 in
/-- What a grid point leaves in its block of rows: the chain of all chunks, normalised. -/
theorem rows_eq (m : (ℓ : Loc nD τ sig) → Buf (Elt Ideal) ℓ) (c : Dev nD) (t : Fin cfg0.N) :
    (outsAt0 m c t).1 = k0_pay1 (shapeCast S512x1024 (total (k0_pay2 (iblk m c 4 t) (iblk m c 0 t) (iblk m c 2 t))
      (normRows (grid0.coords t 0).val (iblk m c 0 t) (iblk m c 1 t) (iblk m c 2 t) (iblk m c 3 t) (iblk m c 4 t) (iblk m c 5 t))
      (iblk m c 6 t) (iblk m c 7 t) (iblk m c 8 t) 11) shapeCasts_S512x1024_S512x1024) (iblk m c 9 t) := by
  unfold outsAt0
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize hx : normRows _ x0 x1 x2 x3 x4 x5 = xn
  unfold normRows atStart at hx
  dsimp only at hx
  frame_open
  simp (disch := decide) only [↓ View.readCov_skip, ↓ View.readCov_cons_toLoadRect, ↓ read_stack, ↓ read_rows]
  frame_out
  simp only [hx]
  clear hx
  generalize k0_pay2 x4 x0 x2 = r
  simp only [total, mid, gate, conv, up, Nat.reduceMul, Nat.reduceAdd, Nat.reduceMod]
  unfold_payloads
  simp only [Scalar.ofBits]

set_option maxHeartbeats 2000000 in
/-- What a grid point leaves in its block of last rows. -/
theorem last_eq (m : (ℓ : Loc nD τ sig) → Buf (Elt Ideal) ℓ) (c : Dev nD) (t : Fin cfg0.N) :
    (outsAt0 m c t).2 = lastRows
      (normRows (grid0.coords t 0).val (iblk m c 0 t) (iblk m c 1 t) (iblk m c 2 t) (iblk m c 3 t) (iblk m c 4 t) (iblk m c 5 t))
      (iblk m c 6 t) := by
  unfold outsAt0
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize hx : normRows _ x0 x1 x2 x3 x4 x5 = xn
  unfold normRows atStart at hx
  dsimp only at hx
  frame_open
  simp (disch := decide) only [↓ View.readCov_skip, ↓ View.readCov_cons_toLoadRect, ↓ read_stack, ↓ read_rows]
  frame_out
  simp only [hx]
  funext y
  refine View.canon_apply_of_pieces _ _ (View.PiecesOf.mem ?_) y (View.cover_of_tiledL (s := S1x8x5632) _ ![1, 8, 256] (by sl_kernel_rfl) y)
  repeat' constructor
  all_goals exact fun x => lastRows_piece xn x6 _ (by decide) (by decide) x
end Cert.Kernel2Ideal.Value
-- ==== Proof.FfnSpec.lean ====
module
public import proofs.«01_k».proof.Proof.Consts

/-!
The feed-forward layer as a function of its arrays, row by row.

The residual row is normalised and multiplied into the hidden columns; a three-tap convolution runs down the rows of one
sequence of 2048, with zeros before its first row; one half of the columns, through silu, gates the other; the gated
columns are multiplied back and added to the residual row, and the sum is normalised.
-/

@[expose] public section
noncomputable section
namespace Cert.Ffn
open Idealize.ShloMosaic

/-- A row over the root of its mean square, times the weights `g`. -/
def norm (v g : Fin 1024 → EReal) (l : Fin 1024) : EReal :=
  v l * Ideal.rsqrt (Ideal.div (∑ k, v k * v k) (Ideal.ofBits .f32 0x44800000#32) + Ideal.ofBits .f32 0x358637BD#32) * g l

/-- `a / (1 + exp (-a))`. -/
def silu (a : EReal) : EReal := a * Ideal.div 1 (1 + Ideal.exp (-a))

/-- The arrays of the layer: the residual rows, the rows of heads and their weights, the first norm's weights, the up
    weights, the convolution's, the down weights and the last norm's. -/
structure Arrays where
  /-- residual rows -/
  x : Fin 16384 → Fin 1024 → EReal
  /-- rows of heads -/
  ox : Fin 16384 → Fin 256 → EReal
  /-- the heads' weights -/
  wxo : Fin 256 → Fin 1024 → EReal
  /-- the first norm's weights -/
  g : Fin 1024 → EReal
  /-- the up weights -/
  wu : Fin 1024 → Fin 5632 → EReal
  /-- the convolution's weights -/
  cw : Fin 3 → Fin 5632 → EReal
  /-- the down weights -/
  wd : Fin 2816 → Fin 1024 → EReal
  /-- the last norm's weights -/
  gf : Fin 1024 → EReal

variable (A : Arrays)

/-- The residual row with the heads' product added. -/
def res (r : Fin 16384) (l : Fin 1024) : EReal := A.x r l + ∑ k, A.ox r k * A.wxo k l

/-- The hidden columns of a row, before the convolution. -/
def hidden (r : Fin 16384) (c : Fin 5632) : EReal := ∑ d, norm (res A r) A.g d * A.wu d c

/-- The hidden columns of the row `k` before row `r`, or zero where the sequence has no such row. -/
def before (r : Fin 16384) (k : ℕ) (c : Fin 5632) : EReal :=
  if k ≤ r.val % 2048 then hidden A ⟨r.val - k, by omega⟩ c else 0

/-- The convolution's row. -/
def conv (r : Fin 16384) (c : Fin 5632) : EReal :=
  before A r 2 c * A.cw 0 c + before A r 1 c * A.cw 1 c + before A r 0 c * A.cw 2 c

/-- The gated columns of a row. -/
def gated (r : Fin 16384) (j : Fin 2816) : EReal :=
  silu (conv A r ⟨j.val, by omega⟩) * conv A r ⟨2816 + j.val, by omega⟩

/-- The residual row with the down product added. -/
def sum (r : Fin 16384) (l : Fin 1024) : EReal := res A r l + ∑ j, gated A r j * A.wd j l

/-- The layer's row. -/
def out (r : Fin 16384) (l : Fin 1024) : EReal := norm (sum A r) A.gf l

end Cert.Ffn
-- ==== Proof.FfnRead.lean ====
module
public import proofs.«01_k».proof.Proof.FfnTile
public import proofs.«01_k».proof.Proof.FfnSpec

/-!
The feed-forward kernel's values of one grid point, read at an index.
-/

@[expose] public section
set_option maxRecDepth 16384
noncomputable section
namespace Cert.Kernel2Ideal.Value
open Cert.Kernel2Ideal Cert.Kernel2Ideal.Gen
open Idealize.ShloMosaic.Tactic
open Idealize.ShloMosaic Idealize.ShloMosaic.TcCoe Idealize.SL.Sem

/-- The factor of the gate's argument before a power of two is taken: minus one over `log 2`. -/
theorem word_neg : Named.named (F := Ideal) Cert.Kernel2Ideal.κ "neg_log2e" (φ := .f32) 0xBFB8AA3B#32
    = ((-(Real.log 2)⁻¹ : ℝ) : EReal) :=
  IdealRules.named_const.ideal_named_scalar _ _ _ _ rfl

/-- A power of two of an argument that carries `-1 / log 2` is the exponential of the argument's negative. -/
theorem exp2_neg (a : EReal) : Ideal.exp2 (a * ((-(Real.log 2)⁻¹ : ℝ) : EReal)) = Ideal.exp (-a) := by
  have hlog : 0 < Real.log 2 := Real.log_pos (by norm_num)
  have hneg : -(Real.log 2)⁻¹ < 0 := neg_lt_zero.mpr (inv_pos.mpr hlog)
  induction a with
  | bot => rw [EReal.bot_mul_coe_of_neg hneg, EReal.neg_bot, Ideal.exp2_top, Ideal.exp_top]
  | top => rw [EReal.top_mul_coe_of_neg hneg, EReal.neg_top, Ideal.exp2_bot, Ideal.exp_bot]
  | coe r =>
    rw [← EReal.coe_mul, ← EReal.coe_neg, Ideal.exp2_coe, Ideal.exp_coe]
    congr 1
    show (2 : ℝ) ^ (r * -(Real.log 2)⁻¹) = _
    rw [Real.rpow_def_of_pos (by norm_num)]
    congr 1
    field_simp

/-- The residual rows at an index. -/
theorem res_read (w : Vec Ideal S256x1024 .bf16) (x : Vec Ideal S512x1024 .f32) (o : Vec Ideal S512x256 .bf16)
    (i : Fin 512) (l : Fin 1024) :
    k0_pay2 w x o (ix2 i l) = x (ix2 i l) + ∑ k : Fin 256, o (ix2 i k) * w (ix2 k l) := by
  pointwise [k0_pay2]

/-- The residual rows before the tile at an index. -/
theorem halo_read (w : Vec Ideal S256x1024 .bf16) (x : Vec Ideal S16x1024 .f32) (o : Vec Ideal S16x256 .bf16)
    (i : Fin 16) (l : Fin 1024) :
    k0_pay4 w x o (ix2 i l) = x (ix2 i l) + ∑ k : Fin 256, o (ix2 i k) * w (ix2 k l) := by
  pointwise [k0_pay4]

/-- A tile's normalised rows at an index. -/
theorem norm_read (r : FVec Ideal S512x1024 .f32) (g : Vec Ideal S1x1024 .f32) (i : Fin 512) (l : Fin 1024) :
    k0_pay7 r (k0_pay3 g) (ix2 i l) = Ffn.norm (fun k => r (ix2 i k)) (fun k => g (ix2 0 k)) l := by
  unfold Ffn.norm
  pointwise [k0_pay7, k0_pay3]

/-- The last norm's rows at an index. -/
theorem last_norm_read (r : FVec Ideal S512x1024 .f32) (g : Vec Ideal S1x1024 .f32) (i : Fin 512) (l : Fin 1024) :
    k0_pay1 (shapeCast S512x1024 r shapeCasts_S512x1024_S512x1024) g (ix2 i l)
      = Ffn.norm (fun k => r (ix2 i k)) (fun k => g (ix2 0 k)) l := by
  unfold Ffn.norm
  pointwise [k0_pay1]

/-- The normalised rows before the tile at an index: zero where the tile starts a sequence. -/
theorem halo_norm_read (w : Vec Ideal S256x1024 .bf16) (x : Vec Ideal S16x1024 .f32) (o : Vec Ideal S16x256 .bf16)
    (g : Vec Ideal S1x1024 .f32) (f : BitVec 1) (i : Fin 16) (l : Fin 1024) :
    k0_pay6 (k0_pay3 g) (k0_pay4 w x o) f (k0_pay5 w x o) (ix2 i l)
      = if f = 1#1 then 0 else Ffn.norm (fun k => k0_pay4 w x o (ix2 i k)) (fun k => g (ix2 0 k)) l := by
  unfold k0_pay5
  generalize k0_pay4 w x o = r
  unfold Ffn.norm
  pointwise [k0_pay6, k0_pay3]
  rfl

/-- The up product at an index. -/
theorem up_read (xn : Vec Ideal S528x1024 .bf16) (w : Vec Ideal S1x1024x5632 .bf16) (c : ℕ) (hc : c + 256 ≤ 5632)
    (p : Fin 528) (q : Fin 256) :
    up xn w c (ix2 p q) = ∑ d : Fin 1024, xn (ix2 p d) * w (ix3 0 d ⟨c + q.val, by omega⟩) := by
  have h : c % 5377 = c := Nat.mod_eq_of_lt (by omega)
  pointwise [up, k0_pay8]
  simp only [h]

/-- The convolution at an index. -/
theorem conv_read (u : FVec Ideal S528x256 .f32) (cw : Vec Ideal S3x5632 .f32) (c : ℕ) (hc : c + 256 ≤ 5632)
    (i : Fin 512) (q : Fin 256) :
    conv u cw c (ix2 i q) = u (ix2 ⟨14 + i.val, by omega⟩ q) * cw (ix2 0 ⟨c + q.val, by omega⟩)
      + u (ix2 ⟨15 + i.val, by omega⟩ q) * cw (ix2 1 ⟨c + q.val, by omega⟩)
      + u (ix2 ⟨16 + i.val, by omega⟩ q) * cw (ix2 2 ⟨c + q.val, by omega⟩) := by
  have h : c % 5377 = c := Nat.mod_eq_of_lt (by omega)
  pointwise [conv, rowsFrom]
  simp only [h]
  exact congrArg₂ (· + ·) (congrArg₂ (· + ·) (mul_comm _ _) (mul_comm _ _)) (mul_comm _ _)

/-- The gated columns at an index. -/
theorem gate_read (a b : FVec Ideal S512x256 .f32) (i : Fin 512) (q : Fin 256) :
    gate a b (ix3 0 i q) = Ffn.silu (a (ix2 i q)) * b (ix2 i q) := by
  unfold Ffn.silu
  pointwise [gate]
  rw [word_neg]
  exact congrArg (fun e => a (ix2 i q) * Ideal.div 1 (1 + e) * b (ix2 i q)) (exp2_neg _)

/-- One chunk's step at an index. -/
theorem down_read (r : FVec Ideal S512x1024 .f32) (h : FVec Ideal S1x512x256 .bf16) (w : Vec Ideal S1x256x1024 .bf16)
    (i : Fin 512) (l : Fin 1024) :
    k0_pay33 r h w (ix2 i l) = r (ix2 i l) + ∑ q : Fin 256, h (ix3 0 i q) * w (ix3 0 q l) := by
  pointwise [k0_pay33]
end Cert.Kernel2Ideal.Value
-- ==== Proof.FfnBlocks.lean ====
module
public import proofs.«01_k».proof.Proof.FfnRead

/-!
The blocks a grid point of the feed-forward kernel is given, read from the arguments.
-/

@[expose] public section
set_option maxRecDepth 16384
noncomputable section
namespace Cert.Kernel2Ideal.Value
open Cert.Kernel2Ideal Cert.Kernel2Ideal.Gen
open Idealize.ShloMosaic.Tactic
open Idealize.ShloMosaic Idealize.ShloMosaic.TcCoe Idealize.SL.Sem
variable (m : (ℓ : Loc nD τ sig) → Buf (Elt Ideal) ℓ)

/-- The windows' block indices at point `t`. -/
theorem idx : ∀ t : Fin cfg0.N, win0_0.index t = ![t.val, 0] ∧ win0_1.index t = ![32 * t.val - 1, 0] ∧
    win0_2.index t = ![t.val, 0] ∧ win0_3.index t = ![32 * t.val - 1, 0] ∧ win0_4.index t = ![0, 0] ∧
    win0_5.index t = ![0, 0] ∧ win0_6.index t = ![3, 0, 0] ∧ win0_7.index t = ![0, 0] ∧ win0_8.index t = ![3, 0, 0] ∧
    win0_9.index t = ![0, 0] ∧ win0_10.index t = ![t.val, 0] ∧ win0_11.index t = ![t.val / 4, 0, 0] ∧ t.val < 32 :=
  (by decide +kernel : ∀ t : Fin grid0.N, win0_0.index t = ![t.val, 0] ∧ win0_1.index t = ![32 * t.val - 1, 0] ∧
    win0_2.index t = ![t.val, 0] ∧ win0_3.index t = ![32 * t.val - 1, 0] ∧ win0_4.index t = ![0, 0] ∧
    win0_5.index t = ![0, 0] ∧ win0_6.index t = ![3, 0, 0] ∧ win0_7.index t = ![0, 0] ∧ win0_8.index t = ![3, 0, 0] ∧
    win0_9.index t = ![0, 0] ∧ win0_10.index t = ![t.val, 0] ∧ win0_11.index t = ![t.val / 4, 0, 0] ∧ t.val < 32)

/-- There are 32 grid points. -/
theorem lt32 (t : Fin cfg0.N) : t.val < 32 := (idx t).2.2.2.2.2.2.2.2.2.2.2.2

/-- The grid's points are numbered by their coordinate. -/
theorem coord : ∀ t : Fin cfg0.N, (grid0.coords t 0).val = t.val :=
  (by decide +kernel : ∀ t : Fin grid0.N, (grid0.coords t 0).val = t.val)

/-- A point starts a sequence when its number is a multiple of 4. -/
theorem atStart_eq : ∀ n : Fin 32, atStart n.val = if n.val % 4 = 0 then 1#1 else 0#1 := by decide +kernel

/-- The layer's arrays, from the kernel's arguments. -/
def arrays (c : Dev nD) : Ffn.Arrays where
  x r l := m ((c : Thread nD τ).loc main_arg0) (ix2 r l)
  ox r k := m ((c : Thread nD τ).loc main_arg1) (ix2 r k)
  wxo k l := m ((c : Thread nD τ).loc main_arg2) (ix2 k l)
  g l := m ((c : Thread nD τ).loc main_arg3) (ix1 l)
  wu d k := m ((c : Thread nD τ).loc main_arg4) (ix3 3 d k)
  cw a k := m ((c : Thread nD τ).loc main_arg5) (ix2 a k)
  wd j l := m ((c : Thread nD τ).loc main_arg6) (ix3 3 j l)
  gf l := m ((c : Thread nD τ).loc main_arg7) (ix1 l)

/-- The residual rows. -/
theorem blk0 (c : Dev nD) (t : Fin cfg0.N) (i : Fin 512) (l : Fin 1024) :
    (iblk m c 0 t : Vec Ideal S512x1024 .f32) (ix2 i l) = (arrays m c).x ⟨512 * t.val + i.val, by have := lt32 t; omega⟩ l := by
  have h := idx t
  unfold arrays
  blk_ext [iblk, V, h]

/-- The residual rows before them. -/
theorem blk1 (c : Dev nD) (t : Fin cfg0.N) (i : Fin 16) (l : Fin 1024) :
    (iblk m c 1 t : Vec Ideal S16x1024 .f32) (ix2 i l)
      = (arrays m c).x ⟨(32 * t.val - 1) * 16 + i.val, by have := lt32 t; omega⟩ l := by
  have h := idx t
  unfold arrays
  blk_ext [iblk, V, h]

/-- The rows of heads. -/
theorem blk2 (c : Dev nD) (t : Fin cfg0.N) (i : Fin 512) (l : Fin 256) :
    (iblk m c 2 t : Vec Ideal S512x256 .bf16) (ix2 i l) = (arrays m c).ox ⟨512 * t.val + i.val, by have := lt32 t; omega⟩ l := by
  have h := idx t
  unfold arrays
  blk_ext [iblk, V, h]

/-- The rows of heads before them. -/
theorem blk3 (c : Dev nD) (t : Fin cfg0.N) (i : Fin 16) (l : Fin 256) :
    (iblk m c 3 t : Vec Ideal S16x256 .bf16) (ix2 i l)
      = (arrays m c).ox ⟨(32 * t.val - 1) * 16 + i.val, by have := lt32 t; omega⟩ l := by
  have h := idx t
  unfold arrays
  blk_ext [iblk, V, h]

/-- The heads' weights. -/
theorem blk4 (c : Dev nD) (t : Fin cfg0.N) (i : Fin 256) (l : Fin 1024) :
    (iblk m c 4 t : Vec Ideal S256x1024 .bf16) (ix2 i l) = (arrays m c).wxo i l := by
  have h := idx t
  unfold arrays
  blk_ext [iblk, V, h]

/-- The first norm's weights. -/
theorem blk5 (c : Dev nD) (t : Fin cfg0.N) (l : Fin 1024) :
    (iblk m c 5 t : Vec Ideal S1x1024 .f32) (ix2 0 l) = (arrays m c).g l := by
  have h := idx t
  show (iblk m c 5 t : Vec Ideal S1x1024 .f32) (ix2 0 l) = m ((c : Thread nD τ).loc main_arg3) (ix1 l)
  blk_point [iblk, V, h]

/-- The last layer's up weights. -/
theorem blk6 (c : Dev nD) (t : Fin cfg0.N) (d : Fin 1024) (k : Fin 5632) :
    (iblk m c 6 t : Vec Ideal S1x1024x5632 .bf16) (ix3 0 d k) = (arrays m c).wu d k := by
  have h := idx t
  unfold arrays
  blk_ext [iblk, V, h]

/-- The convolution's weights. -/
theorem blk7 (c : Dev nD) (t : Fin cfg0.N) (a : Fin 3) (k : Fin 5632) :
    (iblk m c 7 t : Vec Ideal S3x5632 .f32) (ix2 a k) = (arrays m c).cw a k := by
  have h := idx t
  unfold arrays
  blk_ext [iblk, V, h]

/-- The last layer's down weights. -/
theorem blk8 (c : Dev nD) (t : Fin cfg0.N) (j : Fin 2816) (l : Fin 1024) :
    (iblk m c 8 t : Vec Ideal S1x2816x1024 .bf16) (ix3 0 j l) = (arrays m c).wd j l := by
  have h := idx t
  unfold arrays
  blk_ext [iblk, V, h]

/-- The last norm's weights. -/
theorem blk9 (c : Dev nD) (t : Fin cfg0.N) (l : Fin 1024) :
    (iblk m c 9 t : Vec Ideal S1x1024 .f32) (ix2 0 l) = (arrays m c).gf l := by
  have h := idx t
  show (iblk m c 9 t : Vec Ideal S1x1024 .f32) (ix2 0 l) = m ((c : Thread nD τ).loc main_arg7) (ix1 l)
  blk_point [iblk, V, h]
end Cert.Kernel2Ideal.Value
-- ==== Proof.FfnKernel.lean ====
module
public import proofs.«01_k».proof.Proof.FfnBlocks

/-!
The feed-forward kernel's two result arrays are the layer's rows and the hidden columns of each sequence's last eight rows.
-/

@[expose] public section
set_option maxRecDepth 16384
noncomputable section
namespace Cert.Kernel2Ideal.Value
open Cert.Kernel2Ideal Cert.Kernel2Ideal.Gen
open Idealize.ShloMosaic.Tactic
open Idealize.ShloMosaic Idealize.ShloMosaic.TcCoe Idealize.SL.Sem
variable (m : (ℓ : Loc nD τ sig) → Buf (Elt Ideal) ℓ) (c : Dev nD) (t : Fin cfg0.N)

/-- The normalised rows of a grid point. -/
def rowsN : Vec Ideal S528x1024 .bf16 :=
  normRows (grid0.coords t 0).val (iblk m c 0 t) (iblk m c 1 t) (iblk m c 2 t) (iblk m c 3 t) (iblk m c 4 t) (iblk m c 5 t)

/-- The residual rows of a grid point. -/
def rowsR : FVec Ideal S512x1024 .f32 := k0_pay2 (iblk m c 4 t) (iblk m c 0 t) (iblk m c 2 t)

/-- Row `i` of grid point `t`, in the array. -/
def rowOf (i : Fin 512) : Fin 16384 := ⟨512 * t.val + i.val, by have := lt32 t; omega⟩

/-- The residual rows of a grid point are the layer's. -/
theorem rowsR_read (i : Fin 512) (l : Fin 1024) : rowsR m c t (ix2 i l) = Ffn.res (arrays m c) (rowOf t i) l := by
  unfold rowsR Ffn.res rowOf
  rw [res_read, blk0]
  exact congrArg _ (Finset.sum_congr rfl fun k _ => by rw [blk2, blk4])

/-- The normalised rows of a grid point are the layer's, the sixteen before its own zero at a sequence's start. -/
theorem rowsN_read (p : Fin 528) (d : Fin 1024) :
    rowsN m c t (ix2 p d) = if p.val < 16 ∧ t.val % 4 = 0 then 0
      else Ffn.norm (Ffn.res (arrays m c) ⟨512 * t.val + p.val - 16, by have := lt32 t; omega⟩) (arrays m c).g d := by
  have ht := lt32 t
  have hg : (fun k => (iblk m c 5 t : Vec Ideal S1x1024 .f32) (ix2 0 k)) = (arrays m c).g := funext fun k => blk5 m c t k
  unfold rowsN normRows stack
  rw [coord]
  by_cases hp : p.val < 16
  · rw [dif_pos (show ((ix2 p d : S528x1024.Idx) 0).val < 16 from hp)]
    refine (halo_norm_read _ _ _ _ _ ⟨p.val, hp⟩ d).trans ?_
    rw [hg, atStart_eq ⟨t.val, ht⟩]
    by_cases h4 : t.val % 4 = 0
    · rw [if_pos h4, if_pos rfl, if_pos ⟨hp, h4⟩]
    · rw [if_neg h4, if_neg (by decide), if_neg fun h => h4 h.2]
      congr 1
      funext k
      unfold Ffn.res
      rw [halo_read, blk1]
      have e : (⟨(32 * t.val - 1) * 16 + p.val, by omega⟩ : Fin 16384) = ⟨512 * t.val + p.val - 16, by omega⟩ :=
        Fin.ext (by simp only; omega)
      rw [e]
      exact congrArg _ (Finset.sum_congr rfl fun k _ => by rw [blk3, blk4, e])
  · rw [dif_neg (show ¬((ix2 p d : S528x1024.Idx) 0).val < 16 from hp), if_neg fun h => hp h.1]
    refine (norm_read _ _ ⟨p.val - 16, by omega⟩ d).trans ?_
    rw [hg]
    congr 1
    funext k
    refine (rowsR_read m c t ⟨p.val - 16, by omega⟩ k).trans ?_
    exact congrArg (Ffn.res (arrays m c) · k) (Fin.ext (by simp only [rowOf]; omega))

/-- The hidden columns of a grid point are the layer's. -/
theorem up_eq (k : ℕ) (hk : k + 256 ≤ 5632) (p : Fin 528) (q : Fin 256) :
    up (rowsN m c t) (iblk m c 6 t) k (ix2 p q) = if p.val < 16 ∧ t.val % 4 = 0 then 0
      else Ffn.hidden (arrays m c) ⟨512 * t.val + p.val - 16, by have := lt32 t; omega⟩ ⟨k + q.val, by omega⟩ := by
  rw [up_read _ _ k hk]
  by_cases h : p.val < 16 ∧ t.val % 4 = 0
  · rw [if_pos h]
    exact Finset.sum_eq_zero fun d _ => by rw [rowsN_read, if_pos h, zero_mul]
  · rw [if_neg h]
    exact Finset.sum_congr rfl fun d _ => by rw [rowsN_read, if_neg h, blk6]

/-- The hidden columns `a` rows above a row of the grid point. -/
theorem up_before (k : ℕ) (hk : k + 256 ≤ 5632) (a : ℕ) (ha : a ≤ 2) (i : Fin 512) (p : Fin 528) (hp : p.val = 16 - a + i.val)
    (q : Fin 256) :
    up (rowsN m c t) (iblk m c 6 t) k (ix2 p q) = Ffn.before (arrays m c) (rowOf t i) a ⟨k + q.val, by omega⟩ := by
  have ht := lt32 t
  rw [up_eq _ _ _ k hk]
  unfold Ffn.before
  have hr : (rowOf t i).val = 512 * t.val + i.val := rfl
  by_cases h : p.val < 16 ∧ t.val % 4 = 0
  · rw [if_pos h, if_neg (by rw [hr]; omega)]
  · rw [if_neg h, if_pos (by rw [hr]; omega)]
    exact congrArg (Ffn.hidden (arrays m c) · _) (Fin.ext (by simp only [hr]; omega))

/-- The convolution of a grid point is the layer's. -/
theorem conv_eq (k : ℕ) (hk : k + 256 ≤ 5632) (i : Fin 512) (q : Fin 256) :
    conv (up (rowsN m c t) (iblk m c 6 t) k) (iblk m c 7 t) k (ix2 i q)
      = Ffn.conv (arrays m c) (rowOf t i) ⟨k + q.val, by omega⟩ := by
  rw [conv_read _ _ k hk, up_before m c t k hk 2 le_rfl i _ rfl, up_before m c t k hk 1 (by decide) i _ rfl,
    up_before m c t k hk 0 (by decide) i _ rfl, blk7, blk7, blk7]
  rfl

/-- A chunk's gated columns are the layer's. -/
theorem mid_eq (j : ℕ) (hj : j < 11) (i : Fin 512) (q : Fin 256) :
    mid (rowsN m c t) (iblk m c 6 t) (iblk m c 7 t) j (ix3 0 i q)
      = Ffn.gated (arrays m c) (rowOf t i) ⟨256 * j + q.val, by omega⟩ := by
  unfold mid Ffn.gated
  rw [gate_read, conv_eq m c t _ (by omega), conv_eq m c t _ (by omega)]
  exact congrArg (_ * Ffn.conv (arrays m c) _ ·) (Fin.ext (by simp only; omega))

/-- One term of the down product, or zero past its end. -/
def term (r : Fin 16384) (l : Fin 1024) (j : ℕ) : EReal :=
  if h : j < 2816 then Ffn.gated (arrays m c) r ⟨j, h⟩ * (arrays m c).wd ⟨j, h⟩ l else 0

/-- The first `n` chunks' down products. -/
theorem total_eq (i : Fin 512) (l : Fin 1024) : ∀ n, n ≤ 11 →
    total (rowsR m c t) (rowsN m c t) (iblk m c 6 t) (iblk m c 7 t) (iblk m c 8 t) n (ix2 i l)
      = Ffn.res (arrays m c) (rowOf t i) l + ∑ j ∈ Finset.range n, ∑ q : Fin 256, term m c (rowOf t i) l (j * 256 + q.val)
  | 0, _ => by rw [Finset.range_zero, Finset.sum_empty, add_zero]; exact rowsR_read m c t i l
  | n + 1, hn => by
    have h : (256 * n) % 2561 = n * 256 := by omega
    rw [total, down_read, total_eq i l n (by omega), Finset.sum_range_succ, add_assoc]
    congr 2
    refine Finset.sum_congr rfl fun q _ => ?_
    unfold term
    rw [mid_eq m c t n (by omega), dif_pos (by omega)]
    have e : (⟨256 * n + q.val, by omega⟩ : Fin 2816) = ⟨n * 256 + q.val, by omega⟩ := Fin.ext (by simp only; omega)
    rw [e, ← blk8 m c t]
    congr 1
    pointwise
    simp only [h]

/-- All chunks' down products: the layer's sum. -/
theorem total_all (i : Fin 512) (l : Fin 1024) :
    total (rowsR m c t) (rowsN m c t) (iblk m c 6 t) (iblk m c 7 t) (iblk m c 8 t) 11 (ix2 i l)
      = Ffn.sum (arrays m c) (rowOf t i) l := by
  rw [total_eq m c t i l 11 le_rfl, Ffn.sum, Finset.sum_range, Fin.sum_univ_tiles 11 256 rfl]
  refine congrArg _ (Finset.sum_congr rfl fun j _ => Finset.sum_congr rfl fun q _ => ?_)
  exact dif_pos (by omega)

/-- What a grid point leaves in its block of rows: the layer's rows. -/
theorem rows_read (i : Fin 512) (l : Fin 1024) :
    ((outsAt0 m c t).1 : Vec Ideal S512x1024 .f32) (ix2 i l) = Ffn.out (arrays m c) (rowOf t i) l := by
  rw [rows_eq]
  refine (last_norm_read _ _ i l).trans ?_
  unfold Ffn.out
  congr 1
  · exact funext fun k => total_all m c t i k
  · exact funext fun k => blk9 m c t k

/-- The hidden columns of one of a sequence's last eight rows. -/
def lastAt (A : Ffn.Arrays) (b i : Fin 8) (k : Fin 5632) : EReal := Ffn.hidden A ⟨b.val * 2048 + 2040 + i.val, by omega⟩ k

/-- What the last grid point of a sequence leaves in its block of last rows. -/
theorem last_read (h3 : t.val % 4 = 3) (i : Fin 8) (k : Fin 5632) :
    ((outsAt0 m c t).2 : Vec Ideal S1x8x5632 .f32) (ix3 0 i k)
      = lastAt (arrays m c) ⟨t.val / 4, by have := lt32 t; omega⟩ i k := by
  have ht := lt32 t
  unfold lastAt
  rw [last_eq]
  refine (up_eq m c t (k.val / 256 * 256) (by omega) ⟨520 + i.val, by omega⟩ ⟨k.val % 256, by omega⟩).trans ?_
  rw [if_neg fun h => absurd h.1 (by simp only; omega)]
  exact congrArg₂ (Ffn.hidden (arrays m c)) (Fin.ext (by simp only; omega)) (Fin.ext (by simp only; omega))

/-- The array of the layer's rows. -/
def rows (A : Ffn.Arrays) : FVec Ideal S16384x1024 .f32 := fun i => Ffn.out A (i 0) (i 1)

/-- The hidden columns of each sequence's last eight rows. -/
def lasts (A : Ffn.Arrays) : FVec Ideal S8x8x5632 .f32 := fun i => lastAt A (i 0) (i 1) (i 2)

/-- The kernel's first result array. -/
theorem final_rows : (dats m 0 c).arrAt 10 cfg0.N = rows (arrays m c) := by
  refine (dats m 0 c).arrAt_eq_of_covers 10 _ (by decide +kernel) fun t _ y => ?_
  blk_simp
  rw [after0_10]
  change S512x1024.Idx at y
  idx_vars y
  refine (rows_read m c t _ _).trans ?_
  refine congrArg₂ (Ffn.out (arrays m c)) (Fin.ext ?_) (Fin.ext ?_)
  · show 512 * t.val + y0.val = _
    blk_simp [idx t]
    omega
  · blk_simp [idx t]

/-- The last rows are written back at the last grid point of each sequence. -/
theorem flush_last : ∀ t : Fin cfg0.N, (cfg0.win 11).flush t = true → t.val % 4 = 3 :=
  (by decide +kernel : ∀ t : Fin grid0.N, win0_11.flush t = true → t.val % 4 = 3)

/-- The kernel's second result array. -/
theorem final_lasts : (dats m 0 c).arrAt 11 cfg0.N = lasts (arrays m c) := by
  refine (dats m 0 c).arrAt_eq_of_covers 11 _ (by decide +kernel) fun t hf y => ?_
  have h3 : t.val % 4 = 3 := flush_last t hf
  blk_simp
  rw [after0_11]
  change S1x8x5632.Idx at y
  idx_vars y
  obtain rfl : y0 = 0 := Subsingleton.elim _ _
  refine (last_read m c t h3 _ _).trans ?_
  unfold lasts
  have key : ∀ (b b' i i' : Fin 8) (k k' : Fin 5632), b.val = b'.val → i.val = i'.val → k.val = k'.val →
      lastAt (arrays m c) b i k = lastAt (arrays m c) b' i' k' := fun b b' i i' k k' h h' h'' => by
    rw [Fin.ext h, Fin.ext h', Fin.ext h'']
  refine key _ _ _ _ _ _ ?_ ?_ ?_
  · blk_simp [idx t]
    exact (Nat.add_zero _).symm
  · blk_simp [idx t]
  · blk_simp [idx t]
end Cert.Kernel2Ideal.Value
-- ==== Proof.FfnRef.lean ====
module
public import proofs.«01_k».proof.Proof.FfnSpec
public import proofs.«01_k».proof.Proof.Gen.Reference2Ideal.Run
public import Idealize.ShloMosaic.Lib.Pipeline.ValueKit

/-!
The feed-forward reference, step by step, and each step read at an index.
-/

@[expose] public section
set_option maxRecDepth 16384
noncomputable section
namespace Cert.Reference2Ideal.Value
open Cert.Reference2Ideal Cert.Reference2Ideal.Gen
open Idealize.ShloMosaic.Tactic
open Idealize.ShloMosaic Idealize.ShloMosaic.TcCoe Idealize.SL.Sem

/-- The residual rows with the heads' product added, by sequence. -/
def resid (x : FVec Ideal S16384x1024 .f32) (o : FVec Ideal S16384x256 .bf16) (w : FVec Ideal S256x1024 .bf16) :
    FVec Ideal S8x2048x1024 .f32 :=
  shapeCast _ (addf x (Host.dotGeneral dot_S16384x256_S256x1024_S16384x1024_1_0_0_1_n_n none
    (extf .f32 o bitsLt_bf16_f32) (extf .f32 w bitsLt_bf16_f32))) shapeCasts_S16384x1024_S8x2048x1024

/-- Each row's sum of squares. -/
def squares (r : FVec Ideal S8x2048x1024 .f32) : FVec Ideal S8x2048 .f32 :=
  Host.reduceAdd (mulf r r) (constant S_ .f32 0x00000000#32) reducesTo_S8x2048x1024_S8x2048_d2 h_S_

/-- The rows over the roots of their mean squares, times `g`. -/
def rms (r : FVec Ideal S8x2048x1024 .f32) (g : FVec Ideal S1024 .f32) : FVec Ideal S8x2048x1024 .f32 :=
  mulf (mulf r (broadcastInDim S8x2048x1024 ![0, 1, 2] bcast_S8x2048x1_S8x2048x1024_0_1_2
      (Host.rsqrt (addf (Host.divf (broadcastInDim S8x2048x1 ![0, 1] bcast_S8x2048_S8x2048x1_0_1 (squares r))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2 g))

/-- The hidden columns. -/
def hid (n : FVec Ideal S8x2048x1024 .f32) (w : FVec Ideal S4x1024x5632 .bf16) : FVec Ideal S8x2048x5632 .f32 :=
  Host.dotGeneral dot_S8x2048x1024_S1024x5632_S8x2048x5632_2_0_01_1_n_n none n
    (extf .f32 (shapeCast _ (extractStridedSlice S1x1024x5632 ![3, 0, 0] w slices_S4x1024x5632_S1x1024x5632_3_0_0)
      shapeCasts_S1x1024x5632_S1024x5632) bitsLt_bf16_f32)

/-- Two rows of zeros before each sequence's hidden columns. -/
def padded (u : FVec Ideal S8x2048x5632 .f32) : FVec Ideal S8x2050x5632 .f32 :=
  concatenate S8x2050x5632 1 [⟨S8x2x5632, (broadcastInDim S8x2x5632 ![] bcast_S_S8x2x5632 (constant S_ .f32 0x00000000#32))⟩,
    ⟨S8x2048x5632, u⟩] concatenates_S8x2x5632_S8x2048x5632_S8x2050x5632_d1

/-- A row of the convolution's weights, along the columns of every row. -/
def spread (w : FVec Ideal S1x5632 .f32) : FVec Ideal S8x2048x5632 .f32 :=
  broadcastInDim S8x2048x5632 ![0, 1, 2] bcast_S1x1x5632_S8x2048x5632_0_1_2
    (broadcastInDim S1x1x5632 ![2] bcast_S5632_S1x1x5632_2 (shapeCast _ w shapeCasts_S1x5632_S5632))

/-- The convolution down the rows. -/
def taps (p : FVec Ideal S8x2050x5632 .f32) (w : FVec Ideal S3x5632 .f32) : FVec Ideal S8x2048x5632 .f32 :=
  addf (addf (mulf (extractStridedSlice S8x2048x5632 ![0, 0, 0] p slices_S8x2050x5632_S8x2048x5632_0_0_0)
      (spread (extractStridedSlice S1x5632 ![0, 0] w slices_S3x5632_S1x5632_0_0)))
    (mulf (extractStridedSlice S8x2048x5632 ![0, 1, 0] p slices_S8x2050x5632_S8x2048x5632_0_1_0)
      (spread (extractStridedSlice S1x5632 ![1, 0] w slices_S3x5632_S1x5632_1_0))))
    (mulf (extractStridedSlice S8x2048x5632 ![0, 2, 0] p slices_S8x2050x5632_S8x2048x5632_0_2_0)
      (spread (extractStridedSlice S1x5632 ![2, 0] w slices_S3x5632_S1x5632_2_0)))

/-- The gated columns. -/
def gates (f : FVec Ideal S8x2048x5632 .f32) : FVec Ideal S8x2048x2816 .f32 :=
  let a : FVec Ideal S8x2048x2816 .f32 := extractStridedSlice S8x2048x2816 ![0, 0, 0] f slices_S8x2048x5632_S8x2048x2816_0_0_0
  let one : FVec Ideal S8x2048x2816 .f32 := broadcastInDim S8x2048x2816 ![] bcast_S_S8x2048x2816 (constant S_ .f32 0x3F800000#32)
  mulf (mulf a (Host.divf one (addf one (Host.exp (Host.negf a)))))
    (extractStridedSlice S8x2048x2816 ![0, 0, 2816] f slices_S8x2048x5632_S8x2048x2816_0_0_2816)

/-- The residual rows with the down product added. -/
def down (r : FVec Ideal S8x2048x1024 .f32) (h : FVec Ideal S8x2048x2816 .f32) (w : FVec Ideal S4x2816x1024 .bf16) :
    FVec Ideal S8x2048x1024 .f32 :=
  addf r (Host.dotGeneral dot_S8x2048x2816_S2816x1024_S8x2048x1024_2_0_01_1_n_n none h
    (extf .f32 (shapeCast _ (extractStridedSlice S1x2816x1024 ![3, 0, 0] w slices_S4x2816x1024_S1x2816x1024_3_0_0)
      shapeCasts_S1x2816x1024_S2816x1024) bitsLt_bf16_f32))

variable (m : (ℓ : Loc nD τ sig) → Buf (Elt Ideal) ℓ) (c : Dev nD)

/-- The reference's residual rows. -/
def refRes : FVec Ideal S8x2048x1024 .f32 :=
  resid (m ((c.tc : Thread nD τ).loc main_arg0)) (m ((c.tc : Thread nD τ).loc main_arg1)) (m ((c.tc : Thread nD τ).loc main_arg2))

/-- The reference's padded hidden columns. -/
def refPad : FVec Ideal S8x2050x5632 .f32 :=
  padded (hid (rms (refRes m c) (m ((c.tc : Thread nD τ).loc main_arg3))) (m ((c.tc : Thread nD τ).loc main_arg4)))

/-- The reference's rows before the last norm. -/
def refSum : FVec Ideal S8x2048x1024 .f32 :=
  down (refRes m c) (gates (taps (refPad m c) (m ((c.tc : Thread nD τ).loc main_arg5)))) (m ((c.tc : Thread nD τ).loc main_arg6))

set_option maxHeartbeats 4000000 in
/-- The reference's first result, by its steps. -/
theorem out_eq : res_out0 m c = shapeCast _ (rms (refSum m c) (m ((c.tc : Thread nD τ).loc main_arg7))) shapeCasts_S8x2048x1024_S16384x1024 := by
  show res_main_v66 m c = _
  unfold res_main_v66 rms refSum down gates taps spread refPad padded hid rms squares refRes resid
  rfl

/-- The residual rows at an index. -/
theorem resid_read (x : FVec Ideal S16384x1024 .f32) (o : FVec Ideal S16384x256 .bf16) (w : FVec Ideal S256x1024 .bf16)
    (b : Fin 8) (s : Fin 2048) (l : Fin 1024) :
    resid x o w (ix3 b s l) = x (ix2 ⟨b.val * 2048 + s.val, by omega⟩ l)
      + ∑ k : Fin 256, o (ix2 ⟨b.val * 2048 + s.val, by omega⟩ k) * w (ix2 k l) := by
  pointwise [resid]

/-- The normalised rows at an index. -/
theorem rms_read (r : FVec Ideal S8x2048x1024 .f32) (g : FVec Ideal S1024 .f32) (b : Fin 8) (s : Fin 2048) (l : Fin 1024) :
    rms r g (ix3 b s l) = Ffn.norm (fun k => r (ix3 b s k)) (fun k => g (ix1 k)) l := by
  unfold Ffn.norm
  pointwise [rms, squares]

/-- The hidden columns at an index. -/
theorem hid_read (n : FVec Ideal S8x2048x1024 .f32) (w : FVec Ideal S4x1024x5632 .bf16) (b : Fin 8) (s : Fin 2048) (k : Fin 5632) :
    hid n w (ix3 b s k) = ∑ d : Fin 1024, n (ix3 b s d) * w (ix3 3 d k) := by
  pointwise [hid]

/-- The padded columns at an index. -/
theorem padded_read (u : FVec Ideal S8x2048x5632 .f32) (b : Fin 8) (s : Fin 2050) (k : Fin 5632) :
    padded u (ix3 b s k) = if h : s.val < 2 then 0 else u (ix3 b ⟨s.val - 2, by omega⟩ k) := by
  pointwise [padded]

/-- The convolution at an index. -/
theorem taps_read (p : FVec Ideal S8x2050x5632 .f32) (w : FVec Ideal S3x5632 .f32) (b : Fin 8) (s : Fin 2048) (k : Fin 5632) :
    taps p w (ix3 b s k) = p (ix3 b ⟨s.val, by omega⟩ k) * w (ix2 0 k) + p (ix3 b ⟨1 + s.val, by omega⟩ k) * w (ix2 1 k)
      + p (ix3 b ⟨2 + s.val, by omega⟩ k) * w (ix2 2 k) := by
  pointwise [taps, spread]

/-- The gated columns at an index. -/
theorem gates_read (f : FVec Ideal S8x2048x5632 .f32) (b : Fin 8) (s : Fin 2048) (j : Fin 2816) :
    gates f (ix3 b s j) = Ffn.silu (f (ix3 b s ⟨j.val, by omega⟩)) * f (ix3 b s ⟨2816 + j.val, by omega⟩) := by
  unfold Ffn.silu
  pointwise [gates]

/-- The rows before the last norm at an index. -/
theorem down_read (r : FVec Ideal S8x2048x1024 .f32) (h : FVec Ideal S8x2048x2816 .f32) (w : FVec Ideal S4x2816x1024 .bf16)
    (b : Fin 8) (s : Fin 2048) (l : Fin 1024) :
    down r h w (ix3 b s l) = r (ix3 b s l) + ∑ j : Fin 2816, h (ix3 b s j) * w (ix3 3 j l) := by
  pointwise [down]

/-- The layer's arrays, from the reference's arguments. -/
def arrays : Ffn.Arrays where
  x r l := m ((c.tc : Thread nD τ).loc main_arg0) (ix2 r l)
  ox r k := m ((c.tc : Thread nD τ).loc main_arg1) (ix2 r k)
  wxo k l := m ((c.tc : Thread nD τ).loc main_arg2) (ix2 k l)
  g l := m ((c.tc : Thread nD τ).loc main_arg3) (ix1 l)
  wu d k := m ((c.tc : Thread nD τ).loc main_arg4) (ix3 3 d k)
  cw a k := m ((c.tc : Thread nD τ).loc main_arg5) (ix2 a k)
  wd j l := m ((c.tc : Thread nD τ).loc main_arg6) (ix3 3 j l)
  gf l := m ((c.tc : Thread nD τ).loc main_arg7) (ix1 l)

/-- Row `s` of sequence `b`, in the array. -/
def rowOf (b : Fin 8) (s : Fin 2048) : Fin 16384 := ⟨b.val * 2048 + s.val, by omega⟩

/-- The reference's residual rows are the layer's. -/
theorem refRes_eq (b : Fin 8) (s : Fin 2048) (l : Fin 1024) : refRes m c (ix3 b s l) = Ffn.res (arrays m c) (rowOf b s) l :=
  resid_read _ _ _ b s l

/-- The reference's padded hidden columns are the layer's, zero before a sequence's first row. -/
theorem refPad_eq (b : Fin 8) (s : Fin 2048) (a : ℕ) (ha : a ≤ 2) (p : Fin 2050) (hp : p.val + a = 2 + s.val) (k : Fin 5632) :
    refPad m c (ix3 b p k) = Ffn.before (arrays m c) (rowOf b s) a k := by
  have hr : (rowOf b s).val = b.val * 2048 + s.val := rfl
  unfold refPad Ffn.before
  rw [padded_read]
  by_cases h : p.val < 2
  · rw [dif_pos h, if_neg (by rw [hr]; omega)]
  · rw [dif_neg h, if_pos (by rw [hr]; omega), hid_read]
    unfold Ffn.hidden
    have e : (⟨(rowOf b s).val - a, by omega⟩ : Fin 16384) = rowOf b ⟨p.val - 2, by omega⟩ :=
      Fin.ext (by simp only [rowOf]; omega)
    rw [e]
    refine Finset.sum_congr rfl fun d _ => ?_
    rw [rms_read]
    exact congrArg (fun v => Ffn.norm v _ d * _) (funext fun l => refRes_eq m c b ⟨p.val - 2, by omega⟩ l)

/-- The reference's convolution is the layer's. -/
theorem refTaps_eq (b : Fin 8) (s : Fin 2048) (k : Fin 5632) :
    taps (refPad m c) (m ((c.tc : Thread nD τ).loc main_arg5)) (ix3 b s k) = Ffn.conv (arrays m c) (rowOf b s) k := by
  rw [taps_read, refPad_eq m c b s 2 le_rfl _ (by simp only; omega), refPad_eq m c b s 1 (by decide) _ (by simp only; omega),
    refPad_eq m c b s 0 (by decide) _ (by simp only; omega)]
  rfl

/-- The reference's rows before the last norm are the layer's. -/
theorem refSum_eq (b : Fin 8) (s : Fin 2048) (l : Fin 1024) : refSum m c (ix3 b s l) = Ffn.sum (arrays m c) (rowOf b s) l := by
  unfold refSum Ffn.sum
  rw [down_read, refRes_eq]
  refine congrArg _ (Finset.sum_congr rfl fun j _ => ?_)
  rw [gates_read, refTaps_eq, refTaps_eq]
  rfl

/-- The reference's first result at an index. -/
theorem out_read (r : Fin 16384) (l : Fin 1024) :
    (res_out0 m c : FVec Ideal S16384x1024 .f32) (ix2 r l) = Ffn.out (arrays m c) r l := by
  rw [out_eq]
  have e : rowOf ⟨r.val / 2048, by omega⟩ ⟨r.val % 2048, by omega⟩ = r := Fin.ext (by simp only [rowOf]; omega)
  have h : ∀ v : FVec Ideal S8x2048x1024 .f32, shapeCast S16384x1024 v shapeCasts_S8x2048x1024_S16384x1024 (ix2 r l)
      = v (ix3 ⟨r.val / 2048, by omega⟩ ⟨r.val % 2048, by omega⟩ l) := fun v => by pointwise
  rw [h, rms_read]
  unfold Ffn.out
  congr 1
  exact funext fun k => by rw [refSum_eq, e]

/-- The reference's second result at an index. -/
theorem last_read (b i : Fin 8) (k : Fin 5632) :
    extractStridedSlice S8x8x5632 ![0, 2042, 0] (refPad m c) slices_S8x2050x5632_S8x8x5632_0_2042_0 (ix3 b i k)
      = Ffn.hidden (arrays m c) ⟨b.val * 2048 + 2040 + i.val, by omega⟩ k := by
  have h : ∀ v : FVec Ideal S8x2050x5632 .f32,
      extractStridedSlice S8x8x5632 ![0, 2042, 0] v slices_S8x2050x5632_S8x8x5632_0_2042_0 (ix3 b i k)
      = v (ix3 b ⟨2042 + i.val, by omega⟩ k) := fun v => by pointwise
  rw [h, refPad_eq m c b ⟨2040 + i.val, by omega⟩ 0 (by decide) _ (by simp only; omega)]
  unfold Ffn.before
  rw [if_pos (Nat.zero_le _)]
  exact congrArg (Ffn.hidden (arrays m c) · k) (Fin.ext (by simp only [rowOf]; omega))
end Cert.Reference2Ideal.Value
-- ==== Proof.FeedForward.lean ====
module

public import proofs.«01_k».proof.Defs
public import proofs.«01_k».proof.Proof.Gen.Kernel2.Frame
public import proofs.«01_k».proof.Proof.FfnKernel
public import proofs.«01_k».proof.Proof.FfnRef
public import Idealize.ShloMosaic.Lib.Quiescent

/-!
The claims about the feed-forward layer: its frames, its named constant and its value.
-/

@[expose] public section
noncomputable section
namespace Cert.Proof.FeedForward
open Idealize.ShloMosaic Idealize.ShloMosaic.TcCoe Idealize.SL.Sem

/-- The kernel runs, keeps its arguments and leaves every semaphore at 0. -/
theorem frame_kernel : Cert.quiescent_Kernel2 := fun m ρ _ => Cert.Kernel2.Gen.frame m ρ

/-- So does its idealization. -/
theorem frame_ideal : Cert.quiescent_Kernel2Ideal := fun m ρ _ => Cert.Kernel2Ideal.Gen.frame m ρ

/-- The reference runs, keeps its arguments and has no semaphores. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The constant in the gate's power of two is -1/log 2. -/
theorem preserves : Cert.preserves_Kernel2_Kernel2Ideal := IdealRules.named_const.statement _ _ _ _ _ rfl

/-- The kernel's result arrays are the reference's. -/
theorem value : Cert.algebraic_Kernel2Ideal_Reference2Ideal := by
  intro m g m' g' _ hargs
  have harr : ∀ c, Cert.Reference2Ideal.Value.arrays m' c = Cert.Kernel2Ideal.Value.arrays m c := fun c => by
    obtain ⟨h0, h1, h2, h3, h4, h5, h6, h7⟩ := hargs c
    unfold Cert.Reference2Ideal.Value.arrays Cert.Kernel2Ideal.Value.arrays
    rw [h0, h1, h2, h3, h4, h5, h6, h7]
  refine ⟨fun c => Cert.Kernel2Ideal.Value.rows (Cert.Kernel2Ideal.Value.arrays m c),
    fun c => Cert.Kernel2Ideal.Value.lasts (Cert.Kernel2Ideal.Value.arrays m c),
    (θ_run Cert.Kernel2Ideal.defs _ _).mono (fun r h c => ?_) (Cert.Kernel2Ideal.Value.run_blocks m g),
    (θ_run Cert.Reference2Ideal.defs _ _).mono (fun r h c => ?_) (Cert.Reference2Ideal.Value.run m' g')⟩
  · exact ⟨(h c).1.trans (Cert.Kernel2Ideal.Value.final_rows m c), (h c).2.1.trans (Cert.Kernel2Ideal.Value.final_lasts m c), (h c).2.2⟩
  · refine ⟨(h c).1.trans ?_, (h c).2.1.trans ?_, (h c).2.2⟩
    · funext i
      change Cert.Kernel2Ideal.S16384x1024.Idx at i
      obtain ⟨r, l, rfl⟩ : ∃ (r : Fin 16384) (l : Fin 1024), i = ix2 r l := ⟨i 0, i 1, eq_ix2 i⟩
      exact (Cert.Reference2Ideal.Value.out_read m' c r l).trans (by rw [harr c]; rfl)
    · funext i
      change Cert.Kernel2Ideal.S8x8x5632.Idx at i
      obtain ⟨b, s, k, rfl⟩ : ∃ (b s : Fin 8) (k : Fin 5632), i = ix3 b s k := ⟨i 0, i 1, i 2, eq_ix3 i⟩
      exact (Cert.Reference2Ideal.Value.last_read m' c b s k).trans (by rw [harr c]; rfl)
end Cert.Proof.FeedForward
end
-- ==== Proof.ProjSpec.lean ====
module
public import proofs.«01_k».proof.Proof.FfnSpec

/-!
The projection at the head of a layer as a function of its arrays.

Each row is normalised and multiplied into the projected columns. The first 768 of these, queries and keys, are heads of
64 columns: the pair of columns `l` and `l + 32` of a head is turned by an angle of the row's place in its sequence.
-/

@[expose] public section
noncomputable section
namespace Cert.Proj
open Idealize.ShloMosaic

/-- The arrays of the projection: the rows by sequence, the norm's weights, the projection's weights and the angles. -/
structure Arrays (sequences places : ℕ) where
  /-- rows, by sequence and place -/
  x : Fin sequences → Fin places → Fin 1024 → EReal
  /-- the norm's weights -/
  g : Fin 1024 → EReal
  /-- the projection's weights -/
  w : Fin 1024 → Fin 2816 → EReal
  /-- the angle of a place and a pair of columns -/
  ang : Fin places → Fin 32 → EReal

/-- The other column of the pair a column belongs to. -/
def partner (c : ℕ) : ℕ := if c % 64 < 32 then c + 32 else c - 32

/-- Both columns of a pair lie in the same head. -/
theorem partner_lt {c n : ℕ} (h : c < n) (hn : n % 64 = 0) : partner c < n := by unfold partner; split <;> omega

/-- One entry of a pair turned by `a`: `y` is the entry, `z` the pair's other one, `first` says which of the two `y` is. -/
def turn (first : Prop) [Decidable first] (y z a : EReal) : EReal :=
  if first then y * Ideal.cos a - z * Ideal.sin a else y * Ideal.cos a + z * Ideal.sin a

variable {sequences places : ℕ} (A : Arrays sequences places)

/-- A projected column of a row. -/
def col (b : Fin sequences) (s : Fin places) (c : Fin 2816) : EReal := ∑ d, Ffn.norm (A.x b s) A.g d * A.w d c

/-- A column of a row: turned if it is a query's or a key's. -/
def out (b : Fin sequences) (s : Fin places) (c : Fin 2816) : EReal :=
  if c.val < 768 then
    turn (c.val % 64 < 32) (col A b s c) (col A b s ⟨partner c.val, partner_lt c.isLt rfl⟩) (A.ang s ⟨c.val % 32, by omega⟩)
  else col A b s c

/-- A column of the samples' row `r`, their rows counted through: 128 sequences of four rows each. -/
def sampleOut (A : Arrays 128 4) (r : Fin 512) (c : Fin 2816) : EReal := out A ⟨r.val / 4, by omega⟩ ⟨r.val % 4, by omega⟩ c

variable (A : Arrays 8 2048)

/-- A column of the prompts' row `r`, their rows counted through: eight sequences of 2048 rows each. -/
def rowOut (r : Fin 16384) (c : Fin 2816) : EReal := out A ⟨r.val / 2048, by omega⟩ ⟨r.val % 2048, by omega⟩ c

/-- A query's column of row `r`. -/
def queryOut (k : Fin 512) (r : Fin 16384) : EReal := rowOut A r ⟨k.val, by omega⟩

/-- A key's column. -/
def keyOut (b : Fin 8) (k : Fin 256) (s : Fin 2048) : EReal := out A b s ⟨512 + k.val, by omega⟩

/-- A value's column. -/
def valueOut (b : Fin 8) (k : Fin 256) (s : Fin 2048) : EReal := out A b s ⟨768 + k.val, by omega⟩

end Cert.Proj
-- ==== Proof.ProjTile.lean ====
module
public import proofs.«01_k».proof.Proof.FfnSpec
public import proofs.«01_k».proof.Proof.Gen.Kernel3Ideal.Value
public import Idealize.ShloMosaic.Lib.Pipeline.ValueKit
public import Idealize.ShloMosaic.Lib.Pipeline.ReadBack
public import Idealize.ShloMosaic.Lib.Pointwise

/-!
The projection kernel's values of one grid point, and each of them read at an index.
-/

@[expose] public section
set_option maxRecDepth 16384
noncomputable section
namespace Cert.Kernel3Ideal.Value
open Cert.Kernel3Ideal Cert.Kernel3Ideal.Gen
open Idealize.ShloMosaic.Tactic
open Idealize.ShloMosaic Idealize.ShloMosaic.TcCoe Idealize.SL.Sem

/-- The projected columns `c` to `c + 255` of a tile's rows. -/
def cols (xn : FVec Ideal S512x1024 .bf16) (w : Vec Ideal S1x1024x2816 .bf16) (c : ℕ) : FVec Ideal S512x256 .f32 :=
  k0_pay21 xn (View.ld w (Rect.unit ![0, 0, c % 2561] ![1, 1024, 256] (by intro a; fin_cases a <;> simp; omega)))

/-- Which columns stand in the first half of their head. -/
def firstHalf : IVec S512x256 1 := k0_pay11 k0_pay9 k0_pay10

/-- Four heads' columns turned by the angles of their rows, whose cosines and signed sines are given for two heads. -/
def turned (y : FVec Ideal S512x256 .f32) (co si : Vec Ideal S512x128 .f32) : FVec Ideal S512x256 .f32 :=
  k0_pay19 (k0_pay7 co) (k0_pay8 si) firstHalf y (dynamicRotate 1 224#32 none y rotates_S512x256_d1)
    (dynamicRotate 1 32#32 none y rotates_S512x256_d1)

/-- The normalised rows at an index. -/
theorem norm_read (x : Vec Ideal S512x1024 .f32) (g : Vec Ideal S1x1024 .f32) (i : Fin 512) (l : Fin 1024) :
    k0_pay6 x g (ix2 i l) = Ffn.norm (fun k => x (ix2 i k)) (fun k => g (ix2 0 k)) l := by
  unfold Ffn.norm
  pointwise [k0_pay6]

/-- The projected columns at an index. -/
theorem cols_read (xn : FVec Ideal S512x1024 .bf16) (w : Vec Ideal S1x1024x2816 .bf16) (c : ℕ) (hc : c + 256 ≤ 2816)
    (i : Fin 512) (q : Fin 256) :
    cols xn w c (ix2 i q) = ∑ d : Fin 1024, xn (ix2 i d) * w (ix3 0 d ⟨c + q.val, by omega⟩) := by
  have h : c % 2561 = c := Nat.mod_eq_of_lt (by omega)
  pointwise [cols, k0_pay21]
  simp only [h]

/-- The mask at an index. -/
theorem firstHalf_read (i : Fin 512) (q : Fin 256) : firstHalf (ix2 i q) = if q.val % 64 < 32 then 1#1 else 0#1 := by
  pointwise [firstHalf, k0_pay11, k0_pay9, k0_pay10]
  revert q
  decide +kernel

/-- The turned columns at an index. -/
theorem turned_read (y : FVec Ideal S512x256 .f32) (co si : Vec Ideal S512x128 .f32) (i : Fin 512) (q : Fin 256) :
    turned y co si (ix2 i q) = y (ix2 i q) * co (ix2 i ⟨q.val % 128, by omega⟩)
      + y (ix2 i ⟨(if q.val % 64 < 32 then q.val + 32 else q.val + 224) % 256, by omega⟩) * si (ix2 i ⟨q.val % 128, by omega⟩) := by
  have hm := firstHalf_read i q
  unfold turned
  generalize firstHalf = f at hm ⊢
  pointwise [k0_pay19, k0_pay7, k0_pay8]
  rw [hm]
  have e : ∀ (v : Vec Ideal S512x128 .f32), (if h : q.val < 128 then v (ix2 i ⟨q.val, h⟩) else v (ix2 i ⟨q.val - 128, by omega⟩))
      = v (ix2 i ⟨q.val % 128, by omega⟩) := fun v => by
    split
    · exact congrArg (fun k => v (ix2 i k)) (Fin.ext (by simp only; omega))
    · exact congrArg (fun k => v (ix2 i k)) (Fin.ext (by simp only; omega))
  rw [e, e]
  congr 2
  by_cases h : q.val % 64 < 32
  · rw [if_pos h, Scalar.select]
    exact congrArg (fun k => y (ix2 i k)) (Fin.ext (by simp only [if_pos h]; omega))
  · rw [if_neg h, Scalar.select]
    exact congrArg (fun k => y (ix2 i k)) (Fin.ext (by simp only [if_neg h]; omega))

/-- A block of plainly projected columns, or of turned ones. -/
def tile (xn : FVec Ideal S512x1024 .bf16) (w : Vec Ideal S1x1024x2816 .bf16) (co si : Vec Ideal S512x128 .f32) (c : ℕ) :
    FVec Ideal S512x256 .f32 :=
  if c < 768 then turned (cols xn w c) co si else cols xn w c

/-- The whole block of projected rows, its columns taken 256 at a time. -/
def rowsBlock (xn : FVec Ideal S512x1024 .bf16) (w : Vec Ideal S1x1024x2816 .bf16) (co si : Vec Ideal S512x128 .f32) :
    Vec Ideal S512x2816 .f32 :=
  fun j => tile xn w co si ((j 1).val / 256 * 256) (ix2 (j 0) ⟨(j 1).val % 256, Nat.mod_lt _ (by decide)⟩)

/-- The block of turned query columns, transposed. -/
def queryBlock (xn : FVec Ideal S512x1024 .bf16) (w : Vec Ideal S1x1024x2816 .bf16) (co si : Vec Ideal S512x128 .f32) :
    Vec Ideal S512x512 .f32 :=
  fun j => tile xn w co si ((j 0).val / 256 * 256) (ix2 (j 1) ⟨(j 0).val % 256, Nat.mod_lt _ (by decide)⟩)

/-- A stored block of columns is its part of the whole block. -/
theorem rowsBlock_piece (xn : FVec Ideal S512x1024 .bf16) (w : Vec Ideal S1x1024x2816 .bf16) (co si : Vec Ideal S512x128 .f32)
    (c : ℕ) (hc : c % 256 = 0) (inb) (x : (Rect.unit (s := S512x2816) ![0, c] ![512, 256] inb).shape.Idx) :
    tile xn w co si c x = rowsBlock xn w co si ((Rect.unit (s := S512x2816) ![0, c] ![512, 256] inb).emb x) := by
  obtain ⟨z, u, rfl⟩ : ∃ (z : Fin 512) (u : Fin 256), x = ix2 z u := ⟨x 0, x 1, eq_ix2 x⟩
  unfold rowsBlock
  have h1 : ((Rect.unit (s := S512x2816) ![0, c] ![512, 256] inb).emb (ix2 z u) 1).val = c + u.val := by
    simp [Rect.emb, Rect.unit]
  have h0 : ((Rect.unit (s := S512x2816) ![0, c] ![512, 256] inb).emb (ix2 z u) 0).val = z.val := by
    simp [Rect.emb, Rect.unit]
  have h3 : (c + u.val) / 256 * 256 = c := by omega
  have h4 : (c + u.val) % 256 = u.val := by omega
  simp only [h1, h3, h4]
  exact congrArg (fun k => tile xn w co si c (ix2 k u)) (Fin.ext h0.symm)

/-- A stored transposed block of columns is its part of the whole block of query columns. -/
theorem queryBlock_piece (xn : FVec Ideal S512x1024 .bf16) (w : Vec Ideal S1x1024x2816 .bf16) (co si : Vec Ideal S512x128 .f32)
    (c : ℕ) (hc : c % 256 = 0) (inb) (x : (Rect.unit (s := S512x512) ![c, 0] ![256, 512] inb).shape.Idx) :
    transpose S256x512 [1, 0] (tile xn w co si c) transposes_S512x256_p1_0_S256x512 x
      = queryBlock xn w co si ((Rect.unit (s := S512x512) ![c, 0] ![256, 512] inb).emb x) := by
  obtain ⟨u, z, rfl⟩ : ∃ (u : Fin 256) (z : Fin 512), x = ix2 u z := ⟨x 0, x 1, eq_ix2 x⟩
  have ht : ∀ v : FVec Ideal S512x256 .f32, transpose S256x512 [1, 0] v transposes_S512x256_p1_0_S256x512 (ix2 u z) = v (ix2 z u) :=
    fun v => by pointwise
  refine (ht _).trans ?_
  unfold queryBlock
  have h0 : ((Rect.unit (s := S512x512) ![c, 0] ![256, 512] inb).emb (ix2 u z) 0).val = c + u.val := by
    simp [Rect.emb, Rect.unit]
  have h1 : ((Rect.unit (s := S512x512) ![c, 0] ![256, 512] inb).emb (ix2 u z) 1).val = z.val := by
    simp [Rect.emb, Rect.unit]
  have h3 : (c + u.val) / 256 * 256 = c := by omega
  have h4 : (c + u.val) % 256 = u.val := by omega
  simp only [h0, h3, h4]
  exact congrArg (fun k => tile xn w co si c (ix2 k u)) (Fin.ext h1.symm)

/-- What a grid point leaves in its block of rows. -/
theorem rows_eq (x0 : Vec Ideal S512x1024 .f32) (x1 : Vec Ideal S1x1024 .f32) (x2 : Vec Ideal S1x1024x2816 .bf16)
    (x3 x4 : Vec Ideal S512x128 .f32) : out0_5 x0 x1 x2 x3 x4 = rowsBlock (k0_pay6 x0 x1) x2 x3 x4 := by
  unfold_out out0_5
  simp (disch := decide) only [r0_0, r0_1, r0_2, View.ld_unit_lit']
  funext y
  refine View.canon_apply_of_pieces _ _ (View.PiecesOf.mem ?_) y (cover0_5 _ _ _ _ _ _ _ _ _ _ _ y)
  repeat' constructor
  all_goals exact fun x => rowsBlock_piece (k0_pay6 x0 x1) x2 x3 x4 _ (by decide) (by decide) x

/-- What a grid point leaves in its block of query columns. -/
theorem query_eq (x0 : Vec Ideal S512x1024 .f32) (x1 : Vec Ideal S1x1024 .f32) (x2 : Vec Ideal S1x1024x2816 .bf16)
    (x3 x4 : Vec Ideal S512x128 .f32) : out0_6 x0 x1 x2 x3 x4 = queryBlock (k0_pay6 x0 x1) x2 x3 x4 := by
  unfold_out out0_6
  simp (disch := decide) only [r0_0, r0_1, r0_2, View.ld_unit_lit']
  funext y
  refine View.canon_apply_of_pieces _ _ (View.PiecesOf.mem ?_) y (cover0_6 _ _ y)
  repeat' constructor
  all_goals exact fun x => queryBlock_piece (k0_pay6 x0 x1) x2 x3 x4 _ (by decide) (by decide) x

/-- A tile's columns, transposed under a leading axis of one. -/
def columnsOf (v : FVec Ideal S512x256 .f32) : FVec Ideal S1x256x512 .f32 :=
  shapeCast S1x256x512 (transpose S256x512 [1, 0] v transposes_S512x256_p1_0_S256x512) shapeCasts_S256x512_S1x256x512

/-- The transposed columns at an index. -/
theorem columnsOf_read (v : FVec Ideal S512x256 .f32) (q : Fin 256) (i : Fin 512) : columnsOf v (ix3 0 q i) = v (ix2 i q) := by
  pointwise [columnsOf]

/-- What a grid point leaves in its block of key columns. -/
theorem key_eq (x0 : Vec Ideal S512x1024 .f32) (x1 : Vec Ideal S1x1024 .f32) (x2 : Vec Ideal S1x1024x2816 .bf16)
    (x3 x4 : Vec Ideal S512x128 .f32) : out0_7 x0 x1 x2 x3 x4 = columnsOf (tile (k0_pay6 x0 x1) x2 x3 x4 512) := by
  unfold_out out0_7
  simp (disch := decide) only [r0_0, r0_1, r0_2, r0_11, View.ld_unit_lit']
  rw [View.canon_cons_unit_lit _ _ _ (by decide)]
  rfl

/-- What a grid point leaves in its block of value columns. -/
theorem value_eq (x0 : Vec Ideal S512x1024 .f32) (x1 : Vec Ideal S1x1024 .f32) (x2 : Vec Ideal S1x1024x2816 .bf16)
    (x3 x4 : Vec Ideal S512x128 .f32) : out0_8 x0 x1 x2 x3 x4 = columnsOf (tile (k0_pay6 x0 x1) x2 x3 x4 768) := by
  unfold_out out0_8
  simp (disch := decide) only [r0_0, r0_1, r0_2, r0_11, View.ld_unit_lit']
  rw [View.canon_cons_unit_lit _ _ _ (by decide)]
  rfl

end Cert.Kernel3Ideal.Value
-- ==== Proof.ProjBlocks.lean ====
module
public import proofs.«01_k».proof.Proof.FfnSpec
public import proofs.«01_k».proof.Proof.Gen.Kernel3Ideal.Value
public import Idealize.ShloMosaic.Lib.Pipeline.ValueKit
public import Idealize.ShloMosaic.Lib.Pipeline.ReadBack
public import Idealize.ShloMosaic.Lib.Pointwise
public import Idealize.ShloMosaic.Lib.StableHlo.RunRead

/-!
The blocks a grid point of the projection kernel is given, read from the arguments.
-/

@[expose] public section
set_option maxRecDepth 16384
noncomputable section
namespace Cert.Kernel3Ideal.Value
open Cert.Kernel3Ideal Cert.Kernel3Ideal.Gen
open Idealize.ShloMosaic.Tactic
open Idealize.ShloMosaic Idealize.ShloMosaic.TcCoe Idealize.SL.Sem
variable (m : (ℓ : Loc nD τ sig) → Buf (Elt Ideal) ℓ)

/-- The windows' block indices at point `t`. -/
theorem idx : ∀ t : Fin cfg0.N, win0_0.index t = ![t.val, 0] ∧ win0_1.index t = ![0, 0] ∧
    win0_2.index t = ![0, 0, 0] ∧ win0_3.index t = ![t.val % 4, 0] ∧ win0_4.index t = ![t.val % 4, 0] ∧
    win0_5.index t = ![t.val, 0] ∧ win0_6.index t = ![0, t.val] ∧ win0_7.index t = ![t.val / 4, 0, t.val % 4] ∧
    win0_8.index t = ![t.val / 4, 0, t.val % 4] ∧ t.val < 32 :=
  (by decide +kernel : ∀ t : Fin grid0.N, win0_0.index t = ![t.val, 0] ∧ win0_1.index t = ![0, 0] ∧
    win0_2.index t = ![0, 0, 0] ∧ win0_3.index t = ![t.val % 4, 0] ∧ win0_4.index t = ![t.val % 4, 0] ∧
    win0_5.index t = ![t.val, 0] ∧ win0_6.index t = ![0, t.val] ∧ win0_7.index t = ![t.val / 4, 0, t.val % 4] ∧
    win0_8.index t = ![t.val / 4, 0, t.val % 4] ∧ t.val < 32)

/-- There are 32 grid points. -/
theorem lt32 (t : Fin cfg0.N) : t.val < 32 := (idx t).2.2.2.2.2.2.2.2.2

/-- The angle of every place in a sequence and every pair of a head's columns. -/
def angles : FVec Ideal S2048x32 .f32 :=
  mulf (broadcastInDim S2048x32 ![0, 1] bcast_S2048x1_S2048x32_0_1
      (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Four tables of 32 columns, side by side. -/
def beside (a b c d : FVec Ideal S2048x32 .f32) : FVec Ideal S2048x128 .f32 :=
  concatenate S2048x128 1 [⟨S2048x32, a⟩, ⟨S2048x32, b⟩, ⟨S2048x32, c⟩, ⟨S2048x32, d⟩]
    concatenates_S2048x32_S2048x32_S2048x32_S2048x32_S2048x128_d1

/-- Two heads' cosines. -/
def cosTab (a : FVec Ideal S2048x32 .f32) : FVec Ideal S2048x128 .f32 :=
  beside (Host.cos a) (Host.cos a) (Host.cos a) (Host.cos a)

/-- Two heads' sines, negated in the first half of a head. -/
def sinTab (a : FVec Ideal S2048x32 .f32) : FVec Ideal S2048x128 .f32 :=
  beside (Host.negf (Host.sin a)) (Host.sin a) (Host.negf (Host.sin a)) (Host.sin a)

/-- Four tables side by side, at an index. -/
theorem beside_read (a b c d : FVec Ideal S2048x32 .f32) (s : Fin 2048) (l : Fin 128) :
    beside a b c d (ix2 s l) = if l.val < 32 then a (ix2 s ⟨l.val % 32, by omega⟩)
      else if l.val < 64 then b (ix2 s ⟨l.val % 32, by omega⟩)
      else if l.val < 96 then c (ix2 s ⟨l.val % 32, by omega⟩) else d (ix2 s ⟨l.val % 32, by omega⟩) := by
  have e : ∀ (v : FVec Ideal S2048x32 .f32) (k k' : Fin 32), k.val = k'.val → v (ix2 s k) = v (ix2 s k') :=
    fun v k k' h => congrArg (fun k => v (ix2 s k)) (Fin.ext h)
  pointwise [beside]
  by_cases h1 : l.val < 32
  · refine (dif_pos h1).trans (Eq.trans ?_ (if_pos h1).symm)
    exact e a _ _ (show l.val = l.val % 32 by omega)
  refine (dif_neg h1).trans (Eq.trans ?_ (if_neg h1).symm)
  by_cases h2 : l.val < 64
  · refine (dif_pos (show l.val - 32 < 32 by omega)).trans (Eq.trans ?_ (if_pos h2).symm)
    exact e b _ _ (show l.val - 32 = l.val % 32 by omega)
  refine (dif_neg (show ¬l.val - 32 < 32 by omega)).trans (Eq.trans ?_ (if_neg h2).symm)
  by_cases h3 : l.val < 96
  · refine (dif_pos (show l.val - 32 - 32 < 32 by omega)).trans (Eq.trans ?_ (if_pos h3).symm)
    exact e c _ _ (show l.val - 32 - 32 = l.val % 32 by omega)
  refine (dif_neg (show ¬l.val - 32 - 32 < 32 by omega)).trans (Eq.trans ?_ (if_neg h3).symm)
  exact e d _ _ (show l.val - 32 - 32 - 32 = l.val % 32 by omega)

/-- The cosines at an index. -/
theorem cosTab_read (a : FVec Ideal S2048x32 .f32) (s : Fin 2048) (l : Fin 128) :
    cosTab a (ix2 s l) = Ideal.cos (a (ix2 s ⟨l.val % 32, by omega⟩)) := by
  unfold cosTab
  rw [beside_read]
  simp only [ite_self]
  rfl

/-- The sines at an index. -/
theorem sinTab_read (a : FVec Ideal S2048x32 .f32) (s : Fin 2048) (l : Fin 128) :
    sinTab a (ix2 s l) = if l.val % 64 < 32 then -Ideal.sin (a (ix2 s ⟨l.val % 32, by omega⟩))
      else Ideal.sin (a (ix2 s ⟨l.val % 32, by omega⟩)) := by
  unfold sinTab
  rw [beside_read]
  by_cases h : l.val % 64 < 32
  · rw [if_pos h]
    by_cases h1 : l.val < 32
    · rw [if_pos h1]; rfl
    · rw [if_neg h1, if_neg (by omega), if_pos (by omega)]; rfl
  · rw [if_neg h, if_neg (by omega)]
    by_cases h2 : l.val < 64
    · rw [if_pos h2]; rfl
    · rw [if_neg h2, if_neg (by omega)]; rfl

set_option maxHeartbeats 1000000 in
/-- The table of cosines the kernel is given. -/
theorem V_cos (c : Dev nD) : V m c main_v19 = cosTab angles := by
  have h17 : StableHlo.upto hostOps0 (fun b => m (c, b)) 21 (Proc.devRef .tc main_v17) = (Host.cos angles : FVec Ideal S2048x32 .f32) := by
    unfold StableHlo.upto
    simp only [List.take]
    after_results_simp
    rfl
  refine (StableHlo.after_last_write (i := 21) [main_v20, main_v21, main_v22] rfl rfl (by decide) _).trans ?_
  refine (StableHlo.nary4_result _ _ _ _).trans ?_
  show beside (StableHlo.upto hostOps0 (fun b => m (c, b)) 21 (Proc.devRef .tc main_v17))
    (StableHlo.upto hostOps0 (fun b => m (c, b)) 21 (Proc.devRef .tc main_v17))
    (StableHlo.upto hostOps0 (fun b => m (c, b)) 21 (Proc.devRef .tc main_v17))
    (StableHlo.upto hostOps0 (fun b => m (c, b)) 21 (Proc.devRef .tc main_v17)) = _
  rw [h17]
  rfl

set_option maxHeartbeats 1000000 in
/-- The table of sines the kernel is given. -/
theorem V_sin (c : Dev nD) : V m c main_v21 = sinTab angles := by
  have h18 : StableHlo.upto hostOps0 (fun b => m (c, b)) 23 (Proc.devRef .tc main_v18) = (Host.sin angles : FVec Ideal S2048x32 .f32) := by
    unfold StableHlo.upto
    simp only [List.take]
    after_results_simp
    rfl
  have h20 : StableHlo.upto hostOps0 (fun b => m (c, b)) 23 (Proc.devRef .tc main_v20)
      = (Host.negf (Host.sin angles) : FVec Ideal S2048x32 .f32) := by
    unfold StableHlo.upto
    simp only [List.take]
    after_results_simp
    rfl
  refine (StableHlo.after_last_write (i := 23) [main_v22] rfl rfl (by decide) _).trans ?_
  refine (StableHlo.nary4_result _ _ _ _).trans ?_
  show beside (StableHlo.upto hostOps0 (fun b => m (c, b)) 23 (Proc.devRef .tc main_v20))
    (StableHlo.upto hostOps0 (fun b => m (c, b)) 23 (Proc.devRef .tc main_v18))
    (StableHlo.upto hostOps0 (fun b => m (c, b)) 23 (Proc.devRef .tc main_v20))
    (StableHlo.upto hostOps0 (fun b => m (c, b)) 23 (Proc.devRef .tc main_v18)) = _
  rw [h18, h20]
  rfl

/-- The rows. -/
theorem blk0 (c : Dev nD) (t : Fin cfg0.N) (i : Fin 512) (l : Fin 1024) :
    (iblk m c 0 t : Vec Ideal S512x1024 .f32) (ix2 i l)
      = m ((c : Thread nD τ).loc main_arg0) (ix3 ⟨(512 * t.val + i.val) / 2048, by have := lt32 t; omega⟩ ⟨(512 * t.val + i.val) % 2048, by omega⟩ l) := by
  have h := idx t
  blk_point [iblk, V, h]

/-- The norm's weights. -/
theorem blk1 (c : Dev nD) (t : Fin cfg0.N) (l : Fin 1024) :
    (iblk m c 1 t : Vec Ideal S1x1024 .f32) (ix2 0 l) = m ((c : Thread nD τ).loc main_arg1) (ix2 0 l) := by
  have h := idx t
  blk_point [iblk, V, h]

/-- The weights. -/
theorem blk2 (c : Dev nD) (t : Fin cfg0.N) (d : Fin 1024) (k : Fin 2816) :
    (iblk m c 2 t : Vec Ideal S1x1024x2816 .bf16) (ix3 0 d k) = m ((c : Thread nD τ).loc main_arg2) (ix3 0 d k) := by
  have h := idx t
  blk_point [iblk, V, h]

/-- The cosines. -/
theorem blk3 (c : Dev nD) (t : Fin cfg0.N) (i : Fin 512) (l : Fin 128) :
    (iblk m c 3 t : Vec Ideal S512x128 .f32) (ix2 i l) = cosTab angles (ix2 ⟨512 * (t.val % 4) + i.val, by omega⟩ l) := by
  have h := idx t
  rw [← V_cos m c]
  blk_ext [iblk, h]

/-- The sines. -/
theorem blk4 (c : Dev nD) (t : Fin cfg0.N) (i : Fin 512) (l : Fin 128) :
    (iblk m c 4 t : Vec Ideal S512x128 .f32) (ix2 i l) = sinTab angles (ix2 ⟨512 * (t.val % 4) + i.val, by omega⟩ l) := by
  have h := idx t
  rw [← V_sin m c]
  blk_ext [iblk, h]
end Cert.Kernel3Ideal.Value
-- ==== Proof.ProjKernel.lean ====
module
public import proofs.«01_k».proof.Proof.ProjSpec
public import proofs.«01_k».proof.Proof.ProjTile
public import proofs.«01_k».proof.Proof.ProjBlocks

/-!
The projection kernel's four result arrays are the layer's columns, in the kernel's arrangements.
-/

@[expose] public section
set_option maxRecDepth 16384
noncomputable section
namespace Cert.Kernel3Ideal.Value
open Cert.Kernel3Ideal Cert.Kernel3Ideal.Gen
open Idealize.ShloMosaic.Tactic
open Idealize.ShloMosaic Idealize.ShloMosaic.TcCoe Idealize.SL.Sem
variable (m : (ℓ : Loc nD τ sig) → Buf (Elt Ideal) ℓ) (c : Dev nD) (t : Fin cfg0.N)

/-- The projection's arrays, from the kernel's arguments. -/
def arrays : Proj.Arrays 8 2048 where
  x b s l := m ((c : Thread nD τ).loc main_arg0) (ix3 b s l)
  g l := m ((c : Thread nD τ).loc main_arg1) (ix2 0 l)
  w d k := m ((c : Thread nD τ).loc main_arg2) (ix3 0 d k)
  ang s l := angles (ix2 s l)

/-- Row `i` of grid point `t`, the sequences' rows counted through. -/
def rowOf (i : Fin 512) : Fin 16384 := ⟨512 * t.val + i.val, by have := lt32 t; omega⟩

/-- A grid point's plainly projected columns are the layer's. -/
theorem cols_eq (k : ℕ) (hk : k + 256 ≤ 2816) (i : Fin 512) (q : Fin 256) :
    cols (k0_pay6 (iblk m c 0 t) (iblk m c 1 t)) (iblk m c 2 t) k (ix2 i q)
      = Proj.col (arrays m c) ⟨(rowOf t i).val / 2048, by omega⟩ ⟨(rowOf t i).val % 2048, by omega⟩ ⟨k + q.val, by omega⟩ := by
  rw [cols_read _ _ k hk]
  unfold Proj.col
  refine Finset.sum_congr rfl fun d _ => ?_
  rw [norm_read, blk2]
  refine congrArg₂ (fun u v => Ffn.norm u v d * _) (funext fun l => ?_) (funext fun l => ?_)
  · exact blk0 m c t i l
  · exact blk1 m c t l

/-- A grid point's columns are the layer's. -/
theorem tile_eq (k : ℕ) (h256 : k % 256 = 0) (hk : k + 256 ≤ 2816) (i : Fin 512) (q : Fin 256) :
    tile (k0_pay6 (iblk m c 0 t) (iblk m c 1 t)) (iblk m c 2 t) (iblk m c 3 t) (iblk m c 4 t) k (ix2 i q)
      = Proj.rowOut (arrays m c) (rowOf t i) ⟨k + q.val, by omega⟩ := by
  unfold tile Proj.rowOut Proj.out
  by_cases h : k < 768
  · rw [if_pos h, if_pos (show k + q.val < 768 by omega), turned_read, cols_eq m c t k hk, cols_eq m c t k hk, blk3, blk4,
      cosTab_read, sinTab_read]
    have ea : ∀ (u u' : Fin 2048) (v v' : Fin 32), u.val = u'.val → v.val = v'.val → angles (ix2 u v) = angles (ix2 u' v') :=
      fun u u' v v' h h' => by rw [Fin.ext h, Fin.ext h']
    have hang : angles (ix2 ⟨512 * (t.val % 4) + i.val, by omega⟩ ⟨q.val % 128 % 32, by omega⟩)
        = (arrays m c).ang ⟨(rowOf t i).val % 2048, by omega⟩ ⟨(k + q.val) % 32, by omega⟩ :=
      ea _ _ _ _ (by simp only [rowOf]; omega) (by simp only; omega)
    have hpart : k + (if q.val % 64 < 32 then q.val + 32 else q.val + 224) % 256 = Proj.partner (k + q.val) := by
      unfold Proj.partner
      split <;> split <;> omega
    have hq : (q.val % 128) % 64 = q.val % 64 := by omega
    have hkq : (k + q.val) % 64 = q.val % 64 := by omega
    simp only [hq, hkq, hpart, hang]
    unfold Proj.turn
    by_cases h2 : q.val % 64 < 32
    · simp only [if_pos h2, sub_eq_add_neg, ← mul_neg]
    · simp only [if_neg h2]
  · rw [if_neg h, if_neg (show ¬k + q.val < 768 by omega), cols_eq m c t k hk]

/-- What a grid point leaves in its block of rows. -/
theorem rows_read (i : Fin 512) (k : Fin 2816) :
    (out0_5 (iblk m c 0 t) (iblk m c 1 t) (iblk m c 2 t) (iblk m c 3 t) (iblk m c 4 t) : Vec Ideal S512x2816 .f32) (ix2 i k)
      = Proj.rowOut (arrays m c) (rowOf t i) k := by
  rw [rows_eq]
  refine (tile_eq m c t (k.val / 256 * 256) (by omega) (by omega) i ⟨k.val % 256, by omega⟩).trans ?_
  exact congrArg (Proj.rowOut (arrays m c) (rowOf t i)) (Fin.ext (by simp only; omega))

/-- What a grid point leaves in its block of query columns. -/
theorem query_read (k i : Fin 512) :
    (out0_6 (iblk m c 0 t) (iblk m c 1 t) (iblk m c 2 t) (iblk m c 3 t) (iblk m c 4 t) : Vec Ideal S512x512 .f32) (ix2 k i)
      = Proj.queryOut (arrays m c) k (rowOf t i) := by
  rw [query_eq]
  refine (tile_eq m c t (k.val / 256 * 256) (by omega) (by omega) i ⟨k.val % 256, by omega⟩).trans ?_
  exact congrArg (Proj.rowOut (arrays m c) (rowOf t i)) (Fin.ext (by simp only; omega))

/-- The sequence of a grid point. -/
def seqOf : Fin 8 := ⟨t.val / 4, by have := lt32 t; omega⟩

/-- The place of a grid point's row in its sequence. -/
def placeOf (i : Fin 512) : Fin 2048 := ⟨t.val % 4 * 512 + i.val, by omega⟩

/-- A row's column, by the row's sequence and place. -/
theorem rowOut_eq (i : Fin 512) (k : Fin 2816) :
    Proj.rowOut (arrays m c) (rowOf t i) k = Proj.out (arrays m c) (seqOf t) (placeOf t i) k := by
  unfold Proj.rowOut
  exact congrArg₂ (Proj.out (arrays m c) · · k) (Fin.ext (by simp only [rowOf, seqOf]; omega))
    (Fin.ext (by simp only [rowOf, placeOf]; omega))

/-- What a grid point leaves in its block of key columns. -/
theorem key_read (k : Fin 256) (i : Fin 512) :
    (out0_7 (iblk m c 0 t) (iblk m c 1 t) (iblk m c 2 t) (iblk m c 3 t) (iblk m c 4 t) : Vec Ideal S1x256x512 .f32) (ix3 0 k i)
      = Proj.keyOut (arrays m c) (seqOf t) k (placeOf t i) := by
  rw [key_eq, columnsOf_read, tile_eq m c t 512 rfl (by decide), rowOut_eq]
  rfl

/-- What a grid point leaves in its block of value columns. -/
theorem value_read (k : Fin 256) (i : Fin 512) :
    (out0_8 (iblk m c 0 t) (iblk m c 1 t) (iblk m c 2 t) (iblk m c 3 t) (iblk m c 4 t) : Vec Ideal S1x256x512 .f32) (ix3 0 k i)
      = Proj.valueOut (arrays m c) (seqOf t) k (placeOf t i) := by
  rw [value_eq, columnsOf_read, tile_eq m c t 768 rfl (by decide), rowOut_eq]
  rfl

/-- The array of the layer's rows. -/
def rows (A : Proj.Arrays 8 2048) : FVec Ideal S16384x2816 .f32 := fun i => Proj.rowOut A (i 0) (i 1)

/-- The array of the layer's query columns. -/
def queries (A : Proj.Arrays 8 2048) : FVec Ideal S512x16384 .f32 := fun i => Proj.queryOut A (i 0) (i 1)

/-- The array of the layer's key columns. -/
def keys (A : Proj.Arrays 8 2048) : FVec Ideal S8x256x2048 .f32 := fun i => Proj.keyOut A (i 0) (i 1) (i 2)

/-- The array of the layer's value columns. -/
def values (A : Proj.Arrays 8 2048) : FVec Ideal S8x256x2048 .f32 := fun i => Proj.valueOut A (i 0) (i 1) (i 2)

/-- The kernel's first result array. -/
theorem final_rows : (dats m 0 c).arrAt 5 cfg0.N = rows (arrays m c) := by
  refine (dats m 0 c).arrAt_eq_of_covers 5 _ (by decide +kernel) fun t _ y => ?_
  blk_simp
  rw [after0_5]
  change S512x2816.Idx at y
  idx_vars y
  refine (rows_read m c t _ _).trans ?_
  refine congrArg₂ (Proj.rowOut (arrays m c)) (Fin.ext ?_) (Fin.ext ?_)
  · show 512 * t.val + y0.val = _
    blk_simp [idx t]
    omega
  · blk_simp [idx t]

/-- The kernel's second result array. -/
theorem final_queries : (dats m 0 c).arrAt 6 cfg0.N = queries (arrays m c) := by
  refine (dats m 0 c).arrAt_eq_of_covers 6 _ (by decide +kernel) fun t _ y => ?_
  blk_simp
  rw [after0_6]
  change S512x512.Idx at y
  idx_vars y
  refine (query_read m c t _ _).trans ?_
  refine congrArg₂ (Proj.queryOut (arrays m c)) (Fin.ext ?_) (Fin.ext ?_)
  · blk_simp [idx t]
  · show 512 * t.val + y1.val = _
    blk_simp [idx t]
    omega

/-- The kernel's third result array. -/
theorem final_keys : (dats m 0 c).arrAt 7 cfg0.N = keys (arrays m c) := by
  refine (dats m 0 c).arrAt_eq_of_covers 7 _ (by decide +kernel) fun t _ y => ?_
  blk_simp
  rw [after0_7]
  change S1x256x512.Idx at y
  idx_vars y
  obtain rfl : y0 = 0 := Subsingleton.elim _ _
  refine (key_read m c t _ _).trans ?_
  unfold keys
  have same : ∀ (b b' : Fin 8) (k k' : Fin 256) (s s' : Fin 2048), b.val = b'.val → k.val = k'.val → s.val = s'.val →
      Proj.keyOut (arrays m c) b k s = Proj.keyOut (arrays m c) b' k' s' := fun b b' k k' s s' h h' h'' => by
    rw [Fin.ext h, Fin.ext h', Fin.ext h'']
  refine same _ _ _ _ _ _ ?_ ?_ ?_
  · show t.val / 4 = _
    blk_simp [idx t]
    exact (Nat.add_zero _).symm
  · blk_simp [idx t]
  · show t.val % 4 * 512 + y2.val = _
    blk_simp [idx t]

/-- The kernel's fourth result array. -/
theorem final_values : (dats m 0 c).arrAt 8 cfg0.N = values (arrays m c) := by
  refine (dats m 0 c).arrAt_eq_of_covers 8 _ (by decide +kernel) fun t _ y => ?_
  blk_simp
  rw [after0_8]
  change S1x256x512.Idx at y
  idx_vars y
  obtain rfl : y0 = 0 := Subsingleton.elim _ _
  refine (value_read m c t _ _).trans ?_
  unfold values
  have same : ∀ (b b' : Fin 8) (k k' : Fin 256) (s s' : Fin 2048), b.val = b'.val → k.val = k'.val → s.val = s'.val →
      Proj.valueOut (arrays m c) b k s = Proj.valueOut (arrays m c) b' k' s' := fun b b' k k' s s' h h' h'' => by
    rw [Fin.ext h, Fin.ext h', Fin.ext h'']
  refine same _ _ _ _ _ _ ?_ ?_ ?_
  · show t.val / 4 = _
    blk_simp [idx t]
    exact (Nat.add_zero _).symm
  · blk_simp [idx t]
  · show t.val % 4 * 512 + y2.val = _
    blk_simp [idx t]
end Cert.Kernel3Ideal.Value
-- ==== Proof.ProjRef.lean ====
module
public import proofs.«01_k».proof.Proof.ProjSpec
public import proofs.«01_k».proof.Proof.Gen.Reference3Ideal.Run
public import Idealize.ShloMosaic.Lib.Pipeline.ValueKit

/-!
The projection's reference, step by step, and each step read at an index.
-/

@[expose] public section
set_option maxRecDepth 16384
noncomputable section
namespace Cert.Reference3Ideal.Value
open Cert.Reference3Ideal Cert.Reference3Ideal.Gen
open Idealize.ShloMosaic.Tactic
open Idealize.ShloMosaic Idealize.ShloMosaic.TcCoe Idealize.SL.Sem

/-- The rows over the roots of their mean squares, times the first layer's weights. -/
def rms (x : FVec Ideal S8x2048x1024 .f32) (g : FVec Ideal S4x1024 .f32) : FVec Ideal S8x2048x1024 .f32 :=
  mulf (mulf x (broadcastInDim S8x2048x1024 ![0, 1, 2] bcast_S8x2048x1_S8x2048x1024_0_1_2
      (Host.rsqrt (addf (Host.divf (broadcastInDim S8x2048x1 ![0, 1] bcast_S8x2048_S8x2048x1_0_1
          (Host.reduceAdd (mulf x x) (constant S_ .f32 0x00000000#32) reducesTo_S8x2048x1024_S8x2048_d2 h_S_))
        (broadcastInDim S8x2048x1 ![] bcast_S_S8x2048x1 (constant S_ .f32 0x44800000#32)))
        (broadcastInDim S8x2048x1 ![] bcast_S_S8x2048x1 (constant S_ .f32 0x358637BD#32))))))
    (broadcastInDim S8x2048x1024 ![0, 1, 2] bcast_S1x1x1024_S8x2048x1024_0_1_2
      (broadcastInDim S1x1x1024 ![2] bcast_S1024_S1x1x1024_2
        (shapeCast _ (extractStridedSlice S1x1024 ![0, 0] g slices_S4x1024_S1x1024_0_0) shapeCasts_S1x1024_S1024)))

/-- The projected columns. -/
def proj (n : FVec Ideal S8x2048x1024 .f32) (w : FVec Ideal S4x1024x2816 .f32) : FVec Ideal S8x2048x2816 .f32 :=
  Host.dotGeneral dot_S8x2048x1024_S1024x2816_S8x2048x2816_2_0_01_1_n_n none n
    (shapeCast _ (extractStridedSlice S1x1024x2816 ![0, 0, 0] w slices_S4x1024x2816_S1x1024x2816_0_0_0)
      shapeCasts_S1x1024x2816_S1024x2816)

/-- The angle of every place in a sequence and every pair of a head's columns. -/
def angles : FVec Ideal S2048x32 .f32 :=
  mulf (broadcastInDim S2048x32 ![0, 1] bcast_S2048x1_S2048x32_0_1
      (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of every place and pair, for eight heads. -/
def table8 (v : FVec Ideal S2048x32 .f32) : FVec Ideal S8x2048x8x32 .f32 :=
  broadcastInDim S8x2048x8x32 ![0, 1, 2, 3] bcast_S1x2048x1x32_S8x2048x8x32_0_1_2_3
    (broadcastInDim S1x2048x1x32 ![1, 3] bcast_S2048x32_S1x2048x1x32_1_3 v)

/-- A table of every place and pair, for four heads. -/
def table4 (v : FVec Ideal S2048x32 .f32) : FVec Ideal S8x2048x4x32 .f32 :=
  broadcastInDim S8x2048x4x32 ![0, 1, 2, 3] bcast_S1x2048x1x32_S8x2048x4x32_0_1_2_3
    (broadcastInDim S1x2048x1x32 ![1, 3] bcast_S2048x32_S1x2048x1x32_1_3 v)

/-- Eight heads' columns turned. -/
def turn8 (v : FVec Ideal S8x2048x512 .f32) (a : FVec Ideal S2048x32 .f32) : FVec Ideal S8x2048x512 .f32 :=
  let h : FVec Ideal S8x2048x8x64 .f32 := shapeCast _ v shapeCasts_S8x2048x512_S8x2048x8x64
  let y : FVec Ideal S8x2048x8x32 .f32 := extractStridedSlice S8x2048x8x32 ![0, 0, 0, 0] h slices_S8x2048x8x64_S8x2048x8x32_0_0_0_0
  let z : FVec Ideal S8x2048x8x32 .f32 := extractStridedSlice S8x2048x8x32 ![0, 0, 0, 32] h slices_S8x2048x8x64_S8x2048x8x32_0_0_0_32
  shapeCast _ (concatenate S8x2048x8x64 3
      [⟨S8x2048x8x32, (subf (mulf y (table8 (Host.cos a))) (mulf z (table8 (Host.sin a))))⟩,
       ⟨S8x2048x8x32, (addf (mulf z (table8 (Host.cos a))) (mulf y (table8 (Host.sin a))))⟩]
      concatenates_S8x2048x8x32_S8x2048x8x32_S8x2048x8x64_d3) shapeCasts_S8x2048x8x64_S8x2048x512

/-- Four heads' columns turned. -/
def turn4 (v : FVec Ideal S8x2048x256 .f32) (a : FVec Ideal S2048x32 .f32) : FVec Ideal S8x2048x256 .f32 :=
  let h : FVec Ideal S8x2048x4x64 .f32 := shapeCast _ v shapeCasts_S8x2048x256_S8x2048x4x64
  let y : FVec Ideal S8x2048x4x32 .f32 := extractStridedSlice S8x2048x4x32 ![0, 0, 0, 0] h slices_S8x2048x4x64_S8x2048x4x32_0_0_0_0
  let z : FVec Ideal S8x2048x4x32 .f32 := extractStridedSlice S8x2048x4x32 ![0, 0, 0, 32] h slices_S8x2048x4x64_S8x2048x4x32_0_0_0_32
  shapeCast _ (concatenate S8x2048x4x64 3
      [⟨S8x2048x4x32, (subf (mulf y (table4 (Host.cos a))) (mulf z (table4 (Host.sin a))))⟩,
       ⟨S8x2048x4x32, (addf (mulf z (table4 (Host.cos a))) (mulf y (table4 (Host.sin a))))⟩]
      concatenates_S8x2048x4x32_S8x2048x4x32_S8x2048x4x64_d3) shapeCasts_S8x2048x4x64_S8x2048x256

/-- The queries. -/
def query (p : FVec Ideal S8x2048x2816 .f32) : FVec Ideal S8x2048x512 .f32 :=
  turn8 (extractStridedSlice S8x2048x512 ![0, 0, 0] p slices_S8x2048x2816_S8x2048x512_0_0_0) angles

/-- The keys. -/
def key (p : FVec Ideal S8x2048x2816 .f32) : FVec Ideal S8x2048x256 .f32 :=
  turn4 (extractStridedSlice S8x2048x256 ![0, 0, 512] p slices_S8x2048x2816_S8x2048x256_0_0_512) angles

/-- The values. -/
def val (p : FVec Ideal S8x2048x2816 .f32) : FVec Ideal S8x2048x256 .f32 :=
  extractStridedSlice S8x2048x256 ![0, 0, 768] p slices_S8x2048x2816_S8x2048x256_0_0_768

/-- Queries, keys, values and the other columns side by side. -/
def whole (p : FVec Ideal S8x2048x2816 .f32) : FVec Ideal S8x2048x2816 .f32 :=
  concatenate S8x2048x2816 2 [⟨S8x2048x512, query p⟩, ⟨S8x2048x256, key p⟩, ⟨S8x2048x256, val p⟩,
      ⟨S8x2048x1792, extractStridedSlice S8x2048x1792 ![0, 0, 1024] p slices_S8x2048x2816_S8x2048x1792_0_0_1024⟩]
    concatenates_S8x2048x512_S8x2048x256_S8x2048x256_S8x2048x1792_S8x2048x2816_d2

variable (m : (ℓ : Loc nD τ sig) → Buf (Elt Ideal) ℓ) (c : Dev nD)

/-- The reference's projected columns. -/
def refProj : FVec Ideal S8x2048x2816 .f32 :=
  proj (rms (m ((c.tc : Thread nD τ).loc main_arg0)) (m ((c.tc : Thread nD τ).loc main_arg1))) (m ((c.tc : Thread nD τ).loc main_arg2))

set_option maxHeartbeats 4000000 in
/-- The reference's first result, by its steps. -/
theorem rows_eq : res_out0 m c = shapeCast _ (whole (refProj m c)) shapeCasts_S8x2048x2816_S16384x2816 := by
  show res_main_v86 m c = _
  unfold res_main_v86 whole query key val turn8 turn4 table8 table4 angles refProj proj rms
  rfl

set_option maxHeartbeats 4000000 in
/-- The reference's second result, by its steps. -/
theorem query_eq : res_out1 m c = transpose S512x16384 [1, 0] (shapeCast _ (query (refProj m c)) shapeCasts_S8x2048x512_S16384x512)
    transposes_S16384x512_S512x16384_1_0 := by
  show res_main_v88 m c = _
  unfold res_main_v88 query turn8 table8 angles refProj proj rms
  rfl

set_option maxHeartbeats 4000000 in
/-- The reference's third result, by its steps. -/
theorem key_eq : res_out2 m c = transpose S8x256x2048 [0, 2, 1] (key (refProj m c)) transposes_S8x2048x256_S8x256x2048_0_2_1 := by
  show res_main_v89 m c = _
  unfold res_main_v89 key turn4 table4 angles refProj proj rms
  rfl

/-- The normalised rows at an index. -/
theorem rms_read (x : FVec Ideal S8x2048x1024 .f32) (g : FVec Ideal S4x1024 .f32) (b : Fin 8) (s : Fin 2048) (l : Fin 1024) :
    rms x g (ix3 b s l) = Ffn.norm (fun k => x (ix3 b s k)) (fun k => g (ix2 0 k)) l := by
  unfold Ffn.norm
  pointwise [rms]

/-- The projected columns at an index. -/
theorem proj_read (n : FVec Ideal S8x2048x1024 .f32) (w : FVec Ideal S4x1024x2816 .f32) (b : Fin 8) (s : Fin 2048) (k : Fin 2816) :
    proj n w (ix3 b s k) = ∑ d : Fin 1024, n (ix3 b s d) * w (ix3 0 d k) := by
  pointwise [proj]

/-- Eight heads' turned columns at an index. -/
theorem turn8_read (v : FVec Ideal S8x2048x512 .f32) (a : FVec Ideal S2048x32 .f32) (b : Fin 8) (s : Fin 2048) (k : Fin 512) :
    turn8 v a (ix3 b s k) = Proj.turn (k.val % 64 < 32) (v (ix3 b s k)) (v (ix3 b s ⟨Proj.partner k.val, Proj.partner_lt k.isLt rfl⟩))
      (a (ix2 s ⟨k.val % 32, by omega⟩)) := by
  have ev : ∀ k k' : Fin 512, k.val = k'.val → v (ix3 b s k) = v (ix3 b s k') := fun k k' h => congrArg (fun k => v (ix3 b s k)) (Fin.ext h)
  have ea : ∀ k k' : Fin 32, k.val = k'.val → a (ix2 s k) = a (ix2 s k') := fun k k' h => congrArg (fun k => a (ix2 s k)) (Fin.ext h)
  pointwise [turn8, table8]
  unfold Proj.turn
  by_cases h : k.val % 64 < 32
  · refine (dif_pos h).trans (Eq.trans ?_ (if_pos h).symm)
    have hp : Proj.partner k.val = k.val + 32 := if_pos h
    rw [ea ⟨k.val % 64, h⟩ ⟨k.val % 32, by omega⟩ (by simp only; omega),
      ev ⟨k.val / 64 * 64 + (32 + k.val % 64), by omega⟩ ⟨Proj.partner k.val, Proj.partner_lt k.isLt rfl⟩ (by simp only [hp]; omega)]
  · refine (dif_neg h).trans (Eq.trans ?_ (if_neg h).symm)
    have hp : Proj.partner k.val = k.val - 32 := if_neg h
    rw [ea ⟨k.val % 64 - 32, by omega⟩ ⟨k.val % 32, by omega⟩ (by simp only; omega),
      ev ⟨k.val / 64 * 64 + (32 + (k.val % 64 - 32)), by omega⟩ k (by simp only; omega),
      ev ⟨k.val / 64 * 64 + (k.val % 64 - 32), by omega⟩ ⟨Proj.partner k.val, Proj.partner_lt k.isLt rfl⟩ (by simp only [hp]; omega)]

/-- Four heads' turned columns at an index. -/
theorem turn4_read (v : FVec Ideal S8x2048x256 .f32) (a : FVec Ideal S2048x32 .f32) (b : Fin 8) (s : Fin 2048) (k : Fin 256) :
    turn4 v a (ix3 b s k) = Proj.turn (k.val % 64 < 32) (v (ix3 b s k)) (v (ix3 b s ⟨Proj.partner k.val, Proj.partner_lt k.isLt rfl⟩))
      (a (ix2 s ⟨k.val % 32, by omega⟩)) := by
  have ev : ∀ k k' : Fin 256, k.val = k'.val → v (ix3 b s k) = v (ix3 b s k') := fun k k' h => congrArg (fun k => v (ix3 b s k)) (Fin.ext h)
  have ea : ∀ k k' : Fin 32, k.val = k'.val → a (ix2 s k) = a (ix2 s k') := fun k k' h => congrArg (fun k => a (ix2 s k)) (Fin.ext h)
  pointwise [turn4, table4]
  unfold Proj.turn
  by_cases h : k.val % 64 < 32
  · refine (dif_pos h).trans (Eq.trans ?_ (if_pos h).symm)
    have hp : Proj.partner k.val = k.val + 32 := if_pos h
    rw [ea ⟨k.val % 64, h⟩ ⟨k.val % 32, by omega⟩ (by simp only; omega),
      ev ⟨k.val / 64 * 64 + (32 + k.val % 64), by omega⟩ ⟨Proj.partner k.val, Proj.partner_lt k.isLt rfl⟩ (by simp only [hp]; omega)]
  · refine (dif_neg h).trans (Eq.trans ?_ (if_neg h).symm)
    have hp : Proj.partner k.val = k.val - 32 := if_neg h
    rw [ea ⟨k.val % 64 - 32, by omega⟩ ⟨k.val % 32, by omega⟩ (by simp only; omega),
      ev ⟨k.val / 64 * 64 + (32 + (k.val % 64 - 32)), by omega⟩ k (by simp only; omega),
      ev ⟨k.val / 64 * 64 + (k.val % 64 - 32), by omega⟩ ⟨Proj.partner k.val, Proj.partner_lt k.isLt rfl⟩ (by simp only [hp]; omega)]

/-- The projection's arrays, from the reference's arguments. -/
def arrays : Proj.Arrays 8 2048 where
  x b s l := m ((c.tc : Thread nD τ).loc main_arg0) (ix3 b s l)
  g l := m ((c.tc : Thread nD τ).loc main_arg1) (ix2 0 l)
  w d k := m ((c.tc : Thread nD τ).loc main_arg2) (ix3 0 d k)
  ang s l := angles (ix2 s l)

/-- The reference's projected columns are the layer's. -/
theorem refProj_eq (b : Fin 8) (s : Fin 2048) (k : Fin 2816) : refProj m c (ix3 b s k) = Proj.col (arrays m c) b s k := by
  unfold refProj Proj.col
  rw [proj_read]
  exact Finset.sum_congr rfl fun d _ => by rw [rms_read]; rfl

/-- The queries at an index, of the projected columns. -/
theorem query_slice (p : FVec Ideal S8x2048x2816 .f32) (b : Fin 8) (s : Fin 2048) (k : Fin 512) :
    extractStridedSlice S8x2048x512 ![0, 0, 0] p slices_S8x2048x2816_S8x2048x512_0_0_0 (ix3 b s k) = p (ix3 b s ⟨k.val, by omega⟩) := by
  pointwise

/-- The keys at an index, of the projected columns. -/
theorem key_slice (p : FVec Ideal S8x2048x2816 .f32) (b : Fin 8) (s : Fin 2048) (k : Fin 256) :
    extractStridedSlice S8x2048x256 ![0, 0, 512] p slices_S8x2048x2816_S8x2048x256_0_0_512 (ix3 b s k)
      = p (ix3 b s ⟨512 + k.val, by omega⟩) := by
  pointwise

/-- The values at an index, of the projected columns. -/
theorem val_read (p : FVec Ideal S8x2048x2816 .f32) (b : Fin 8) (s : Fin 2048) (k : Fin 256) :
    val p (ix3 b s k) = p (ix3 b s ⟨768 + k.val, by omega⟩) := by
  pointwise [val]

/-- The reference's queries are the layer's. -/
theorem query_out (b : Fin 8) (s : Fin 2048) (k : Fin 512) :
    query (refProj m c) (ix3 b s k) = Proj.out (arrays m c) b s ⟨k.val, by omega⟩ := by
  unfold query Proj.out
  rw [turn8_read, query_slice, query_slice, refProj_eq, refProj_eq, if_pos (show k.val < 768 by omega)]
  rfl

/-- The reference's keys are the layer's. -/
theorem key_out (b : Fin 8) (s : Fin 2048) (k : Fin 256) :
    key (refProj m c) (ix3 b s k) = Proj.out (arrays m c) b s ⟨512 + k.val, by omega⟩ := by
  unfold key Proj.out
  rw [turn4_read, key_slice, key_slice, refProj_eq, refProj_eq, if_pos (show 512 + k.val < 768 by omega)]
  have h1 : (512 + k.val) % 64 = k.val % 64 := by omega
  have h2 : (512 + k.val) % 32 = k.val % 32 := by omega
  have h3 : Proj.partner (512 + k.val) = 512 + Proj.partner k.val := by
    unfold Proj.partner
    rw [h1]
    split <;> omega
  simp only [h1, h2, h3]
  rfl

/-- The reference's values are the layer's. -/
theorem val_out (b : Fin 8) (s : Fin 2048) (k : Fin 256) :
    val (refProj m c) (ix3 b s k) = Proj.out (arrays m c) b s ⟨768 + k.val, by omega⟩ := by
  unfold Proj.out
  rw [val_read, refProj_eq, if_neg (show ¬768 + k.val < 768 by omega)]

/-- The four parts side by side, at an index. -/
theorem whole_read (p : FVec Ideal S8x2048x2816 .f32) (b : Fin 8) (s : Fin 2048) (k : Fin 2816) :
    whole p (ix3 b s k) = if h : k.val < 512 then query p (ix3 b s ⟨k.val, h⟩)
      else if h' : k.val < 768 then key p (ix3 b s ⟨k.val - 512, by omega⟩) else p (ix3 b s k) := by
  have ep : ∀ k k' : Fin 2816, k.val = k'.val → p (ix3 b s k) = p (ix3 b s k') :=
    fun k k' h => congrArg (fun k => p (ix3 b s k)) (Fin.ext h)
  pointwise [whole, val]
  by_cases h1 : k.val < 512
  · refine (dif_pos h1).trans (Eq.trans ?_ (dif_pos h1).symm)
    rfl
  refine (dif_neg h1).trans (Eq.trans ?_ (dif_neg h1).symm)
  by_cases h2 : k.val < 768
  · refine (dif_pos (show k.val - 512 < 256 by omega)).trans (Eq.trans ?_ (dif_pos h2).symm)
    rfl
  refine (dif_neg (show ¬k.val - 512 < 256 by omega)).trans (Eq.trans ?_ (dif_neg h2).symm)
  by_cases h3 : k.val < 1024
  · refine (dif_pos (show k.val - 512 - 256 < 256 by omega)).trans ?_
    exact ep _ _ (show 768 + (k.val - 512 - 256) = k.val by omega)
  · refine (dif_neg (show ¬k.val - 512 - 256 < 256 by omega)).trans ?_
    exact ep _ _ (show 1024 + (k.val - 512 - 256 - 256) = k.val by omega)

/-- The reference's columns are the layer's. -/
theorem whole_out (b : Fin 8) (s : Fin 2048) (k : Fin 2816) : whole (refProj m c) (ix3 b s k) = Proj.out (arrays m c) b s k := by
  rw [whole_read]
  by_cases h1 : k.val < 512
  · rw [dif_pos h1, query_out]
  by_cases h2 : k.val < 768
  · rw [dif_neg h1, dif_pos h2, key_out]
    exact congrArg (Proj.out (arrays m c) b s) (Fin.ext (by simp only; omega))
  · rw [dif_neg h1, dif_neg h2, refProj_eq, Proj.out, if_neg h2]

/-- The reference's first result at an index. -/
theorem rows_read (r : Fin 16384) (k : Fin 2816) :
    (res_out0 m c : FVec Ideal S16384x2816 .f32) (ix2 r k) = Proj.rowOut (arrays m c) r k := by
  rw [rows_eq]
  have h : ∀ v : FVec Ideal S8x2048x2816 .f32, shapeCast S16384x2816 v shapeCasts_S8x2048x2816_S16384x2816 (ix2 r k)
      = v (ix3 ⟨r.val / 2048, by omega⟩ ⟨r.val % 2048, by omega⟩ k) := fun v => by pointwise
  rw [h, whole_out]
  rfl

/-- The reference's second result at an index. -/
theorem query_read (k : Fin 512) (r : Fin 16384) :
    (res_out1 m c : FVec Ideal S512x16384 .f32) (ix2 k r) = Proj.queryOut (arrays m c) k r := by
  rw [query_eq]
  have h : ∀ v : FVec Ideal S8x2048x512 .f32, transpose S512x16384 [1, 0] (shapeCast S16384x512 v shapeCasts_S8x2048x512_S16384x512)
      transposes_S16384x512_S512x16384_1_0 (ix2 k r) = v (ix3 ⟨r.val / 2048, by omega⟩ ⟨r.val % 2048, by omega⟩ k) := fun v => by
    pointwise
  rw [h, query_out]
  rfl

/-- A transposed array of key or value columns, at an index. -/
theorem transposed_read (v : FVec Ideal S8x2048x256 .f32) (b : Fin 8) (k : Fin 256) (s : Fin 2048) :
    transpose S8x256x2048 [0, 2, 1] v transposes_S8x2048x256_S8x256x2048_0_2_1 (ix3 b k s) = v (ix3 b s k) := by
  pointwise

/-- The reference's third result at an index. -/
theorem key_read (b : Fin 8) (k : Fin 256) (s : Fin 2048) :
    (res_out2 m c : FVec Ideal S8x256x2048 .f32) (ix3 b k s) = Proj.keyOut (arrays m c) b k s := by
  rw [key_eq, transposed_read, key_out]
  rfl

/-- The reference's fourth result at an index. -/
theorem value_read (b : Fin 8) (k : Fin 256) (s : Fin 2048) :
    transpose S8x256x2048 [0, 2, 1] (val (refProj m c)) transposes_S8x2048x256_S8x256x2048_0_2_1 (ix3 b k s)
      = Proj.valueOut (arrays m c) b k s := by
  rw [transposed_read, val_out]
  rfl
end Cert.Reference3Ideal.Value
-- ==== Proof.Projection.lean ====
module

public import proofs.«01_k».proof.Defs
public import proofs.«01_k».proof.Proof.Gen.Kernel3.Frame
public import proofs.«01_k».proof.Proof.Gen.Kernel3Ideal.Frame
public import proofs.«01_k».proof.Proof.ProjKernel
public import proofs.«01_k».proof.Proof.ProjRef
public import Idealize.ShloMosaic.Lib.Quiescent

/-!
The claims about the projection: its frames and its value.
-/

@[expose] public section
noncomputable section
namespace Cert.Proof.Projection
open Idealize.ShloMosaic Idealize.ShloMosaic.TcCoe Idealize.SL.Sem

/-- The kernel runs, keeps its arguments and leaves every semaphore at 0. -/
theorem frame_kernel : Cert.quiescent_Kernel3 := fun m ρ _ => Cert.Kernel3.Gen.frame m ρ

/-- So does its idealization. -/
theorem frame_ideal : Cert.quiescent_Kernel3Ideal := fun m ρ _ => Cert.Kernel3Ideal.Gen.frame m ρ

/-- The reference runs, keeps its arguments and has no semaphores. -/
theorem frame_reference : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The idealization changes no operation. -/
theorem preserves : Cert.preserves_Kernel3_Kernel3Ideal := trivial

/-- The kernel's result arrays are the reference's. -/
theorem value : Cert.algebraic_Kernel3Ideal_Reference3Ideal := by
  intro m g m' g' _ hargs
  have harr : ∀ c, Cert.Reference3Ideal.Value.arrays m' c = Cert.Kernel3Ideal.Value.arrays m c := fun c => by
    obtain ⟨h0, h1, h2⟩ := hargs c
    unfold Cert.Reference3Ideal.Value.arrays Cert.Kernel3Ideal.Value.arrays
    rw [h0, h1, h2]
    rfl
  refine ⟨fun c => Cert.Kernel3Ideal.Value.rows (Cert.Kernel3Ideal.Value.arrays m c),
    fun c => Cert.Kernel3Ideal.Value.queries (Cert.Kernel3Ideal.Value.arrays m c),
    fun c => Cert.Kernel3Ideal.Value.keys (Cert.Kernel3Ideal.Value.arrays m c),
    fun c => Cert.Kernel3Ideal.Value.values (Cert.Kernel3Ideal.Value.arrays m c),
    (θ_run Cert.Kernel3Ideal.defs _ _).mono (fun r h c => ?_) (Cert.Kernel3Ideal.Value.run_blocks m g),
    (θ_run Cert.Reference3Ideal.defs _ _).mono (fun r h c => ?_) (Cert.Reference3Ideal.Value.run m' g')⟩
  · exact ⟨(h c).1.trans (Cert.Kernel3Ideal.Value.final_rows m c), (h c).2.1.trans (Cert.Kernel3Ideal.Value.final_queries m c),
      (h c).2.2.1.trans (Cert.Kernel3Ideal.Value.final_keys m c), (h c).2.2.2.1.trans (Cert.Kernel3Ideal.Value.final_values m c),
      (h c).2.2.2.2⟩
  · refine ⟨(h c).1.trans ?_, (h c).2.1.trans ?_, (h c).2.2.1.trans ?_, (h c).2.2.2.1.trans ?_, (h c).2.2.2.2⟩
    · funext i
      change Cert.Kernel3Ideal.S16384x2816.Idx at i
      obtain ⟨r, k, rfl⟩ : ∃ (r : Fin 16384) (k : Fin 2816), i = ix2 r k := ⟨i 0, i 1, eq_ix2 i⟩
      exact (Cert.Reference3Ideal.Value.rows_read m' c r k).trans (by rw [harr c]; rfl)
    · funext i
      change Cert.Kernel3Ideal.S512x16384.Idx at i
      obtain ⟨k, r, rfl⟩ : ∃ (k : Fin 512) (r : Fin 16384), i = ix2 k r := ⟨i 0, i 1, eq_ix2 i⟩
      exact (Cert.Reference3Ideal.Value.query_read m' c k r).trans (by rw [harr c]; rfl)
    · funext i
      change Cert.Kernel3Ideal.S8x256x2048.Idx at i
      obtain ⟨b, k, s, rfl⟩ : ∃ (b : Fin 8) (k : Fin 256) (s : Fin 2048), i = ix3 b k s := ⟨i 0, i 1, i 2, eq_ix3 i⟩
      exact (Cert.Reference3Ideal.Value.key_read m' c b k s).trans (by rw [harr c]; rfl)
    · funext i
      change Cert.Kernel3Ideal.S8x256x2048.Idx at i
      obtain ⟨b, k, s, rfl⟩ : ∃ (b : Fin 8) (k : Fin 256) (s : Fin 2048), i = ix3 b k s := ⟨i 0, i 1, i 2, eq_ix3 i⟩
      exact (Cert.Reference3Ideal.Value.value_read m' c b k s).trans (by rw [harr c]; rfl)
end Cert.Proof.Projection
end
-- ==== Proof.ResidSpec.lean ====
module
public import proofs.«01_k».proof.Proof.FfnSpec

/-!
The residual projection in the middle of a layer as a function of its arrays.

The three attentions' rows, side by side, are multiplied into the residual rows' columns and added to them; the sum is
normalised and multiplied into the queries of the attention to the memory.
-/

@[expose] public section
noncomputable section
namespace Cert.Resid
open Idealize.ShloMosaic

/-- The arrays of the residual projection: the residual rows, the three attentions' rows (the first by column), the output
    weights, the norm's weights and the queries' weights. -/
structure Arrays where
  /-- residual rows -/
  x : Fin 16384 → Fin 1024 → EReal
  /-- the first attention, by column -/
  a : Fin 512 → Fin 16384 → EReal
  /-- the second attention's rows -/
  h : Fin 16384 → Fin 256 → EReal
  /-- the third attention's rows -/
  o : Fin 16384 → Fin 256 → EReal
  /-- the output weights -/
  w : Fin 1024 → Fin 1024 → EReal
  /-- the norm's weights -/
  g : Fin 1024 → EReal
  /-- the queries' weights -/
  wq : Fin 1024 → Fin 256 → EReal

variable (A : Arrays)

/-- The three attentions' rows side by side. -/
def heads (r : Fin 16384) (k : Fin 1024) : EReal :=
  if h1 : k.val < 512 then A.a ⟨k.val, h1⟩ r
  else if h2 : k.val < 768 then A.h r ⟨k.val - 512, by omega⟩ else A.o r ⟨k.val - 768, by omega⟩

/-- The residual rows with the attentions' product added. -/
def res (r : Fin 16384) (l : Fin 1024) : EReal := A.x r l + ∑ k, heads A r k * A.w k l

/-- The queries of the attention to the memory. -/
def query (r : Fin 16384) (k : Fin 256) : EReal := ∑ d, Ffn.norm (res A r) A.g d * A.wq d k

/-- A sum over 1024 columns, by its first 512, its next 256 and its last 256. -/
theorem sum_parts (f : Fin 1024 → EReal) : ∑ k, f k
    = ∑ k : Fin 512, f ⟨k.val, by omega⟩ + ∑ k : Fin 256, f ⟨512 + k.val, by omega⟩ + ∑ k : Fin 256, f ⟨768 + k.val, by omega⟩ := by
  refine (Fin.sum_univ_add (a := 512) (b := 512) f).trans ?_
  rw [add_assoc]
  congr 1
  refine (Fin.sum_univ_add (a := 256) (b := 256) fun k => f (Fin.natAdd 512 k)).trans ?_
  refine congrArg (_ + ·) (Finset.sum_congr rfl fun k _ => congrArg f (Fin.ext ?_))
  show 512 + (256 + k.val) = 768 + k.val
  omega

/-- The residual row, one attention after the other. -/
theorem res_parts (r : Fin 16384) (l : Fin 1024) : res A r l
    = A.x r l + ∑ k : Fin 512, A.a k r * A.w ⟨k.val, by omega⟩ l + ∑ k : Fin 256, A.h r k * A.w ⟨512 + k.val, by omega⟩ l
      + ∑ k : Fin 256, A.o r k * A.w ⟨768 + k.val, by omega⟩ l := by
  rw [res, sum_parts, ← add_assoc, ← add_assoc]
  unfold heads
  refine congrArg₂ _ (congrArg₂ _ (congrArg _ (Finset.sum_congr rfl fun k _ => ?_)) (Finset.sum_congr rfl fun k _ => ?_))
    (Finset.sum_congr rfl fun k _ => ?_)
  · rw [dif_pos k.isLt]
  · rw [dif_neg (by simp only; omega), dif_pos (by simp only; omega)]
    simp only [Nat.add_sub_cancel_left]
  · rw [dif_neg (by simp only; omega), dif_neg (by simp only; omega)]
    simp only [Nat.add_sub_cancel_left]
end Cert.Resid
-- ==== Proof.ResidKernel.lean ====
module
public import proofs.«01_k».proof.Proof.ResidSpec
public import proofs.«01_k».proof.Proof.Gen.Kernel4Ideal.Value
public import Idealize.ShloMosaic.Lib.Pipeline.ValueKit
public import Idealize.ShloMosaic.Lib.Pipeline.ReadBack
public import Idealize.ShloMosaic.Lib.Pointwise
public import Idealize.ShloMosaic.Lib.StableHlo.RunRead

/-!
The residual projection's kernel: its blocks read from the arguments, its two output blocks, and its result arrays.
-/

@[expose] public section
set_option maxRecDepth 16384
noncomputable section
namespace Cert.Kernel4Ideal.Value
open Cert.Kernel4Ideal Cert.Kernel4Ideal.Gen
open Idealize.ShloMosaic.Tactic
open Idealize.ShloMosaic Idealize.ShloMosaic.TcCoe Idealize.SL.Sem

/-- The residual rows at an index. -/
theorem resid_read (x : Vec Ideal S512x1024 .f32) (a : Vec Ideal S512x512 .bf16) (wa : Vec Ideal S512x1024 .bf16)
    (h : Vec Ideal S512x256 .bf16) (wh : Vec Ideal S256x1024 .bf16) (o : Vec Ideal S512x256 .bf16) (wo : Vec Ideal S256x1024 .bf16)
    (i : Fin 512) (l : Fin 1024) :
    k0_pay2 x a wa h wh o wo (ix2 i l) = x (ix2 i l) + ∑ k : Fin 512, a (ix2 k i) * wa (ix2 k l)
      + ∑ k : Fin 256, h (ix2 i k) * wh (ix2 k l) + ∑ k : Fin 256, o (ix2 i k) * wo (ix2 k l) := by
  pointwise [k0_pay2]

/-- The normalised residual rows at an index. -/
theorem norm_read (x : Vec Ideal S512x1024 .f32) (a : Vec Ideal S512x512 .bf16) (wa : Vec Ideal S512x1024 .bf16)
    (h : Vec Ideal S512x256 .bf16) (wh : Vec Ideal S256x1024 .bf16) (o : Vec Ideal S512x256 .bf16) (wo : Vec Ideal S256x1024 .bf16)
    (g : Vec Ideal S1x1024 .f32) (i : Fin 512) (l : Fin 1024) :
    k0_pay3 x a wa h wh o wo g (ix2 i l)
      = Ffn.norm (fun k => k0_pay2 x a wa h wh o wo (ix2 i k)) (fun k => g (ix2 0 k)) l := by
  unfold Ffn.norm k0_pay3
  generalize k0_pay2 x a wa h wh o wo = r
  pointwise

/-- The queries at an index. -/
theorem project_read (n : FVec Ideal S512x1024 .bf16) (w : Vec Ideal S1024x256 .bf16) (i : Fin 512) (k : Fin 256) :
    k0_pay1 n w (ix2 i k) = ∑ d : Fin 1024, n (ix2 i d) * w (ix2 d k) := by
  pointwise [k0_pay1]

/-- What a grid point leaves in its block of rows. -/
theorem rows_eq (x0 : Vec Ideal S512x1024 .f32) (x1 : Vec Ideal S512x512 .bf16) (x2 x3 : Vec Ideal S512x256 .bf16)
    (x4 : Vec Ideal S512x1024 .bf16) (x5 x6 : Vec Ideal S256x1024 .bf16) (x7 : Vec Ideal S1x1024 .f32) (x8 : Vec Ideal S1024x256 .bf16) :
    out0_9 x0 x1 x2 x3 x4 x5 x6 x7 x8 = k0_pay2 x0 x1 x4 x2 x5 x3 x6 := by
  unfold out0_9
  simp (disch := decide) only [r0_0, r0_1, r0_2, r0_3, View.ld_unit_lit']
  rw [View.canon_cons_unit_lit _ _ _ (by decide)]

/-- What a grid point leaves in its block of queries. -/
theorem query_eq (x0 : Vec Ideal S512x1024 .f32) (x1 : Vec Ideal S512x512 .bf16) (x2 x3 : Vec Ideal S512x256 .bf16)
    (x4 : Vec Ideal S512x1024 .bf16) (x5 x6 : Vec Ideal S256x1024 .bf16) (x7 : Vec Ideal S1x1024 .f32) (x8 : Vec Ideal S1024x256 .bf16) :
    out0_10 x0 x1 x2 x3 x4 x5 x6 x7 x8 = k0_pay1 (k0_pay3 x0 x1 x4 x2 x5 x3 x6 x7) x8 := by
  unfold out0_10
  simp (disch := decide) only [r0_0, r0_1, r0_2, r0_3, r0_4, r0_5, View.ld_unit_lit']
  rw [View.canon_cons_unit_lit _ _ _ (by decide)]

variable (m : (ℓ : Loc nD τ sig) → Buf (Elt Ideal) ℓ) (c : Dev nD)

/-- The windows' block indices at point `t`. -/
theorem idx : ∀ t : Fin cfg0.N, win0_0.index t = ![t.val, 0] ∧ win0_1.index t = ![0, t.val] ∧
    win0_2.index t = ![t.val, 0] ∧ win0_3.index t = ![t.val, 0] ∧ win0_4.index t = ![0, 0] ∧ win0_5.index t = ![0, 0] ∧
    win0_6.index t = ![0, 0] ∧ win0_7.index t = ![0, 0] ∧ win0_8.index t = ![0, 0] ∧ win0_9.index t = ![t.val, 0] ∧
    win0_10.index t = ![t.val, 0] ∧ t.val < 32 :=
  (by decide +kernel : ∀ t : Fin grid0.N, win0_0.index t = ![t.val, 0] ∧ win0_1.index t = ![0, t.val] ∧
    win0_2.index t = ![t.val, 0] ∧ win0_3.index t = ![t.val, 0] ∧ win0_4.index t = ![0, 0] ∧ win0_5.index t = ![0, 0] ∧
    win0_6.index t = ![0, 0] ∧ win0_7.index t = ![0, 0] ∧ win0_8.index t = ![0, 0] ∧ win0_9.index t = ![t.val, 0] ∧
    win0_10.index t = ![t.val, 0] ∧ t.val < 32)

variable (t : Fin cfg0.N)

/-- The row of the arrays a grid point's row is. -/
def rowOf (i : Fin 512) : Fin 16384 :=
  ⟨512 * t.val + i.val, by have h : t.val < 32 := (idx t).2.2.2.2.2.2.2.2.2.2.2; omega⟩

/-- The residual rows. -/
theorem blk0 (i : Fin 512) (l : Fin 1024) :
    (iblk m c 0 t : Vec Ideal S512x1024 .f32) (ix2 i l) = m ((c : Thread nD τ).loc main_arg0) (ix2 (rowOf t i) l) := by
  have h := idx t
  unfold rowOf
  blk_point [iblk, V, h]

/-- The first attention's columns. -/
theorem blk1 (k i : Fin 512) :
    (iblk m c 1 t : Vec Ideal S512x512 .bf16) (ix2 k i) = m ((c : Thread nD τ).loc main_arg1) (ix2 k (rowOf t i)) := by
  have h := idx t
  unfold rowOf
  blk_point [iblk, V, h]

/-- The second attention's rows. -/
theorem blk2 (i : Fin 512) (k : Fin 256) :
    (iblk m c 2 t : Vec Ideal S512x256 .bf16) (ix2 i k) = m ((c : Thread nD τ).loc main_arg2) (ix2 (rowOf t i) k) := by
  have h := idx t
  unfold rowOf
  blk_point [iblk, V, h]

/-- The third attention's rows. -/
theorem blk3 (i : Fin 512) (k : Fin 256) :
    (iblk m c 3 t : Vec Ideal S512x256 .bf16) (ix2 i k) = m ((c : Thread nD τ).loc main_arg3) (ix2 (rowOf t i) k) := by
  have h := idx t
  unfold rowOf
  blk_point [iblk, V, h]

/-- The output weights of the first attention. -/
theorem blk4 (k : Fin 512) (l : Fin 1024) :
    (iblk m c 4 t : Vec Ideal S512x1024 .bf16) (ix2 k l) = m ((c : Thread nD τ).loc main_arg4) (ix3 0 ⟨k.val, by omega⟩ l) := by
  have h := idx t
  blk_point [iblk, V, h]

/-- The output weights of the second attention. -/
theorem blk5 (k : Fin 256) (l : Fin 1024) :
    (iblk m c 5 t : Vec Ideal S256x1024 .bf16) (ix2 k l) = m ((c : Thread nD τ).loc main_arg4) (ix3 0 ⟨512 + k.val, by omega⟩ l) := by
  have h := idx t
  blk_point [iblk, V, h]

/-- The output weights of the third attention. -/
theorem blk6 (k : Fin 256) (l : Fin 1024) :
    (iblk m c 6 t : Vec Ideal S256x1024 .bf16) (ix2 k l) = m ((c : Thread nD τ).loc main_arg4) (ix3 0 ⟨768 + k.val, by omega⟩ l) := by
  have h := idx t
  blk_point [iblk, V, h]

/-- The norm's weights. -/
theorem blk7 (l : Fin 1024) :
    (iblk m c 7 t : Vec Ideal S1x1024 .f32) (ix2 0 l) = m ((c : Thread nD τ).loc main_arg5) (ix2 0 l) := by
  have h := idx t
  blk_point [iblk, V, h]

/-- The queries' weights. -/
theorem blk8 (d : Fin 1024) (k : Fin 256) :
    (iblk m c 8 t : Vec Ideal S1024x256 .bf16) (ix2 d k) = m ((c : Thread nD τ).loc main_arg6) (ix3 0 d k) := by
  have h := idx t
  blk_point [iblk, V, h]

/-- The arrays of the layer, from the arguments. -/
def arrays : Resid.Arrays where
  x r l := m ((c : Thread nD τ).loc main_arg0) (ix2 r l)
  a k r := m ((c : Thread nD τ).loc main_arg1) (ix2 k r)
  h r k := m ((c : Thread nD τ).loc main_arg2) (ix2 r k)
  o r k := m ((c : Thread nD τ).loc main_arg3) (ix2 r k)
  w k l := m ((c : Thread nD τ).loc main_arg4) (ix3 0 k l)
  g l := m ((c : Thread nD τ).loc main_arg5) (ix2 0 l)
  wq d k := m ((c : Thread nD τ).loc main_arg6) (ix3 0 d k)

/-- The residual rows of a grid point are the layer's. -/
theorem resid_block (i : Fin 512) (l : Fin 1024) :
    k0_pay2 (iblk m c 0 t) (iblk m c 1 t) (iblk m c 4 t) (iblk m c 2 t) (iblk m c 5 t) (iblk m c 3 t) (iblk m c 6 t) (ix2 i l)
      = Resid.res (arrays m c) (rowOf t i) l := by
  rw [resid_read, Resid.res_parts, blk0]
  refine congrArg₂ _ (congrArg₂ _ (congrArg _ (Finset.sum_congr rfl fun k _ => ?_)) (Finset.sum_congr rfl fun k _ => ?_))
    (Finset.sum_congr rfl fun k _ => ?_)
  · rw [blk1, blk4]; rfl
  · rw [blk2, blk5]; rfl
  · rw [blk3, blk6]; rfl

/-- What a grid point leaves in its block of rows: the layer's rows. -/
theorem rows_read (i : Fin 512) (l : Fin 1024) :
    (out0_9 (iblk m c 0 t) (iblk m c 1 t) (iblk m c 2 t) (iblk m c 3 t) (iblk m c 4 t) (iblk m c 5 t) (iblk m c 6 t)
      (iblk m c 7 t) (iblk m c 8 t) : Vec Ideal S512x1024 .f32) (ix2 i l) = Resid.res (arrays m c) (rowOf t i) l := by
  rw [rows_eq]
  exact resid_block m c t i l

/-- What a grid point leaves in its block of queries: the layer's queries. -/
theorem query_read (i : Fin 512) (k : Fin 256) :
    (out0_10 (iblk m c 0 t) (iblk m c 1 t) (iblk m c 2 t) (iblk m c 3 t) (iblk m c 4 t) (iblk m c 5 t) (iblk m c 6 t)
      (iblk m c 7 t) (iblk m c 8 t) : Vec Ideal S512x256 .bf16) (ix2 i k) = Resid.query (arrays m c) (rowOf t i) k := by
  rw [query_eq, project_read]
  unfold Resid.query
  refine Finset.sum_congr rfl fun d _ => ?_
  rw [norm_read, blk8]
  refine congrArg (· * _) ?_
  exact congrArg₂ (Ffn.norm · · d) (funext fun l => resid_block m c t i l) (funext fun l => blk7 m c t l)

/-- The array of the layer's rows. -/
def rows (A : Resid.Arrays) : FVec Ideal S16384x1024 .f32 := fun i => Resid.res A (i 0) (i 1)

/-- The array of the layer's queries. -/
def queries (A : Resid.Arrays) : FVec Ideal S16384x256 .bf16 := fun i => Resid.query A (i 0) (i 1)

/-- The kernel's first result array. -/
theorem final_rows : (dats m 0 c).arrAt 9 cfg0.N = rows (arrays m c) := by
  refine (dats m 0 c).arrAt_eq_of_covers 9 _ (by decide +kernel) fun t _ y => ?_
  blk_simp
  rw [after0_9]
  change S512x1024.Idx at y
  idx_vars y
  refine (rows_read m c t _ _).trans ?_
  refine congrArg₂ (Resid.res (arrays m c)) (Fin.ext ?_) (Fin.ext ?_)
  · show 512 * t.val + y0.val = _
    blk_simp [idx t]
    omega
  · blk_simp [idx t]

/-- The kernel's second result array. -/
theorem final_queries : (dats m 0 c).arrAt 10 cfg0.N = queries (arrays m c) := by
  refine (dats m 0 c).arrAt_eq_of_covers 10 _ (by decide +kernel) fun t _ y => ?_
  blk_simp
  rw [after0_10]
  change S512x256.Idx at y
  idx_vars y
  refine (query_read m c t _ _).trans ?_
  refine congrArg₂ (Resid.query (arrays m c)) (Fin.ext ?_) (Fin.ext ?_)
  · show 512 * t.val + y0.val = _
    blk_simp [idx t]
    omega
  · blk_simp [idx t]
end Cert.Kernel4Ideal.Value
-- ==== Proof.ResidRef.lean ====
module
public import proofs.«01_k».proof.Proof.ResidSpec
public import proofs.«01_k».proof.Proof.Gen.Reference4Ideal.Run
public import Idealize.ShloMosaic.Lib.Pipeline.ValueKit

/-!
The residual projection's reference, step by step, and each step read at an index.
-/

@[expose] public section
set_option maxRecDepth 16384
noncomputable section
namespace Cert.Reference4Ideal.Value
open Cert.Reference4Ideal Cert.Reference4Ideal.Gen
open Idealize.ShloMosaic.Tactic
open Idealize.ShloMosaic Idealize.ShloMosaic.TcCoe Idealize.SL.Sem

/-- The three attentions' rows side by side. -/
def beside (a : FVec Ideal S512x16384 .bf16) (h o : FVec Ideal S16384x256 .bf16) : FVec Ideal S16384x1024 .f32 :=
  concatenate S16384x1024 1 [⟨S16384x512, (extf .f32 (transpose S16384x512 [1, 0] a transposes_S512x16384_S16384x512_1_0) bitsLt_bf16_f32 : FVec Ideal S16384x512 .f32)⟩,
    ⟨S16384x256, (extf .f32 h bitsLt_bf16_f32 : FVec Ideal S16384x256 .f32)⟩, ⟨S16384x256, (extf .f32 o bitsLt_bf16_f32 : FVec Ideal S16384x256 .f32)⟩]
    concatenates_S16384x512_S16384x256_S16384x256_S16384x1024_d1

/-- The residual rows with the attentions' product added. -/
def resid (x b : FVec Ideal S16384x1024 .f32) (w : FVec Ideal S4x1024x1024 .f32) : FVec Ideal S16384x1024 .f32 :=
  addf x (Host.dotGeneral dot_S16384x1024_S1024x1024_S16384x1024_1_0_0_1_n_n none b
    (shapeCast _ (extractStridedSlice S1x1024x1024 ![0, 0, 0] w slices_S4x1024x1024_S1x1024x1024_0_0_0)
      shapeCasts_S1x1024x1024_S1024x1024))

/-- The rows over the roots of their mean squares, times the first layer's weights. -/
def rms (x : FVec Ideal S16384x1024 .f32) (g : FVec Ideal S4x1024 .f32) : FVec Ideal S16384x1024 .f32 :=
  mulf (mulf x (broadcastInDim S16384x1024 ![0, 1] bcast_S16384x1_S16384x1024_0_1
      (Host.rsqrt (addf (Host.divf (broadcastInDim S16384x1 ![0] bcast_S16384_S16384x1_0
          (Host.reduceAdd (mulf x x) (constant S_ .f32 0x00000000#32) reducesTo_S16384x1024_S16384_d1 h_S_))
        (broadcastInDim S16384x1 ![] bcast_S_S16384x1 (constant S_ .f32 0x44800000#32)))
        (broadcastInDim S16384x1 ![] bcast_S_S16384x1 (constant S_ .f32 0x358637BD#32))))))
    (broadcastInDim S16384x1024 ![0, 1] bcast_S1x1024_S16384x1024_0_1
      (broadcastInDim S1x1024 ![1] bcast_S1024_S1x1024_1
        (shapeCast _ (extractStridedSlice S1x1024 ![0, 0] g slices_S4x1024_S1x1024_0_0) shapeCasts_S1x1024_S1024)))

/-- The queries. -/
def project (n : FVec Ideal S16384x1024 .f32) (w : FVec Ideal S4x1024x256 .f32) : FVec Ideal S16384x256 .bf16 :=
  truncf .bf16 (Host.dotGeneral dot_S16384x1024_S1024x256_S16384x256_1_0_0_1_n_n none n
    (shapeCast _ (extractStridedSlice S1x1024x256 ![0, 0, 0] w slices_S4x1024x256_S1x1024x256_0_0_0)
      shapeCasts_S1x1024x256_S1024x256)) bitsLt_bf16_f32

/-- The attentions' rows at an index. -/
theorem beside_read (a : FVec Ideal S512x16384 .bf16) (h o : FVec Ideal S16384x256 .bf16) (r : Fin 16384) (k : Fin 1024) :
    beside a h o (ix2 r k) = if h1 : k.val < 512 then a (ix2 ⟨k.val, h1⟩ r)
      else if h2 : k.val < 768 then h (ix2 r ⟨k.val - 512, by omega⟩) else o (ix2 r ⟨k.val - 768, by omega⟩) := by
  have e : ∀ (v : FVec Ideal S16384x256 .bf16) (k k' : Fin 256), k.val = k'.val → v (ix2 r k) = v (ix2 r k') :=
    fun v k k' h => congrArg (fun k => v (ix2 r k)) (Fin.ext h)
  pointwise [beside]
  by_cases h1 : k.val < 512
  · refine (dif_pos h1).trans (Eq.trans ?_ (dif_pos h1).symm)
    rfl
  refine (dif_neg h1).trans (Eq.trans ?_ (dif_neg h1).symm)
  by_cases h2 : k.val < 768
  · refine (dif_pos (show k.val - 512 < 256 by omega)).trans (Eq.trans ?_ (dif_pos h2).symm)
    exact e h _ _ rfl
  refine (dif_neg (show ¬k.val - 512 < 256 by omega)).trans (Eq.trans ?_ (dif_neg h2).symm)
  exact e o _ _ (show k.val - 512 - 256 = k.val - 768 by omega)

/-- The residual rows at an index. -/
theorem resid_read (x b : FVec Ideal S16384x1024 .f32) (w : FVec Ideal S4x1024x1024 .f32) (r : Fin 16384) (l : Fin 1024) :
    resid x b w (ix2 r l) = x (ix2 r l) + ∑ k : Fin 1024, b (ix2 r k) * w (ix3 0 k l) := by
  pointwise [resid]

/-- The normalised rows at an index. -/
theorem rms_read (x : FVec Ideal S16384x1024 .f32) (g : FVec Ideal S4x1024 .f32) (r : Fin 16384) (l : Fin 1024) :
    rms x g (ix2 r l) = Ffn.norm (fun k => x (ix2 r k)) (fun k => g (ix2 0 k)) l := by
  unfold Ffn.norm
  pointwise [rms]

/-- The queries at an index. -/
theorem project_read (n : FVec Ideal S16384x1024 .f32) (w : FVec Ideal S4x1024x256 .f32) (r : Fin 16384) (k : Fin 256) :
    project n w (ix2 r k) = ∑ d : Fin 1024, n (ix2 r d) * w (ix3 0 d k) := by
  pointwise [project]

variable (m : (ℓ : Loc nD τ sig) → Buf (Elt Ideal) ℓ) (c : Dev nD)

/-- The reference's residual rows. -/
def refRes : FVec Ideal S16384x1024 .f32 :=
  resid (m ((c.tc : Thread nD τ).loc main_arg0)) (beside (m ((c.tc : Thread nD τ).loc main_arg1))
    (m ((c.tc : Thread nD τ).loc main_arg2)) (m ((c.tc : Thread nD τ).loc main_arg3))) (m ((c.tc : Thread nD τ).loc main_arg4))

/-- The reference's queries. -/
def refQuery : FVec Ideal S16384x256 .bf16 :=
  project (rms (refRes m c) (m ((c.tc : Thread nD τ).loc main_arg5))) (m ((c.tc : Thread nD τ).loc main_arg6))

/-- The arrays of the layer, from the arguments. -/
def arrays : Resid.Arrays where
  x r l := m ((c.tc : Thread nD τ).loc main_arg0) (ix2 r l)
  a k r := m ((c.tc : Thread nD τ).loc main_arg1) (ix2 k r)
  h r k := m ((c.tc : Thread nD τ).loc main_arg2) (ix2 r k)
  o r k := m ((c.tc : Thread nD τ).loc main_arg3) (ix2 r k)
  w k l := m ((c.tc : Thread nD τ).loc main_arg4) (ix3 0 k l)
  g l := m ((c.tc : Thread nD τ).loc main_arg5) (ix2 0 l)
  wq d k := m ((c.tc : Thread nD τ).loc main_arg6) (ix3 0 d k)

/-- The reference's residual rows are the layer's. -/
theorem res_read (r : Fin 16384) (l : Fin 1024) : refRes m c (ix2 r l) = Resid.res (arrays m c) r l := by
  unfold refRes
  rw [resid_read]
  refine congrArg _ (Finset.sum_congr rfl fun k _ => ?_)
  rw [beside_read]
  rfl

/-- The reference's queries are the layer's. -/
theorem query_read (r : Fin 16384) (k : Fin 256) : refQuery m c (ix2 r k) = Resid.query (arrays m c) r k := by
  unfold refQuery Resid.query
  rw [project_read]
  refine Finset.sum_congr rfl fun d _ => ?_
  rw [rms_read]
  exact congrArg (Ffn.norm · _ d * _) (funext fun l => res_read m c r l)
end Cert.Reference4Ideal.Value
-- ==== Proof.Residual.lean ====
module

public import proofs.«01_k».proof.Defs
public import proofs.«01_k».proof.Proof.Gen.Kernel4.Frame
public import proofs.«01_k».proof.Proof.Gen.Kernel4Ideal.Frame
public import proofs.«01_k».proof.Proof.ResidKernel
public import proofs.«01_k».proof.Proof.ResidRef
public import Idealize.ShloMosaic.Lib.Quiescent

/-!
The claims about the residual projection: its frames and its value.
-/

@[expose] public section
noncomputable section
namespace Cert.Proof.Residual
open Idealize.ShloMosaic Idealize.ShloMosaic.TcCoe Idealize.SL.Sem

/-- The kernel runs, keeps its arguments and leaves every semaphore at 0. -/
theorem frame_kernel : Cert.quiescent_Kernel4 := fun m ρ _ => Cert.Kernel4.Gen.frame m ρ

/-- So does its idealization. -/
theorem frame_ideal : Cert.quiescent_Kernel4Ideal := fun m ρ _ => Cert.Kernel4Ideal.Gen.frame m ρ

/-- The reference runs, keeps its arguments and has no semaphores. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The idealization changes no operation. -/
theorem preserves : Cert.preserves_Kernel4_Kernel4Ideal := trivial

/-- The kernel's result arrays are the reference's. -/
theorem value : Cert.algebraic_Kernel4Ideal_Reference4Ideal := by
  intro m g m' g' _ hargs
  have harr : ∀ c, Cert.Reference4Ideal.Value.arrays m' c = Cert.Kernel4Ideal.Value.arrays m c := fun c => by
    obtain ⟨h0, h1, h2, h3, h4, h5, h6⟩ := hargs c
    unfold Cert.Reference4Ideal.Value.arrays Cert.Kernel4Ideal.Value.arrays
    rw [h0, h1, h2, h3, h4, h5, h6]
  refine ⟨fun c => Cert.Kernel4Ideal.Value.rows (Cert.Kernel4Ideal.Value.arrays m c),
    fun c => Cert.Kernel4Ideal.Value.queries (Cert.Kernel4Ideal.Value.arrays m c),
    (θ_run Cert.Kernel4Ideal.defs _ _).mono (fun r h c => ?_) (Cert.Kernel4Ideal.Value.run_blocks m g),
    (θ_run Cert.Reference4Ideal.defs _ _).mono (fun r h c => ?_) (Cert.Reference4Ideal.Value.run m' g')⟩
  · exact ⟨(h c).1.trans (Cert.Kernel4Ideal.Value.final_rows m c), (h c).2.1.trans (Cert.Kernel4Ideal.Value.final_queries m c),
      (h c).2.2⟩
  · refine ⟨(h c).1.trans (Eq.trans (b := Cert.Reference4Ideal.Value.refRes m' c) rfl ?_),
      (h c).2.1.trans (Eq.trans (b := Cert.Reference4Ideal.Value.refQuery m' c) rfl ?_), (h c).2.2⟩
    · funext i
      change Cert.Kernel4Ideal.S16384x1024.Idx at i
      obtain ⟨r, l, rfl⟩ : ∃ (r : Fin 16384) (l : Fin 1024), i = ix2 r l := ⟨i 0, i 1, eq_ix2 i⟩
      exact (Cert.Reference4Ideal.Value.res_read m' c r l).trans (by rw [harr c]; rfl)
    · funext i
      change Cert.Kernel4Ideal.S16384x256.Idx at i
      obtain ⟨r, k, rfl⟩ : ∃ (r : Fin 16384) (k : Fin 256), i = ix2 r k := ⟨i 0, i 1, eq_ix2 i⟩
      exact (Cert.Reference4Ideal.Value.query_read m' c r k).trans (by rw [harr c]; rfl)
end Cert.Proof.Residual
end
-- ==== Proof.MemSpec.lean ====
module
public import proofs.«01_k».proof.Proof.FfnSpec

/-!
The memory's keys and values as a function of their arrays: the memory's rows are normalised and multiplied into the
columns of the keys and of the values.
-/

@[expose] public section
noncomputable section
namespace Cert.Mem
open Idealize.ShloMosaic

/-- The arrays of the memory's projection: its rows by sequence, the norm's weights, the keys' and the values' weights. -/
structure Arrays where
  /-- rows, by sequence and place -/
  x : Fin 8 → Fin 256 → Fin 1024 → EReal
  /-- the norm's weights -/
  g : Fin 1024 → EReal
  /-- the keys' weights -/
  wk : Fin 1024 → Fin 256 → EReal
  /-- the values' weights -/
  wv : Fin 1024 → Fin 256 → EReal

variable (A : Arrays)

/-- A row's key (the first 256 columns) and value (the other 256). -/
def out (b : Fin 8) (s : Fin 256) (k : Fin 512) : EReal :=
  if h : k.val < 256 then ∑ d, Ffn.norm (A.x b s) A.g d * A.wk d ⟨k.val, h⟩
  else ∑ d, Ffn.norm (A.x b s) A.g d * A.wv d ⟨k.val - 256, by omega⟩

/-- The same, by the row's number among all rows. -/
def rowOut (r : Fin 2048) (k : Fin 512) : EReal := out A ⟨r.val / 256, by omega⟩ ⟨r.val % 256, by omega⟩ k
end Cert.Mem
-- ==== Proof.MemKernel.lean ====
module
public import proofs.«01_k».proof.Proof.MemSpec
public import proofs.«01_k».proof.Proof.Gen.Kernel5Ideal.Value
public import Idealize.ShloMosaic.Lib.Pipeline.ValueKit
public import Idealize.ShloMosaic.Lib.Pipeline.ReadBack
public import Idealize.ShloMosaic.Lib.Pointwise
public import Idealize.ShloMosaic.Lib.StableHlo.RunRead

/-!
The kernel of the memory's keys and values: its blocks read from the arguments, its output block, and its result array.
-/

@[expose] public section
set_option maxRecDepth 16384
noncomputable section
namespace Cert.Kernel5Ideal.Value
open Cert.Kernel5Ideal Cert.Kernel5Ideal.Gen
open Idealize.ShloMosaic.Tactic
open Idealize.ShloMosaic Idealize.ShloMosaic.TcCoe Idealize.SL.Sem

/-- The projected columns `c` to `c + 255` of a tile's rows. -/
def cols (x : Vec Ideal S512x1024 .f32) (g : Vec Ideal S1x1024 .f32) (w : Vec Ideal S1x1024x512 .bf16) (c : ℕ) :
    FVec Ideal S512x256 .f32 :=
  k0_pay2 x g (View.ld w (Rect.unit ![0, 0, c % 257] ![1, 1024, 256] (by intro a; fin_cases a <;> simp; omega)))

/-- The normalised rows at an index. -/
theorem norm_read (x : Vec Ideal S512x1024 .f32) (g : Vec Ideal S1x1024 .f32) (i : Fin 512) (l : Fin 1024) :
    k0_pay1 x g (ix2 i l) = Ffn.norm (fun k => x (ix2 i k)) (fun k => g (ix2 0 k)) l := by
  unfold Ffn.norm
  pointwise [k0_pay1]

/-- The projected columns at an index. -/
theorem cols_read (x : Vec Ideal S512x1024 .f32) (g : Vec Ideal S1x1024 .f32) (w : Vec Ideal S1x1024x512 .bf16) (c : ℕ)
    (hc : c + 256 ≤ 512) (i : Fin 512) (q : Fin 256) :
    cols x g w c (ix2 i q) = ∑ d : Fin 1024, Ffn.norm (fun k => x (ix2 i k)) (fun k => g (ix2 0 k)) d
      * w (ix3 0 d ⟨c + q.val, by omega⟩) := by
  have h : c % 257 = c := Nat.mod_eq_of_lt (by omega)
  simp only [← norm_read]
  unfold cols k0_pay2
  generalize k0_pay1 x g = n
  pointwise
  simp only [h]

/-- The whole block of projected rows, its columns taken 256 at a time. -/
def rowsBlock (x : Vec Ideal S512x1024 .f32) (g : Vec Ideal S1x1024 .f32) (w : Vec Ideal S1x1024x512 .bf16) :
    Vec Ideal S512x512 .f32 :=
  fun j => cols x g w ((j 1).val / 256 * 256) (ix2 (j 0) ⟨(j 1).val % 256, Nat.mod_lt _ (by decide)⟩)

/-- A stored block of columns is its part of the whole block. -/
theorem rowsBlock_piece (x : Vec Ideal S512x1024 .f32) (g : Vec Ideal S1x1024 .f32) (w : Vec Ideal S1x1024x512 .bf16)
    (c : ℕ) (hc : c % 256 = 0) (inb) (y : (Rect.unit (s := S512x512) ![0, c] ![512, 256] inb).shape.Idx) :
    cols x g w c y = rowsBlock x g w ((Rect.unit (s := S512x512) ![0, c] ![512, 256] inb).emb y) := by
  obtain ⟨z, u, rfl⟩ : ∃ (z : Fin 512) (u : Fin 256), y = ix2 z u := ⟨y 0, y 1, eq_ix2 y⟩
  unfold rowsBlock
  have h1 : ((Rect.unit (s := S512x512) ![0, c] ![512, 256] inb).emb (ix2 z u) 1).val = c + u.val := by
    simp [Rect.emb, Rect.unit]
  have h0 : ((Rect.unit (s := S512x512) ![0, c] ![512, 256] inb).emb (ix2 z u) 0).val = z.val := by
    simp [Rect.emb, Rect.unit]
  have h3 : (c + u.val) / 256 * 256 = c := by omega
  have h4 : (c + u.val) % 256 = u.val := by omega
  simp only [h1, h3, h4]
  exact congrArg (fun k => cols x g w c (ix2 k u)) (Fin.ext h0.symm)

/-- What a grid point leaves in its block of rows. -/
theorem rows_eq (x0 : Vec Ideal S512x1024 .f32) (x1 : Vec Ideal S1x1024 .f32) (x2 : Vec Ideal S1x1024x512 .bf16)
    (x3 x4 : Vec Ideal S512x128 .f32) : out0_5 x0 x1 x2 x3 x4 = rowsBlock x0 x1 x2 := by
  unfold out0_5
  simp (disch := decide) only [r0_0, r0_1, View.ld_unit_lit']
  funext y
  refine View.canon_apply_of_pieces _ _ (View.PiecesOf.mem ?_) y (cover0_5 _ _ y)
  repeat' constructor
  all_goals exact fun y => rowsBlock_piece x0 x1 x2 _ (by decide) (by decide) y

variable (m : (ℓ : Loc nD τ sig) → Buf (Elt Ideal) ℓ) (c : Dev nD)

/-- The windows' block indices at point `t`. -/
theorem idx : ∀ t : Fin cfg0.N, win0_0.index t = ![t.val, 0] ∧ win0_1.index t = ![0, 0] ∧
    win0_2.index t = ![0, 0, 0] ∧ win0_5.index t = ![t.val, 0] ∧ t.val < 4 :=
  (by decide +kernel : ∀ t : Fin grid0.N, win0_0.index t = ![t.val, 0] ∧ win0_1.index t = ![0, 0] ∧
    win0_2.index t = ![0, 0, 0] ∧ win0_5.index t = ![t.val, 0] ∧ t.val < 4)

variable (t : Fin cfg0.N)

/-- The row among all rows a grid point's row is. -/
def rowOf (i : Fin 512) : Fin 2048 := ⟨512 * t.val + i.val, by have h : t.val < 4 := (idx t).2.2.2.2; omega⟩

/-- The rows. -/
theorem blk0 (i : Fin 512) (l : Fin 1024) :
    (iblk m c 0 t : Vec Ideal S512x1024 .f32) (ix2 i l)
      = m ((c : Thread nD τ).loc main_arg0) (ix3 ⟨(rowOf t i).val / 256, by omega⟩ ⟨(rowOf t i).val % 256, by omega⟩ l) := by
  have h := idx t
  unfold rowOf
  blk_point [iblk, V, h]

/-- The norm's weights. -/
theorem blk1 (l : Fin 1024) :
    (iblk m c 1 t : Vec Ideal S1x1024 .f32) (ix2 0 l) = m ((c : Thread nD τ).loc main_arg1) (ix2 0 l) := by
  have h := idx t
  blk_point [iblk, V, h]

/-- The keys' weights and the values', side by side. -/
def weights (k v : FVec Ideal S4x1024x256 .f32) : FVec Ideal S4x1024x512 .bf16 :=
  truncf .bf16 (concatenate S4x1024x512 2 [⟨S4x1024x256, k⟩, ⟨S4x1024x256, v⟩]
    concatenates_S4x1024x256_S4x1024x256_S4x1024x512_d2 : FVec Ideal S4x1024x512 .f32) bitsLt_bf16_f32

/-- The weights at an index. -/
theorem weights_read (a b : FVec Ideal S4x1024x256 .f32) (d : Fin 1024) (k : Fin 512) :
    weights a b (ix3 0 d k) = if h : k.val < 256 then a (ix3 0 d ⟨k.val, h⟩) else b (ix3 0 d ⟨k.val - 256, by omega⟩) := by
  pointwise [weights]

/-- The weights the kernel is given. -/
theorem V_weights : V m c main_v1
    = weights (m ((c : Thread nD τ).loc main_arg2)) (m ((c : Thread nD τ).loc main_arg3)) := by
  unfold V
  after_results_simp
  rfl

/-- The weights of a grid point. -/
theorem blk2 (d : Fin 1024) (k : Fin 512) :
    (iblk m c 2 t : Vec Ideal S1x1024x512 .bf16) (ix3 0 d k)
      = weights (m ((c : Thread nD τ).loc main_arg2)) (m ((c : Thread nD τ).loc main_arg3)) (ix3 0 d k) := by
  have h := idx t
  rw [← V_weights m c]
  blk_ext [iblk, h]

/-- The arrays of the memory's projection, from the arguments. -/
def arrays : Mem.Arrays where
  x b s l := m ((c : Thread nD τ).loc main_arg0) (ix3 b s l)
  g l := m ((c : Thread nD τ).loc main_arg1) (ix2 0 l)
  wk d k := m ((c : Thread nD τ).loc main_arg2) (ix3 0 d k)
  wv d k := m ((c : Thread nD τ).loc main_arg3) (ix3 0 d k)

/-- What a grid point leaves in its block of rows: the memory's keys and values. -/
theorem rows_read (i k : Fin 512) :
    (out0_5 (iblk m c 0 t) (iblk m c 1 t) (iblk m c 2 t) (iblk m c 3 t) (iblk m c 4 t) : Vec Ideal S512x512 .f32) (ix2 i k)
      = Mem.rowOut (arrays m c) (rowOf t i) k := by
  rw [rows_eq]
  refine (cols_read _ _ _ (k.val / 256 * 256) (by omega) i ⟨k.val % 256, by omega⟩).trans ?_
  have hk : (⟨k.val / 256 * 256 + k.val % 256, by omega⟩ : Fin 512) = k := Fin.ext (by simp only; omega)
  unfold Mem.rowOut Mem.out
  by_cases h : k.val < 256
  · rw [dif_pos h]
    refine Finset.sum_congr rfl fun d _ => congrArg₂ _ (congrArg₂ (Ffn.norm · · d) (funext fun l => blk0 m c t i l)
      (funext fun l => blk1 m c t l)) ?_
    simp only [hk]
    rw [blk2, weights_read, dif_pos h]
    rfl
  · rw [dif_neg h]
    refine Finset.sum_congr rfl fun d _ => congrArg₂ _ (congrArg₂ (Ffn.norm · · d) (funext fun l => blk0 m c t i l)
      (funext fun l => blk1 m c t l)) ?_
    simp only [hk]
    rw [blk2, weights_read, dif_neg h]
    rfl

/-- The array of the memory's keys and values. -/
def rows (A : Mem.Arrays) : FVec Ideal S2048x512 .f32 := fun i => Mem.rowOut A (i 0) (i 1)

/-- The kernel's result array. -/
theorem final_rows : (dats m 0 c).arrAt 5 cfg0.N = rows (arrays m c) := by
  refine (dats m 0 c).arrAt_eq_of_covers 5 _ (by decide +kernel) fun t _ y => ?_
  blk_simp
  rw [after0_5]
  change S512x512.Idx at y
  idx_vars y
  refine (rows_read m c t _ _).trans ?_
  refine congrArg₂ (Mem.rowOut (arrays m c)) (Fin.ext ?_) (Fin.ext ?_)
  · show 512 * t.val + y0.val = _
    blk_simp [idx t]
    omega
  · blk_simp [idx t]
end Cert.Kernel5Ideal.Value
-- ==== Proof.MemRef.lean ====
module
public import proofs.«01_k».proof.Proof.MemSpec
public import proofs.«01_k».proof.Proof.Gen.Reference5Ideal.Run
public import Idealize.ShloMosaic.Lib.Pipeline.ValueKit

/-!
The reference of the memory's keys and values, step by step, and each step read at an index.
-/

@[expose] public section
set_option maxRecDepth 16384
noncomputable section
namespace Cert.Reference5Ideal.Value
open Cert.Reference5Ideal Cert.Reference5Ideal.Gen
open Idealize.ShloMosaic.Tactic
open Idealize.ShloMosaic Idealize.ShloMosaic.TcCoe Idealize.SL.Sem

/-- The rows over the roots of their mean squares, times the first layer's weights. -/
def rms (x : FVec Ideal S8x256x1024 .f32) (g : FVec Ideal S4x1024 .f32) : FVec Ideal S8x256x1024 .f32 :=
  mulf (mulf x (broadcastInDim S8x256x1024 ![0, 1, 2] bcast_S8x256x1_S8x256x1024_0_1_2
      (Host.rsqrt (addf (Host.divf (broadcastInDim S8x256x1 ![0, 1] bcast_S8x256_S8x256x1_0_1
          (Host.reduceAdd (mulf x x) (constant S_ .f32 0x00000000#32) reducesTo_S8x256x1024_S8x256_d2 h_S_))
        (broadcastInDim S8x256x1 ![] bcast_S_S8x256x1 (constant S_ .f32 0x44800000#32)))
        (broadcastInDim S8x256x1 ![] bcast_S_S8x256x1 (constant S_ .f32 0x358637BD#32))))))
    (broadcastInDim S8x256x1024 ![0, 1, 2] bcast_S1x1x1024_S8x256x1024_0_1_2
      (broadcastInDim S1x1x1024 ![2] bcast_S1024_S1x1x1024_2
        (shapeCast _ (extractStridedSlice S1x1024 ![0, 0] g slices_S4x1024_S1x1024_0_0) shapeCasts_S1x1024_S1024)))

/-- The projected columns. -/
def proj (n : FVec Ideal S8x256x1024 .f32) (w : FVec Ideal S4x1024x256 .f32) : FVec Ideal S8x256x256 .f32 :=
  Host.dotGeneral dot_S8x256x1024_S1024x256_S8x256x256_2_0_01_1_n_n none n
    (shapeCast _ (extractStridedSlice S1x1024x256 ![0, 0, 0] w slices_S4x1024x256_S1x1024x256_0_0_0)
      shapeCasts_S1x1024x256_S1024x256)

/-- Keys and values side by side. -/
def both (k v : FVec Ideal S8x256x256 .f32) : FVec Ideal S2048x512 .f32 :=
  shapeCast _ (concatenate S8x256x512 2 [⟨S8x256x256, k⟩, ⟨S8x256x256, v⟩] concatenates_S8x256x256_S8x256x256_S8x256x512_d2)
    shapeCasts_S8x256x512_S2048x512

/-- The normalised rows at an index. -/
theorem rms_read (x : FVec Ideal S8x256x1024 .f32) (g : FVec Ideal S4x1024 .f32) (b : Fin 8) (s : Fin 256) (l : Fin 1024) :
    rms x g (ix3 b s l) = Ffn.norm (fun k => x (ix3 b s k)) (fun k => g (ix2 0 k)) l := by
  unfold Ffn.norm
  pointwise [rms]

/-- The projected columns at an index. -/
theorem proj_read (n : FVec Ideal S8x256x1024 .f32) (w : FVec Ideal S4x1024x256 .f32) (b : Fin 8) (s k : Fin 256) :
    proj n w (ix3 b s k) = ∑ d : Fin 1024, n (ix3 b s d) * w (ix3 0 d k) := by
  pointwise [proj]

/-- Keys and values at an index. -/
theorem both_read (a b : FVec Ideal S8x256x256 .f32) (r : Fin 2048) (k : Fin 512) :
    both a b (ix2 r k) = if h : k.val < 256 then a (ix3 ⟨r.val / 256, by omega⟩ ⟨r.val % 256, by omega⟩ ⟨k.val, h⟩)
      else b (ix3 ⟨r.val / 256, by omega⟩ ⟨r.val % 256, by omega⟩ ⟨k.val - 256, by omega⟩) := by
  pointwise [both]

variable (m : (ℓ : Loc nD τ sig) → Buf (Elt Ideal) ℓ) (c : Dev nD)

/-- The reference's normalised rows. -/
def refNorm : FVec Ideal S8x256x1024 .f32 := rms (m ((c.tc : Thread nD τ).loc main_arg0)) (m ((c.tc : Thread nD τ).loc main_arg1))

/-- The reference's keys and values. -/
def refRows : FVec Ideal S2048x512 .f32 :=
  both (proj (refNorm m c) (m ((c.tc : Thread nD τ).loc main_arg2))) (proj (refNorm m c) (m ((c.tc : Thread nD τ).loc main_arg3)))

/-- The arrays of the memory's projection, from the arguments. -/
def arrays : Mem.Arrays where
  x b s l := m ((c.tc : Thread nD τ).loc main_arg0) (ix3 b s l)
  g l := m ((c.tc : Thread nD τ).loc main_arg1) (ix2 0 l)
  wk d k := m ((c.tc : Thread nD τ).loc main_arg2) (ix3 0 d k)
  wv d k := m ((c.tc : Thread nD τ).loc main_arg3) (ix3 0 d k)

/-- The reference's keys and values are the memory's. -/
theorem rows_read (r : Fin 2048) (k : Fin 512) : refRows m c (ix2 r k) = Mem.rowOut (arrays m c) r k := by
  unfold refRows Mem.rowOut Mem.out refNorm
  rw [both_read]
  simp only [proj_read, rms_read]
  rfl
end Cert.Reference5Ideal.Value
-- ==== Proof.Memory.lean ====
module

public import proofs.«01_k».proof.Defs
public import proofs.«01_k».proof.Proof.Gen.Kernel5.Frame
public import proofs.«01_k».proof.Proof.Gen.Kernel5Ideal.Frame
public import proofs.«01_k».proof.Proof.MemKernel
public import proofs.«01_k».proof.Proof.MemRef
public import Idealize.ShloMosaic.Lib.Quiescent

/-!
The claims about the memory's keys and values: the frames and the value.
-/

@[expose] public section
noncomputable section
namespace Cert.Proof.Memory
open Idealize.ShloMosaic Idealize.ShloMosaic.TcCoe Idealize.SL.Sem

/-- The kernel runs, keeps its arguments and leaves every semaphore at 0. -/
theorem frame_kernel : Cert.quiescent_Kernel5 := fun m ρ _ => Cert.Kernel5.Gen.frame m ρ

/-- So does its idealization. -/
theorem frame_ideal : Cert.quiescent_Kernel5Ideal := fun m ρ _ => Cert.Kernel5Ideal.Gen.frame m ρ

/-- The reference runs, keeps its arguments and has no semaphores. -/
theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The idealization changes no operation. -/
theorem preserves : Cert.preserves_Kernel5_Kernel5Ideal := trivial

/-- The kernel's result array is the reference's. -/
theorem value : Cert.algebraic_Kernel5Ideal_Reference5Ideal := by
  intro m g m' g' _ hargs
  have harr : ∀ c, Cert.Reference5Ideal.Value.arrays m' c = Cert.Kernel5Ideal.Value.arrays m c := fun c => by
    obtain ⟨h0, h1, h2, h3⟩ := hargs c
    unfold Cert.Reference5Ideal.Value.arrays Cert.Kernel5Ideal.Value.arrays
    rw [h0, h1, h2, h3]
  refine ⟨fun c => Cert.Kernel5Ideal.Value.rows (Cert.Kernel5Ideal.Value.arrays m c),
    (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · exact ⟨(h c).1.trans (Cert.Kernel5Ideal.Value.final_rows m c), (h c).2⟩
  · refine ⟨(h c).1.trans (Eq.trans (b := Cert.Reference5Ideal.Value.refRows m' c) rfl ?_), (h c).2⟩
    funext i
    change Cert.Kernel5Ideal.S2048x512.Idx at i
    obtain ⟨r, k, rfl⟩ : ∃ (r : Fin 2048) (k : Fin 512), i = ix2 r k := ⟨i 0, i 1, eq_ix2 i⟩
    exact (Cert.Reference5Ideal.Value.rows_read m' c r k).trans (by rw [harr c]; rfl)
end Cert.Proof.Memory
end
-- ==== Proof.SampleKernel.lean ====
module
public import proofs.«01_k».proof.Proof.ProjSpec
public import proofs.«01_k».proof.Proof.ProjTile
public import proofs.«01_k».proof.Proof.Gen.Kernel6Ideal.Value
public import Idealize.ShloMosaic.Lib.Pipeline.ValueKit
public import Idealize.ShloMosaic.Lib.Pipeline.ReadBack
public import Idealize.ShloMosaic.Lib.Pointwise
public import Idealize.ShloMosaic.Lib.StableHlo.RunRead

/-!
The samples' projection kernel: its one grid point's blocks, and its result array is the layer's columns.
-/

@[expose] public section
set_option maxRecDepth 16384
noncomputable section
namespace Cert.Kernel6Ideal.Value
open Cert.Kernel6Ideal Cert.Kernel6Ideal.Gen
open Idealize.ShloMosaic.Tactic
open Idealize.ShloMosaic Idealize.ShloMosaic.TcCoe Idealize.SL.Sem
variable (m : (ℓ : Loc nD τ sig) → Buf (Elt Ideal) ℓ)

/-- The windows' block indices: every window is one block. -/
theorem idx : ∀ t : Fin cfg0.N, win0_0.index t = ![0, 0] ∧ win0_1.index t = ![0, 0] ∧ win0_2.index t = ![0, 0, 0] ∧
    win0_3.index t = ![0, 0] ∧ win0_4.index t = ![0, 0] ∧ win0_5.index t = ![0, 0] :=
  (by decide +kernel : ∀ t : Fin grid0.N, win0_0.index t = ![0, 0] ∧ win0_1.index t = ![0, 0] ∧ win0_2.index t = ![0, 0, 0] ∧
    win0_3.index t = ![0, 0] ∧ win0_4.index t = ![0, 0] ∧ win0_5.index t = ![0, 0])

/-- The places of a sequence's four new rows: they follow 2048 earlier ones. -/
def places : IVec S4 32 := addi (broadcastInDim S4 ![] bcast_S_S4 (constantI S_ 32 2048#32)) (iotaInDim S4 32 0)

/-- The places of all sequences' rows, counted through. -/
def rowPlaces : IVec S512 32 :=
  shapeCast S512 (broadcastInDim S128x4 ![0, 1] bcast_S1x4_S128x4_0_1 (shapeCast S1x4 places shapeCasts_S4_S1x4)) shapeCasts_S128x4_S512

/-- The angle of every row and every pair of a head's columns. -/
def angles : FVec Ideal S512x32 .f32 :=
  mulf (broadcastInDim S512x32 ![0, 1] bcast_S512x1_S512x32_0_1 (broadcastInDim S512x1 ![0] bcast_S512_S512x1_0 (sitofp .f32 rowPlaces)))
    (broadcastInDim S512x32 ![0, 1] bcast_S1x32_S512x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- Four tables of 32 columns, side by side. -/
def beside (a b c d : FVec Ideal S512x32 .f32) : FVec Ideal S512x128 .f32 :=
  concatenate S512x128 1 [⟨S512x32, a⟩, ⟨S512x32, b⟩, ⟨S512x32, c⟩, ⟨S512x32, d⟩]
    concatenates_S512x32_S512x32_S512x32_S512x32_S512x128_d1

/-- Two heads' cosines. -/
def cosTab : FVec Ideal S512x128 .f32 := beside (Host.cos angles) (Host.cos angles) (Host.cos angles) (Host.cos angles)

/-- Two heads' sines, negated in the first half of a head. -/
def sinTab : FVec Ideal S512x128 .f32 :=
  beside (Host.negf (Host.sin angles)) (Host.sin angles) (Host.negf (Host.sin angles)) (Host.sin angles)

/-- Four tables side by side, at an index. -/
theorem beside_read (a b c d : FVec Ideal S512x32 .f32) (s : Fin 512) (l : Fin 128) :
    beside a b c d (ix2 s l) = if l.val < 32 then a (ix2 s ⟨l.val % 32, by omega⟩)
      else if l.val < 64 then b (ix2 s ⟨l.val % 32, by omega⟩)
      else if l.val < 96 then c (ix2 s ⟨l.val % 32, by omega⟩) else d (ix2 s ⟨l.val % 32, by omega⟩) := by
  have e : ∀ (v : FVec Ideal S512x32 .f32) (k k' : Fin 32), k.val = k'.val → v (ix2 s k) = v (ix2 s k') :=
    fun v k k' h => congrArg (fun k => v (ix2 s k)) (Fin.ext h)
  pointwise [beside]
  by_cases h1 : l.val < 32
  · exact (dif_pos h1).trans ((e a _ _ (show l.val = l.val % 32 by omega)).trans (if_pos h1).symm)
  refine (dif_neg h1).trans (Eq.trans ?_ (if_neg h1).symm)
  by_cases h2 : l.val < 64
  · exact (dif_pos (show l.val - 32 < 32 by omega)).trans ((e b _ _ (show l.val - 32 = l.val % 32 by omega)).trans (if_pos h2).symm)
  refine (dif_neg (show ¬l.val - 32 < 32 by omega)).trans (Eq.trans ?_ (if_neg h2).symm)
  by_cases h3 : l.val < 96
  · exact (dif_pos (show l.val - 32 - 32 < 32 by omega)).trans
      ((e c _ _ (show l.val - 32 - 32 = l.val % 32 by omega)).trans (if_pos h3).symm)
  exact (dif_neg (show ¬l.val - 32 - 32 < 32 by omega)).trans
    ((e d _ _ (show l.val - 32 - 32 - 32 = l.val % 32 by omega)).trans (if_neg h3).symm)

/-- The cosines at an index. -/
theorem cosTab_read (s : Fin 512) (l : Fin 128) : cosTab (ix2 s l) = Ideal.cos (angles (ix2 s ⟨l.val % 32, by omega⟩)) := by
  unfold cosTab
  rw [beside_read]
  simp only [ite_self]
  rfl

/-- The sines at an index. -/
theorem sinTab_read (s : Fin 512) (l : Fin 128) :
    sinTab (ix2 s l) = if l.val % 64 < 32 then -Ideal.sin (angles (ix2 s ⟨l.val % 32, by omega⟩))
      else Ideal.sin (angles (ix2 s ⟨l.val % 32, by omega⟩)) := by
  unfold sinTab
  rw [beside_read]
  by_cases h : l.val % 64 < 32
  · rw [if_pos h]
    by_cases h1 : l.val < 32
    · rw [if_pos h1]; rfl
    · rw [if_neg h1, if_neg (by omega), if_pos (by omega)]; rfl
  · rw [if_neg h, if_neg (by omega)]
    by_cases h2 : l.val < 64
    · rw [if_pos h2]; rfl
    · rw [if_neg h2, if_neg (by omega)]; rfl

/-- A row's place is that of the same row of the first sequence. -/
theorem rowPlaces_read (r : Fin 512) : rowPlaces (ix1 r) = places (ix1 ⟨r.val % 4, by omega⟩) := by
  unfold rowPlaces
  generalize places = p
  pointwise

/-- An angle, of the row's place. -/
theorem angles_read (r : Fin 512) (l : Fin 32) :
    angles (ix2 r l) = FloatOps.mulf (FloatOps.sitofp .f32 (places (ix1 ⟨r.val % 4, by omega⟩)) : Ideal .f32)
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))) (ix1 l)) := by
  rw [← rowPlaces_read]
  unfold angles
  generalize rowPlaces = p
  generalize (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))) : FVec Ideal S32 .f32) = q
  pointwise

/-- A row's angles are those of the same row of the first sequence. -/
theorem angles_row (r : Fin 512) (l : Fin 32) : angles (ix2 r l) = angles (ix2 ⟨r.val % 4, by omega⟩ l) := by
  rw [angles_read, angles_read]
  simp only [Nat.mod_mod]

set_option maxHeartbeats 1000000 in
/-- The table of cosines the kernel is given. -/
theorem V_cos (c : Dev nD) : V m c main_v24 = cosTab := by
  have h22 : StableHlo.upto hostOps0 (fun b => m (c, b)) 27 (Proc.devRef .tc main_v22) = (Host.cos angles : FVec Ideal S512x32 .f32) := by
    unfold StableHlo.upto
    simp only [List.take]
    after_results_simp
    rfl
  refine (StableHlo.after_last_write (i := 27) [main_v25, main_v26, main_v27] rfl rfl (by decide) _).trans ?_
  refine (StableHlo.nary4_result _ _ _ _).trans ?_
  show beside (StableHlo.upto hostOps0 (fun b => m (c, b)) 27 (Proc.devRef .tc main_v22))
    (StableHlo.upto hostOps0 (fun b => m (c, b)) 27 (Proc.devRef .tc main_v22))
    (StableHlo.upto hostOps0 (fun b => m (c, b)) 27 (Proc.devRef .tc main_v22))
    (StableHlo.upto hostOps0 (fun b => m (c, b)) 27 (Proc.devRef .tc main_v22)) = _
  rw [h22]
  rfl

set_option maxHeartbeats 1000000 in
/-- The table of sines the kernel is given. -/
theorem V_sin (c : Dev nD) : V m c main_v26 = sinTab := by
  have h23 : StableHlo.upto hostOps0 (fun b => m (c, b)) 29 (Proc.devRef .tc main_v23) = (Host.sin angles : FVec Ideal S512x32 .f32) := by
    unfold StableHlo.upto
    simp only [List.take]
    after_results_simp
    rfl
  have h25 : StableHlo.upto hostOps0 (fun b => m (c, b)) 29 (Proc.devRef .tc main_v25)
      = (Host.negf (Host.sin angles) : FVec Ideal S512x32 .f32) := by
    unfold StableHlo.upto
    simp only [List.take]
    after_results_simp
    rfl
  refine (StableHlo.after_last_write (i := 29) [main_v27] rfl rfl (by decide) _).trans ?_
  refine (StableHlo.nary4_result _ _ _ _).trans ?_
  show beside (StableHlo.upto hostOps0 (fun b => m (c, b)) 29 (Proc.devRef .tc main_v25))
    (StableHlo.upto hostOps0 (fun b => m (c, b)) 29 (Proc.devRef .tc main_v23))
    (StableHlo.upto hostOps0 (fun b => m (c, b)) 29 (Proc.devRef .tc main_v25))
    (StableHlo.upto hostOps0 (fun b => m (c, b)) 29 (Proc.devRef .tc main_v23)) = _
  rw [h23, h25]
  rfl

variable (c : Dev nD) (t : Fin cfg0.N)

/-- The rows. -/
theorem blk0 (i : Fin 512) (l : Fin 1024) : (iblk m c 0 t : Vec Ideal S512x1024 .f32) (ix2 i l)
      = m ((c : Thread nD τ).loc main_arg0) (ix3 ⟨i.val / 4, by omega⟩ ⟨i.val % 4, by omega⟩ l) := by
  have h := idx t
  blk_point [iblk, V, h]

/-- The norm's weights. -/
theorem blk1 (l : Fin 1024) : (iblk m c 1 t : Vec Ideal S1x1024 .f32) (ix2 0 l) = m ((c : Thread nD τ).loc main_arg1) (ix2 0 l) := by
  have h := idx t
  blk_point [iblk, V, h]

/-- The projection's weights. -/
theorem blk2 (d : Fin 1024) (k : Fin 2816) :
    (iblk m c 2 t : Vec Ideal S1x1024x2816 .bf16) (ix3 0 d k) = m ((c : Thread nD τ).loc main_arg2) (ix3 0 d k) := by
  have h := idx t
  blk_point [iblk, V, h]

/-- The cosines. -/
theorem blk3 (i : Fin 512) (l : Fin 128) : (iblk m c 3 t : Vec Ideal S512x128 .f32) (ix2 i l) = cosTab (ix2 i l) := by
  have h := idx t
  rw [← V_cos m c]
  blk_ext [iblk, h]

/-- The sines. -/
theorem blk4 (i : Fin 512) (l : Fin 128) : (iblk m c 4 t : Vec Ideal S512x128 .f32) (ix2 i l) = sinTab (ix2 i l) := by
  have h := idx t
  rw [← V_sin m c]
  blk_ext [iblk, h]

/-- The projection's arrays, from the kernel's arguments. -/
def arrays : Proj.Arrays 128 4 where
  x b s l := m ((c : Thread nD τ).loc main_arg0) (ix3 b s l)
  g l := m ((c : Thread nD τ).loc main_arg1) (ix2 0 l)
  w d k := m ((c : Thread nD τ).loc main_arg2) (ix3 0 d k)
  ang s l := angles (ix2 ⟨s.val, by omega⟩ l)

/-- The normalised rows of the grid point. -/
def normRows : FVec Ideal S512x1024 .bf16 := Kernel3Ideal.Gen.k0_pay6 (F := Ideal) (iblk m c 0 t) (iblk m c 1 t)

/-- The grid point's plainly projected columns are the layer's. -/
theorem cols_eq (k : ℕ) (hk : k + 256 ≤ 2816) (i : Fin 512) (q : Fin 256) :
    Kernel3Ideal.Value.cols (normRows m c t) (iblk m c 2 t) k (ix2 i q)
      = Proj.col (arrays m c) ⟨i.val / 4, by omega⟩ ⟨i.val % 4, by omega⟩ ⟨k + q.val, by omega⟩ := by
  rw [Kernel3Ideal.Value.cols_read _ _ k hk]
  unfold Proj.col normRows
  refine Finset.sum_congr rfl fun d _ => congrArg₂ (· * ·) ?_ (blk2 m c t d _)
  rw [Kernel3Ideal.Value.norm_read]
  exact congrArg₂ (fun u v => Ffn.norm u v d) (funext fun l => blk0 m c t i l) (funext fun l => blk1 m c t l)

/-- The grid point's columns are the layer's. -/
theorem tile_eq (k : ℕ) (h256 : k % 256 = 0) (hk : k + 256 ≤ 2816) (i : Fin 512) (q : Fin 256) :
    Kernel3Ideal.Value.tile (normRows m c t) (iblk m c 2 t) (iblk m c 3 t) (iblk m c 4 t) k (ix2 i q)
      = Proj.sampleOut (arrays m c) i ⟨k + q.val, by omega⟩ := by
  unfold Kernel3Ideal.Value.tile Proj.sampleOut Proj.out
  by_cases h : k < 768
  · rw [if_pos h, if_pos (show k + q.val < 768 by omega), Kernel3Ideal.Value.turned_read, cols_eq m c t k hk, cols_eq m c t k hk]
    refine (congrArg₂ (fun u v => _ * u + _ * v) (blk3 m c t i _) (blk4 m c t i _)).trans ?_
    rw [cosTab_read, sinTab_read, angles_row]
    have hang : ∀ (u : Fin 32), u.val = (k + q.val) % 32 → angles (ix2 ⟨i.val % 4, by omega⟩ u)
        = (arrays m c).ang ⟨i.val % 4, by omega⟩ ⟨(k + q.val) % 32, by omega⟩ := fun u h => by rw [show u = ⟨(k + q.val) % 32, by omega⟩ from Fin.ext h]; rfl
    rw [hang _ (by simp only; omega)]
    have hpart : k + (if q.val % 64 < 32 then q.val + 32 else q.val + 224) % 256 = Proj.partner (k + q.val) := by
      unfold Proj.partner
      split <;> split <;> omega
    have hq : (q.val % 128) % 64 = q.val % 64 := by omega
    have hkq : (k + q.val) % 64 = q.val % 64 := by omega
    simp only [hq, hkq, hpart]
    unfold Proj.turn
    by_cases h2 : q.val % 64 < 32
    · simp only [if_pos h2, sub_eq_add_neg, ← mul_neg]
    · simp only [if_neg h2]
  · rw [if_neg h, if_neg (show ¬k + q.val < 768 by omega), cols_eq m c t k hk]

/-- What the grid point leaves in its block: its columns, taken 256 at a time. -/
theorem block_eq (x0 : Vec Ideal S512x1024 .f32) (x1 : Vec Ideal S1x1024 .f32) (x2 : Vec Ideal S1x1024x2816 .bf16)
    (x3 x4 : Vec Ideal S512x128 .f32) :
    out0_5 x0 x1 x2 x3 x4 = Kernel3Ideal.Value.rowsBlock (Kernel3Ideal.Gen.k0_pay6 (F := Ideal) x0 x1) x2 x3 x4 := by
  unfold_out out0_5
  simp (disch := decide) only [r0_0, r0_1, r0_2, View.ld_unit_lit']
  funext y
  refine View.canon_apply_of_pieces _ _ (View.PiecesOf.mem ?_) y (cover0_5 _ _ _ _ _ _ _ _ _ _ _ y)
  repeat' constructor
  all_goals exact fun x =>
    Kernel3Ideal.Value.rowsBlock_piece (Kernel3Ideal.Gen.k0_pay6 (F := Ideal) x0 x1) x2 x3 x4 _ (by decide) (by decide) x

/-- What the grid point leaves in its block, at an index. -/
theorem block_read (i : Fin 512) (k : Fin 2816) :
    (out0_5 (iblk m c 0 t) (iblk m c 1 t) (iblk m c 2 t) (iblk m c 3 t) (iblk m c 4 t) : Vec Ideal S512x2816 .f32) (ix2 i k)
      = Proj.sampleOut (arrays m c) i k := by
  rw [block_eq]
  refine (tile_eq m c t (k.val / 256 * 256) (by omega) (by omega) i ⟨k.val % 256, by omega⟩).trans ?_
  exact congrArg (Proj.sampleOut (arrays m c) i) (Fin.ext (by simp only; omega))

/-- The array of the samples' rows. -/
def rows (A : Proj.Arrays 128 4) : FVec Ideal S512x2816 .f32 := fun i => Proj.sampleOut A (i 0) (i 1)

/-- The kernel's result array. -/
theorem final_rows : (dats m 0 c).arrAt 5 cfg0.N = rows (arrays m c) := by
  refine (dats m 0 c).arrAt_eq_of_covers 5 _ (by decide +kernel) fun t _ y => ?_
  blk_simp
  rw [after0_5]
  change S512x2816.Idx at y
  idx_vars y
  refine (block_read m c t _ _).trans ?_
  refine congrArg₂ (Proj.sampleOut (arrays m c)) (Fin.ext ?_) (Fin.ext ?_)
  · blk_simp [idx t]
  · blk_simp [idx t]
end Cert.Kernel6Ideal.Value
-- ==== Proof.SampleRef.lean ====
module
public import proofs.«01_k».proof.Proof.ProjSpec
public import proofs.«01_k».proof.Proof.Gen.Reference6Ideal.Run
public import Idealize.ShloMosaic.Lib.Pipeline.ValueKit

/-!
The reference of the samples' projection, step by step, and each step read at an index.
-/

@[expose] public section
set_option maxRecDepth 16384
noncomputable section
namespace Cert.Reference6Ideal.Value
open Cert.Reference6Ideal Cert.Reference6Ideal.Gen
open Idealize.ShloMosaic.Tactic
open Idealize.ShloMosaic Idealize.ShloMosaic.TcCoe Idealize.SL.Sem

/-- The rows over the roots of their mean squares, times the first layer's weights. -/
def rms (x : FVec Ideal S128x4x1024 .f32) (g : FVec Ideal S4x1024 .f32) : FVec Ideal S128x4x1024 .f32 :=
  mulf (mulf x (broadcastInDim S128x4x1024 ![0, 1, 2] bcast_S128x4x1_S128x4x1024_0_1_2
      (Host.rsqrt (addf (Host.divf (broadcastInDim S128x4x1 ![0, 1] bcast_S128x4_S128x4x1_0_1
          (Host.reduceAdd (mulf x x) (constant S_ .f32 0x00000000#32) reducesTo_S128x4x1024_S128x4_d2 h_S_))
        (broadcastInDim S128x4x1 ![] bcast_S_S128x4x1 (constant S_ .f32 0x44800000#32)))
        (broadcastInDim S128x4x1 ![] bcast_S_S128x4x1 (constant S_ .f32 0x358637BD#32))))))
    (broadcastInDim S128x4x1024 ![0, 1, 2] bcast_S1x1x1024_S128x4x1024_0_1_2
      (broadcastInDim S1x1x1024 ![2] bcast_S1024_S1x1x1024_2
        (shapeCast _ (extractStridedSlice S1x1024 ![0, 0] g slices_S4x1024_S1x1024_0_0) shapeCasts_S1x1024_S1024)))

/-- The projected columns. -/
def proj (n : FVec Ideal S128x4x1024 .f32) (w : FVec Ideal S4x1024x2816 .f32) : FVec Ideal S128x4x2816 .f32 :=
  Host.dotGeneral dot_S128x4x1024_S1024x2816_S128x4x2816_2_0_01_1_n_n none n
    (shapeCast _ (extractStridedSlice S1x1024x2816 ![0, 0, 0] w slices_S4x1024x2816_S1x1024x2816_0_0_0)
      shapeCasts_S1x1024x2816_S1024x2816)

/-- The places of a sequence's four new rows: they follow 2048 earlier ones. -/
def places : IVec S4 32 := addi (broadcastInDim S4 ![] bcast_S_S4 (constantI S_ 32 2048#32)) (iotaInDim S4 32 0)

/-- The angle of every new place and every pair of a head's columns. -/
def angles : FVec Ideal S4x32 .f32 :=
  mulf (broadcastInDim S4x32 ![0, 1] bcast_S4x1_S4x32_0_1 (broadcastInDim S4x1 ![0] bcast_S4_S4x1_0 (sitofp .f32 places)))
    (broadcastInDim S4x32 ![0, 1] bcast_S1x32_S4x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of every place and pair, for eight heads. -/
def table8 (v : FVec Ideal S4x32 .f32) : FVec Ideal S128x4x8x32 .f32 :=
  broadcastInDim S128x4x8x32 ![0, 1, 2, 3] bcast_S1x4x1x32_S128x4x8x32_0_1_2_3
    (broadcastInDim S1x4x1x32 ![1, 3] bcast_S4x32_S1x4x1x32_1_3 v)

/-- A table of every place and pair, for four heads. -/
def table4 (v : FVec Ideal S4x32 .f32) : FVec Ideal S128x4x4x32 .f32 :=
  broadcastInDim S128x4x4x32 ![0, 1, 2, 3] bcast_S1x4x1x32_S128x4x4x32_0_1_2_3
    (broadcastInDim S1x4x1x32 ![1, 3] bcast_S4x32_S1x4x1x32_1_3 v)

/-- Eight heads' columns turned. -/
def turn8 (v : FVec Ideal S128x4x512 .f32) (a : FVec Ideal S4x32 .f32) : FVec Ideal S128x4x512 .f32 :=
  let h : FVec Ideal S128x4x8x64 .f32 := shapeCast _ v shapeCasts_S128x4x512_S128x4x8x64
  let y : FVec Ideal S128x4x8x32 .f32 := extractStridedSlice S128x4x8x32 ![0, 0, 0, 0] h slices_S128x4x8x64_S128x4x8x32_0_0_0_0
  let z : FVec Ideal S128x4x8x32 .f32 := extractStridedSlice S128x4x8x32 ![0, 0, 0, 32] h slices_S128x4x8x64_S128x4x8x32_0_0_0_32
  shapeCast _ (concatenate S128x4x8x64 3
      [⟨S128x4x8x32, (subf (mulf y (table8 (Host.cos a))) (mulf z (table8 (Host.sin a))))⟩,
       ⟨S128x4x8x32, (addf (mulf z (table8 (Host.cos a))) (mulf y (table8 (Host.sin a))))⟩]
      concatenates_S128x4x8x32_S128x4x8x32_S128x4x8x64_d3) shapeCasts_S128x4x8x64_S128x4x512

/-- Four heads' columns turned. -/
def turn4 (v : FVec Ideal S128x4x256 .f32) (a : FVec Ideal S4x32 .f32) : FVec Ideal S128x4x256 .f32 :=
  let h : FVec Ideal S128x4x4x64 .f32 := shapeCast _ v shapeCasts_S128x4x256_S128x4x4x64
  let y : FVec Ideal S128x4x4x32 .f32 := extractStridedSlice S128x4x4x32 ![0, 0, 0, 0] h slices_S128x4x4x64_S128x4x4x32_0_0_0_0
  let z : FVec Ideal S128x4x4x32 .f32 := extractStridedSlice S128x4x4x32 ![0, 0, 0, 32] h slices_S128x4x4x64_S128x4x4x32_0_0_0_32
  shapeCast _ (concatenate S128x4x4x64 3
      [⟨S128x4x4x32, (subf (mulf y (table4 (Host.cos a))) (mulf z (table4 (Host.sin a))))⟩,
       ⟨S128x4x4x32, (addf (mulf z (table4 (Host.cos a))) (mulf y (table4 (Host.sin a))))⟩]
      concatenates_S128x4x4x32_S128x4x4x32_S128x4x4x64_d3) shapeCasts_S128x4x4x64_S128x4x256

/-- The queries. -/
def query (p : FVec Ideal S128x4x2816 .f32) : FVec Ideal S128x4x512 .f32 :=
  turn8 (extractStridedSlice S128x4x512 ![0, 0, 0] p slices_S128x4x2816_S128x4x512_0_0_0) angles

/-- The keys. -/
def key (p : FVec Ideal S128x4x2816 .f32) : FVec Ideal S128x4x256 .f32 :=
  turn4 (extractStridedSlice S128x4x256 ![0, 0, 512] p slices_S128x4x2816_S128x4x256_0_0_512) angles

/-- Queries, keys and the other columns side by side. -/
def whole (p : FVec Ideal S128x4x2816 .f32) : FVec Ideal S128x4x2816 .f32 :=
  concatenate S128x4x2816 2 [⟨S128x4x512, query p⟩, ⟨S128x4x256, key p⟩,
      ⟨S128x4x2048, extractStridedSlice S128x4x2048 ![0, 0, 768] p slices_S128x4x2816_S128x4x2048_0_0_768⟩]
    concatenates_S128x4x512_S128x4x256_S128x4x2048_S128x4x2816_d2

variable (m : (ℓ : Loc nD τ sig) → Buf (Elt Ideal) ℓ) (c : Dev nD)

/-- The reference's projected columns. -/
def refProj : FVec Ideal S128x4x2816 .f32 :=
  proj (rms (m ((c.tc : Thread nD τ).loc main_arg0)) (m ((c.tc : Thread nD τ).loc main_arg1))) (m ((c.tc : Thread nD τ).loc main_arg2))

set_option maxHeartbeats 4000000 in
/-- The reference's result, by its steps. -/
theorem rows_eq : res_out0 m c = shapeCast _ (whole (refProj m c)) shapeCasts_S128x4x2816_S512x2816 := by
  show res_main_v87 m c = _
  unfold res_main_v87 whole query key turn8 turn4 table8 table4 angles places refProj proj rms
  rfl

/-- The normalised rows at an index. -/
theorem rms_read (x : FVec Ideal S128x4x1024 .f32) (g : FVec Ideal S4x1024 .f32) (b : Fin 128) (s : Fin 4) (l : Fin 1024) :
    rms x g (ix3 b s l) = Ffn.norm (fun k => x (ix3 b s k)) (fun k => g (ix2 0 k)) l := by
  unfold Ffn.norm
  pointwise [rms]

/-- The projected columns at an index. -/
theorem proj_read (n : FVec Ideal S128x4x1024 .f32) (w : FVec Ideal S4x1024x2816 .f32) (b : Fin 128) (s : Fin 4) (k : Fin 2816) :
    proj n w (ix3 b s k) = ∑ d : Fin 1024, n (ix3 b s d) * w (ix3 0 d k) := by
  pointwise [proj]

/-- Eight heads' turned columns at an index. -/
theorem turn8_read (v : FVec Ideal S128x4x512 .f32) (a : FVec Ideal S4x32 .f32) (b : Fin 128) (s : Fin 4) (k : Fin 512) :
    turn8 v a (ix3 b s k) = Proj.turn (k.val % 64 < 32) (v (ix3 b s k)) (v (ix3 b s ⟨Proj.partner k.val, Proj.partner_lt k.isLt rfl⟩))
      (a (ix2 s ⟨k.val % 32, by omega⟩)) := by
  have ev : ∀ k k' : Fin 512, k.val = k'.val → v (ix3 b s k) = v (ix3 b s k') := fun k k' h => congrArg (fun k => v (ix3 b s k)) (Fin.ext h)
  have ea : ∀ k k' : Fin 32, k.val = k'.val → a (ix2 s k) = a (ix2 s k') := fun k k' h => congrArg (fun k => a (ix2 s k)) (Fin.ext h)
  pointwise [turn8, table8]
  unfold Proj.turn
  by_cases h : k.val % 64 < 32
  · refine (dif_pos h).trans (Eq.trans ?_ (if_pos h).symm)
    have hp : Proj.partner k.val = k.val + 32 := if_pos h
    rw [ea ⟨k.val % 64, h⟩ ⟨k.val % 32, by omega⟩ (by simp only; omega),
      ev ⟨k.val / 64 * 64 + (32 + k.val % 64), by omega⟩ ⟨Proj.partner k.val, Proj.partner_lt k.isLt rfl⟩ (by simp only [hp]; omega)]
  · refine (dif_neg h).trans (Eq.trans ?_ (if_neg h).symm)
    have hp : Proj.partner k.val = k.val - 32 := if_neg h
    rw [ea ⟨k.val % 64 - 32, by omega⟩ ⟨k.val % 32, by omega⟩ (by simp only; omega),
      ev ⟨k.val / 64 * 64 + (32 + (k.val % 64 - 32)), by omega⟩ k (by simp only; omega),
      ev ⟨k.val / 64 * 64 + (k.val % 64 - 32), by omega⟩ ⟨Proj.partner k.val, Proj.partner_lt k.isLt rfl⟩ (by simp only [hp]; omega)]

/-- Four heads' turned columns at an index. -/
theorem turn4_read (v : FVec Ideal S128x4x256 .f32) (a : FVec Ideal S4x32 .f32) (b : Fin 128) (s : Fin 4) (k : Fin 256) :
    turn4 v a (ix3 b s k) = Proj.turn (k.val % 64 < 32) (v (ix3 b s k)) (v (ix3 b s ⟨Proj.partner k.val, Proj.partner_lt k.isLt rfl⟩))
      (a (ix2 s ⟨k.val % 32, by omega⟩)) := by
  have ev : ∀ k k' : Fin 256, k.val = k'.val → v (ix3 b s k) = v (ix3 b s k') := fun k k' h => congrArg (fun k => v (ix3 b s k)) (Fin.ext h)
  have ea : ∀ k k' : Fin 32, k.val = k'.val → a (ix2 s k) = a (ix2 s k') := fun k k' h => congrArg (fun k => a (ix2 s k)) (Fin.ext h)
  pointwise [turn4, table4]
  unfold Proj.turn
  by_cases h : k.val % 64 < 32
  · refine (dif_pos h).trans (Eq.trans ?_ (if_pos h).symm)
    have hp : Proj.partner k.val = k.val + 32 := if_pos h
    rw [ea ⟨k.val % 64, h⟩ ⟨k.val % 32, by omega⟩ (by simp only; omega),
      ev ⟨k.val / 64 * 64 + (32 + k.val % 64), by omega⟩ ⟨Proj.partner k.val, Proj.partner_lt k.isLt rfl⟩ (by simp only [hp]; omega)]
  · refine (dif_neg h).trans (Eq.trans ?_ (if_neg h).symm)
    have hp : Proj.partner k.val = k.val - 32 := if_neg h
    rw [ea ⟨k.val % 64 - 32, by omega⟩ ⟨k.val % 32, by omega⟩ (by simp only; omega),
      ev ⟨k.val / 64 * 64 + (32 + (k.val % 64 - 32)), by omega⟩ k (by simp only; omega),
      ev ⟨k.val / 64 * 64 + (k.val % 64 - 32), by omega⟩ ⟨Proj.partner k.val, Proj.partner_lt k.isLt rfl⟩ (by simp only [hp]; omega)]

/-- The projection's arrays, from the reference's arguments. -/
def arrays : Proj.Arrays 128 4 where
  x b s l := m ((c.tc : Thread nD τ).loc main_arg0) (ix3 b s l)
  g l := m ((c.tc : Thread nD τ).loc main_arg1) (ix2 0 l)
  w d k := m ((c.tc : Thread nD τ).loc main_arg2) (ix3 0 d k)
  ang s l := angles (ix2 s l)

/-- The reference's projected columns are the layer's. -/
theorem refProj_eq (b : Fin 128) (s : Fin 4) (k : Fin 2816) : refProj m c (ix3 b s k) = Proj.col (arrays m c) b s k := by
  unfold refProj Proj.col
  rw [proj_read]
  exact Finset.sum_congr rfl fun d _ => by rw [rms_read]; rfl

/-- The queries at an index, of the projected columns. -/
theorem query_slice (p : FVec Ideal S128x4x2816 .f32) (b : Fin 128) (s : Fin 4) (k : Fin 512) :
    extractStridedSlice S128x4x512 ![0, 0, 0] p slices_S128x4x2816_S128x4x512_0_0_0 (ix3 b s k) = p (ix3 b s ⟨k.val, by omega⟩) := by
  pointwise

/-- The keys at an index, of the projected columns. -/
theorem key_slice (p : FVec Ideal S128x4x2816 .f32) (b : Fin 128) (s : Fin 4) (k : Fin 256) :
    extractStridedSlice S128x4x256 ![0, 0, 512] p slices_S128x4x2816_S128x4x256_0_0_512 (ix3 b s k)
      = p (ix3 b s ⟨512 + k.val, by omega⟩) := by
  pointwise

/-- The reference's queries are the layer's. -/
theorem query_out (b : Fin 128) (s : Fin 4) (k : Fin 512) :
    query (refProj m c) (ix3 b s k) = Proj.out (arrays m c) b s ⟨k.val, by omega⟩ := by
  unfold query Proj.out
  rw [turn8_read, query_slice, query_slice, refProj_eq, refProj_eq, if_pos (show k.val < 768 by omega)]
  rfl

/-- The reference's keys are the layer's. -/
theorem key_out (b : Fin 128) (s : Fin 4) (k : Fin 256) :
    key (refProj m c) (ix3 b s k) = Proj.out (arrays m c) b s ⟨512 + k.val, by omega⟩ := by
  unfold key Proj.out
  rw [turn4_read, key_slice, key_slice, refProj_eq, refProj_eq, if_pos (show 512 + k.val < 768 by omega)]
  have h1 : (512 + k.val) % 64 = k.val % 64 := by omega
  have h2 : (512 + k.val) % 32 = k.val % 32 := by omega
  have h3 : Proj.partner (512 + k.val) = 512 + Proj.partner k.val := by
    unfold Proj.partner
    rw [h1]
    split <;> omega
  simp only [h1, h2, h3]
  rfl

/-- The three parts side by side, at an index. -/
theorem whole_read (p : FVec Ideal S128x4x2816 .f32) (b : Fin 128) (s : Fin 4) (k : Fin 2816) :
    whole p (ix3 b s k) = if h : k.val < 512 then query p (ix3 b s ⟨k.val, h⟩)
      else if h' : k.val < 768 then key p (ix3 b s ⟨k.val - 512, by omega⟩) else p (ix3 b s k) := by
  have ep : ∀ k k' : Fin 2816, k.val = k'.val → p (ix3 b s k) = p (ix3 b s k') :=
    fun k k' h => congrArg (fun k => p (ix3 b s k)) (Fin.ext h)
  pointwise [whole]
  by_cases h1 : k.val < 512
  · refine (dif_pos h1).trans ?_
    rw [dif_pos h1]
  refine (dif_neg h1).trans (Eq.trans ?_ (dif_neg h1).symm)
  by_cases h2 : k.val < 768
  · refine (dif_pos (show k.val - 512 < 256 by omega)).trans ?_
    rw [dif_pos h2]
  refine (dif_neg (show ¬k.val - 512 < 256 by omega)).trans (Eq.trans ?_ (dif_neg h2).symm)
  exact ep _ _ (show 768 + (k.val - 512 - 256) = k.val by omega)

/-- The reference's columns are the layer's. -/
theorem whole_out (b : Fin 128) (s : Fin 4) (k : Fin 2816) : whole (refProj m c) (ix3 b s k) = Proj.out (arrays m c) b s k := by
  rw [whole_read]
  by_cases h1 : k.val < 512
  · rw [dif_pos h1, query_out]
  by_cases h2 : k.val < 768
  · rw [dif_neg h1, dif_pos h2, key_out]
    exact congrArg (Proj.out (arrays m c) b s) (Fin.ext (by simp only; omega))
  · rw [dif_neg h1, dif_neg h2, refProj_eq, Proj.out, if_neg h2]

/-- The reference's result at an index. -/
theorem rows_read (r : Fin 512) (k : Fin 2816) :
    (res_out0 m c : FVec Ideal S512x2816 .f32) (ix2 r k) = Proj.sampleOut (arrays m c) r k := by
  rw [rows_eq]
  have h : ∀ v : FVec Ideal S128x4x2816 .f32, shapeCast S512x2816 v shapeCasts_S128x4x2816_S512x2816 (ix2 r k)
      = v (ix3 ⟨r.val / 4, by omega⟩ ⟨r.val % 4, by omega⟩ k) := fun v => by pointwise
  rw [h, whole_out]
  rfl
end Cert.Reference6Ideal.Value
-- ==== Proof.Sample.lean ====
module

public import proofs.«01_k».proof.Defs
public import proofs.«01_k».proof.Proof.Gen.Kernel6.Frame
public import proofs.«01_k».proof.Proof.Gen.Kernel6Ideal.Frame
public import proofs.«01_k».proof.Proof.SampleKernel
public import proofs.«01_k».proof.Proof.SampleRef
public import Idealize.ShloMosaic.Lib.Quiescent

/-!
The claims about the samples' projection: its frames and its value.
-/

@[expose] public section
noncomputable section
namespace Cert.Proof.Sample
open Idealize.ShloMosaic Idealize.ShloMosaic.TcCoe Idealize.SL.Sem

/-- The kernel runs, keeps its arguments and leaves every semaphore at 0. -/
theorem frame_kernel : Cert.quiescent_Kernel6 := fun m ρ _ => Cert.Kernel6.Gen.frame m ρ

/-- So does its idealization. -/
theorem frame_ideal : Cert.quiescent_Kernel6Ideal := fun m ρ _ => Cert.Kernel6Ideal.Gen.frame m ρ

/-- The reference runs, keeps its arguments and has no semaphores. -/
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The idealization changes no operation. -/
theorem preserves : Cert.preserves_Kernel6_Kernel6Ideal := trivial

/-- The two programs take the same angles. -/
theorem angles_eq (s : Fin 4) (l : Fin 32) :
    Cert.Reference6Ideal.Value.angles (ix2 s l) = Cert.Kernel6Ideal.Value.angles (ix2 ⟨s.val, by omega⟩ l) := by
  rw [Cert.Kernel6Ideal.Value.angles_read]
  have hs : (⟨s.val % 4, by omega⟩ : Fin 4) = s := Fin.ext (Nat.mod_eq_of_lt s.isLt)
  simp only [hs]
  rfl

/-- The kernel's result array is the reference's. -/
theorem value : Cert.algebraic_Kernel6Ideal_Reference6Ideal := by
  intro m g m' g' _ hargs
  have harr : ∀ c, Cert.Reference6Ideal.Value.arrays m' c = Cert.Kernel6Ideal.Value.arrays m c := fun c => by
    obtain ⟨h0, h1, h2⟩ := hargs c
    unfold Cert.Reference6Ideal.Value.arrays Cert.Kernel6Ideal.Value.arrays
    rw [h0, h1, h2]
    exact congrArg (fun a => Proj.Arrays.mk _ _ _ a) (funext fun s => funext fun l => angles_eq s l)
  refine ⟨fun c => Cert.Kernel6Ideal.Value.rows (Cert.Kernel6Ideal.Value.arrays m c),
    (θ_run Cert.Kernel6Ideal.defs _ _).mono (fun r h c => ?_) (Cert.Kernel6Ideal.Value.run_blocks m g),
    (θ_run Cert.Reference6Ideal.defs _ _).mono (fun r h c => ?_) (Cert.Reference6Ideal.Value.run m' g')⟩
  · exact ⟨(h c).1.trans (Cert.Kernel6Ideal.Value.final_rows m c), (h c).2⟩
  · refine ⟨(h c).1.trans ?_, (h c).2⟩
    funext i
    change Cert.Kernel6Ideal.S512x2816.Idx at i
    obtain ⟨r, k, rfl⟩ : ∃ (r : Fin 512) (k : Fin 2816), i = ix2 r k := ⟨i 0, i 1, eq_ix2 i⟩
    exact (Cert.Reference6Ideal.Value.rows_read m' c r k).trans (by rw [harr c]; rfl)
end Cert.Proof.Sample
end
-- ==== Proof.XattnSpec.lean ====
module
public import proofs.«01_k».proof.Proof.Consts
public import proofs.«01_k».proof.Proof.Core

/-!
One head's attention over a memory, of one query row: the softmax of the scores, times one column of the values.

With real queries and keys the quotients by the weights' sum may be taken after the weighted sum of the values
(`div_after`), whatever the values are.
-/

@[expose] public section
noncomputable section
namespace Cert.Xattn
open Idealize.ShloMosaic

variable (q : Fin 64 → EReal) (k : Fin 256 → Fin 64 → EReal) (u : Fin 256 → EReal)

/-- The score of a memory token. -/
def score (r : Fin 256) : EReal := (∑ d, q d * k r d) * ((1 / 8 : ℝ) : EReal)

/-- A token's weight, its greatest score taken off. -/
def weight (r : Fin 256) : EReal := Ideal.exp (score q k r - Finset.univ.sup (score q k))

/-- The attention: the values, each times its weight's share of all weights. -/
def out : EReal := ∑ r, u r * Ideal.div (weight q k r) (∑ r', weight q k r')

/-- A head's score as a sum over all heads' columns, the other heads' masked and the queries scaled first. -/
theorem score_masked (n : Fin 4) (x : Fin 256 → EReal) (y : Fin 256 → Fin 256 → EReal) (r : Fin 256) :
    ∑ j : Fin 256, (if j.val / 64 = n.val then x j * ((1 / 8 : ℝ) : EReal) else 0) * y r j
      = score (fun d => x ⟨64 * n.val + d.val, by omega⟩) (fun r d => y r ⟨64 * n.val + d.val, by omega⟩) r := by
  have h0 : (0 : EReal) ≤ ((1 / 8 : ℝ) : EReal) := EReal.coe_nonneg.mpr (by norm_num)
  unfold score
  rw [mul_comm, ← Moba.sum_mul_left _ _ h0 (EReal.coe_ne_top _)]
  symm
  refine Finset.sum_of_injOn (fun d : Fin 64 => (⟨64 * n.val + d.val, by omega⟩ : Fin 256)) ?_ ?_ ?_ ?_
  · intro a _ b _ h
    have := congrArg Fin.val h
    simp only at this
    exact Fin.ext (by omega)
  · intro _ _
    exact Finset.mem_coe.mpr (Finset.mem_univ _)
  · intro j _ hj
    rw [if_neg, zero_mul]
    intro h
    refine hj ⟨⟨j.val % 64, by omega⟩, Finset.mem_coe.mpr (Finset.mem_univ _), Fin.ext ?_⟩
    simp only
    omega
  · intro d _
    simp only
    rw [if_pos (by omega), mul_assoc, mul_left_comm]

/-- With real queries and keys the division by the weights' sum may follow the weighted sum. -/
theorem div_after (hq : ∀ d, ∃ y : ℝ, q d = (y : EReal)) (hk : ∀ r d, ∃ y : ℝ, k r d = (y : EReal)) :
    Ideal.div (∑ r, weight q k r * u r) (∑ r, weight q k r) = out q k u := by
  choose q' hq' using hq
  choose k' hk' using hk
  have hs : ∀ r, score q k r = (((∑ d, q' d * k' r d) * (1 / 8) : ℝ) : EReal) := fun r => by
    unfold score
    simp only [hq', hk', ← EReal.coe_mul]
    rw [Moba.sum_coe, ← EReal.coe_mul]
  obtain ⟨a, _, ha⟩ := Finset.exists_mem_eq_sup (Finset.univ : Finset (Fin 256)) ⟨0, Finset.mem_univ _⟩ (score q k)
  have hw : ∀ r, weight q k r = ((Real.exp ((∑ d, q' d * k' r d) * (1 / 8) - (∑ d, q' d * k' a d) * (1 / 8)) : ℝ) : EReal) := fun r => by
    unfold weight
    rw [ha, hs, hs, ← EReal.coe_sub]
    rfl
  have hl : ∑ r, weight q k r = ((∑ r, Real.exp ((∑ d, q' d * k' r d) * (1 / 8) - (∑ d, q' d * k' a d) * (1 / 8)) : ℝ) : EReal) := by
    simp only [hw]
    exact Moba.sum_coe _ _
  have hpos : 0 < ∑ r : Fin 256, Real.exp ((∑ d, q' d * k' r d) * (1 / 8) - (∑ d, q' d * k' a d) * (1 / 8)) :=
    Finset.sum_pos (fun r _ => Real.exp_pos _) ⟨0, Finset.mem_univ _⟩
  unfold out
  rw [hl]
  generalize ∑ r : Fin 256, Real.exp ((∑ d, q' d * k' r d) * (1 / 8) - (∑ d, q' d * k' a d) * (1 / 8)) = l at hpos
  have h0 : (0 : EReal) ≤ ((1 / l : ℝ) : EReal) := EReal.coe_nonneg.mpr (by positivity)
  rw [Ideal.div_coe hpos.ne', mul_comm, ← Moba.sum_mul_left _ _ h0 (EReal.coe_ne_top _)]
  refine Finset.sum_congr rfl fun r _ => ?_
  rw [Ideal.div_coe hpos.ne', mul_comm (weight q k r) (u r), mul_left_comm, mul_comm _ (weight q k r)]
end Cert.Xattn
-- ==== Proof.XattnKernel.lean ====
module
public import proofs.«01_k».proof.Proof.XattnSpec
public import proofs.«01_k».proof.Proof.Gen.Kernel7Ideal.Value
public import Idealize.ShloMosaic.Lib.Pipeline.ValueKit
public import Idealize.ShloMosaic.Lib.Pipeline.ReadBack
public import Idealize.ShloMosaic.Lib.Pointwise

/-!
The memory attention's kernel: the values of one grid point, its blocks, and its result array.
-/

@[expose] public section
set_option maxRecDepth 16384
noncomputable section
namespace Cert.Kernel7Ideal.Value
open Cert.Kernel7Ideal Cert.Kernel7Ideal.Gen
open Idealize.ShloMosaic.Tactic
open Idealize.ShloMosaic Idealize.ShloMosaic.TcCoe Idealize.SL.Sem

/-- The columns of one head. -/
def mine (w : BitVec 32) : IVec S512x256 1 := cmpi .eq k0_pay5 (broadcast S512x256 w)

/-- The scores of one head: the other heads' columns of the queries are masked. -/
def scores (w : BitVec 32) (x : Vec Ideal S512x256 .bf16) (k : Vec Ideal S256x256 .f32) : FVec Ideal S512x256 .f32 :=
  matmul dot_S512x256_S256x256_S512x256_1_1_0_0_n_n none
    (truncf .bf16 (select (mine w) (k0_pay2 x) (broadcast S512x256 (Scalar.ofBits .f32 0x00000000#32 : Ideal .f32))) bitsLt_bf16_f32)
    (k0_pay3 k) (constant S512x256 .f32 0x00000000#32)

/-- The weights of scores. -/
def weights (s : FVec Ideal S512x256 .f32) : FVec Ideal S512x256 .f32 :=
  exp (subf s (broadcastTo S512x256 (shapeCast S512x1
    (multiReduction .maximumf [1] S512 s 0xFF800000#32 reduces_S512x256_S512 (.inl rfl) rfl) shapeCasts_S512_S512x1) broadcasts_S512x1_S512x256))

/-- The weighted sums of values over the sums of the weights. -/
def shares (e : FVec Ideal S512x256 .f32) (v : Vec Ideal S256x256 .f32) : FVec Ideal S512x256 .f32 :=
  divf (matmul dot_S512x256_S256x256_S512x256_1_0_0_1_n_n none (truncf .bf16 e bitsLt_bf16_f32) (k0_pay4 v) (constant S512x256 .f32 0x00000000#32))
    (broadcastTo S512x256 (shapeCast S512x1
      (multiReduction .add [1] S512 e 0x00000000#32 reduces_S512x256_S512 (.inl rfl) rfl) shapeCasts_S512_S512x1) broadcasts_S512x1_S512x256)

/-- One head's columns put in their place. -/
def put (w : BitVec 32) (x : Vec Ideal S512x256 .bf16) (k v : Vec Ideal S256x256 .f32) (acc : FVec Ideal S512x256 .f32) :
    FVec Ideal S512x256 .f32 :=
  select (mine w) (shares (weights (scores w x k)) v) acc

/-- What a grid point leaves in its block: the four heads' columns. -/
theorem out_eq (x : Vec Ideal S512x256 .bf16) (k v : Vec Ideal S256x256 .f32) :
    out0_3 x k v = truncf .bf16 (put 3#32 x k v (put 2#32 x k v (put 1#32 x k v (put 0#32 x k v k0_pay6)))) bitsLt_bf16_f32 := by
  unfold_out out0_3
  simp (disch := decide) only [r0_0, r0_1, View.ld_unit_lit']
  rw [View.canon_cons_unit_lit _ _ _ (by decide)]
  rfl

/-- The head of a column. -/
theorem head_read (i : Fin 512) (j : Fin 256) : k0_pay5 (ix2 i j) = BitVec.ofNat 32 (j.val / 64) := by
  pointwise [k0_pay5]
  revert j
  decide +kernel

/-- Whether a column is the head's. -/
theorem mine_read (n : Fin 4) (i : Fin 512) (j : Fin 256) :
    mine (BitVec.ofNat 32 n.val) (ix2 i j) = if j.val / 64 = n.val then 1#1 else 0#1 := by
  have h := head_read i j
  unfold mine
  generalize k0_pay5 = f at h ⊢
  pointwise
  rw [h]
  exact (by decide +kernel : ∀ (n : Fin 4) (j : Fin 256),
    IntOp.cmpi .eq (BitVec.ofNat 32 (j.val / 64)) (BitVec.ofNat 32 n.val) = if j.val / 64 = n.val then 1#1 else 0#1) n j

/-- The scores at an index. -/
theorem scores_read (n : Fin 4) (x : Vec Ideal S512x256 .bf16) (k : Vec Ideal S256x256 .f32) (i : Fin 512) (r : Fin 256) :
    scores (BitVec.ofNat 32 n.val) x k (ix2 i r)
      = Xattn.score (fun d => x (ix2 i ⟨64 * n.val + d.val, by omega⟩)) (fun r d => k (ix2 r ⟨64 * n.val + d.val, by omega⟩)) r := by
  rw [← Xattn.score_masked n (fun j => x (ix2 i j)) (fun r j => k (ix2 r j)) r]
  have hm := mine_read n i
  unfold scores
  generalize mine (BitVec.ofNat 32 n.val) = f at hm ⊢
  pointwise [k0_pay2, k0_pay3]
  refine Finset.sum_congr rfl fun j _ => ?_
  rw [hm j]
  by_cases h : j.val / 64 = n.val
  · rw [if_pos h, if_pos h, Moba.word_eighth]
    rfl
  · rw [if_neg h, if_neg h, zero_mul]
    rfl

/-- The weights at an index. -/
theorem weights_read (s : FVec Ideal S512x256 .f32) (i : Fin 512) (r : Fin 256) :
    weights s (ix2 i r) = Ideal.exp (s (ix2 i r) - Finset.univ.sup fun r' : Fin 256 => s (ix2 i r')) := by
  pointwise [weights]
  rw [Moba.word_bot]
  rfl

/-- The shares at an index. -/
theorem shares_read (e : FVec Ideal S512x256 .f32) (v : Vec Ideal S256x256 .f32) (i : Fin 512) (j : Fin 256) :
    shares e v (ix2 i j) = Ideal.div (∑ r : Fin 256, e (ix2 i r) * v (ix2 r j)) (∑ r : Fin 256, e (ix2 i r)) := by
  pointwise [shares, k0_pay4]

/-- A head's attention at an index, with real queries and keys. -/
theorem head_out (n : Fin 4) (x : Vec Ideal S512x256 .bf16) (k v : Vec Ideal S256x256 .f32)
    (hx : ∀ i j, ∃ y : ℝ, x (ix2 i j) = (y : EReal)) (hk : ∀ r j, ∃ y : ℝ, k (ix2 r j) = (y : EReal)) (i : Fin 512) (j : Fin 256) :
    shares (weights (scores (BitVec.ofNat 32 n.val) x k)) v (ix2 i j)
      = Xattn.out (fun d => x (ix2 i ⟨64 * n.val + d.val, by omega⟩)) (fun r d => k (ix2 r ⟨64 * n.val + d.val, by omega⟩))
          (fun r => v (ix2 r j)) := by
  rw [shares_read, ← Xattn.div_after _ _ _ (fun d => hx _ _) (fun r d => hk _ _)]
  have h : ∀ r, weights (scores (BitVec.ofNat 32 n.val) x k) (ix2 i r)
      = Xattn.weight (fun d => x (ix2 i ⟨64 * n.val + d.val, by omega⟩)) (fun r d => k (ix2 r ⟨64 * n.val + d.val, by omega⟩)) r := fun r => by
    rw [weights_read]
    simp only [scores_read]
    rfl
  simp only [h]

/-- What a grid point leaves in its block, at an index, with real queries and keys. -/
theorem out_read (x : Vec Ideal S512x256 .bf16) (k v : Vec Ideal S256x256 .f32)
    (hx : ∀ i j, ∃ y : ℝ, x (ix2 i j) = (y : EReal)) (hk : ∀ r j, ∃ y : ℝ, k (ix2 r j) = (y : EReal)) (i : Fin 512) (j : Fin 256) :
    (out0_3 x k v : Vec Ideal S512x256 .bf16) (ix2 i j)
      = Xattn.out (fun d => x (ix2 i ⟨j.val / 64 * 64 + d.val, by omega⟩)) (fun r d => k (ix2 r ⟨j.val / 64 * 64 + d.val, by omega⟩))
          (fun r => v (ix2 r j)) := by
  rw [out_eq]
  have hp : ∀ (n : Fin 4) (acc : FVec Ideal S512x256 .f32), put (BitVec.ofNat 32 n.val) x k v acc (ix2 i j)
      = if j.val / 64 = n.val then Xattn.out (fun d => x (ix2 i ⟨j.val / 64 * 64 + d.val, by omega⟩))
          (fun r d => k (ix2 r ⟨j.val / 64 * 64 + d.val, by omega⟩)) (fun r => v (ix2 r j)) else acc (ix2 i j) := fun n acc => by
    show Scalar.select (mine (BitVec.ofNat 32 n.val) (ix2 i j)) (shares (weights (scores (BitVec.ofNat 32 n.val) x k)) v (ix2 i j)) (acc (ix2 i j)) = _
    rw [mine_read, head_out n x k v hx hk]
    by_cases h : j.val / 64 = n.val
    · rw [if_pos h, if_pos h]
      simp only [h, Nat.mul_comm n.val 64]
      rfl
    · rw [if_neg h, if_neg h]
      rfl
  show put (BitVec.ofNat 32 (3 : Fin 4).val) x k v (put (BitVec.ofNat 32 (2 : Fin 4).val) x k v (put (BitVec.ofNat 32 (1 : Fin 4).val) x k v
    (put (BitVec.ofNat 32 (0 : Fin 4).val) x k v k0_pay6))) (ix2 i j) = _
  rw [hp, hp, hp, hp]
  have hj : j.val / 64 < 4 := by omega
  split_ifs with h3 h2 h1 h0
  · rfl
  · rfl
  · rfl
  · rfl
  · exfalso
    simp at h3 h2 h1 h0
    omega

variable (m : (ℓ : Loc nD τ sig) → Buf (Elt Ideal) ℓ) (c : Dev nD) (t : Fin cfg0.N)

/-- The windows' block indices at point `t`. -/
theorem idx : ∀ t : Fin cfg0.N, win0_0.index t = ![t.val, 0] ∧ win0_1.index t = ![t.val / 4, 0] ∧ win0_2.index t = ![t.val / 4, 1] ∧
    win0_3.index t = ![t.val, 0] ∧ t.val < 32 :=
  (by decide +kernel : ∀ t : Fin grid0.N, win0_0.index t = ![t.val, 0] ∧ win0_1.index t = ![t.val / 4, 0] ∧ win0_2.index t = ![t.val / 4, 1] ∧
    win0_3.index t = ![t.val, 0] ∧ t.val < 32)

/-- There are 32 grid points. -/
theorem lt32 : t.val < 32 := (idx t).2.2.2.2

/-- The query rows of a grid point. -/
theorem blk0 (i : Fin 512) (j : Fin 256) : (iblk m c 0 t : Vec Ideal S512x256 .bf16) (ix2 i j)
      = m ((c : Thread nD τ).loc main_arg0) (ix2 ⟨512 * t.val + i.val, by have := lt32 t; omega⟩ j) := by
  have h := idx t
  blk_point [iblk, V, h]

/-- The memory keys of a grid point's sequence. -/
theorem blk1 (r : Fin 256) (j : Fin 256) : (iblk m c 1 t : Vec Ideal S256x256 .f32) (ix2 r j)
      = m ((c : Thread nD τ).loc main_arg1) (ix2 ⟨256 * (t.val / 4) + r.val, by have := lt32 t; omega⟩ ⟨j.val, by omega⟩) := by
  have h := idx t
  blk_point [iblk, V, h]

/-- The memory values of a grid point's sequence. -/
theorem blk2 (r : Fin 256) (j : Fin 256) : (iblk m c 2 t : Vec Ideal S256x256 .f32) (ix2 r j)
      = m ((c : Thread nD τ).loc main_arg1) (ix2 ⟨256 * (t.val / 4) + r.val, by have := lt32 t; omega⟩ ⟨256 + j.val, by omega⟩) := by
  have h := idx t
  blk_point [iblk, V, h]

/-- The attention of row `r` and column `j`, of the arrays of queries and of memory keys and values. -/
def attended (Q : FVec Ideal S16384x256 .bf16) (M : FVec Ideal S2048x512 .f32) (r : Fin 16384) (j : Fin 256) : EReal :=
  Xattn.out (fun d => Q (ix2 r ⟨j.val / 64 * 64 + d.val, by omega⟩))
    (fun y d => M (ix2 ⟨r.val / 2048 * 256 + y.val, by omega⟩ ⟨j.val / 64 * 64 + d.val, by omega⟩))
    (fun y => M (ix2 ⟨r.val / 2048 * 256 + y.val, by omega⟩ ⟨256 + j.val, by omega⟩))

/-- The queries and the memory keys are real numbers. -/
structure Real (Q : FVec Ideal S16384x256 .bf16) (M : FVec Ideal S2048x512 .f32) : Prop where
  /-- the queries are -/
  query : ∀ r j, ∃ y : ℝ, Q (ix2 r j) = (y : EReal)
  /-- the keys are -/
  key : ∀ (r : Fin 2048) (j : Fin 256), ∃ y : ℝ, M (ix2 r ⟨j.val, by omega⟩) = (y : EReal)

/-- The array of the attention. -/
def result (Q : FVec Ideal S16384x256 .bf16) (M : FVec Ideal S2048x512 .f32) : FVec Ideal S16384x256 .bf16 :=
  fun i => attended Q M (i 0) (i 1)

/-- What a grid point leaves in its block is the attention. -/
theorem block_read (h : Real (m ((c : Thread nD τ).loc main_arg0)) (m ((c : Thread nD τ).loc main_arg1))) (i : Fin 512) (j : Fin 256) :
    (out0_3 (iblk m c 0 t) (iblk m c 1 t) (iblk m c 2 t) : Vec Ideal S512x256 .bf16) (ix2 i j)
      = attended (m ((c : Thread nD τ).loc main_arg0)) (m ((c : Thread nD τ).loc main_arg1)) ⟨512 * t.val + i.val, by have := lt32 t; omega⟩ j := by
  refine (out_read _ _ _ (fun i j => ?_) (fun r j => ?_) i j).trans ?_
  · obtain ⟨y, hy⟩ := h.query ⟨512 * t.val + i.val, by have := lt32 t; omega⟩ j
    exact ⟨y, (blk0 m c t i j).trans hy⟩
  · obtain ⟨y, hy⟩ := h.key ⟨256 * (t.val / 4) + r.val, by have := lt32 t; omega⟩ j
    exact ⟨y, (blk1 m c t r j).trans hy⟩
  unfold attended
  have e : ∀ (a a' : Fin 2048) (b b' : Fin 512), a.val = a'.val → b.val = b'.val →
      m ((c : Thread nD τ).loc main_arg1) (ix2 a b) = m ((c : Thread nD τ).loc main_arg1) (ix2 a' b') := fun a a' b b' h h' => by
    rw [Fin.ext h, Fin.ext h']
  have hv : (fun r : Fin 256 => (iblk m c 2 t : Vec Ideal S256x256 .f32) (ix2 r j))
      = fun y : Fin 256 => m ((c : Thread nD τ).loc main_arg1) (ix2 ⟨(512 * t.val + i.val) / 2048 * 256 + y.val, by have := lt32 t; omega⟩ ⟨256 + j.val, by omega⟩) :=
    funext fun r => (blk2 m c t r j).trans (e _ _ _ _ (by simp only; omega) rfl)
  rw [hv]
  refine congrArg₂ (fun a b => Xattn.out a b _) (funext fun d => blk0 m c t i _) (funext fun r => funext fun d => ?_)
  exact (blk1 m c t r _).trans (e _ _ _ _ (by simp only; omega) rfl)

/-- The kernel's result array, with real queries and keys. -/
theorem final (h : Real (m ((c : Thread nD τ).loc main_arg0)) (m ((c : Thread nD τ).loc main_arg1))) :
    (dats m 0 c).arrAt 3 cfg0.N = result (m ((c : Thread nD τ).loc main_arg0)) (m ((c : Thread nD τ).loc main_arg1)) := by
  refine (dats m 0 c).arrAt_eq_of_covers 3 _ (by decide +kernel) fun t _ y => ?_
  blk_simp
  rw [after0_3]
  change S512x256.Idx at y
  idx_vars y
  refine (block_read m c t h _ _).trans ?_
  refine congrArg₂ (attended _ _) (Fin.ext ?_) (Fin.ext ?_)
  · show 512 * t.val + y0.val = _
    blk_simp [idx t]
    omega
  · blk_simp [idx t]
end Cert.Kernel7Ideal.Value
-- ==== Proof.XattnRef.lean ====
module
public import proofs.«01_k».proof.Proof.XattnSpec
public import proofs.«01_k».proof.Proof.Gen.Reference7Ideal.Run
public import Idealize.ShloMosaic.Lib.Pipeline.ValueKit
public import Idealize.ShloMosaic.Lib.Pointwise

/-!
The reference of the memory attention, step by step, and each step read at an index.
-/

@[expose] public section
set_option maxRecDepth 16384
noncomputable section
namespace Cert.Reference7Ideal.Value
open Cert.Reference7Ideal Cert.Reference7Ideal.Gen
open Idealize.ShloMosaic.Tactic
open Idealize.ShloMosaic Idealize.ShloMosaic.TcCoe Idealize.SL.Sem

/-- The queries by sequence, place, head and column. -/
def queries (q : FVec Ideal S16384x256 .bf16) : FVec Ideal S8x2048x4x64 .f32 :=
  shapeCast _ (extf .f32 q bitsLt_bf16_f32) shapeCasts_S16384x256_S8x2048x4x64

/-- The memory's keys by sequence, token, head and column. -/
def keys (w : FVec Ideal S2048x512 .f32) : FVec Ideal S8x256x4x64 .f32 :=
  shapeCast _ (extractStridedSlice S2048x256 ![0, 0] w slices_S2048x512_S2048x256_0_0) shapeCasts_S2048x256_S8x256x4x64

/-- The memory's values by sequence, token, head and column. -/
def values (w : FVec Ideal S2048x512 .f32) : FVec Ideal S8x256x4x64 .f32 :=
  shapeCast _ (extractStridedSlice S2048x256 ![0, 256] w slices_S2048x512_S2048x256_0_256) shapeCasts_S2048x256_S8x256x4x64

/-- The scores. -/
def scores (q : FVec Ideal S8x2048x4x64 .f32) (k : FVec Ideal S8x256x4x64 .f32) : FVec Ideal S8x4x2048x256 .f32 :=
  mulf (Host.dotGeneral dot_S8x2048x4x64_S8x256x4x64_S8x4x2048x256_3_3_1_1_02_02 none q k)
    (broadcastInDim S8x4x2048x256 ![] bcast_S_S8x4x2048x256 (constant S_ .f32 0x3E000000#32))

/-- The greatest score of a query row. -/
def greatest (s : FVec Ideal S8x4x2048x256 .f32) : FVec Ideal S8x4x2048 .f32 :=
  maximumf (broadcastInDim S8x4x2048 ![] bcast_S_S8x4x2048 (constant S_ .f32 0xFF800000#32))
    (Host.reduce FloatOps.maximumf s (constant S_ .f32 0xFF800000#32) reducesTo_S8x4x2048x256_S8x4x2048_d3 h_S_)

/-- A row's number in every column. -/
def spread (x : FVec Ideal S8x4x2048 .f32) : FVec Ideal S8x4x2048x256 .f32 :=
  broadcastInDim S8x4x2048x256 ![0, 1, 2, 3] bcast_S8x4x2048x1_S8x4x2048x256_0_1_2_3
    (broadcastInDim S8x4x2048x1 ![0, 1, 2] bcast_S8x4x2048_S8x4x2048x1_0_1_2 x)

/-- The weights. -/
def exps (s : FVec Ideal S8x4x2048x256 .f32) : FVec Ideal S8x4x2048x256 .f32 := Host.exp (subf s (spread (greatest s)))

/-- The weights' shares of their sums. -/
def shares (e : FVec Ideal S8x4x2048x256 .f32) : FVec Ideal S8x4x2048x256 .f32 :=
  Host.divf e (spread (Host.reduceAdd e (constant S_ .f32 0x00000000#32) reducesTo_S8x4x2048x256_S8x4x2048_d3 h_S_))

/-- The values in their shares, heads side by side. -/
def attend (v : FVec Ideal S8x256x4x64 .f32) (p : FVec Ideal S8x4x2048x256 .f32) : FVec Ideal S16384x256 .bf16 :=
  truncf .bf16 (shapeCast _ (transpose S8x2048x4x64 [0, 3, 1, 2]
    (Host.dotGeneral dot_S8x256x4x64_S8x4x2048x256_S8x4x64x2048_1_3_3_2_02_01 none v p)
    transposes_S8x4x64x2048_S8x2048x4x64_0_3_1_2) shapeCasts_S8x2048x4x64_S16384x256) bitsLt_bf16_f32

/-- The queries at an index. -/
theorem queries_read (q : FVec Ideal S16384x256 .bf16) (b : Fin 8) (t : Fin 2048) (n : Fin 4) (d : Fin 64) :
    queries q (ix4 b t n d) = q (ix2 ⟨b.val * 2048 + t.val, by omega⟩ ⟨n.val * 64 + d.val, by omega⟩) := by
  pointwise [queries]

/-- The keys at an index. -/
theorem keys_read (w : FVec Ideal S2048x512 .f32) (b : Fin 8) (y : Fin 256) (n : Fin 4) (d : Fin 64) :
    keys w (ix4 b y n d) = w (ix2 ⟨b.val * 256 + y.val, by omega⟩ ⟨n.val * 64 + d.val, by omega⟩) := by
  pointwise [keys]

/-- The values at an index. -/
theorem values_read (w : FVec Ideal S2048x512 .f32) (b : Fin 8) (y : Fin 256) (n : Fin 4) (d : Fin 64) :
    values w (ix4 b y n d) = w (ix2 ⟨b.val * 256 + y.val, by omega⟩ ⟨256 + (n.val * 64 + d.val), by omega⟩) := by
  pointwise [values]

/-- The scores at an index. -/
theorem scores_read (q : FVec Ideal S8x2048x4x64 .f32) (k : FVec Ideal S8x256x4x64 .f32) (b : Fin 8) (n : Fin 4) (t : Fin 2048) (y : Fin 256) :
    scores q k (ix4 b n t y) = Xattn.score (fun d => q (ix4 b t n d)) (fun y d => k (ix4 b y n d)) y := by
  unfold Xattn.score
  rw [← Moba.word_eighth]
  pointwise [scores]

/-- The indices that a reduction of the last of four axes takes to an index. -/
theorem fiber_last {n0 n1 n2 n3 : ℕ} (h : (⟨4, ![n0, n1, n2, n3]⟩ : Shape).ReducesTo [3] ⟨3, ![n0, n1, n2]⟩)
    (a : Fin n0) (b : Fin n1) (e : Fin n2) (i : (⟨4, ![n0, n1, n2, n3]⟩ : Shape).Idx) :
    h.drop i = ix3 a b e ↔ ∃ k : Fin n3, ix4 a b e k = i := by
  constructor
  · intro he
    refine ⟨i 3, ?_⟩
    funext y; apply Fin.ext
    match y with
    | ⟨0, _⟩ => exact (congrArg Fin.val (congrFun he 0)).symm
    | ⟨1, _⟩ => exact (congrArg Fin.val (congrFun he 1)).symm
    | ⟨2, _⟩ => exact (congrArg Fin.val (congrFun he 2)).symm
    | ⟨3, _⟩ => rfl
  · rintro ⟨k, rfl⟩
    funext y
    apply Fin.ext
    match y with
    | ⟨0, _⟩ => rfl
    | ⟨1, _⟩ => rfl
    | ⟨2, _⟩ => rfl

/-- The greatest of a row, with −∞ among them, is the row's supremum. -/
theorem max_last {n0 n1 n2 n3 : ℕ} {u : Shape} (h : (⟨4, ![n0, n1, n2, n3]⟩ : Shape).ReducesTo [3] ⟨3, ![n0, n1, n2]⟩)
    (v : (⟨4, ![n0, n1, n2, n3]⟩ : Shape).Idx → EReal) (z : u.Idx → EReal) (hu : 0 < u.numel) (hz : z (Shape.Idx.first hu) = ⊥)
    (a : Fin n0) (b : Fin n1) (e : Fin n2) :
    Host.reduce (max : EReal → EReal → EReal) v z h hu (ix3 a b e) = Finset.univ.sup fun k : Fin n3 => v (ix4 a b e k) := by
  rw [Host.reduce_eq_fold, hz]
  change (Finset.univ.filter fun i => h.drop i = ix3 a b e).sup v = _
  refine le_antisymm (Finset.sup_le fun i hi => ?_) (Finset.sup_le fun k _ => ?_)
  · obtain ⟨k, rfl⟩ := (fiber_last h a b e i).mp (Finset.mem_filter.mp hi).2
    exact Finset.le_sup (f := fun k : Fin n3 => v (ix4 a b e k)) (Finset.mem_univ k)
  · exact Finset.le_sup (Finset.mem_filter.mpr ⟨Finset.mem_univ _, (fiber_last h a b e _).mpr ⟨k, rfl⟩⟩)

/-- The greatest as the reference writes it: the reduction, and again −∞. -/
theorem max_last_twice {n0 n1 n2 n3 : ℕ} {u : Shape} (dm : Fin u.rank → Fin 3) (hb : u.BroadcastsInDim ⟨3, ![n0, n1, n2]⟩ dm)
    (h : (⟨4, ![n0, n1, n2, n3]⟩ : Shape).ReducesTo [3] ⟨3, ![n0, n1, n2]⟩) (hu : 0 < u.numel)
    (v : FVec Ideal ⟨4, ![n0, n1, n2, n3]⟩ .f32) (w : BitVec 32) (hw : Ideal.ofBits .f32 w = ⊥) (a : Fin n0) (b : Fin n1) (e : Fin n2) :
    maximumf (broadcastInDim ⟨3, ![n0, n1, n2]⟩ dm hb (constant (F := Ideal) u .f32 w))
      (Host.reduce FloatOps.maximumf v (constant (F := Ideal) u .f32 w) h hu) (ix3 a b e)
      = Finset.univ.sup fun k : Fin n3 => (v (ix4 a b e k) : EReal) := by
  change max (Ideal.ofBits .f32 w) (Host.reduce (max : EReal → EReal → EReal) v (constant (F := Ideal) u .f32 w) h hu (ix3 a b e)) = _
  rw [max_last h v (constant (F := Ideal) u .f32 w) hu hw, hw]
  exact bot_sup_eq _

/-- The greatest score at an index. -/
theorem greatest_read (s : FVec Ideal S8x4x2048x256 .f32) (b : Fin 8) (n : Fin 4) (t : Fin 2048) :
    greatest s (ix3 b n t) = Finset.univ.sup fun y : Fin 256 => (s (ix4 b n t y) : EReal) := by
  unfold greatest
  exact max_last_twice _ _ _ _ s _ Moba.word_bot b n t

/-- The weights at an index. -/
theorem exps_read (s : FVec Ideal S8x4x2048x256 .f32) (b : Fin 8) (n : Fin 4) (t : Fin 2048) (y : Fin 256) :
    exps s (ix4 b n t y) = Ideal.exp (s (ix4 b n t y) - Finset.univ.sup fun y : Fin 256 => (s (ix4 b n t y) : EReal)) := by
  rw [← greatest_read]
  generalize hg : greatest s = g
  unfold exps
  rw [hg]
  pointwise [spread]

/-- The shares at an index. -/
theorem shares_read (e : FVec Ideal S8x4x2048x256 .f32) (b : Fin 8) (n : Fin 4) (t : Fin 2048) (y : Fin 256) :
    shares e (ix4 b n t y) = Ideal.div (e (ix4 b n t y)) (∑ y : Fin 256, e (ix4 b n t y)) := by
  pointwise [shares, spread]

/-- The attention at an index. -/
theorem attend_read (v : FVec Ideal S8x256x4x64 .f32) (p : FVec Ideal S8x4x2048x256 .f32) (r : Fin 16384) (j : Fin 256) :
    attend v p (ix2 r j) = ∑ y : Fin 256, v (ix4 ⟨r.val / 2048, by omega⟩ y ⟨j.val / 64, by omega⟩ ⟨j.val % 64, by omega⟩)
      * p (ix4 ⟨r.val / 2048, by omega⟩ ⟨j.val / 64, by omega⟩ ⟨r.val % 2048, by omega⟩ y) := by
  pointwise [attend]

/-- The reference's result of its arguments. -/
def result (q : FVec Ideal S16384x256 .bf16) (w : FVec Ideal S2048x512 .f32) : FVec Ideal S16384x256 .bf16 :=
  attend (values w) (shares (exps (scores (queries q) (keys w))))

/-- The reference's result at an index. -/
theorem result_read (q : FVec Ideal S16384x256 .bf16) (w : FVec Ideal S2048x512 .f32) (r : Fin 16384) (j : Fin 256) :
    result q w (ix2 r j) = Xattn.out (fun d => q (ix2 r ⟨j.val / 64 * 64 + d.val, by omega⟩))
      (fun y d => w (ix2 ⟨r.val / 2048 * 256 + y.val, by omega⟩ ⟨j.val / 64 * 64 + d.val, by omega⟩))
      (fun y => w (ix2 ⟨r.val / 2048 * 256 + y.val, by omega⟩ ⟨256 + j.val, by omega⟩)) := by
  unfold result
  rw [attend_read]
  simp only [shares_read, exps_read, scores_read, queries_read, keys_read, values_read]
  have hr : (⟨r.val / 2048 * 2048 + r.val % 2048, by omega⟩ : Fin 16384) = r := Fin.ext (by simp only; omega)
  have hj : (⟨256 + (j.val / 64 * 64 + j.val % 64), by omega⟩ : Fin 512) = ⟨256 + j.val, by omega⟩ := Fin.ext (by simp only; omega)
  rw [hr, hj]
  rfl
end Cert.Reference7Ideal.Value
-- ==== Proof.Xattn.lean ====
module

public import proofs.«01_k».proof.Defs
public import proofs.«01_k».proof.Proof.Attention
public import proofs.«01_k».proof.Proof.Gen.Kernel7.Frame
public import proofs.«01_k».proof.Proof.Gen.Kernel7Ideal.Frame
public import proofs.«01_k».proof.Proof.XattnKernel
public import proofs.«01_k».proof.Proof.XattnRef
public import Idealize.ShloMosaic.Lib.Quiescent

/-!
The claims about the memory attention: the frames and the value.
-/

@[expose] public section
noncomputable section
namespace Cert.Proof.Xattn
open Idealize.ShloMosaic Idealize.ShloMosaic.TcCoe Idealize.SL.Sem

/-- The precondition's side conditions hold. -/
instance preFacts : Cert.Pre_finite_queries_and_memory_keys.Facts where
  bitsLt_bf16_f32 := by decide +kernel
  slices_S2048x512_S2048x256_0_0 := by decide +kernel
  bcast_S_S16384x256 := by decide +kernel
  bcast_S_S2048x256 := by decide +kernel

/-- Under the precondition the queries and the memory keys are real numbers. -/
theorem real_of_pre (Q : FVec Ideal Cert.Kernel7Ideal.S16384x256 .bf16) (M : FVec Ideal Cert.Kernel7Ideal.S2048x512 .f32)
    (h1 : (Cert.Pre_finite_queries_and_memory_keys.fn (F := Ideal) Q M).1 = fun _ => 1#1)
    (h2 : (Cert.Pre_finite_queries_and_memory_keys.fn (F := Ideal) Q M).2 = fun _ => 1#1) :
    Cert.Kernel7Ideal.Value.Real Q M := by
  constructor
  · intro r j
    have h := congrFun h1 (ix2 r j)
    unfold Cert.Pre_finite_queries_and_memory_keys.fn at h
    pointwise at h
    exact Attention.real_of_abs_lt _ h
  · intro r j
    have h := congrFun h2 (ix2 r j)
    unfold Cert.Pre_finite_queries_and_memory_keys.fn at h
    pointwise at h
    exact Attention.real_of_abs_lt _ h

/-- The kernel runs, keeps its arguments and leaves every semaphore at 0. -/
theorem frame_kernel : Cert.quiescent_Kernel7 := fun m ρ _ => Cert.Kernel7.Gen.frame m ρ

/-- So does its idealization. -/
theorem frame_ideal : Cert.quiescent_Kernel7Ideal := fun m ρ _ => Cert.Kernel7Ideal.Gen.frame m ρ

/-- So does its idealization under the precondition. -/
theorem frame_ideal_pre : Cert.quiescent_Kernel7Ideal_pre_finite_queries_and_memory_keys := fun m ρ _ => Cert.Kernel7Ideal.Gen.frame m ρ

/-- The reference runs, keeps its arguments and has no semaphores. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- So it does under the precondition. -/
theorem frame_reference_pre : Cert.quiescent_Reference7Ideal_pre_finite_queries_and_memory_keys := fun m ρ _ => frame_reference m ρ trivial

/-- The idealization changes no operation. -/
theorem preserves : Cert.preserves_Kernel7_Kernel7Ideal := trivial

/-- With real queries and memory keys the kernel's result array is the reference's. -/
theorem value : Cert.algebraic_Kernel7Ideal_Reference7Ideal_pre_finite_queries_and_memory_keys := by
  intro m g m' g' hpre hargs
  have hreal := fun c => real_of_pre _ _ (hpre c).1 (hpre c).2
  refine ⟨fun c => Cert.Kernel7Ideal.Value.result (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    (θ_run Cert.Kernel7Ideal.defs _ _).mono (fun r h c => ?_) (Cert.Kernel7Ideal.Value.run_blocks m g),
    (θ_run Cert.Reference7Ideal.defs _ _).mono (fun r h c => ?_) (Cert.Reference7Ideal.Value.run m' g')⟩
  · exact ⟨(h c).1.trans (Cert.Kernel7Ideal.Value.final m c (hreal c)), (h c).2⟩
  · refine ⟨(h c).1.trans (Eq.trans (b := Cert.Reference7Ideal.Value.result
      (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))) rfl ?_), (h c).2⟩
    rw [(hargs c).1, (hargs c).2]
    funext i
    change Cert.Kernel7Ideal.S16384x256.Idx at i
    obtain ⟨r, j, rfl⟩ : ∃ (r : Fin 16384) (j : Fin 256), i = ix2 r j := ⟨i 0, i 1, eq_ix2 i⟩
    exact Cert.Reference7Ideal.Value.result_read _ _ r j
end Cert.Proof.Xattn
end
-- ==== Proof.SampleFfnSpec.lean ====
module
public import proofs.«01_k».proof.Proof.FfnSpec

/-!
The feed-forward layer of the sample as a function of its arrays.

A request has four new rows; the three-tap convolution runs over the two hidden rows kept from before and the four new ones.
The rest is as for the prompt: norm, up product, convolution, silu gate, down product, residual and last norm.
-/

@[expose] public section
noncomputable section
namespace Cert.SampleFfn
open Idealize.ShloMosaic

/-- The arrays of the layer, the rows by place and request. -/
structure Arrays where
  /-- residual rows -/
  x : Fin 4 → Fin 128 → Fin 1024 → EReal
  /-- rows of heads -/
  ox : Fin 4 → Fin 128 → Fin 256 → EReal
  /-- the heads' weights -/
  wxo : Fin 256 → Fin 1024 → EReal
  /-- the two hidden rows kept of each request -/
  prev : Fin 128 → Fin 2 → Fin 5632 → EReal
  /-- the first norm's weights -/
  g : Fin 1024 → EReal
  /-- the up weights -/
  wu : Fin 1024 → Fin 5632 → EReal
  /-- the convolution's weights -/
  cw : Fin 3 → Fin 5632 → EReal
  /-- the down weights -/
  wd : Fin 2816 → Fin 1024 → EReal
  /-- the last norm's weights -/
  gf : Fin 1024 → EReal

variable (A : Arrays)

/-- The residual row with the heads' product added. -/
def res (t : Fin 4) (b : Fin 128) (l : Fin 1024) : EReal := A.x t b l + ∑ k, A.ox t b k * A.wxo k l

/-- The hidden columns of a row, before the convolution. -/
def hidden (t : Fin 4) (b : Fin 128) (c : Fin 5632) : EReal := ∑ d, Ffn.norm (res A t b) A.g d * A.wu d c

/-- The hidden rows of a request: the two kept ones, then the four new ones. -/
def full (b : Fin 128) (s : Fin 6) (c : Fin 5632) : EReal :=
  if h : s.val < 2 then A.prev b ⟨s.val, h⟩ c else hidden A ⟨s.val - 2, by omega⟩ b c

/-- The convolution's row. -/
def conv (t : Fin 4) (b : Fin 128) (c : Fin 5632) : EReal :=
  full A b ⟨t.val, by omega⟩ c * A.cw 0 c + full A b ⟨1 + t.val, by omega⟩ c * A.cw 1 c
    + full A b ⟨2 + t.val, by omega⟩ c * A.cw 2 c

/-- The gated columns of a row. -/
def gated (t : Fin 4) (b : Fin 128) (j : Fin 2816) : EReal :=
  Ffn.silu (conv A t b ⟨j.val, by omega⟩) * conv A t b ⟨2816 + j.val, by omega⟩

/-- The residual row with the down product added. -/
def sum (t : Fin 4) (b : Fin 128) (l : Fin 1024) : EReal := res A t b l + ∑ j, gated A t b j * A.wd j l

/-- The layer's row. -/
def out (t : Fin 4) (b : Fin 128) (l : Fin 1024) : EReal := Ffn.norm (sum A t b) A.gf l

end Cert.SampleFfn
-- ==== Proof.SampleFfnTile.lean ====
module

public import proofs.«01_k».proof.Proof.Gen.Kernel8Ideal.Value
public import Idealize.ShloMosaic.Lib.Pipeline.ValueKit
public import Idealize.ShloMosaic.Lib.Pipeline.ReadBack
public import Idealize.ShloMosaic.Lib.Pointwise

/-!
The sample's feed-forward kernel: what the eleven trips of its loop leave.

A trip takes 256 columns of each half of the up product, convolves them over the two kept rows and the four new ones, gates
one half by the other, and adds the down product to the accumulator.  It also stores the last two new rows of its columns.
-/

@[expose] public section
set_option maxRecDepth 16384
noncomputable section
namespace Cert.Kernel8Ideal.Value
open Cert.Kernel8Ideal Cert.Kernel8Ideal.Gen
open Idealize.ShloMosaic.Tactic
open Idealize.ShloMosaic Idealize.ShloMosaic.TcCoe Idealize.SL.Sem

/-- The up weights' columns of trip `k`, first half. -/
def wupA (w : Vec Ideal S1x1024x5632 .bf16) (k : Fin k0_t1_loop.trips) : Vec Ideal S1x1024x256 .bf16 :=
  View.ld w (Rect.unit (k0_off1 k) S1x1024x256.size (k0_off1_inb k))

/-- The up weights' columns of trip `k`, second half. -/
def wupB (w : Vec Ideal S1x1024x5632 .bf16) (k : Fin k0_t1_loop.trips) : Vec Ideal S1x1024x256 .bf16 :=
  View.ld w (Rect.unit (k0_off4 k) S1x1024x256.size (k0_off4_inb k))

/-- The convolution's weights of trip `k`, first half. -/
def tapA (w : Vec Ideal S3x5632 .f32) (k : Fin k0_t1_loop.trips) : Vec Ideal S3x256 .f32 :=
  View.ld w (Rect.unit (k0_off2 k) S3x256.size (k0_off2_inb k))

/-- The convolution's weights of trip `k`, second half. -/
def tapB (w : Vec Ideal S3x5632 .f32) (k : Fin k0_t1_loop.trips) : Vec Ideal S3x256 .f32 :=
  View.ld w (Rect.unit (k0_off5 k) S3x256.size (k0_off5_inb k))

/-- A kept row's columns of trip `k`, first half. -/
def keptA (p : Vec Ideal S128x5632 .f32) (k : Fin k0_t1_loop.trips) : Vec Ideal S128x256 .f32 :=
  View.ld p (Rect.unit (k0_off3 k) S128x256.size (k0_off3_inb k))

/-- A kept row's columns of trip `k`, second half. -/
def keptB (p : Vec Ideal S128x5632 .f32) (k : Fin k0_t1_loop.trips) : Vec Ideal S128x256 .f32 :=
  View.ld p (Rect.unit (k0_off6 k) S128x256.size (k0_off6_inb k))

/-- The first half's convolution, from its chunk of up weights `w`, taps `t` and kept rows `p`, `q`. -/
def convA (xn : FVec Ideal S512x1024 .bf16) (w : Vec Ideal S1x1024x256 .bf16) (t : Vec Ideal S3x256 .f32)
    (p q : Vec Ideal S128x256 .f32) : FVec Ideal S512x256 .f32 :=
  k0_pay12 t (k0_pay5 xn w) (k0_pay6 xn w) (k0_pay7 xn w) (k0_pay8 xn w) (k0_pay9 xn w t p q) (k0_pay10 xn w t q) (k0_pay11 xn w t)

/-- The columns `a` gated, times the second half's convolution. -/
def gateB (a : FVec Ideal S512x256 .f32) (xn : FVec Ideal S512x1024 .bf16) (w : Vec Ideal S1x1024x256 .bf16)
    (t : Vec Ideal S3x256 .f32) (p q : Vec Ideal S128x256 .f32) : FVec Ideal S512x256 .bf16 :=
  k0_pay21 a t (k0_pay14 q) (k0_pay15 xn w) (k0_pay16 xn w) (k0_pay17 xn w) (k0_pay18 xn w) (k0_pay19 t p) (k0_pay20 t q)

/-- Trip `k`'s gated columns. -/
def mid (xn : FVec Ideal S512x1024 .bf16) (p q : Vec Ideal S128x5632 .f32) (w : Vec Ideal S1x1024x5632 .bf16)
    (t : Vec Ideal S3x5632 .f32) (k : Fin k0_t1_loop.trips) : FVec Ideal S512x256 .bf16 :=
  gateB (convA xn (wupA w k) (tapA t k) (keptA p k) (keptA q k)) xn (wupB w k) (tapB t k) (keptB p k) (keptB q k)

/-- The down weights' rows of trip `k`. -/
def wdn (w : Vec Ideal S1x2816x1024 .bf16) (k : Fin k0_t1_loop.trips) : FVec Ideal S256x1024 .bf16 :=
  k0_pay22 (View.ld w (Rect.unit (k0_off7 k) S1x256x1024.size (k0_off7_inb k)))

/-- The accumulator after `n` trips. -/
def total (xn : FVec Ideal S512x1024 .bf16) (p q : Vec Ideal S128x5632 .f32) (w : Vec Ideal S1x1024x5632 .bf16)
    (t : Vec Ideal S3x5632 .f32) (wd : Vec Ideal S1x2816x1024 .bf16) : ℕ → FVec Ideal S512x1024 .f32
  | 0 => k0_pay25
  | n + 1 => if h : n < k0_t1_loop.trips then k0_pay1 (total xn p q w t wd n) (mid xn p q w t ⟨n, h⟩) (wdn wd ⟨n, h⟩)
    else total xn p q w t wd n

variable (c : Dev nD) (i : grid0.Coords)
  (arg1 : Memref sig .tc .vmem S4x128x1024 .f32) (harg1 : arg1.IsWhole)
  (arg2 : Memref sig .tc .vmem S4x128x256 .f32) (harg2 : arg2.IsWhole)
  (arg3 : Memref sig .tc .vmem S256x1024 .bf16) (harg3 : arg3.IsWhole)
  (arg4 : Memref sig .tc .vmem S128x5632 .f32) (harg4 : arg4.IsWhole)
  (arg5 : Memref sig .tc .vmem S128x5632 .f32) (harg5 : arg5.IsWhole)
  (arg6 : Memref sig .tc .vmem S1x1024 .f32) (harg6 : arg6.IsWhole)
  (arg7 : Memref sig .tc .vmem S1x1024x5632 .bf16) (harg7 : arg7.IsWhole)
  (arg8 : Memref sig .tc .vmem S3x5632 .f32) (harg8 : arg8.IsWhole)
  (arg9 : Memref sig .tc .vmem S1x2816x1024 .bf16) (harg9 : arg9.IsWhole)
  (arg10 : Memref sig .tc .vmem S1x1024 .f32) (harg10 : arg10.IsWhole)
  (arg11 : Memref sig .tc .vmem S4x128x1024 .f32) (harg11 : arg11.IsWhole)
  (arg12 : Memref sig .tc .vmem S128x5632 .f32) (harg12 : arg12.IsWhole)
  (arg13 : Memref sig .tc .vmem S128x5632 .f32) (harg13 : arg13.IsWhole)
  (arg14 : Memref sig .tc .vmem S512x1024 .f32) (harg14 : arg14.IsWhole)
  (xn : FVec Ideal S512x1024 .bf16) (z : BitVec 32) (x3 x4 : Vec Ideal S128x5632 .f32) (x6 : Vec Ideal S1x1024x5632 .bf16)
  (x7 : Vec Ideal S3x5632 .f32) (x8 : Vec Ideal S1x2816x1024 .bf16)

/-- What one trip stores, from what it finds in the buffers. -/
theorem trip_raw (k : Fin k0_t1_loop.trips)
    (X4 : BufTy.Contents (Elt Ideal) arg4.view.ty) (X5 : BufTy.Contents (Elt Ideal) arg5.view.ty) (X7 : BufTy.Contents (Elt Ideal) arg7.view.ty) (X8 : BufTy.Contents (Elt Ideal) arg8.view.ty) (X9 : BufTy.Contents (Elt Ideal) arg9.view.ty)
    (f12 : BufTy.Contents (Elt Ideal) arg12.view.ty)
    (f13 : BufTy.Contents (Elt Ideal) arg13.view.ty) (f14 : BufTy.Contents (Elt Ideal) arg14.view.ty) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 xn z
      X4 X5 X7 X8 X9 k f12 f13 f14
      = ([⟨Rect.unit (k0_off6 k) S128x256.size (k0_off6_inb k), k0_pay17 xn (arg7.view.readAt (Elt Ideal) (Rect.unit (k0_off4 k) S1x1024x256.size (k0_off4_inb k) : Rect S1x1024x5632).toLoadRect X7)⟩,
          ⟨Rect.unit (k0_off3 k) S128x256.size (k0_off3_inb k), k0_pay7 xn (arg7.view.readAt (Elt Ideal) (Rect.unit (k0_off1 k) S1x1024x256.size (k0_off1_inb k) : Rect S1x1024x5632).toLoadRect X7)⟩],
        [⟨Rect.unit (k0_off6 k) S128x256.size (k0_off6_inb k), k0_pay18 xn (arg7.view.readAt (Elt Ideal) (Rect.unit (k0_off4 k) S1x1024x256.size (k0_off4_inb k) : Rect S1x1024x5632).toLoadRect X7)⟩,
          ⟨Rect.unit (k0_off3 k) S128x256.size (k0_off3_inb k), k0_pay8 xn (arg7.view.readAt (Elt Ideal) (Rect.unit (k0_off1 k) S1x1024x256.size (k0_off1_inb k) : Rect S1x1024x5632).toLoadRect X7)⟩],
        [⟨Rect.unit ![0, 0] S512x1024.size inb_S512x1024_S512x1024_0_0,
          k0_pay1 (arg14.view.readAt (Elt Ideal) (Rect.unit ![0, 0] S512x1024.size inb_S512x1024_S512x1024_0_0 : Rect S512x1024).toLoadRect f14)
            (gateB (convA xn (arg7.view.readAt (Elt Ideal) (Rect.unit (k0_off1 k) S1x1024x256.size (k0_off1_inb k) : Rect S1x1024x5632).toLoadRect X7) (arg8.view.readAt (Elt Ideal) (Rect.unit (k0_off2 k) S3x256.size (k0_off2_inb k) : Rect S3x5632).toLoadRect X8)
              (arg4.view.readAt (Elt Ideal) (Rect.unit (k0_off3 k) S128x256.size (k0_off3_inb k) : Rect S128x5632).toLoadRect X4) (arg5.view.readAt (Elt Ideal) (Rect.unit (k0_off3 k) S128x256.size (k0_off3_inb k) : Rect S128x5632).toLoadRect X5)) xn (arg7.view.readAt (Elt Ideal) (Rect.unit (k0_off4 k) S1x1024x256.size (k0_off4_inb k) : Rect S1x1024x5632).toLoadRect X7) (arg8.view.readAt (Elt Ideal) (Rect.unit (k0_off5 k) S3x256.size (k0_off5_inb k) : Rect S3x5632).toLoadRect X8)
              (arg4.view.readAt (Elt Ideal) (Rect.unit (k0_off6 k) S128x256.size (k0_off6_inb k) : Rect S128x5632).toLoadRect X4) (arg5.view.readAt (Elt Ideal) (Rect.unit (k0_off6 k) S128x256.size (k0_off6_inb k) : Rect S128x5632).toLoadRect X5))
            (k0_pay22 (arg9.view.readAt (Elt Ideal) (Rect.unit (k0_off7 k) S1x256x1024.size (k0_off7_inb k) : Rect S1x2816x1024).toLoadRect X9))⟩]) := by
  dsimp only [tripL_k0_t1]
  unfold trip_k0_t1
  dsimp only
  frame_open
  rfl

/-- The same, from the buffers' values. -/
theorem trip_eq (k : Fin k0_t1_loop.trips) (f12 : BufTy.Contents (Elt Ideal) arg12.view.ty)
    (f13 : BufTy.Contents (Elt Ideal) arg13.view.ty) (f14 : BufTy.Contents (Elt Ideal) arg14.view.ty) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 xn z
      (harg4.unread x3) (harg5.unread x4) (harg7.unread x6) (harg8.unread x7) (harg9.unread x8) k f12 f13 f14
      = ([⟨Rect.unit (k0_off6 k) S128x256.size (k0_off6_inb k), k0_pay17 xn (wupB x6 k)⟩,
          ⟨Rect.unit (k0_off3 k) S128x256.size (k0_off3_inb k), k0_pay7 xn (wupA x6 k)⟩],
        [⟨Rect.unit (k0_off6 k) S128x256.size (k0_off6_inb k), k0_pay18 xn (wupB x6 k)⟩,
          ⟨Rect.unit (k0_off3 k) S128x256.size (k0_off3_inb k), k0_pay8 xn (wupA x6 k)⟩],
        [⟨Rect.unit ![0, 0] S512x1024.size inb_S512x1024_S512x1024_0_0,
          k0_pay1 (arg14.view.read (Elt Ideal) f14) (mid xn x3 x4 x6 x7 k) (wdn x8 k)⟩]) := by
  rw [trip_raw]
  unfold mid wupA wupB tapA tapB keptA keptB wdn
  simp (disch := decide) only [View.readAt_eq_ld, Memref.IsWhole.read_unread, View.ld_unit_lit']

end Cert.Kernel8Ideal.Value
-- ==== Proof.SampleFfnBlocks.lean ====
module
public import proofs.«01_k».proof.Proof.SampleFfnSpec
public import proofs.«01_k».proof.Proof.SampleFfnTile

/-!
The blocks the sample's feed-forward kernel is given, read from the arguments.
-/

@[expose] public section
set_option maxRecDepth 16384
noncomputable section
namespace Cert.Kernel8Ideal.Value
open Cert.Kernel8Ideal Cert.Kernel8Ideal.Gen
open Idealize.ShloMosaic.Tactic
open Idealize.ShloMosaic Idealize.ShloMosaic.TcCoe Idealize.SL.Sem
variable (m : (ℓ : Loc nD τ sig) → Buf (Elt Ideal) ℓ) (c : Dev nD) (p : Fin cfg0.N)

/-- The windows' block indices. -/
theorem idx : ∀ t : Fin cfg0.N, win0_0.index t = ![0, 0, 0] ∧ win0_1.index t = ![0, 0, 0] ∧ win0_2.index t = ![0, 0] ∧
    win0_3.index t = ![0, 0] ∧ win0_4.index t = ![0, 0] ∧ win0_5.index t = ![0, 0] ∧ win0_6.index t = ![3, 0, 0] ∧
    win0_7.index t = ![0, 0] ∧ win0_8.index t = ![3, 0, 0] ∧ win0_9.index t = ![0, 0] ∧ win0_10.index t = ![0, 0, 0] ∧
    win0_11.index t = ![0, 0] ∧ win0_12.index t = ![0, 0] :=
  (by decide +kernel : ∀ t : Fin grid0.N, win0_0.index t = ![0, 0, 0] ∧ win0_1.index t = ![0, 0, 0] ∧ win0_2.index t = ![0, 0] ∧
    win0_3.index t = ![0, 0] ∧ win0_4.index t = ![0, 0] ∧ win0_5.index t = ![0, 0] ∧ win0_6.index t = ![3, 0, 0] ∧
    win0_7.index t = ![0, 0] ∧ win0_8.index t = ![3, 0, 0] ∧ win0_9.index t = ![0, 0] ∧ win0_10.index t = ![0, 0, 0] ∧
    win0_11.index t = ![0, 0] ∧ win0_12.index t = ![0, 0])

/-- The layer's arrays, from the kernel's arguments. -/
def arrays : SampleFfn.Arrays where
  x t b l := m ((c : Thread nD τ).loc main_arg0) (ix3 t b l)
  ox t b k := m ((c : Thread nD τ).loc main_arg1) (ix3 t b k)
  wxo k l := m ((c : Thread nD τ).loc main_arg2) (ix2 k l)
  prev b s k := m ((c : Thread nD τ).loc main_arg3) (ix4 3 b s k)
  g l := m ((c : Thread nD τ).loc main_arg4) (ix1 l)
  wu d k := m ((c : Thread nD τ).loc main_arg5) (ix3 3 d k)
  cw a k := m ((c : Thread nD τ).loc main_arg6) (ix2 a k)
  wd j l := m ((c : Thread nD τ).loc main_arg7) (ix3 3 j l)
  gf l := m ((c : Thread nD τ).loc main_arg8) (ix1 l)

/-- The residual rows. -/
theorem blk0 (t : Fin 4) (b : Fin 128) (l : Fin 1024) :
    (iblk m c 0 p : Vec Ideal S4x128x1024 .f32) (ix3 t b l) = (arrays m c).x t b l := by
  have h := idx p
  unfold arrays
  blk_ext [iblk, V, h]

/-- The rows of heads. -/
theorem blk1 (t : Fin 4) (b : Fin 128) (l : Fin 256) :
    (iblk m c 1 p : Vec Ideal S4x128x256 .f32) (ix3 t b l) = (arrays m c).ox t b l := by
  have h := idx p
  unfold arrays
  blk_ext [iblk, V, h]

/-- The heads' weights. -/
theorem blk2 (i : Fin 256) (l : Fin 1024) : (iblk m c 2 p : Vec Ideal S256x1024 .bf16) (ix2 i l) = (arrays m c).wxo i l := by
  have h := idx p
  unfold arrays
  blk_ext [iblk, V, h]

/-- The older of the last layer's two kept rows. -/
theorem blk3 (b : Fin 128) (k : Fin 5632) : (iblk m c 3 p : Vec Ideal S128x5632 .f32) (ix2 b k) = (arrays m c).prev b 0 k := by
  have h := idx p
  show (iblk m c 3 p : Vec Ideal S128x5632 .f32) (ix2 b k) = m ((c : Thread nD τ).loc main_arg3) (ix4 3 b 0 k)
  blk_point [iblk, V, h]

/-- The newer of the last layer's two kept rows. -/
theorem blk4 (b : Fin 128) (k : Fin 5632) : (iblk m c 4 p : Vec Ideal S128x5632 .f32) (ix2 b k) = (arrays m c).prev b 1 k := by
  have h := idx p
  show (iblk m c 4 p : Vec Ideal S128x5632 .f32) (ix2 b k) = m ((c : Thread nD τ).loc main_arg3) (ix4 3 b 1 k)
  blk_point [iblk, V, h]

/-- The first norm's weights. -/
theorem blk5 (l : Fin 1024) : (iblk m c 5 p : Vec Ideal S1x1024 .f32) (ix2 0 l) = (arrays m c).g l := by
  have h := idx p
  show (iblk m c 5 p : Vec Ideal S1x1024 .f32) (ix2 0 l) = m ((c : Thread nD τ).loc main_arg4) (ix1 l)
  blk_point [iblk, V, h]

/-- The last layer's up weights. -/
theorem blk6 (d : Fin 1024) (k : Fin 5632) :
    (iblk m c 6 p : Vec Ideal S1x1024x5632 .bf16) (ix3 0 d k) = (arrays m c).wu d k := by
  have h := idx p
  unfold arrays
  blk_ext [iblk, V, h]

/-- The convolution's weights. -/
theorem blk7 (a : Fin 3) (k : Fin 5632) : (iblk m c 7 p : Vec Ideal S3x5632 .f32) (ix2 a k) = (arrays m c).cw a k := by
  have h := idx p
  unfold arrays
  blk_ext [iblk, V, h]

/-- The last layer's down weights. -/
theorem blk8 (j : Fin 2816) (l : Fin 1024) :
    (iblk m c 8 p : Vec Ideal S1x2816x1024 .bf16) (ix3 0 j l) = (arrays m c).wd j l := by
  have h := idx p
  unfold arrays
  blk_ext [iblk, V, h]

/-- The last norm's weights. -/
theorem blk9 (l : Fin 1024) : (iblk m c 9 p : Vec Ideal S1x1024 .f32) (ix2 0 l) = (arrays m c).gf l := by
  have h := idx p
  show (iblk m c 9 p : Vec Ideal S1x1024 .f32) (ix2 0 l) = m ((c : Thread nD τ).loc main_arg8) (ix1 l)
  blk_point [iblk, V, h]
end Cert.Kernel8Ideal.Value
-- ==== Proof.SampleFfnLoop.lean ====
module

public import proofs.«01_k».proof.Proof.SampleFfnTile
public import Idealize.ShloMosaic.Lib.Pipeline.CanonAppend

/-!
The sample's feed-forward kernel: its loop's stores, put together trip by trip.

The accumulator after `n` trips is `total`'s; the two arrays of kept rows hold, in the columns already visited, the up product's
rows of the last two new places.
-/

@[expose] public section
set_option maxRecDepth 16384
noncomputable section
namespace Cert.Kernel8Ideal.Value
open Cert.Kernel8Ideal Cert.Kernel8Ideal.Gen
open Idealize.ShloMosaic.Tactic
open Idealize.ShloMosaic Idealize.ShloMosaic.TcCoe Idealize.SL.Sem

/-- The loop makes eleven trips. -/
theorem trips_eq : k0_t1_loop.trips = 11 := by decide +kernel

/-- A trip's number is below eleven. -/
theorem lt11 (k : Fin k0_t1_loop.trips) : k.val < 11 := lt_of_lt_of_eq k.isLt trips_eq

/-- The offsets of a trip's columns in the kept rows. -/
theorem off_cols : ∀ k : Fin k0_t1_loop.trips, k0_off3 k = ![0, 256 * k.val] ∧ k0_off6 k = ![0, 2816 + 256 * k.val] := by
  decide +kernel

/-- The offsets of a trip's chunks in the weights. -/
theorem off_weights : ∀ k : Fin k0_t1_loop.trips, k0_off1 k = ![0, 0, 256 * k.val] ∧ k0_off4 k = ![0, 0, 2816 + 256 * k.val] ∧
    k0_off2 k = ![0, 256 * k.val] ∧ k0_off5 k = ![0, 2816 + 256 * k.val] ∧ k0_off7 k = ![0, 256 * k.val, 0] := by
  decide +kernel

/-- The up product at row `r` and column `y` of all its columns. -/
def upAt (xn : FVec Ideal S512x1024 .bf16) (w : Vec Ideal S1x1024x5632 .bf16) (r : Fin 512) (y : Fin 5632) : EReal :=
  ∑ d : Fin 1024, xn (ix2 r d) * w (ix3 0 d y)

/-- The up weights' columns of a trip at an index, first half. -/
theorem wupA_read (w : Vec Ideal S1x1024x5632 .bf16) (k : Fin k0_t1_loop.trips) (d : Fin 1024) (q : Fin 256) :
    wupA w k (ix3 0 d q) = w (ix3 0 d ⟨256 * k.val + q.val, by have := lt11 k; omega⟩) := by
  unfold wupA
  refine congrArg w (funext fun a => Fin.ext ?_)
  have h := (off_weights k).1
  match a with
  | 0 => show k0_off1 k 0 + 1 * 0 = 0; rw [h]; rfl
  | 1 => show k0_off1 k 1 + 1 * d.val = d.val; rw [h]; show 0 + 1 * d.val = d.val; omega
  | 2 => show k0_off1 k 2 + 1 * q.val = 256 * k.val + q.val; rw [h]; show 256 * k.val + 1 * q.val = _; omega

/-- The up weights' columns of a trip at an index, second half. -/
theorem wupB_read (w : Vec Ideal S1x1024x5632 .bf16) (k : Fin k0_t1_loop.trips) (d : Fin 1024) (q : Fin 256) :
    wupB w k (ix3 0 d q) = w (ix3 0 d ⟨2816 + 256 * k.val + q.val, by have := lt11 k; omega⟩) := by
  unfold wupB
  refine congrArg w (funext fun a => Fin.ext ?_)
  have h := (off_weights k).2.1
  match a with
  | 0 => show k0_off4 k 0 + 1 * 0 = 0; rw [h]; rfl
  | 1 => show k0_off4 k 1 + 1 * d.val = d.val; rw [h]; show 0 + 1 * d.val = d.val; omega
  | 2 => show k0_off4 k 2 + 1 * q.val = 2816 + 256 * k.val + q.val; rw [h]; show 2816 + 256 * k.val + 1 * q.val = _; omega

/-- The up product's rows of the last place but one, at an index of a chunk. -/
theorem pay7_read (xn : FVec Ideal S512x1024 .bf16) (w : Vec Ideal S1x1024x256 .bf16) (b : Fin 128) (q : Fin 256) :
    k0_pay7 xn w (ix2 b q) = ∑ d : Fin 1024, xn (ix2 ⟨256 + b.val, by omega⟩ d) * w (ix3 0 d q) := by
  pointwise [k0_pay7, k0_pay3]

/-- The up product's rows of the last place, at an index of a chunk. -/
theorem pay8_read (xn : FVec Ideal S512x1024 .bf16) (w : Vec Ideal S1x1024x256 .bf16) (b : Fin 128) (q : Fin 256) :
    k0_pay8 xn w (ix2 b q) = ∑ d : Fin 1024, xn (ix2 ⟨384 + b.val, by omega⟩ d) * w (ix3 0 d q) := by
  pointwise [k0_pay8, k0_pay3]

/-- A chunk's rectangle in the kept rows, first half: its columns. -/
theorem mem_colsA (k : Fin k0_t1_loop.trips) (b : Fin 128) (y : Fin 5632) (h : 256 * k.val ≤ y.val) (h' : y.val < 256 * k.val + 256) :
    (ix2 b y : S128x5632.Idx) = (Rect.unit (s := S128x5632) (k0_off3 k) S128x256.size (k0_off3_inb k)).emb
      (ix2 b ⟨y.val - 256 * k.val, by omega⟩ : S128x256.Idx) := by
  have e := (off_cols k).1
  refine funext fun a => Fin.ext ?_
  match a with
  | 0 => show b.val = k0_off3 k 0 + 1 * b.val; rw [e]; show b.val = 0 + 1 * b.val; omega
  | 1 => show y.val = k0_off3 k 1 + 1 * (y.val - 256 * k.val); rw [e]; show y.val = 256 * k.val + 1 * (y.val - 256 * k.val); omega

/-- A chunk's rectangle in the kept rows, second half: its columns. -/
theorem mem_colsB (k : Fin k0_t1_loop.trips) (b : Fin 128) (y : Fin 5632) (h : 2816 + 256 * k.val ≤ y.val)
    (h' : y.val < 2816 + 256 * k.val + 256) :
    (ix2 b y : S128x5632.Idx) = (Rect.unit (s := S128x5632) (k0_off6 k) S128x256.size (k0_off6_inb k)).emb
      (ix2 b ⟨y.val - (2816 + 256 * k.val), by omega⟩ : S128x256.Idx) := by
  have e := (off_cols k).2
  refine funext fun a => Fin.ext ?_
  match a with
  | 0 => show b.val = k0_off6 k 0 + 1 * b.val; rw [e]; show b.val = 0 + 1 * b.val; omega
  | 1 =>
    show y.val = k0_off6 k 1 + 1 * (y.val - (2816 + 256 * k.val)); rw [e]
    show y.val = 2816 + 256 * k.val + 1 * (y.val - (2816 + 256 * k.val)); omega

/-- The rows a loop leaves in an array of kept rows: place `256 + b`'s or place `384 + b`'s up product. -/
def keptRow (xn : FVec Ideal S512x1024 .bf16) (w : Vec Ideal S1x1024x5632 .bf16) (o : ℕ) (ho : o + 128 ≤ 512) : S128x5632.Idx → EReal :=
  fun y => upAt xn w ⟨o + (y 0).val, by have : (y 0).val < 128 := (y 0).isLt; omega⟩ (y 1)

/-- A store of a chunk of rows from `o` on is a block of `keptRow`, first half. -/
theorem blockA (xn : FVec Ideal S512x1024 .bf16) (w : Vec Ideal S1x1024x5632 .bf16) (o : ℕ) (ho : o + 128 ≤ 512)
    (k : Fin k0_t1_loop.trips) (f : FVec Ideal S128x256 .f32)
    (hf : ∀ b q, f (ix2 b q) = ∑ d : Fin 1024, xn (ix2 ⟨o + b.val, by omega⟩ d) * wupA w k (ix3 0 d q)) (x : S128x256.Idx) :
    f x = keptRow xn w o ho ((Rect.unit (s := S128x5632) (k0_off3 k) S128x256.size (k0_off3_inb k)).emb x) := by
  have hk := lt11 k
  obtain ⟨b, q, rfl⟩ : ∃ (b : Fin 128) (q : Fin 256), x = ix2 b q := ⟨x 0, x 1, eq_ix2 x⟩
  have e := mem_colsA k b ⟨256 * k.val + q.val, by omega⟩ (Nat.le_add_right _ _) (by simp only; omega)
  have eq : (⟨(⟨256 * k.val + q.val, by omega⟩ : Fin 5632).val - 256 * k.val, by simp only; omega⟩ : Fin 256) = q :=
    Fin.ext (by simp only; omega)
  rw [eq] at e
  refine (hf b q).trans ?_
  refine Eq.trans ?_ (congrArg (keptRow xn w o ho) e)
  show _ = ∑ d : Fin 1024, xn (ix2 ⟨o + b.val, by omega⟩ d) * w (ix3 0 d ⟨256 * k.val + q.val, by omega⟩)
  exact Finset.sum_congr rfl fun d _ => by rw [wupA_read]

/-- A store of a chunk of rows from `o` on is a block of `keptRow`, second half. -/
theorem blockB (xn : FVec Ideal S512x1024 .bf16) (w : Vec Ideal S1x1024x5632 .bf16) (o : ℕ) (ho : o + 128 ≤ 512)
    (k : Fin k0_t1_loop.trips) (f : FVec Ideal S128x256 .f32)
    (hf : ∀ b q, f (ix2 b q) = ∑ d : Fin 1024, xn (ix2 ⟨o + b.val, by omega⟩ d) * wupB w k (ix3 0 d q)) (x : S128x256.Idx) :
    f x = keptRow xn w o ho ((Rect.unit (s := S128x5632) (k0_off6 k) S128x256.size (k0_off6_inb k)).emb x) := by
  have hk := lt11 k
  obtain ⟨b, q, rfl⟩ : ∃ (b : Fin 128) (q : Fin 256), x = ix2 b q := ⟨x 0, x 1, eq_ix2 x⟩
  have e := mem_colsB k b ⟨2816 + 256 * k.val + q.val, by omega⟩ (Nat.le_add_right _ _) (by simp only; omega)
  have eq : (⟨(⟨2816 + 256 * k.val + q.val, by omega⟩ : Fin 5632).val - (2816 + 256 * k.val), by simp only; omega⟩ : Fin 256) = q :=
    Fin.ext (by simp only; omega)
  rw [eq] at e
  refine (hf b q).trans ?_
  refine Eq.trans ?_ (congrArg (keptRow xn w o ho) e)
  show _ = ∑ d : Fin 1024, xn (ix2 ⟨o + b.val, by omega⟩ d) * w (ix3 0 d ⟨2816 + 256 * k.val + q.val, by omega⟩)
  exact Finset.sum_congr rfl fun d _ => by rw [wupB_read]

variable (c : Dev nD) (i : grid0.Coords)
  (arg1 : Memref sig .tc .vmem S4x128x1024 .f32) (harg1 : arg1.IsWhole)
  (arg2 : Memref sig .tc .vmem S4x128x256 .f32) (harg2 : arg2.IsWhole)
  (arg3 : Memref sig .tc .vmem S256x1024 .bf16) (harg3 : arg3.IsWhole)
  (arg4 : Memref sig .tc .vmem S128x5632 .f32) (harg4 : arg4.IsWhole)
  (arg5 : Memref sig .tc .vmem S128x5632 .f32) (harg5 : arg5.IsWhole)
  (arg6 : Memref sig .tc .vmem S1x1024 .f32) (harg6 : arg6.IsWhole)
  (arg7 : Memref sig .tc .vmem S1x1024x5632 .bf16) (harg7 : arg7.IsWhole)
  (arg8 : Memref sig .tc .vmem S3x5632 .f32) (harg8 : arg8.IsWhole)
  (arg9 : Memref sig .tc .vmem S1x2816x1024 .bf16) (harg9 : arg9.IsWhole)
  (arg10 : Memref sig .tc .vmem S1x1024 .f32) (harg10 : arg10.IsWhole)
  (arg11 : Memref sig .tc .vmem S4x128x1024 .f32) (harg11 : arg11.IsWhole)
  (arg12 : Memref sig .tc .vmem S128x5632 .f32) (harg12 : arg12.IsWhole)
  (arg13 : Memref sig .tc .vmem S128x5632 .f32) (harg13 : arg13.IsWhole)
  (arg14 : Memref sig .tc .vmem S512x1024 .f32) (harg14 : arg14.IsWhole)
  (xn : FVec Ideal S512x1024 .bf16) (z : BitVec 32) (x3 x4 : Vec Ideal S128x5632 .f32) (x6 : Vec Ideal S1x1024x5632 .bf16)
  (x7 : Vec Ideal S3x5632 .f32) (x8 : Vec Ideal S1x2816x1024 .bf16)
  (G12 : BufTy.Contents (Elt Ideal) arg12.view.ty) (G13 : BufTy.Contents (Elt Ideal) arg13.view.ty)

/-- The accumulator after `n` trips. -/
theorem acc_eq : ∀ n, n ≤ k0_t1_loop.trips →
    View.canon ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 xn z (harg4.unread x3) (harg5.unread x4) (harg7.unread x6) (harg8.unread x7) (harg9.unread x8) G12 G13 (arg14.view.writes (Elt Ideal) arg14.view.junk [⟨Rect.unit ![0, 0] S512x1024.size inb_S512x1024_S512x1024_0_0, k0_pay25 (F := Ideal)⟩]) n).2.2 ++ [⟨Rect.unit ![0, 0] S512x1024.size inb_S512x1024_S512x1024_0_0, k0_pay25 (F := Ideal)⟩])
      = total xn x3 x4 x6 x7 x8 n
  | 0, _ => View.canon_cons_unit_lit _ _ _ (by decide)
  | n + 1, hn => by
    have ih := acc_eq n (by omega)
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 xn z _ _ _ _ _ G12 G13 _ ⟨n, hn⟩, trip_eq]
    dsimp only
    rw [List.cons_append, List.cons_append]
    refine (View.canon_cons_unit_lit _ _ _ (by decide)).trans ?_
    rw [← View.writes_append, View.read_writes_junk_eq_canon, ih, total, dif_pos (show n < k0_t1_loop.trips from hn)]

/-- The stores into the first array of kept rows are blocks of one array and cover the columns visited. -/
theorem kept2_pieces : ∀ n, n ≤ k0_t1_loop.trips →
    (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 xn z (harg4.unread x3) (harg5.unread x4) (harg7.unread x6) (harg8.unread x7) (harg9.unread x8) G12 G13 (arg14.view.writes (Elt Ideal) arg14.view.junk [⟨Rect.unit ![0, 0] S512x1024.size inb_S512x1024_S512x1024_0_0, k0_pay25 (F := Ideal)⟩]) n).1, ∀ x : p.1.shape.Idx, p.2 x = keptRow xn x6 256 (by decide) (p.1.emb x)) ∧
    ∀ (b : Fin 128) (y : Fin 5632), y.val % 2816 < 256 * n → ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 xn z (harg4.unread x3) (harg5.unread x4) (harg7.unread x6) (harg8.unread x7) (harg9.unread x8) G12 G13 (arg14.view.writes (Elt Ideal) arg14.view.junk [⟨Rect.unit ![0, 0] S512x1024.size inb_S512x1024_S512x1024_0_0, k0_pay25 (F := Ideal)⟩]) n).1, (ix2 b y : S128x5632.Idx) ∈ p.1.set
  | 0, _ => ⟨fun p hp => by exact absurd hp List.not_mem_nil, fun b y hy => absurd hy (by omega)⟩
  | n + 1, hn => by
    have ih := kept2_pieces n (by omega)
    have h11 := trips_eq
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 xn z _ _ _ _ _ G12 G13 _ ⟨n, hn⟩, trip_eq]
    refine ⟨fun p hp => ?_, fun b y hy => ?_⟩
    · rcases List.mem_cons.mp hp with rfl | hp
      · exact blockB xn x6 256 _ ⟨n, hn⟩ _ (fun b q => pay7_read xn (wupB x6 ⟨n, hn⟩) b q)
      · rcases List.mem_cons.mp hp with rfl | hp
        · exact blockA xn x6 256 _ ⟨n, hn⟩ _ (fun b q => pay7_read xn (wupA x6 ⟨n, hn⟩) b q)
        · exact ih.1 p hp
    · by_cases h : y.val % 2816 < 256 * n
      · obtain ⟨p, hp, hy⟩ := ih.2 b y h
        exact ⟨p, List.mem_cons_of_mem _ (List.mem_cons_of_mem _ hp), hy⟩
      · by_cases h2 : y.val < 2816
        · refine ⟨_, List.mem_cons_of_mem _ List.mem_cons_self, ?_⟩
          rw [mem_colsA ⟨n, hn⟩ b y (by simp only; omega) (by simp only; omega)]
          exact LoadRect.idx_mem (Rect.toLoadRect _) _
        · refine ⟨_, List.mem_cons_self, ?_⟩
          rw [mem_colsB ⟨n, hn⟩ b y (by simp only; omega) (by simp only; omega)]
          exact LoadRect.idx_mem (Rect.toLoadRect _) _

/-- The stores into the second array of kept rows are blocks of one array and cover the columns visited. -/
theorem kept3_pieces : ∀ n, n ≤ k0_t1_loop.trips →
    (∀ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 xn z (harg4.unread x3) (harg5.unread x4) (harg7.unread x6) (harg8.unread x7) (harg9.unread x8) G12 G13 (arg14.view.writes (Elt Ideal) arg14.view.junk [⟨Rect.unit ![0, 0] S512x1024.size inb_S512x1024_S512x1024_0_0, k0_pay25 (F := Ideal)⟩]) n).2.1, ∀ x : p.1.shape.Idx, p.2 x = keptRow xn x6 384 (by decide) (p.1.emb x)) ∧
    ∀ (b : Fin 128) (y : Fin 5632), y.val % 2816 < 256 * n → ∃ p ∈ (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 xn z (harg4.unread x3) (harg5.unread x4) (harg7.unread x6) (harg8.unread x7) (harg9.unread x8) G12 G13 (arg14.view.writes (Elt Ideal) arg14.view.junk [⟨Rect.unit ![0, 0] S512x1024.size inb_S512x1024_S512x1024_0_0, k0_pay25 (F := Ideal)⟩]) n).2.1, (ix2 b y : S128x5632.Idx) ∈ p.1.set
  | 0, _ => ⟨fun p hp => by exact absurd hp List.not_mem_nil, fun b y hy => absurd hy (by omega)⟩
  | n + 1, hn => by
    have ih := kept3_pieces n (by omega)
    have h11 := trips_eq
    rw [pb_k0_t1_succ Variants.none c none i arg1 harg1 arg2 harg2 arg3 harg3 arg4 harg4 arg5 harg5 arg6 harg6 arg7 harg7 arg8 harg8 arg9 harg9 arg10 harg10 arg11 harg11 arg12 harg12 arg13 harg13 arg14 harg14 xn z _ _ _ _ _ G12 G13 _ ⟨n, hn⟩, trip_eq]
    refine ⟨fun p hp => ?_, fun b y hy => ?_⟩
    · rcases List.mem_cons.mp hp with rfl | hp
      · exact blockB xn x6 384 _ ⟨n, hn⟩ _ (fun b q => pay8_read xn (wupB x6 ⟨n, hn⟩) b q)
      · rcases List.mem_cons.mp hp with rfl | hp
        · exact blockA xn x6 384 _ ⟨n, hn⟩ _ (fun b q => pay8_read xn (wupA x6 ⟨n, hn⟩) b q)
        · exact ih.1 p hp
    · by_cases h : y.val % 2816 < 256 * n
      · obtain ⟨p, hp, hy⟩ := ih.2 b y h
        exact ⟨p, List.mem_cons_of_mem _ (List.mem_cons_of_mem _ hp), hy⟩
      · by_cases h2 : y.val < 2816
        · refine ⟨_, List.mem_cons_of_mem _ List.mem_cons_self, ?_⟩
          rw [mem_colsA ⟨n, hn⟩ b y (by simp only; omega) (by simp only; omega)]
          exact LoadRect.idx_mem (Rect.toLoadRect _) _
        · refine ⟨_, List.mem_cons_self, ?_⟩
          rw [mem_colsB ⟨n, hn⟩ b y (by simp only; omega) (by simp only; omega)]
          exact LoadRect.idx_mem (Rect.toLoadRect _) _

end Cert.Kernel8Ideal.Value
-- ==== Proof.SampleFfnOut.lean ====
module

public import proofs.«01_k».proof.Proof.SampleFfnLoop

/-!
The sample's feed-forward kernel: its three result blocks, from its input blocks.
-/

@[expose] public section
set_option maxRecDepth 16384
noncomputable section
namespace Cert.Kernel8Ideal.Value
open Cert.Kernel8Ideal Cert.Kernel8Ideal.Gen
open Idealize.ShloMosaic.Tactic
open Idealize.ShloMosaic Idealize.ShloMosaic.TcCoe Idealize.SL.Sem
variable (m : (ℓ : Loc nD τ sig) → Buf (Elt Ideal) ℓ) (c : Dev nD) (t : Fin cfg0.N)

/-- The normalised rows of the grid point. -/
def rowsN : FVec Ideal S512x1024 .bf16 := k0_pay24 (iblk m c 1 t) (iblk m c 0 t) (iblk m c 2 t) (iblk m c 5 t)

/-- The residual rows of the grid point. -/
def rowsR : FVec Ideal S512x1024 .f32 := k0_pay23 (iblk m c 1 t) (iblk m c 0 t) (iblk m c 2 t)

/-- What the grid point leaves in the block of rows. -/
theorem rows_eq : (outsAt0 m c t).1 = k0_pay2 (rowsR m c t)
    (total (rowsN m c t) (iblk m c 3 t) (iblk m c 4 t) (iblk m c 6 t) (iblk m c 7 t) (iblk m c 8 t) 11) (iblk m c 9 t) := by
  unfold outsAt0 rowsR rowsN
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  refine congrArg (fun a => k0_pay2 _ a _) ((View.readCov_eq_canon' _ _ _).trans ?_)
  refine (View.ld_unit_lit' _ _ (by decide)).trans ?_
  exact acc_eq c (grid0.coords t) _ _ _ _ _ _ _ _ _ _ _ _ _ _ _ _ _ _ _ _ _ _ _ _ _ _ _ _ _ _ x3 x4 x6 x7 x8 _ _ 11 (by decide +kernel)

/-- What the grid point leaves in the block of the last rows but one. -/
theorem kept2_eq : (outsAt0 m c t).2.1 = keptRow (rowsN m c t) (iblk m c 6 t) 256 (by decide) := by
  unfold outsAt0 rowsN
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  funext y
  change S128x5632.Idx at y
  obtain ⟨b, q, rfl⟩ : ∃ (b : Fin 128) (q : Fin 5632), y = ix2 b q := ⟨y 0, y 1, eq_ix2 y⟩
  exact View.canon_append_of_pieces _ _ _ (kept2_pieces c (grid0.coords t) _ _ _ _ _ _ _ _ _ _ _ _ _ _ _ _ _ _ _ _ _ _ _ _ _ _ _ _ (k0_pay24 x1 x0 x2 x5) _ x3 x4 x6 x7 x8 _ _ 11
    (by decide +kernel)).1 _ ((kept2_pieces c (grid0.coords t) _ _ _ _ _ _ _ _ _ _ _ _ _ _ _ _ _ _ _ _ _ _ _ _ _ _ _ _ (k0_pay24 x1 x0 x2 x5) _ x3 x4 x6 x7 x8 _ _ 11
    (by decide +kernel)).2 b q (by omega))

/-- What the grid point leaves in the block of the last rows. -/
theorem kept3_eq : (outsAt0 m c t).2.2 = keptRow (rowsN m c t) (iblk m c 6 t) 384 (by decide) := by
  unfold outsAt0 rowsN
  dsimp only
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  frame_out
  funext y
  change S128x5632.Idx at y
  obtain ⟨b, q, rfl⟩ : ∃ (b : Fin 128) (q : Fin 5632), y = ix2 b q := ⟨y 0, y 1, eq_ix2 y⟩
  exact View.canon_append_of_pieces _ _ _ (kept3_pieces c (grid0.coords t) _ _ _ _ _ _ _ _ _ _ _ _ _ _ _ _ _ _ _ _ _ _ _ _ _ _ _ _ (k0_pay24 x1 x0 x2 x5) _ x3 x4 x6 x7 x8 _ _ 11
    (by decide +kernel)).1 _ ((kept3_pieces c (grid0.coords t) _ _ _ _ _ _ _ _ _ _ _ _ _ _ _ _ _ _ _ _ _ _ _ _ _ _ _ _ (k0_pay24 x1 x0 x2 x5) _ x3 x4 x6 x7 x8 _ _ 11
    (by decide +kernel)).2 b q (by omega))
end Cert.Kernel8Ideal.Value
-- ==== Proof.SampleFfnRead.lean ====
module
public import proofs.«01_k».proof.Proof.SampleFfnLoop
public import proofs.«01_k».proof.Proof.FfnRead

/-!
The sample's feed-forward kernel's values, read at an index.  Row `t * 128 + b` is request `b`'s row of place `t`.
-/

@[expose] public section
set_option maxRecDepth 16384
noncomputable section
namespace Cert.Kernel8Ideal.Value
open Cert.Kernel8Ideal Cert.Kernel8Ideal.Gen
open Idealize.ShloMosaic.Tactic
open Idealize.ShloMosaic Idealize.ShloMosaic.TcCoe Idealize.SL.Sem

/-- The factor of the gate's argument before a power of two is taken: minus one over `log 2`. -/
theorem word_neg : Named.named (F := Ideal) Cert.Kernel8Ideal.κ "neg_log2e" (φ := .f32) 0xBFB8AA3B#32
    = ((-(Real.log 2)⁻¹ : ℝ) : EReal) :=
  IdealRules.named_const.ideal_named_scalar _ _ _ _ rfl

/-- Request `b`'s row of place `t`. -/
def rowAt (t : Fin 4) (b : Fin 128) : Fin 512 := ⟨t.val * 128 + b.val, by omega⟩

/-- The residual rows at an index. -/
theorem res_read (o : Vec Ideal S4x128x256 .f32) (x : Vec Ideal S4x128x1024 .f32) (w : Vec Ideal S256x1024 .bf16)
    (t : Fin 4) (b : Fin 128) (l : Fin 1024) :
    k0_pay23 o x w (ix2 (rowAt t b) l) = x (ix3 t b l) + ∑ k : Fin 256, o (ix3 t b k) * w (ix2 k l) := by
  unfold rowAt
  pointwise [k0_pay23]

/-- The normalised rows at an index. -/
theorem norm_read (o : Vec Ideal S4x128x256 .f32) (x : Vec Ideal S4x128x1024 .f32) (w : Vec Ideal S256x1024 .bf16)
    (g : Vec Ideal S1x1024 .f32) (r : Fin 512) (l : Fin 1024) :
    k0_pay24 o x w g (ix2 r l) = Ffn.norm (fun k => k0_pay23 o x w (ix2 r k)) (fun k => g (ix2 0 k)) l := by
  unfold Ffn.norm
  pointwise [k0_pay24]

/-- The last norm's rows at an index. -/
theorem last_norm_read (r a : FVec Ideal S512x1024 .f32) (g : Vec Ideal S1x1024 .f32) (t : Fin 4) (b : Fin 128) (l : Fin 1024) :
    k0_pay2 r a g (ix3 t b l)
      = Ffn.norm (fun k => r (ix2 (rowAt t b) k) + a (ix2 (rowAt t b) k)) (fun k => g (ix2 0 k)) l := by
  unfold Ffn.norm rowAt
  pointwise [k0_pay2]

/-- Four blocks of rows, one after the other, at an index. -/
theorem blocks_read (a0 a1 a2 a3 : FVec Ideal S128x256 .f32) (t : Fin 4) (b : Fin 128) (q : Fin 256) :
    concatenate S512x256 0 [⟨S128x256, a0⟩, ⟨S128x256, a1⟩, ⟨S128x256, a2⟩, ⟨S128x256, a3⟩]
      concatenates_S128x256_S128x256_S128x256_S128x256_S512x256_d0 (ix2 (rowAt t b) q)
      = (![a0, a1, a2, a3] t) (ix2 b q) := by
  unfold rowAt
  match t with
  | 0 => pointwise
  | 1 => pointwise
  | 2 =>
    pointwise
    rw [dif_neg (by omega), dif_neg (by omega), dif_pos (by omega)]
    exact congrArg a2 (congrArg (ix2 · q) (Fin.ext (by simp only; omega)))
  | 3 =>
    pointwise
    rw [dif_neg (by omega), dif_neg (by omega), dif_neg (by omega)]
    exact congrArg a3 (congrArg (ix2 · q) (Fin.ext (by simp only; omega)))

/-- A chunk's up product's rows of a place. -/
def place (xn : FVec Ideal S512x1024 .bf16) (w : Vec Ideal S1x1024x256 .bf16) (t : Fin 4) (b : Fin 128) (q : Fin 256) : EReal :=
  ∑ d : Fin 1024, xn (ix2 (rowAt t b) d) * w (ix3 0 d q)

/-- A chunk's six rows of a request: the two kept ones, then the four places'. -/
def six (xn : FVec Ideal S512x1024 .bf16) (w : Vec Ideal S1x1024x256 .bf16) (p r : Vec Ideal S128x256 .f32)
    (s : Fin 6) (b : Fin 128) (q : Fin 256) : EReal :=
  if h : s.val < 2 then (if s.val = 0 then p (ix2 b q) else r (ix2 b q)) else place xn w ⟨s.val - 2, by omega⟩ b q

/-- The convolution of a chunk at an index. -/
theorem conv_read (xn : FVec Ideal S512x1024 .bf16) (w : Vec Ideal S1x1024x256 .bf16) (cw : Vec Ideal S3x256 .f32)
    (p r : Vec Ideal S128x256 .f32) (t : Fin 4) (b : Fin 128) (q : Fin 256) :
    convA xn w cw p r (ix2 (rowAt t b) q) = six xn w p r ⟨t.val, by omega⟩ b q * cw (ix2 0 q)
      + six xn w p r ⟨1 + t.val, by omega⟩ b q * cw (ix2 1 q) + six xn w p r ⟨2 + t.val, by omega⟩ b q * cw (ix2 2 q) := by
  have h5 : k0_pay5 xn w (ix2 b q) = place xn w 0 b q := by unfold place rowAt; pointwise [k0_pay5, k0_pay3]
  have h6 : k0_pay6 xn w (ix2 b q) = place xn w 1 b q := by unfold place rowAt; pointwise [k0_pay6, k0_pay3]
  have h7 : k0_pay7 xn w (ix2 b q) = place xn w 2 b q := by unfold place rowAt; pointwise [k0_pay7, k0_pay3]
  have h8 : k0_pay8 xn w (ix2 b q) = place xn w 3 b q := by unfold place rowAt; pointwise [k0_pay8, k0_pay3]
  unfold convA k0_pay12
  refine (blocks_read _ _ _ _ t b q).trans ?_
  rw [mul_comm (six xn w p r ⟨t.val, _⟩ b q), mul_comm (six xn w p r ⟨1 + t.val, _⟩ b q), mul_comm (six xn w p r ⟨2 + t.val, _⟩ b q)]
  match t with
  | 0 =>
    show k0_pay9 xn w cw p r (ix2 b q) = cw (ix2 0 q) * p (ix2 b q) + cw (ix2 1 q) * r (ix2 b q) + cw (ix2 2 q) * place xn w 0 b q
    rw [← h5]
    pointwise [k0_pay9, k0_pay4]
  | 1 =>
    show addf (k0_pay10 xn w cw r) (k0_pay11 xn w cw) (ix2 b q)
      = cw (ix2 0 q) * r (ix2 b q) + cw (ix2 1 q) * place xn w 0 b q + cw (ix2 2 q) * place xn w 1 b q
    rw [← h5, ← h6]
    pointwise [k0_pay10, k0_pay11, k0_pay4]
  | 2 =>
    show _ = cw (ix2 0 q) * place xn w 0 b q + cw (ix2 1 q) * place xn w 1 b q + cw (ix2 2 q) * place xn w 2 b q
    rw [← h5, ← h6, ← h7]
    dsimp only [Matrix.cons_val]
    generalize k0_pay5 xn w = a
    generalize k0_pay6 xn w = a'
    generalize k0_pay7 xn w = a''
    pointwise
  | 3 =>
    show _ = cw (ix2 0 q) * place xn w 1 b q + cw (ix2 1 q) * place xn w 2 b q + cw (ix2 2 q) * place xn w 3 b q
    rw [← h6, ← h7, ← h8]
    dsimp only [Matrix.cons_val]
    generalize k0_pay6 xn w = a
    generalize k0_pay7 xn w = a'
    generalize k0_pay8 xn w = a''
    pointwise

/-- Columns `a` gated, times columns `b`. -/
def gates (a b : FVec Ideal S512x256 .f32) : FVec Ideal S512x256 .bf16 :=
  let one : FVec Ideal S512x256 .f32 := broadcast S512x256 (Scalar.ofBits .f32 0x3F800000#32)
  let e : FVec Ideal S512x256 .f32 := exp2 (mulf a (broadcast S512x256 (Named.named κ "neg_log2e" 0xBFB8AA3B#32)))
  truncf .bf16 (mulf (mulf a (divf one (addf one e))) b) bitsLt_bf16_f32

/-- The second half's step is the gate of the first half's convolution and its own. -/
theorem gateB_eq (a : FVec Ideal S512x256 .f32) (xn : FVec Ideal S512x1024 .bf16) (w : Vec Ideal S1x1024x256 .bf16)
    (t : Vec Ideal S3x256 .f32) (p q : Vec Ideal S128x256 .f32) : gateB a xn w t p q = gates a (convA xn w t p q) := rfl

/-- The gated columns at an index. -/
theorem gates_read (a b : FVec Ideal S512x256 .f32) (r : Fin 512) (q : Fin 256) :
    gates a b (ix2 r q) = Ffn.silu (a (ix2 r q)) * b (ix2 r q) := by
  unfold Ffn.silu
  pointwise [gates]
  rw [word_neg]
  exact congrArg (fun e => a (ix2 r q) * Ideal.div 1 (1 + e) * b (ix2 r q)) (Cert.Kernel2Ideal.Value.exp2_neg _)

/-- One chunk's step at an index. -/
theorem down_read (r : FVec Ideal S512x1024 .f32) (h : FVec Ideal S512x256 .bf16) (w : FVec Ideal S256x1024 .bf16)
    (i : Fin 512) (l : Fin 1024) :
    k0_pay1 r h w (ix2 i l) = r (ix2 i l) + ∑ q : Fin 256, h (ix2 i q) * w (ix2 q l) := by
  pointwise [k0_pay1]
end Cert.Kernel8Ideal.Value
-- ==== Proof.SampleFfnKernel.lean ====
module
public import proofs.«01_k».proof.Proof.SampleFfnBlocks
public import proofs.«01_k».proof.Proof.SampleFfnOut
public import proofs.«01_k».proof.Proof.SampleFfnRead

/-!
The sample's feed-forward kernel's three result arrays are the layer's rows and the hidden columns of its last two places.
-/

@[expose] public section
set_option maxRecDepth 16384
noncomputable section
namespace Cert.Kernel8Ideal.Value
open Cert.Kernel8Ideal Cert.Kernel8Ideal.Gen
open Idealize.ShloMosaic.Tactic
open Idealize.ShloMosaic Idealize.ShloMosaic.TcCoe Idealize.SL.Sem

/-- The convolution's weights of a trip at an index, first half. -/
theorem tapA_read (w : Vec Ideal S3x5632 .f32) (k : Fin k0_t1_loop.trips) (a : Fin 3) (q : Fin 256) :
    tapA w k (ix2 a q) = w (ix2 a ⟨256 * k.val + q.val, by have := lt11 k; omega⟩) := by
  unfold tapA
  refine congrArg w (funext fun i => Fin.ext ?_)
  have h := (off_weights k).2.2.1
  match i with
  | 0 => show k0_off2 k 0 + 1 * a.val = a.val; rw [h]; show 0 + 1 * a.val = a.val; omega
  | 1 => show k0_off2 k 1 + 1 * q.val = 256 * k.val + q.val; rw [h]; show 256 * k.val + 1 * q.val = _; omega

/-- The convolution's weights of a trip at an index, second half. -/
theorem tapB_read (w : Vec Ideal S3x5632 .f32) (k : Fin k0_t1_loop.trips) (a : Fin 3) (q : Fin 256) :
    tapB w k (ix2 a q) = w (ix2 a ⟨2816 + 256 * k.val + q.val, by have := lt11 k; omega⟩) := by
  unfold tapB
  refine congrArg w (funext fun i => Fin.ext ?_)
  have h := (off_weights k).2.2.2.1
  match i with
  | 0 => show k0_off5 k 0 + 1 * a.val = a.val; rw [h]; show 0 + 1 * a.val = a.val; omega
  | 1 => show k0_off5 k 1 + 1 * q.val = 2816 + 256 * k.val + q.val; rw [h]; show 2816 + 256 * k.val + 1 * q.val = _; omega

/-- A kept row's columns of a trip at an index, first half. -/
theorem keptA_read (r : Vec Ideal S128x5632 .f32) (k : Fin k0_t1_loop.trips) (b : Fin 128) (q : Fin 256) :
    keptA r k (ix2 b q) = r (ix2 b ⟨256 * k.val + q.val, by have := lt11 k; omega⟩) := by
  unfold keptA
  refine congrArg r (funext fun i => Fin.ext ?_)
  have h := (off_cols k).1
  match i with
  | 0 => show k0_off3 k 0 + 1 * b.val = b.val; rw [h]; show 0 + 1 * b.val = b.val; omega
  | 1 => show k0_off3 k 1 + 1 * q.val = 256 * k.val + q.val; rw [h]; show 256 * k.val + 1 * q.val = _; omega

/-- A kept row's columns of a trip at an index, second half. -/
theorem keptB_read (r : Vec Ideal S128x5632 .f32) (k : Fin k0_t1_loop.trips) (b : Fin 128) (q : Fin 256) :
    keptB r k (ix2 b q) = r (ix2 b ⟨2816 + 256 * k.val + q.val, by have := lt11 k; omega⟩) := by
  unfold keptB
  refine congrArg r (funext fun i => Fin.ext ?_)
  have h := (off_cols k).2
  match i with
  | 0 => show k0_off6 k 0 + 1 * b.val = b.val; rw [h]; show 0 + 1 * b.val = b.val; omega
  | 1 => show k0_off6 k 1 + 1 * q.val = 2816 + 256 * k.val + q.val; rw [h]; show 2816 + 256 * k.val + 1 * q.val = _; omega

/-- The down weights' rows of a trip at an index. -/
theorem wdn_read (w : Vec Ideal S1x2816x1024 .bf16) (k : Fin k0_t1_loop.trips) (q : Fin 256) (l : Fin 1024) :
    wdn w k (ix2 q l) = w (ix3 0 ⟨256 * k.val + q.val, by have := lt11 k; omega⟩ l) := by
  have e : ∀ v : Vec Ideal S1x256x1024 .bf16, k0_pay22 v (ix2 q l) = v (ix3 0 q l) := fun v => by pointwise [k0_pay22]
  unfold wdn
  rw [e]
  refine congrArg w (funext fun i => Fin.ext ?_)
  have h := (off_weights k).2.2.2.2
  match i with
  | 0 => show k0_off7 k 0 + 1 * 0 = 0; rw [h]; rfl
  | 1 => show k0_off7 k 1 + 1 * q.val = 256 * k.val + q.val; rw [h]; show 256 * k.val + 1 * q.val = _; omega
  | 2 => show k0_off7 k 2 + 1 * l.val = l.val; rw [h]; show 0 + 1 * l.val = l.val; omega

variable (m : (ℓ : Loc nD τ sig) → Buf (Elt Ideal) ℓ) (c : Dev nD) (p : Fin cfg0.N)

/-- The residual rows are the layer's. -/
theorem rowsR_read (t : Fin 4) (b : Fin 128) (l : Fin 1024) :
    rowsR m c p (ix2 (rowAt t b) l) = SampleFfn.res (arrays m c) t b l := by
  unfold rowsR SampleFfn.res
  rw [res_read, blk0]
  exact congrArg _ (Finset.sum_congr rfl fun k _ => by rw [blk1, blk2])

/-- The normalised rows are the layer's. -/
theorem rowsN_read (t : Fin 4) (b : Fin 128) (d : Fin 1024) :
    rowsN m c p (ix2 (rowAt t b) d) = Ffn.norm (SampleFfn.res (arrays m c) t b) (arrays m c).g d := by
  unfold rowsN
  rw [norm_read]
  congr 1
  · exact funext fun k => rowsR_read m c p t b k
  · exact funext fun k => blk5 m c p k

/-- The up product at a place's row is the layer's hidden column. -/
theorem up_eq (t : Fin 4) (b : Fin 128) (y : Fin 5632) :
    upAt (rowsN m c p) (iblk m c 6 p) (rowAt t b) y = SampleFfn.hidden (arrays m c) t b y :=
  Finset.sum_congr rfl fun d _ => by rw [rowsN_read, blk6]

/-- A trip's six rows of a request are the layer's, first half. -/
theorem sixA_eq (k : Fin k0_t1_loop.trips) (s : Fin 6) (b : Fin 128) (q : Fin 256) :
    six (rowsN m c p) (wupA (iblk m c 6 p) k) (keptA (iblk m c 3 p) k) (keptA (iblk m c 4 p) k) s b q
      = SampleFfn.full (arrays m c) b s ⟨256 * k.val + q.val, by have := lt11 k; omega⟩ := by
  unfold six SampleFfn.full
  by_cases h : s.val < 2
  · rw [dif_pos h, dif_pos h]
    by_cases h0 : s.val = 0
    · rw [if_pos h0, keptA_read, blk3]
      exact congrArg ((arrays m c).prev b · _) (Fin.ext h0.symm)
    · rw [if_neg h0, keptA_read, blk4]
      exact congrArg ((arrays m c).prev b · _) (Fin.ext (show 1 = s.val by omega))
  · rw [dif_neg h, dif_neg h]
    refine Eq.trans ?_ (up_eq m c p ⟨s.val - 2, by omega⟩ b _)
    unfold place upAt
    exact Finset.sum_congr rfl fun d _ => by rw [wupA_read]

/-- A trip's six rows of a request are the layer's, second half. -/
theorem sixB_eq (k : Fin k0_t1_loop.trips) (s : Fin 6) (b : Fin 128) (q : Fin 256) :
    six (rowsN m c p) (wupB (iblk m c 6 p) k) (keptB (iblk m c 3 p) k) (keptB (iblk m c 4 p) k) s b q
      = SampleFfn.full (arrays m c) b s ⟨2816 + 256 * k.val + q.val, by have := lt11 k; omega⟩ := by
  unfold six SampleFfn.full
  by_cases h : s.val < 2
  · rw [dif_pos h, dif_pos h]
    by_cases h0 : s.val = 0
    · rw [if_pos h0, keptB_read, blk3]
      exact congrArg ((arrays m c).prev b · _) (Fin.ext h0.symm)
    · rw [if_neg h0, keptB_read, blk4]
      exact congrArg ((arrays m c).prev b · _) (Fin.ext (show 1 = s.val by omega))
  · rw [dif_neg h, dif_neg h]
    refine Eq.trans ?_ (up_eq m c p ⟨s.val - 2, by omega⟩ b _)
    unfold place upAt
    exact Finset.sum_congr rfl fun d _ => by rw [wupB_read]

/-- A trip's gated columns are the layer's. -/
theorem mid_eq (k : Fin k0_t1_loop.trips) (t : Fin 4) (b : Fin 128) (q : Fin 256) :
    mid (rowsN m c p) (iblk m c 3 p) (iblk m c 4 p) (iblk m c 6 p) (iblk m c 7 p) k (ix2 (rowAt t b) q)
      = SampleFfn.gated (arrays m c) t b ⟨256 * k.val + q.val, by have := lt11 k; omega⟩ := by
  unfold mid SampleFfn.gated
  rw [gateB_eq, gates_read, conv_read, conv_read]
  simp only [sixA_eq, sixB_eq, tapA_read, tapB_read, blk7]
  refine congrArg (_ * SampleFfn.conv (arrays m c) t b ·) (Fin.ext ?_)
  simp only
  omega

/-- One term of the down product, or zero past its end. -/
def term (A : SampleFfn.Arrays) (t : Fin 4) (b : Fin 128) (l : Fin 1024) (j : ℕ) : EReal :=
  if h : j < 2816 then SampleFfn.gated A t b ⟨j, h⟩ * A.wd ⟨j, h⟩ l else 0

/-- The first `n` trips' down products. -/
theorem total_eq (t : Fin 4) (b : Fin 128) (l : Fin 1024) : ∀ n, n ≤ 11 →
    total (rowsN m c p) (iblk m c 3 p) (iblk m c 4 p) (iblk m c 6 p) (iblk m c 7 p) (iblk m c 8 p) n (ix2 (rowAt t b) l)
      = ∑ j ∈ Finset.range n, ∑ q : Fin 256, term (arrays m c) t b l (j * 256 + q.val)
  | 0, _ => by
    rw [Finset.range_zero, Finset.sum_empty, total]
    pointwise [k0_pay25]
  | n + 1, hn => by
    have h11 := trips_eq
    rw [total, dif_pos (show n < k0_t1_loop.trips by omega), down_read, total_eq t b l n (by omega), Finset.sum_range_succ]
    congr 1
    refine Finset.sum_congr rfl fun q _ => ?_
    unfold term
    rw [mid_eq, wdn_read, blk8, dif_pos (by omega)]
    have e : (⟨256 * n + q.val, by omega⟩ : Fin 2816) = ⟨n * 256 + q.val, by omega⟩ := Fin.ext (by simp only; omega)
    exact congrArg₂ (· * ·) (congrArg (SampleFfn.gated (arrays m c) t b) e) (congrArg ((arrays m c).wd · l) e)

/-- All trips' down products: the layer's. -/
theorem total_all (t : Fin 4) (b : Fin 128) (l : Fin 1024) :
    total (rowsN m c p) (iblk m c 3 p) (iblk m c 4 p) (iblk m c 6 p) (iblk m c 7 p) (iblk m c 8 p) 11 (ix2 (rowAt t b) l)
      = ∑ j, SampleFfn.gated (arrays m c) t b j * (arrays m c).wd j l := by
  rw [total_eq m c p t b l 11 le_rfl, Finset.sum_range, Fin.sum_univ_tiles 11 256 rfl]
  exact Finset.sum_congr rfl fun j _ => Finset.sum_congr rfl fun q _ => dif_pos (by omega)

/-- What the grid point leaves in its block of rows: the layer's rows. -/
theorem rows_read (t : Fin 4) (b : Fin 128) (l : Fin 1024) :
    ((outsAt0 m c p).1 : Vec Ideal S4x128x1024 .f32) (ix3 t b l) = SampleFfn.out (arrays m c) t b l := by
  rw [rows_eq]
  refine (last_norm_read _ _ _ t b l).trans ?_
  unfold SampleFfn.out
  congr 1
  · exact funext fun k => congrArg₂ (· + ·) (rowsR_read m c p t b k) (total_all m c p t b k)
  · exact funext fun k => blk9 m c p k

/-- What the grid point leaves in its block of the last rows but one. -/
theorem kept2_read (b : Fin 128) (y : Fin 5632) :
    ((outsAt0 m c p).2.1 : Vec Ideal S128x5632 .f32) (ix2 b y) = SampleFfn.hidden (arrays m c) 2 b y := by
  rw [kept2_eq]
  exact up_eq m c p 2 b y

/-- What the grid point leaves in its block of the last rows. -/
theorem kept3_read (b : Fin 128) (y : Fin 5632) :
    ((outsAt0 m c p).2.2 : Vec Ideal S128x5632 .f32) (ix2 b y) = SampleFfn.hidden (arrays m c) 3 b y := by
  rw [kept3_eq]
  exact up_eq m c p 3 b y

/-- The array of the layer's rows. -/
def rows (A : SampleFfn.Arrays) : FVec Ideal S4x128x1024 .f32 := fun i => SampleFfn.out A (i 0) (i 1) (i 2)

/-- The array of a place's hidden columns. -/
def hiddens (A : SampleFfn.Arrays) (t : Fin 4) : FVec Ideal S128x5632 .f32 := fun i => SampleFfn.hidden A t (i 0) (i 1)

/-- The kernel's first result array. -/
theorem final_rows : (dats m 0 c).arrAt 10 cfg0.N = rows (arrays m c) := by
  refine (dats m 0 c).arrAt_eq_of_covers 10 _ (by decide +kernel) fun t _ y => ?_
  blk_simp
  rw [after0_10]
  change S4x128x1024.Idx at y
  idx_vars y
  refine (rows_read m c t _ _ _).trans ?_
  unfold rows
  have key : ∀ (a a' : Fin 4) (b b' : Fin 128) (k k' : Fin 1024), a.val = a'.val → b.val = b'.val → k.val = k'.val →
      SampleFfn.out (arrays m c) a b k = SampleFfn.out (arrays m c) a' b' k' := fun a a' b b' k k' h h' h'' => by
    rw [Fin.ext h, Fin.ext h', Fin.ext h'']
  refine key _ _ _ _ _ _ ?_ ?_ ?_
  · blk_simp [idx t]
  · blk_simp [idx t]
  · blk_simp [idx t]

/-- The kernel's second result array. -/
theorem final_kept2 : (dats m 0 c).arrAt 11 cfg0.N = hiddens (arrays m c) 2 := by
  refine (dats m 0 c).arrAt_eq_of_covers 11 _ (by decide +kernel) fun t _ y => ?_
  blk_simp
  rw [after0_11]
  change S128x5632.Idx at y
  idx_vars y
  refine (kept2_read m c t _ _).trans ?_
  refine congrArg₂ (SampleFfn.hidden (arrays m c) 2) (Fin.ext ?_) (Fin.ext ?_)
  · blk_simp [idx t]
  · blk_simp [idx t]

/-- The kernel's third result array. -/
theorem final_kept3 : (dats m 0 c).arrAt 12 cfg0.N = hiddens (arrays m c) 3 := by
  refine (dats m 0 c).arrAt_eq_of_covers 12 _ (by decide +kernel) fun t _ y => ?_
  blk_simp
  rw [after0_12]
  change S128x5632.Idx at y
  idx_vars y
  refine (kept3_read m c t _ _).trans ?_
  refine congrArg₂ (SampleFfn.hidden (arrays m c) 3) (Fin.ext ?_) (Fin.ext ?_)
  · blk_simp [idx t]
  · blk_simp [idx t]
end Cert.Kernel8Ideal.Value
-- ==== Proof.SampleFfnRef.lean ====
module
public import proofs.«01_k».proof.Proof.SampleFfnSpec
public import proofs.«01_k».proof.Proof.Gen.Reference8Ideal.Run
public import Idealize.ShloMosaic.Lib.Pipeline.ValueKit

/-!
The sample's feed-forward reference, step by step, and each step read at an index.
-/

@[expose] public section
set_option maxRecDepth 16384
noncomputable section
namespace Cert.Reference8Ideal.Value
open Cert.Reference8Ideal Cert.Reference8Ideal.Gen
open Idealize.ShloMosaic.Tactic
open Idealize.ShloMosaic Idealize.ShloMosaic.TcCoe Idealize.SL.Sem

/-- The residual rows with the heads' product added, by request. -/
def resid (x : FVec Ideal S4x128x1024 .f32) (o : FVec Ideal S4x128x256 .f32) (w : FVec Ideal S256x1024 .bf16) :
    FVec Ideal S128x4x1024 .f32 :=
  addf (transpose S128x4x1024 [1, 0, 2] x transposes_S4x128x1024_S128x4x1024_1_0_2)
    (Host.dotGeneral dot_S128x4x256_S256x1024_S128x4x1024_2_0_01_1_n_n none
      (transpose S128x4x256 [1, 0, 2] o transposes_S4x128x256_S128x4x256_1_0_2) (extf .f32 w bitsLt_bf16_f32))

/-- Each row's sum of squares. -/
def squares (r : FVec Ideal S128x4x1024 .f32) : FVec Ideal S128x4 .f32 :=
  Host.reduceAdd (mulf r r) (constant S_ .f32 0x00000000#32) reducesTo_S128x4x1024_S128x4_d2 h_S_

/-- The rows over the roots of their mean squares, times `g`. -/
def rms (r : FVec Ideal S128x4x1024 .f32) (g : FVec Ideal S1024 .f32) : FVec Ideal S128x4x1024 .f32 :=
  mulf (mulf r (broadcastInDim S128x4x1024 ![0, 1, 2] bcast_S128x4x1_S128x4x1024_0_1_2
      (Host.rsqrt (addf (Host.divf (broadcastInDim S128x4x1 ![0, 1] bcast_S128x4_S128x4x1_0_1 (squares r))
        (broadcastInDim S128x4x1 ![] bcast_S_S128x4x1 (constant S_ .f32 0x44800000#32)))
        (broadcastInDim S128x4x1 ![] bcast_S_S128x4x1 (constant S_ .f32 0x358637BD#32))))))
    (broadcastInDim S128x4x1024 ![0, 1, 2] bcast_S1x1x1024_S128x4x1024_0_1_2
      (broadcastInDim S1x1x1024 ![2] bcast_S1024_S1x1x1024_2 g))

/-- The hidden columns. -/
def hid (n : FVec Ideal S128x4x1024 .f32) (w : FVec Ideal S4x1024x5632 .bf16) : FVec Ideal S128x4x5632 .f32 :=
  Host.dotGeneral dot_S128x4x1024_S1024x5632_S128x4x5632_2_0_01_1_n_n none n
    (extf .f32 (shapeCast _ (extractStridedSlice S1x1024x5632 ![3, 0, 0] w slices_S4x1024x5632_S1x1024x5632_3_0_0)
      shapeCasts_S1x1024x5632_S1024x5632) bitsLt_bf16_f32)

/-- The last layer's kept rows before each request's hidden columns. -/
def extended (s : FVec Ideal S4x128x2x5632 .f32) (u : FVec Ideal S128x4x5632 .f32) : FVec Ideal S128x6x5632 .f32 :=
  concatenate S128x6x5632 1 [⟨S128x2x5632, (shapeCast _ (extractStridedSlice S1x128x2x5632 ![3, 0, 0, 0] s
    slices_S4x128x2x5632_S1x128x2x5632_3_0_0_0) shapeCasts_S1x128x2x5632_S128x2x5632)⟩, ⟨S128x4x5632, u⟩]
    concatenates_S128x2x5632_S128x4x5632_S128x6x5632_d1

/-- A row of the convolution's weights, along the columns of every row. -/
def spread (w : FVec Ideal S1x5632 .f32) : FVec Ideal S128x4x5632 .f32 :=
  broadcastInDim S128x4x5632 ![0, 1, 2] bcast_S1x1x5632_S128x4x5632_0_1_2
    (broadcastInDim S1x1x5632 ![2] bcast_S5632_S1x1x5632_2 (shapeCast _ w shapeCasts_S1x5632_S5632))

/-- The convolution down the rows. -/
def taps (p : FVec Ideal S128x6x5632 .f32) (w : FVec Ideal S3x5632 .f32) : FVec Ideal S128x4x5632 .f32 :=
  addf (addf (mulf (extractStridedSlice S128x4x5632 ![0, 0, 0] p slices_S128x6x5632_S128x4x5632_0_0_0)
      (spread (extractStridedSlice S1x5632 ![0, 0] w slices_S3x5632_S1x5632_0_0)))
    (mulf (extractStridedSlice S128x4x5632 ![0, 1, 0] p slices_S128x6x5632_S128x4x5632_0_1_0)
      (spread (extractStridedSlice S1x5632 ![1, 0] w slices_S3x5632_S1x5632_1_0))))
    (mulf (extractStridedSlice S128x4x5632 ![0, 2, 0] p slices_S128x6x5632_S128x4x5632_0_2_0)
      (spread (extractStridedSlice S1x5632 ![2, 0] w slices_S3x5632_S1x5632_2_0)))

/-- The gated columns. -/
def gates (f : FVec Ideal S128x4x5632 .f32) : FVec Ideal S128x4x2816 .f32 :=
  let a : FVec Ideal S128x4x2816 .f32 := extractStridedSlice S128x4x2816 ![0, 0, 0] f slices_S128x4x5632_S128x4x2816_0_0_0
  let one : FVec Ideal S128x4x2816 .f32 := broadcastInDim S128x4x2816 ![] bcast_S_S128x4x2816 (constant S_ .f32 0x3F800000#32)
  mulf (mulf a (Host.divf one (addf one (Host.exp (Host.negf a)))))
    (extractStridedSlice S128x4x2816 ![0, 0, 2816] f slices_S128x4x5632_S128x4x2816_0_0_2816)

/-- The residual rows with the down product added. -/
def down (r : FVec Ideal S128x4x1024 .f32) (h : FVec Ideal S128x4x2816 .f32) (w : FVec Ideal S4x2816x1024 .bf16) :
    FVec Ideal S128x4x1024 .f32 :=
  addf r (Host.dotGeneral dot_S128x4x2816_S2816x1024_S128x4x1024_2_0_01_1_n_n none h
    (extf .f32 (shapeCast _ (extractStridedSlice S1x2816x1024 ![3, 0, 0] w slices_S4x2816x1024_S1x2816x1024_3_0_0)
      shapeCasts_S1x2816x1024_S2816x1024) bitsLt_bf16_f32))

variable (m : (ℓ : Loc nD τ sig) → Buf (Elt Ideal) ℓ) (c : Dev nD)

/-- The reference's residual rows. -/
def refRes : FVec Ideal S128x4x1024 .f32 :=
  resid (m ((c.tc : Thread nD τ).loc main_arg0)) (m ((c.tc : Thread nD τ).loc main_arg1)) (m ((c.tc : Thread nD τ).loc main_arg2))

/-- The reference's six hidden rows of each request. -/
def refFull : FVec Ideal S128x6x5632 .f32 :=
  extended (m ((c.tc : Thread nD τ).loc main_arg3))
    (hid (rms (refRes m c) (m ((c.tc : Thread nD τ).loc main_arg4))) (m ((c.tc : Thread nD τ).loc main_arg5)))

/-- The reference's rows before the last norm. -/
def refSum : FVec Ideal S128x4x1024 .f32 :=
  down (refRes m c) (gates (taps (refFull m c) (m ((c.tc : Thread nD τ).loc main_arg6)))) (m ((c.tc : Thread nD τ).loc main_arg7))

set_option maxHeartbeats 4000000 in
/-- The reference's first result, by its steps. -/
theorem out_eq : res_out0 m c = transpose S4x128x1024 [1, 0, 2] (rms (refSum m c) (m ((c.tc : Thread nD τ).loc main_arg8)))
    transposes_S128x4x1024_S4x128x1024_1_0_2 := by
  show res_main_v67 m c = _
  unfold res_main_v67 rms refSum down gates taps spread refFull extended hid rms squares refRes resid
  rfl

/-- The residual rows at an index. -/
theorem resid_read (x : FVec Ideal S4x128x1024 .f32) (o : FVec Ideal S4x128x256 .f32) (w : FVec Ideal S256x1024 .bf16)
    (b : Fin 128) (t : Fin 4) (l : Fin 1024) :
    resid x o w (ix3 b t l) = x (ix3 t b l) + ∑ k : Fin 256, o (ix3 t b k) * w (ix2 k l) := by
  pointwise [resid]

/-- The normalised rows at an index. -/
theorem rms_read (r : FVec Ideal S128x4x1024 .f32) (g : FVec Ideal S1024 .f32) (b : Fin 128) (t : Fin 4) (l : Fin 1024) :
    rms r g (ix3 b t l) = Ffn.norm (fun k => r (ix3 b t k)) (fun k => g (ix1 k)) l := by
  unfold Ffn.norm
  pointwise [rms, squares]

/-- The hidden columns at an index. -/
theorem hid_read (n : FVec Ideal S128x4x1024 .f32) (w : FVec Ideal S4x1024x5632 .bf16) (b : Fin 128) (t : Fin 4) (k : Fin 5632) :
    hid n w (ix3 b t k) = ∑ d : Fin 1024, n (ix3 b t d) * w (ix3 3 d k) := by
  pointwise [hid]

/-- The six hidden rows at an index. -/
theorem extended_read (s : FVec Ideal S4x128x2x5632 .f32) (u : FVec Ideal S128x4x5632 .f32) (b : Fin 128) (p : Fin 6) (k : Fin 5632) :
    extended s u (ix3 b p k) = if h : p.val < 2 then s (ix4 3 b ⟨p.val, h⟩ k) else u (ix3 b ⟨p.val - 2, by omega⟩ k) := by
  pointwise [extended]

/-- The convolution at an index. -/
theorem taps_read (p : FVec Ideal S128x6x5632 .f32) (w : FVec Ideal S3x5632 .f32) (b : Fin 128) (t : Fin 4) (k : Fin 5632) :
    taps p w (ix3 b t k) = p (ix3 b ⟨t.val, by omega⟩ k) * w (ix2 0 k) + p (ix3 b ⟨1 + t.val, by omega⟩ k) * w (ix2 1 k)
      + p (ix3 b ⟨2 + t.val, by omega⟩ k) * w (ix2 2 k) := by
  pointwise [taps, spread]

/-- The gated columns at an index. -/
theorem gates_read (f : FVec Ideal S128x4x5632 .f32) (b : Fin 128) (t : Fin 4) (j : Fin 2816) :
    gates f (ix3 b t j) = Ffn.silu (f (ix3 b t ⟨j.val, by omega⟩)) * f (ix3 b t ⟨2816 + j.val, by omega⟩) := by
  unfold Ffn.silu
  pointwise [gates]

/-- The rows before the last norm at an index. -/
theorem down_read (r : FVec Ideal S128x4x1024 .f32) (h : FVec Ideal S128x4x2816 .f32) (w : FVec Ideal S4x2816x1024 .bf16)
    (b : Fin 128) (t : Fin 4) (l : Fin 1024) :
    down r h w (ix3 b t l) = r (ix3 b t l) + ∑ j : Fin 2816, h (ix3 b t j) * w (ix3 3 j l) := by
  pointwise [down]

/-- The layer's arrays, from the reference's arguments. -/
def arrays : SampleFfn.Arrays where
  x t b l := m ((c.tc : Thread nD τ).loc main_arg0) (ix3 t b l)
  ox t b k := m ((c.tc : Thread nD τ).loc main_arg1) (ix3 t b k)
  wxo k l := m ((c.tc : Thread nD τ).loc main_arg2) (ix2 k l)
  prev b s k := m ((c.tc : Thread nD τ).loc main_arg3) (ix4 3 b s k)
  g l := m ((c.tc : Thread nD τ).loc main_arg4) (ix1 l)
  wu d k := m ((c.tc : Thread nD τ).loc main_arg5) (ix3 3 d k)
  cw a k := m ((c.tc : Thread nD τ).loc main_arg6) (ix2 a k)
  wd j l := m ((c.tc : Thread nD τ).loc main_arg7) (ix3 3 j l)
  gf l := m ((c.tc : Thread nD τ).loc main_arg8) (ix1 l)

/-- The reference's residual rows are the layer's. -/
theorem refRes_eq (b : Fin 128) (t : Fin 4) (l : Fin 1024) : refRes m c (ix3 b t l) = SampleFfn.res (arrays m c) t b l :=
  resid_read _ _ _ b t l

/-- The reference's six hidden rows are the layer's. -/
theorem refFull_eq (b : Fin 128) (p : Fin 6) (k : Fin 5632) : refFull m c (ix3 b p k) = SampleFfn.full (arrays m c) b p k := by
  unfold refFull SampleFfn.full
  rw [extended_read]
  by_cases h : p.val < 2
  · rw [dif_pos h, dif_pos h]
    rfl
  · rw [dif_neg h, dif_neg h, hid_read]
    unfold SampleFfn.hidden
    refine Finset.sum_congr rfl fun d _ => ?_
    rw [rms_read]
    exact congrArg (fun v => Ffn.norm v _ d * _) (funext fun l => refRes_eq m c b ⟨p.val - 2, by omega⟩ l)

/-- The reference's convolution is the layer's. -/
theorem refTaps_eq (b : Fin 128) (t : Fin 4) (k : Fin 5632) :
    taps (refFull m c) (m ((c.tc : Thread nD τ).loc main_arg6)) (ix3 b t k) = SampleFfn.conv (arrays m c) t b k := by
  rw [taps_read, refFull_eq, refFull_eq, refFull_eq]
  rfl

/-- The reference's rows before the last norm are the layer's. -/
theorem refSum_eq (b : Fin 128) (t : Fin 4) (l : Fin 1024) : refSum m c (ix3 b t l) = SampleFfn.sum (arrays m c) t b l := by
  unfold refSum SampleFfn.sum
  rw [down_read, refRes_eq]
  refine congrArg _ (Finset.sum_congr rfl fun j _ => ?_)
  rw [gates_read, refTaps_eq, refTaps_eq]
  rfl

/-- The reference's first result at an index. -/
theorem out_read (t : Fin 4) (b : Fin 128) (l : Fin 1024) :
    (res_out0 m c : FVec Ideal S4x128x1024 .f32) (ix3 t b l) = SampleFfn.out (arrays m c) t b l := by
  rw [out_eq]
  have h : ∀ v : FVec Ideal S128x4x1024 .f32, transpose S4x128x1024 [1, 0, 2] v transposes_S128x4x1024_S4x128x1024_1_0_2 (ix3 t b l)
      = v (ix3 b t l) := fun v => by pointwise
  rw [h, rms_read]
  unfold SampleFfn.out
  congr 1
  exact funext fun k => refSum_eq m c b t k

/-- The reference's second result at an index. -/
theorem kept2_read (b : Fin 128) (k : Fin 5632) :
    shapeCast S128x5632 (extractStridedSlice S128x1x5632 ![0, 4, 0] (refFull m c) slices_S128x6x5632_S128x1x5632_0_4_0)
      shapeCasts_S128x1x5632_S128x5632 (ix2 b k) = SampleFfn.hidden (arrays m c) 2 b k := by
  have h : ∀ v : FVec Ideal S128x6x5632 .f32,
      shapeCast S128x5632 (extractStridedSlice S128x1x5632 ![0, 4, 0] v slices_S128x6x5632_S128x1x5632_0_4_0)
        shapeCasts_S128x1x5632_S128x5632 (ix2 b k) = v (ix3 b 4 k) := fun v => by pointwise
  rw [h, refFull_eq]
  exact dif_neg (by decide)

/-- The reference's third result at an index. -/
theorem kept3_read (b : Fin 128) (k : Fin 5632) :
    shapeCast S128x5632 (extractStridedSlice S128x1x5632 ![0, 5, 0] (refFull m c) slices_S128x6x5632_S128x1x5632_0_5_0)
      shapeCasts_S128x1x5632_S128x5632 (ix2 b k) = SampleFfn.hidden (arrays m c) 3 b k := by
  have h : ∀ v : FVec Ideal S128x6x5632 .f32,
      shapeCast S128x5632 (extractStridedSlice S128x1x5632 ![0, 5, 0] v slices_S128x6x5632_S128x1x5632_0_5_0)
        shapeCasts_S128x1x5632_S128x5632 (ix2 b k) = v (ix3 b 5 k) := fun v => by pointwise
  rw [h, refFull_eq]
  exact dif_neg (by decide)
end Cert.Reference8Ideal.Value
-- ==== Proof.SampleFeedForward.lean ====
module

public import proofs.«01_k».proof.Defs
public import proofs.«01_k».proof.Proof.Gen.Kernel8.Frame
public import proofs.«01_k».proof.Proof.SampleFfnKernel
public import proofs.«01_k».proof.Proof.SampleFfnRef
public import Idealize.ShloMosaic.Lib.Quiescent

/-!
The claims about the sample's feed-forward layer: its frames, its named constant and its value.
-/

@[expose] public section
noncomputable section
namespace Cert.Proof.SampleFeedForward
open Idealize.ShloMosaic Idealize.ShloMosaic.TcCoe Idealize.SL.Sem

/-- The kernel runs, keeps its arguments and leaves every semaphore at 0. -/
theorem frame_kernel : Cert.quiescent_Kernel8 := fun m ρ _ => Cert.Kernel8.Gen.frame m ρ

/-- So does its idealization. -/
theorem frame_ideal : Cert.quiescent_Kernel8Ideal := fun m ρ _ => Cert.Kernel8Ideal.Gen.frame m ρ

/-- The reference runs, keeps its arguments and has no semaphores. -/
theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- The constant in the gate's power of two is -1/log 2. -/
theorem preserves : Cert.preserves_Kernel8_Kernel8Ideal := IdealRules.named_const.statement _ _ _ _ _ rfl

/-- The kernel's result arrays are the reference's. -/
theorem value : Cert.algebraic_Kernel8Ideal_Reference8Ideal := by
  intro m g m' g' _ hargs
  have harr : ∀ c, Cert.Reference8Ideal.Value.arrays m' c = Cert.Kernel8Ideal.Value.arrays m c := fun c => by
    obtain ⟨h0, h1, h2, h3, h4, h5, h6, h7, h8⟩ := hargs c
    unfold Cert.Reference8Ideal.Value.arrays Cert.Kernel8Ideal.Value.arrays
    rw [h0, h1, h2, h3, h4, h5, h6, h7, h8]
  refine ⟨fun c => Cert.Kernel8Ideal.Value.rows (Cert.Kernel8Ideal.Value.arrays m c),
    fun c => Cert.Kernel8Ideal.Value.hiddens (Cert.Kernel8Ideal.Value.arrays m c) 2,
    fun c => Cert.Kernel8Ideal.Value.hiddens (Cert.Kernel8Ideal.Value.arrays m c) 3,
    (θ_run Cert.Kernel8Ideal.defs _ _).mono (fun r h c => ?_) (Cert.Kernel8Ideal.Value.run_blocks m g),
    (θ_run Cert.Reference8Ideal.defs _ _).mono (fun r h c => ?_) (Cert.Reference8Ideal.Value.run m' g')⟩
  · exact ⟨(h c).1.trans (Cert.Kernel8Ideal.Value.final_rows m c), (h c).2.1.trans (Cert.Kernel8Ideal.Value.final_kept2 m c),
      (h c).2.2.1.trans (Cert.Kernel8Ideal.Value.final_kept3 m c), (h c).2.2.2⟩
  · refine ⟨(h c).1.trans ?_, (h c).2.1.trans ?_, (h c).2.2.1.trans ?_, (h c).2.2.2⟩
    · funext i
      change Cert.Kernel8Ideal.S4x128x1024.Idx at i
      obtain ⟨t, b, l, rfl⟩ : ∃ (t : Fin 4) (b : Fin 128) (l : Fin 1024), i = ix3 t b l := ⟨i 0, i 1, i 2, eq_ix3 i⟩
      exact (Cert.Reference8Ideal.Value.out_read m' c t b l).trans (by rw [harr c]; rfl)
    · funext i
      change Cert.Kernel8Ideal.S128x5632.Idx at i
      obtain ⟨b, k, rfl⟩ : ∃ (b : Fin 128) (k : Fin 5632), i = ix2 b k := ⟨i 0, i 1, eq_ix2 i⟩
      exact (Cert.Reference8Ideal.Value.kept2_read m' c b k).trans (by rw [harr c]; rfl)
    · funext i
      change Cert.Kernel8Ideal.S128x5632.Idx at i
      obtain ⟨b, k, rfl⟩ : ∃ (b : Fin 128) (k : Fin 5632), i = ix2 b k := ⟨i 0, i 1, eq_ix2 i⟩
      exact (Cert.Reference8Ideal.Value.kept3_read m' c b k).trans (by rw [harr c]; rfl)
end Cert.Proof.SampleFeedForward
end
-- ==== Proof.lean ====
module

public import proofs.«01_k».proof.Defs
public import proofs.«01_k».proof.Proof.Attention
public import proofs.«01_k».proof.Proof.FeedForward
public import proofs.«01_k».proof.Proof.Projection
public import proofs.«01_k».proof.Proof.Residual
public import proofs.«01_k».proof.Proof.Memory
public import proofs.«01_k».proof.Proof.Sample
public import proofs.«01_k».proof.Proof.Xattn
public import proofs.«01_k».proof.Proof.SampleFeedForward
public import Idealize.ShloMosaic.Adequacy
public import Idealize.ShloMosaic.Init

/-!
The proof of `Cert.Claim`: the programs' facts and their claims.
-/

@[expose] public section
noncomputable section
namespace Cert.Proof
open Idealize.ShloMosaic Idealize.SL.Sem

/-- Every claim of the certificate holds. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts,
    Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts, Cert.Kernel6.Gen.facts,
    Cert.Kernel6Ideal.Gen.facts, Cert.Reference6Ideal.Gen.facts, Cert.Kernel7.Gen.facts,
    Cert.Kernel7Ideal.Gen.facts, Cert.Reference7Ideal.Gen.facts, Cert.Kernel8.Gen.facts,
    Cert.Kernel8Ideal.Gen.facts, Cert.Reference8Ideal.Gen.facts, Attention.preFacts, Xattn.preFacts,
    Attention.frame_kernel, Attention.frame_ideal, Attention.frame_ideal_pre, Attention.frame_reference, Attention.frame_reference_pre,
    FeedForward.frame_kernel, FeedForward.frame_ideal, FeedForward.frame_reference,
    Projection.frame_kernel, Projection.frame_ideal, Projection.frame_reference,
    Residual.frame_kernel, Residual.frame_ideal, Residual.frame_reference,
    Memory.frame_kernel, Memory.frame_ideal, Memory.frame_reference,
    Sample.frame_kernel, Sample.frame_ideal, Sample.frame_reference,
    Xattn.frame_kernel, Xattn.frame_ideal, Xattn.frame_ideal_pre, Xattn.frame_reference, Xattn.frame_reference_pre,
    SampleFeedForward.frame_kernel, SampleFeedForward.frame_ideal, SampleFeedForward.frame_reference,
    Attention.preserves, Attention.value, FeedForward.preserves, FeedForward.value,
    Projection.preserves, Projection.value, Residual.preserves, Residual.value, Memory.preserves, Memory.value,
    Sample.preserves, Sample.value, Xattn.preserves, Xattn.value,
    SampleFeedForward.preserves, SampleFeedForward.value⟩
end Cert.Proof
end
